-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_terms [hPre_finite_terms : Cert.Pre_finite_terms.Facts] (m : (ℓ : Loc Cert.KernelIdeal.nD Cert.KernelIdeal.τ Cert.KernelIdeal.sig) → Buf (Elt Ideal) ℓ) : Prop :=
  ∀ c : Dev Cert.KernelIdeal.nD,
    (Cert.Pre_finite_terms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_terms [hPre_finite_terms : Cert.Pre_finite_terms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_terms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_terms [hKernelIdeal : Cert.KernelIdeal.Facts] [hPre_finite_terms : Cert.Pre_finite_terms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_terms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_terms [hReferenceIdeal : Cert.ReferenceIdeal.Facts] [hPre_finite_terms : Cert.Pre_finite_terms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_terms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def preserves_Kernel_KernelIdeal : Prop :=
  True

def algebraic_KernelIdeal_ReferenceIdeal_pre_finite_terms [hKernelIdeal : Cert.KernelIdeal.Facts] [hReferenceIdeal : Cert.ReferenceIdeal.Facts] [hPre_finite_terms : Cert.Pre_finite_terms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_terms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_v48) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v8) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v5)) (v1 : (c : Dev Cert.Kernel17Ideal.nD) → Buf (Elt Ideal) ((c.tc : Thread Cert.Kernel17Ideal.nD Cert.Kernel17Ideal.τ).loc Cert.Kernel17Ideal.main_v6)) (v2 : (c : Dev Cert.Kernel17Ideal.nD) → Buf (Elt Ideal) ((c.tc : Thread Cert.Kernel17Ideal.nD Cert.Kernel17Ideal.τ).loc Cert.Kernel17Ideal.main_v7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_v6) = v1 c
          ∧ r.2.mem ((c.tc : Thread Cert.Kernel17Ideal.nD Cert.Kernel17Ideal.τ).loc Cert.Kernel17Ideal.main_v7) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v5)) (v1 : (c : Dev Cert.Kernel20Ideal.nD) → Buf (Elt Ideal) ((c.tc : Thread Cert.Kernel20Ideal.nD Cert.Kernel20Ideal.τ).loc Cert.Kernel20Ideal.main_v6)) (v2 : (c : Dev Cert.Kernel20Ideal.nD) → Buf (Elt Ideal) ((c.tc : Thread Cert.Kernel20Ideal.nD Cert.Kernel20Ideal.τ).loc Cert.Kernel20Ideal.main_v7)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5) = v0 c
          ∧ r.2.mem ((c.tc : Thread Cert.Kernel20Ideal.nD Cert.Kernel20Ideal.τ).loc Cert.Kernel20Ideal.main_v6) = v1 c
          ∧ r.2.mem ((c.tc : Thread Cert.Kernel20Ideal.nD Cert.Kernel20Ideal.τ).loc Cert.Kernel20Ideal.main_v7) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v5)) (v1 : (c : Dev Cert.Kernel21Ideal.nD) → Buf (Elt Ideal) ((c.tc : Thread Cert.Kernel21Ideal.nD Cert.Kernel21Ideal.τ).loc Cert.Kernel21Ideal.main_v6)) (v2 : (c : Dev Cert.Kernel21Ideal.nD) → Buf (Elt Ideal) ((c.tc : Thread Cert.Kernel21Ideal.nD Cert.Kernel21Ideal.τ).loc Cert.Kernel21Ideal.main_v7)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5) = v0 c
          ∧ r.2.mem ((c.tc : Thread Cert.Kernel21Ideal.nD Cert.Kernel21Ideal.τ).loc Cert.Kernel21Ideal.main_v6) = v1 c
          ∧ r.2.mem ((c.tc : Thread Cert.Kernel21Ideal.nD Cert.Kernel21Ideal.τ).loc Cert.Kernel21Ideal.main_v7) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v5)) (v1 : (c : Dev Cert.Kernel24Ideal.nD) → Buf (Elt Ideal) ((c.tc : Thread Cert.Kernel24Ideal.nD Cert.Kernel24Ideal.τ).loc Cert.Kernel24Ideal.main_v6)) (v2 : (c : Dev Cert.Kernel24Ideal.nD) → Buf (Elt Ideal) ((c.tc : Thread Cert.Kernel24Ideal.nD Cert.Kernel24Ideal.τ).loc Cert.Kernel24Ideal.main_v7)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v5) = v0 c
          ∧ r.2.mem ((c.tc : Thread Cert.Kernel24Ideal.nD Cert.Kernel24Ideal.τ).loc Cert.Kernel24Ideal.main_v6) = v1 c
          ∧ r.2.mem ((c.tc : Thread Cert.Kernel24Ideal.nD Cert.Kernel24Ideal.τ).loc Cert.Kernel24Ideal.main_v7) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)) →
    ∃ (v0 : (c : Dev Cert.Kernel25Ideal.nD) → Buf (Elt Ideal) ((c.tc : Thread Cert.Kernel25Ideal.nD Cert.Kernel25Ideal.τ).loc Cert.Kernel25Ideal.main_v10)) (v1 : (c : Dev Cert.Kernel25Ideal.nD) → Buf (Elt Ideal) ((c.tc : Thread Cert.Kernel25Ideal.nD Cert.Kernel25Ideal.τ).loc Cert.Kernel25Ideal.main_v11)) (v2 : (c : Dev Cert.Kernel25Ideal.nD) → Buf (Elt Ideal) ((c.tc : Thread Cert.Kernel25Ideal.nD Cert.Kernel25Ideal.τ).loc Cert.Kernel25Ideal.main_v12)) (v3 : (c : Dev Cert.Kernel25Ideal.nD) → Buf (Elt Ideal) ((c.tc : Thread Cert.Kernel25Ideal.nD Cert.Kernel25Ideal.τ).loc Cert.Kernel25Ideal.main_v13)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v10) = v0 c
          ∧ r.2.mem ((c.tc : Thread Cert.Kernel25Ideal.nD Cert.Kernel25Ideal.τ).loc Cert.Kernel25Ideal.main_v11) = v1 c
          ∧ r.2.mem ((c.tc : Thread Cert.Kernel25Ideal.nD Cert.Kernel25Ideal.τ).loc Cert.Kernel25Ideal.main_v12) = v2 c
          ∧ r.2.mem ((c.tc : Thread Cert.Kernel25Ideal.nD Cert.Kernel25Ideal.τ).loc Cert.Kernel25Ideal.main_v13) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_v28) = v1 c
          ∧ r.2.mem ((c.tc : Thread Cert.Reference25Ideal.nD Cert.Reference25Ideal.τ).loc Cert.Reference25Ideal.main_v9) = v2 c
          ∧ r.2.mem ((c.tc : Thread Cert.Reference25Ideal.nD Cert.Reference25Ideal.τ).loc Cert.Reference25Ideal.main_v15) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_v28) = v1 c
          ∧ r.2.mem ((c.tc : Thread Cert.Reference26Ideal.nD Cert.Reference26Ideal.τ).loc Cert.Reference26Ideal.main_v9) = v2 c
          ∧ r.2.mem ((c.tc : Thread Cert.Reference26Ideal.nD Cert.Reference26Ideal.τ).loc Cert.Reference26Ideal.main_v15) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_v28) = v1 c
          ∧ r.2.mem ((c.tc : Thread Cert.Reference27Ideal.nD Cert.Reference27Ideal.τ).loc Cert.Reference27Ideal.main_v9) = v2 c
          ∧ r.2.mem ((c.tc : Thread Cert.Reference27Ideal.nD Cert.Reference27Ideal.τ).loc Cert.Reference27Ideal.main_v15) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_v28) = v1 c
          ∧ r.2.mem ((c.tc : Thread Cert.Reference28Ideal.nD Cert.Reference28Ideal.τ).loc Cert.Reference28Ideal.main_v9) = v2 c
          ∧ r.2.mem ((c.tc : Thread Cert.Reference28Ideal.nD Cert.Reference28Ideal.τ).loc Cert.Reference28Ideal.main_v15) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_v28) = v1 c
          ∧ r.2.mem ((c.tc : Thread Cert.Reference29Ideal.nD Cert.Reference29Ideal.τ).loc Cert.Reference29Ideal.main_v9) = v2 c
          ∧ r.2.mem ((c.tc : Thread Cert.Reference29Ideal.nD Cert.Reference29Ideal.τ).loc Cert.Reference29Ideal.main_v15) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v29) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite_terms : Cert.Pre_finite_terms.Facts),
    quiescent_Kernel (hKernel := hKernel)
    ∧ quiescent_KernelIdeal (hKernelIdeal := hKernelIdeal)
    ∧ quiescent_KernelIdeal_pre_finite_terms (hKernelIdeal := hKernelIdeal) (hPre_finite_terms := hPre_finite_terms)
    ∧ quiescent_ReferenceIdeal (hReferenceIdeal := hReferenceIdeal)
    ∧ quiescent_ReferenceIdeal_pre_finite_terms (hReferenceIdeal := hReferenceIdeal) (hPre_finite_terms := hPre_finite_terms)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite_terms (hKernelIdeal := hKernelIdeal) (hReferenceIdeal := hReferenceIdeal) (hPre_finite_terms := hPre_finite_terms)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite_terms.lean ====
abbrev S4096x512 : Shape := ⟨2, ![4096, 512]⟩
abbrev S64x4x64x64 : Shape := ⟨4, ![64, 4, 64, 64]⟩
abbrev S4x4096 : Shape := ⟨2, ![4, 4096]⟩
abbrev S64x4x128x128 : Shape := ⟨4, ![64, 4, 128, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S64x4x64x64 : S_.BroadcastsInDim S64x4x64x64 (![] : Fin 0 → Fin S64x4x64x64.rank)
  reducesTo_S64x4x64x64_S_d0_1_2_3 : S64x4x64x64.ReducesTo [0, 1, 2, 3] S_
  bcast_S_S4x4096 : S_.BroadcastsInDim S4x4096 (![] : Fin 0 → Fin S4x4096.rank)
  reducesTo_S4x4096_S_d0_1 : S4x4096.ReducesTo [0, 1] S_
  bcast_S_S64x4x128x128 : S_.BroadcastsInDim S64x4x128x128 (![] : Fin 0 → Fin S64x4x128x128.rank)
  reducesTo_S64x4x128x128_S_d0_1_2_3 : S64x4x128x128.ReducesTo [0, 1, 2, 3] S_

variable [Facts]

def fn_part2 {F : FTy → Type} [FloatOps F] (main_arg6 : FVec F S64x4x128x128 .f32) (main_arg7 : FVec F S4096x512 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S64x4x128x128 .f32 := broadcastInDim S64x4x128x128 ![] bcast_S_S64x4x128x128 main_cst_13
  let main_v35 : IVec S64x4x128x128 1 := cmpf .ogt main_arg6 main_v34
  let main_cst_14 : FVec F S_ .f32 := constant S_ .f32 0x7F800000#32
  let main_v36 : FVec F S64x4x128x128 .f32 := broadcastInDim S64x4x128x128 ![] bcast_S_S64x4x128x128 main_cst_14
  let main_v37 : IVec S64x4x128x128 1 := cmpf .olt main_arg6 main_v36
  let main_v38 : IVec S64x4x128x128 1 := andi main_v35 main_v37
  let main_c_15 : IVec S_ 1 := constantI S_ 1 1#1
  let main_v39 : IVec S_ 1 := (fun x v => Host.reduce IntOp.andi x v reducesTo_S64x4x128x128_S_d0_1_2_3 h_S_) main_v38 main_c_15
  let main_v40 : IVec S_ 1 := andi main_v33 main_v39
  let main_cst_16 : FVec F S_ .f32 := constant S_ .f32 0xFF800000#32
  let main_v41 : FVec F S4096x512 .f32 := broadcastInDim S4096x512 ![] bcast_S_S4096x512 main_cst_16
  let main_v42 : IVec S4096x512 1 := cmpf .ogt main_arg7 main_v41
  let main_cst_17 : FVec F S_ .f32 := constant S_ .f32 0x7F800000#32
  let main_v43 : FVec F S4096x512 .f32 := broadcastInDim S4096x512 ![] bcast_S_S4096x512 main_cst_17
  let main_v44 : IVec S4096x512 1 := cmpf .olt main_arg7 main_v43
  let main_v45 : IVec S4096x512 1 := andi main_v42 main_v44
  let main_c_18 : IVec S_ 1 := constantI S_ 1 1#1
  let main_v46 : IVec S_ 1 := (fun x v => Host.reduce IntOp.andi x v reducesTo_S4096x512_S_d0_1 h_S_) main_v45 main_c_18
  let main_v47 : IVec S_ 1 := andi main_v40 main_v46
  main_v47

def fn_part1 {F : FTy → Type} [FloatOps F] (main_arg3 : FVec F S4096x512 .f32) (main_arg4 : FVec F S64x4x64x64 .f32) (main_arg5 : FVec F S4x4096 .f32) (main_arg6 : FVec F S64x4x128x128 .f32) (main_arg7 : FVec F S4096x512 .f32) (main_v12 : IVec S_ 1) (main_v14 : IVec S4096x512 1) (main_v15 : FVec F S4096x512 .f32) : IVec S_ 1 :=
  let main_v16 : IVec S4096x512 1 := cmpf .olt main_arg3 main_v15
  let main_v17 : IVec S4096x512 1 := andi main_v14 main_v16
  let main_c_6 : IVec S_ 1 := constantI S_ 1 1#1
  let main_v18 : IVec S_ 1 := (fun x v => Host.reduce IntOp.andi x v reducesTo_S4096x512_S_d0_1 h_S_) main_v17 main_c_6
  let main_v19 : IVec S_ 1 := andi main_v12 main_v18
  let main_cst_7 : FVec F S_ .f32 := constant S_ .f32 0xFF800000#32
  let main_v20 : FVec F S64x4x64x64 .f32 := broadcastInDim S64x4x64x64 ![] bcast_S_S64x4x64x64 main_cst_7
  let main_v21 : IVec S64x4x64x64 1 := cmpf .ogt main_arg4 main_v20
  let main_cst_8 : FVec F S_ .f32 := constant S_ .f32 0x7F800000#32
  let main_v22 : FVec F S64x4x64x64 .f32 := broadcastInDim S64x4x64x64 ![] bcast_S_S64x4x64x64 main_cst_8
  let main_v23 : IVec S64x4x64x64 1 := cmpf .olt main_arg4 main_v22
  let main_v24 : IVec S64x4x64x64 1 := andi main_v21 main_v23
  let main_c_9 : IVec S_ 1 := constantI S_ 1 1#1
  let main_v25 : IVec S_ 1 := (fun x v => Host.reduce IntOp.andi x v reducesTo_S64x4x64x64_S_d0_1_2_3 h_S_) main_v24 main_c_9
  let main_v26 : IVec S_ 1 := andi main_v19 main_v25
  let main_cst_10 : FVec F S_ .f32 := constant S_ .f32 0xFF800000#32
  let main_v27 : FVec F S4x4096 .f32 := broadcastInDim S4x4096 ![] bcast_S_S4x4096 main_cst_10
  let main_v28 : IVec S4x4096 1 := cmpf .ogt main_arg5 main_v27
  let main_cst_11 : FVec F S_ .f32 := constant S_ .f32 0x7F800000#32
  let main_v29 : FVec F S4x4096 .f32 := broadcastInDim S4x4096 ![] bcast_S_S4x4096 main_cst_11
  let main_v30 : IVec S4x4096 1 := cmpf .olt main_arg5 main_v29
  let main_v31 : IVec S4x4096 1 := andi main_v28 main_v30
  let main_c_12 : IVec S_ 1 := constantI S_ 1 1#1
  let main_v32 : IVec S_ 1 := (fun x v => Host.reduce IntOp.andi x v reducesTo_S4x4096_S_d0_1 h_S_) main_v31 main_c_12
  fn_part2 (F := F) main_arg6 main_arg7 main_v26 main_v32

def fn {F : FTy → Type} [FloatOps F] (main_arg0 : FVec F S4096x512 .f32) (main_arg1 : FVec F S4096x512 .f32) (main_arg2 : FVec F S4096x512 .f32) (main_arg3 : FVec F S4096x512 .f32) (main_arg4 : FVec F S64x4x64x64 .f32) (main_arg5 : FVec F S4x4096 .f32) (main_arg6 : FVec F S64x4x128x128 .f32) (main_arg7 : FVec F S4096x512 .f32) : IVec S_ 1 :=
  let main_cst : FVec F S_ .f32 := constant S_ .f32 0xFF800000#32
  let main_v0 : FVec F S4096x512 .f32 := broadcastInDim S4096x512 ![] bcast_S_S4096x512 main_cst
  let main_v1 : IVec S4096x512 1 := cmpf .ogt main_arg0 main_v0
  let main_cst_0 : FVec F S_ .f32 := constant S_ .f32 0x7F800000#32
  let main_v2 : FVec F S4096x512 .f32 := broadcastInDim S4096x512 ![] bcast_S_S4096x512 main_cst_0
  let main_v3 : IVec S4096x512 1 := cmpf .olt main_arg0 main_v2
  let main_v4 : IVec S4096x512 1 := andi main_v1 main_v3
  let main_c : IVec S_ 1 := constantI S_ 1 1#1
  let main_v5 : IVec S_ 1 := (fun x v => Host.reduce IntOp.andi x v reducesTo_S4096x512_S_d0_1 h_S_) main_v4 main_c
  let main_cst_1 : FVec F S_ .f32 := constant S_ .f32 0xFF800000#32
  let main_v6 : FVec F S4096x512 .f32 := broadcastInDim S4096x512 ![] bcast_S_S4096x512 main_cst_1
  let main_v7 : IVec S4096x512 1 := cmpf .ogt main_arg1 main_v6
  let main_cst_2 : FVec F S_ .f32 := constant S_ .f32 0x7F800000#32
  let main_v8 : FVec F S4096x512 .f32 := broadcastInDim S4096x512 ![] bcast_S_S4096x512 main_cst_2
  let main_v9 : IVec S4096x512 1 := cmpf .olt main_arg1 main_v8
  let main_v10 : IVec S4096x512 1 := andi main_v7 main_v9
  let main_c_3 : IVec S_ 1 := constantI S_ 1 1#1
  let main_v11 : IVec S_ 1 := (fun x v => Host.reduce IntOp.andi x v reducesTo_S4096x512_S_d0_1 h_S_) main_v10 main_c_3
  let main_v12 : IVec S_ 1 := andi main_v5 main_v11
  let main_cst_4 : FVec F S_ .f32 := constant S_ .f32 0xFF800000#32
  let main_v13 : FVec F S4096x512 .f32 := broadcastInDim S4096x512 ![] bcast_S_S4096x512 main_cst_4
  let main_v14 : IVec S4096x512 1 := cmpf .ogt main_arg3 main_v13
  let main_cst_5 : FVec F S_ .f32 := constant S_ .f32 0x7F800000#32
  let main_v15 : FVec F S4096x512 .f32 := broadcastInDim S4096x512 ![] bcast_S_S4096x512 main_cst_5
  fn_part1 (F := F) main_arg3 main_arg4 main_arg5 main_arg6 main_arg7 main_v12 main_v14 main_v15
-- ==== Kernel.lean ====
abbrev S4096x512 : Shape := ⟨2, ![4096, 512]⟩
abbrev S64x4x64x64 : Shape := ⟨4, ![64, 4, 64, 64]⟩
abbrev S4x4096 : Shape := ⟨2, ![4, 4096]⟩
abbrev S64x4x128x128 : Shape := ⟨4, ![64, 4, 128, 128]⟩
abbrev S4096x4 : Shape := ⟨2, ![4096, 4]⟩
abbrev S64x64x4 : Shape := ⟨3, ![64, 64, 4]⟩
abbrev S4x64x64 : Shape := ⟨3, ![4, 64, 64]⟩
abbrev S64x4x64 : Shape := ⟨3, ![64, 4, 64]⟩
abbrev S512x512 : Shape := ⟨2, ![512, 512]⟩
abbrev S8x4x64x64 : Shape := ⟨4, ![8, 4, 64, 64]⟩
abbrev S8x64x4 : Shape := ⟨3, ![8, 64, 4]⟩
abbrev S8x4x64 : Shape := ⟨3, ![8, 4, 64]⟩
abbrev S8x4x128x128 : Shape := ⟨4, ![8, 4, 128, 128]⟩
abbrev S4x128x128 : Shape := ⟨3, ![4, 128, 128]⟩
abbrev S64x64 : Shape := ⟨2, ![64, 64]⟩
abbrev S4x64 : Shape := ⟨2, ![4, 64]⟩
abbrev S1x64 : Shape := ⟨2, ![1, 64]⟩
abbrev S1x64x4 : Shape := ⟨3, ![1, 64, 4]⟩
abbrev S64x4 : Shape := ⟨2, ![64, 4]⟩
abbrev S64x1 : Shape := ⟨2, ![64, 1]⟩
abbrev S1x64x1 : Shape := ⟨3, ![1, 64, 1]⟩
abbrev S4x64x1 : Shape := ⟨3, ![4, 64, 1]⟩
abbrev S1x4x64 : Shape := ⟨3, ![1, 4, 64]⟩
abbrev S1x1x64 : Shape := ⟨3, ![1, 1, 64]⟩
abbrev S4x1x64 : Shape := ⟨3, ![4, 1, 64]⟩
abbrev S4x1x1 : Shape := ⟨3, ![4, 1, 1]⟩
abbrev S64x512 : Shape := ⟨2, ![64, 512]⟩
abbrev S64x128 : Shape := ⟨2, ![64, 128]⟩
abbrev S1x64x128 : Shape := ⟨3, ![1, 64, 128]⟩
abbrev S4x64x128 : Shape := ⟨3, ![4, 64, 128]⟩
abbrev S1x4x128x128 : Shape := ⟨4, ![1, 4, 128, 128]⟩
abbrev S1x4x64x64 : Shape := ⟨4, ![1, 4, 64, 64]⟩
abbrev S1x64x64 : Shape := ⟨3, ![1, 64, 64]⟩
abbrev S4x128 : Shape := ⟨2, ![4, 128]⟩
abbrev S4x128x1 : Shape := ⟨3, ![4, 128, 1]⟩
abbrev S4x1 : Shape := ⟨2, ![4, 1]⟩
abbrev S1x1x1 : Shape := ⟨3, ![1, 1, 1]⟩
abbrev S1x1 : Shape := ⟨2, ![1, 1]⟩

abbrev nBuf : Space → Nat
  | .hbm => 18
  | .vmem => 31
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S64x4x64x64, .f32⟩
  | .hbm, ⟨5, _⟩ => ⟨S4x4096, .f32⟩
  | .hbm, ⟨6, _⟩ => ⟨S64x4x128x128, .f32⟩
  | .hbm, ⟨7, _⟩ => ⟨S4096x512, .f32⟩
  | .hbm, ⟨8, _⟩ => ⟨S4096x4, .f32⟩
  | .hbm, ⟨9, _⟩ => ⟨S64x64x4, .f32⟩
  | .hbm, ⟨10, _⟩ => ⟨S4x64x64, .f32⟩
  | .hbm, ⟨11, _⟩ => ⟨S64x4x64, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S64x4x64x64, .f32⟩
  | .hbm, ⟨17, _⟩ => ⟨S64x4x64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x4x64x64, .f32⟩
  | .local _ .vmem, ⟨9, _⟩ => ⟨S8x4x64x64, .f32⟩
  | .local _ .vmem, ⟨10, _⟩ => ⟨S8x64x4, .f32⟩
  | .local _ .vmem, ⟨11, _⟩ => ⟨S8x64x4, .f32⟩
  | .local _ .vmem, ⟨12, _⟩ => ⟨S8x4x64, .f32⟩
  | .local _ .vmem, ⟨13, _⟩ => ⟨S8x4x64, .f32⟩
  | .local _ .vmem, ⟨14, _⟩ => ⟨S8x4x128x128, .f32⟩
  | .local _ .vmem, ⟨15, _⟩ => ⟨S8x4x128x128, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S8x4x64x64, .f32⟩
  | .local _ .vmem, ⟨27, _⟩ => ⟨S8x4x64x64, .f32⟩
  | .local _ .vmem, ⟨28, _⟩ => ⟨S8x4x64, .f32⟩
  | .local _ .vmem, ⟨29, _⟩ => ⟨S8x4x64, .f32⟩
  | .local _ .vmem, ⟨30, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_14 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x4x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4096x512 : Shape := ⟨2, ![4096, 512]⟩
abbrev S64x4x64x64 : Shape := ⟨4, ![64, 4, 64, 64]⟩
abbrev S4x4096 : Shape := ⟨2, ![4, 4096]⟩
abbrev S64x4x128x128 : Shape := ⟨4, ![64, 4, 128, 128]⟩
abbrev S64x64x4x128 : Shape := ⟨4, ![64, 64, 4, 128]⟩
abbrev S64x4x64x128 : Shape := ⟨4, ![64, 4, 64, 128]⟩
abbrev S4x64x64 : Shape := ⟨3, ![4, 64, 64]⟩
abbrev S64x4x64 : Shape := ⟨3, ![64, 4, 64]⟩
abbrev S64x4x64x1 : Shape := ⟨4, ![64, 4, 64, 1]⟩
abbrev S64x4x1 : Shape := ⟨3, ![64, 4, 1]⟩
abbrev S_ : Shape := ⟨0, ![]⟩
abbrev S4x128x128 : Shape := ⟨3, ![4, 128, 128]⟩
abbrev S64x4 : Shape := ⟨2, ![64, 4]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S1x4 : Shape := ⟨2, ![1, 4]⟩
abbrev S4 : Shape := ⟨1, ![4]⟩
abbrev S4x1x1 : Shape := ⟨3, ![4, 1, 1]⟩
abbrev S4x128x64 : Shape := ⟨3, ![4, 128, 64]⟩
abbrev S64x64 : Shape := ⟨2, ![64, 64]⟩
abbrev S64 : Shape := ⟨1, ![64]⟩

abbrev nBuf : Space → Nat
  | .hbm => 210
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S64x4x64x64, .f32⟩
  | 5 => ⟨S4x4096, .f32⟩
  | 6 => ⟨S64x4x128x128, .f32⟩
  | 7 => ⟨S4096x512, .f32⟩
  | 8 => ⟨S64x64x4x128, .f32⟩
  | 9 => ⟨S64x4x64x128, .f32⟩
  | 10 => ⟨S64x64x4x128, .f32⟩
  | 11 => ⟨S64x4x64x128, .f32⟩
  | 12 => ⟨S64x64x4x128, .f32⟩
  | 13 => ⟨S64x4x64x128, .f32⟩
  | 14 => ⟨S64x64x4x128, .f32⟩
  | 15 => ⟨S64x4x64x128, .f32⟩
  | 16 => ⟨S64x64x4x128, .f32⟩
  | 17 => ⟨S64x4x64x128, .f32⟩
  | 18 => ⟨S4x64x64, .f32⟩
  | 19 => ⟨S64x4x64, .f32⟩
  | 20 => ⟨S64x4x64, .f32⟩
  | 21 => ⟨S64x4x64x1, .f32⟩
  | 22 => ⟨S64x4x64x128, .f32⟩
  | 23 => ⟨S64x4x64x128, .f32⟩
  | 24 => ⟨S64x4x1, .f32⟩
  | 25 => ⟨S64x4x64, .f32⟩
  | 26 => ⟨S64x4x64, .f32⟩
  | 27 => ⟨S64x4x64, .f32⟩
  | 28 => ⟨S64x4x64x1, .f32⟩
  | 29 => ⟨S64x4x64x128, .f32⟩
  | 30 => ⟨S64x4x64x128, .f32⟩
  | 31 => ⟨S_, .f32⟩
  | 32 => ⟨S4x128x128, .f32⟩
  | 33 => ⟨S64x4x1, .f32⟩
  | 34 => ⟨S64x4, .f32⟩
  | 35 => ⟨S_, .f32⟩
  | 36 => ⟨S64x4x64x128, .f32⟩
  | 37 => ⟨S_, .f32⟩
  | 38 => ⟨S64x4x64x128, .f32⟩
  | 39 => ⟨S_, .f32⟩
  | 40 => ⟨S64x4x64x64, .f32⟩
  | 41 => ⟨S_, .f32⟩
  | 42 => ⟨S64x4x64x128, .f32⟩
  | 43 => ⟨S_, .f32⟩
  | 44 => ⟨S64x4x64x128, .f32⟩
  | 45 => ⟨S_, .f32⟩
  | 46 => ⟨S64x4, .f32⟩
  | 47 => ⟨S_, .i32⟩
  | 48 => ⟨S64x4x128x128, .f32⟩
  | 49 => ⟨S64x4x64x128, .f32⟩
  | 50 => ⟨S64x4x64x128, .f32⟩
  | 51 => ⟨S64x4x64x128, .f32⟩
  | 52 => ⟨S64x4x64x64, .f32⟩
  | 53 => ⟨S64x4x64x128, .f32⟩
  | 54 => ⟨S64x4x64x128, .f32⟩
  | 55 => ⟨S64x4, .f32⟩
  | 56 => ⟨S_, .i32⟩
  | 57 => ⟨S4x128x128, .f32⟩
  | 58 => ⟨S64x4x64x128, .f32⟩
  | 59 => ⟨S64x4x64x128, .f32⟩
  | 60 => ⟨S64x4x64x64, .f32⟩
  | 61 => ⟨S64x4x64x128, .f32⟩
  | 62 => ⟨S64x4x64x128, .f32⟩
  | 63 => ⟨S64x4, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S1x4x128x128, .f32⟩
  | 74 => ⟨S4x128x128, .f32⟩
  | 75 => ⟨S_, .i32⟩
  | 76 => ⟨S_, .i32⟩
  | 77 => ⟨S_, .i32⟩
  | 78 => ⟨S1x4x64x128, .f32⟩
  | 79 => ⟨S4x64x128, .f32⟩
  | 80 => ⟨S_, .i32⟩
  | 81 => ⟨S_, .i32⟩
  | 82 => ⟨S_, .i32⟩
  | 83 => ⟨S1x4x64x128, .f32⟩
  | 84 => ⟨S4x64x128, .f32⟩
  | 85 => ⟨S_, .i32⟩
  | 86 => ⟨S_, .i32⟩
  | 87 => ⟨S_, .i32⟩
  | 88 => ⟨S1x4x64x128, .f32⟩
  | 89 => ⟨S4x64x128, .f32⟩
  | 90 => ⟨S_, .i32⟩
  | 91 => ⟨S_, .i32⟩
  | 92 => ⟨S_, .i32⟩
  | 93 => ⟨S1x4x64x64, .f32⟩
  | 94 => ⟨S4x64x64, .f32⟩
  | 95 => ⟨S_, .i32⟩
  | 96 => ⟨S_, .i32⟩
  | 97 => ⟨S_, .i32⟩
  | 98 => ⟨S1x4x64x128, .f32⟩
  | 99 => ⟨S4x64x128, .f32⟩
  | 100 => ⟨S_, .i32⟩
  | 101 => ⟨S_, .i32⟩
  | 102 => ⟨S_, .i32⟩
  | 103 => ⟨S1x4x64x128, .f32⟩
  | 104 => ⟨S4x64x128, .f32⟩
  | 105 => ⟨S_, .i32⟩
  | 106 => ⟨S1x4, .f32⟩
  | 107 => ⟨S4, .f32⟩
  | 108 => ⟨S4, .f32⟩
  | 109 => ⟨S4x64x128, .f32⟩
  | 110 => ⟨S4x64x128, .f32⟩
  | 111 => ⟨S4x64x128, .f32⟩
  | 112 => ⟨S4x64x128, .f32⟩
  | 113 => ⟨S4x64x128, .f32⟩
  | 114 => ⟨S4x1x1, .f32⟩
  | 115 => ⟨S4x128x128, .f32⟩
  | 116 => ⟨S4x128x128, .f32⟩
  | 117 => ⟨S4x128x128, .f32⟩
  | 118 => ⟨S4x128x128, .f32⟩
  | 119 => ⟨S4x128x64, .f32⟩
  | 120 => ⟨S4x64x128, .f32⟩
  | 121 => ⟨S4x128x64, .f32⟩
  | 122 => ⟨S4x64x128, .f32⟩
  | 123 => ⟨S4x128x128, .f32⟩
  | 124 => ⟨S_, .f32⟩
  | 125 => ⟨S4, .f32⟩
  | 126 => ⟨S4x1x1, .f32⟩
  | 127 => ⟨S4x128x128, .f32⟩
  | _ => ⟨S4096x512, .f32⟩

abbrev hbmTy0_1 (i : Nat) : BufTy := match i % 128 with
  | 0 => ⟨S4x128x128, .f32⟩
  | 1 => ⟨S_, .f32⟩
  | 2 => ⟨S4, .f32⟩
  | 3 => ⟨S4x128x64, .f32⟩
  | 4 => ⟨S4x64x128, .f32⟩
  | 5 => ⟨S4x64x128, .f32⟩
  | 6 => ⟨S4x64x64, .f32⟩
  | 7 => ⟨S4x128x128, .f32⟩
  | 8 => ⟨S4x128x128, .f32⟩
  | 9 => ⟨S4x128x128, .f32⟩
  | 10 => ⟨S4x64x128, .f32⟩
  | 11 => ⟨S4x64x128, .f32⟩
  | 12 => ⟨S4x128x128, .f32⟩
  | 13 => ⟨S4x128x128, .f32⟩
  | 14 => ⟨S4x128x128, .f32⟩
  | 15 => ⟨S4x64x128, .f32⟩
  | 16 => ⟨S4, .f32⟩
  | 17 => ⟨S1x4x64x128, .f32⟩
  | 18 => ⟨S_, .i32⟩
  | 19 => ⟨S_, .i32⟩
  | 20 => ⟨S_, .i32⟩
  | 21 => ⟨S64x4x64x128, .f32⟩
  | 22 => ⟨S1x4x64x128, .f32⟩
  | 23 => ⟨S_, .i32⟩
  | 24 => ⟨S_, .i32⟩
  | 25 => ⟨S_, .i32⟩
  | 26 => ⟨S64x4x64x128, .f32⟩
  | 27 => ⟨S1x4x64x64, .f32⟩
  | 28 => ⟨S_, .i32⟩
  | 29 => ⟨S_, .i32⟩
  | 30 => ⟨S_, .i32⟩
  | 31 => ⟨S64x4x64x64, .f32⟩
  | 32 => ⟨S1x4x64x128, .f32⟩
  | 33 => ⟨S_, .i32⟩
  | 34 => ⟨S_, .i32⟩
  | 35 => ⟨S_, .i32⟩
  | 36 => ⟨S64x4x64x128, .f32⟩
  | 37 => ⟨S1x4x64x128, .f32⟩
  | 38 => ⟨S_, .i32⟩
  | 39 => ⟨S_, .i32⟩
  | 40 => ⟨S_, .i32⟩
  | 41 => ⟨S64x4x64x128, .f32⟩
  | 42 => ⟨S1x4, .f32⟩
  | 43 => ⟨S_, .i32⟩
  | 44 => ⟨S64x4, .f32⟩
  | 45 => ⟨S_, .i32⟩
  | 46 => ⟨S_, .i32⟩
  | 47 => ⟨S_, .i1⟩
  | 48 => ⟨S64x64, .i1⟩
  | 49 => ⟨S64x64, .i32⟩
  | 50 => ⟨S_, .i32⟩
  | 51 => ⟨S64x64, .i32⟩
  | 52 => ⟨S64x64, .i32⟩
  | 53 => ⟨S64x64, .i32⟩
  | 54 => ⟨S64x64, .i1⟩
  | 55 => ⟨S_, .i1⟩
  | 56 => ⟨S64x64, .i1⟩
  | 57 => ⟨S64x64, .i1⟩
  | 58 => ⟨S_, .f32⟩
  | 59 => ⟨S_, .f32⟩
  | 60 => ⟨S64x4x64x64, .i1⟩
  | 61 => ⟨S64x4x64x64, .f32⟩
  | 62 => ⟨S64x4x64x64, .f32⟩
  | 63 => ⟨S64, .i32⟩
  | 64 => ⟨S_, .i32⟩
  | 65 => ⟨S64, .i32⟩
  | 66 => ⟨S64, .i1⟩
  | 67 => ⟨S64x64x4x128, .f32⟩
  | 68 => ⟨S4096x512, .f32⟩
  | 69 => ⟨S64x64x4x128, .f32⟩
  | 70 => ⟨S4096x512, .f32⟩
  | 71 => ⟨S64x64x4x128, .f32⟩
  | 72 => ⟨S4096x512, .f32⟩
  | 73 => ⟨S64x64x4x128, .f32⟩
  | 74 => ⟨S4096x512, .f32⟩
  | 75 => ⟨S64x4x1, .f32⟩
  | 76 => ⟨S_, .f32⟩
  | 77 => ⟨S_, .f32⟩
  | 78 => ⟨S64x4x64, .i1⟩
  | 79 => ⟨S64x4x64, .f32⟩
  | 80 => ⟨S64x4x64, .f32⟩
  | 81 => ⟨S64x4x64, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_c : Ref sig .tc := ⟨.hbm, 47, rfl⟩
abbrev main_v32_0 : Ref sig .tc := ⟨.hbm, 48, rfl⟩
abbrev main_v32_1 : Ref sig .tc := ⟨.hbm, 49, rfl⟩
abbrev main_v32_2 : Ref sig .tc := ⟨.hbm, 50, rfl⟩
abbrev main_v32_3 : Ref sig .tc := ⟨.hbm, 51, rfl⟩
abbrev main_v32_4 : Ref sig .tc := ⟨.hbm, 52, rfl⟩
abbrev main_v32_5 : Ref sig .tc := ⟨.hbm, 53, rfl⟩
abbrev main_v32_6 : Ref sig .tc := ⟨.hbm, 54, rfl⟩
abbrev main_v32_7 : Ref sig .tc := ⟨.hbm, 55, rfl⟩
abbrev main_v32_8 : Ref sig .tc := ⟨.hbm, 56, rfl⟩
abbrev main_v32_9 : Ref sig .tc := ⟨.hbm, 57, rfl⟩
abbrev main_v32_10 : Ref sig .tc := ⟨.hbm, 58, rfl⟩
abbrev main_v32_11 : Ref sig .tc := ⟨.hbm, 59, rfl⟩
abbrev main_v32_12 : Ref sig .tc := ⟨.hbm, 60, rfl⟩
abbrev main_v32_13 : Ref sig .tc := ⟨.hbm, 61, rfl⟩
abbrev main_v32_14 : Ref sig .tc := ⟨.hbm, 62, rfl⟩
abbrev main_v32_15 : Ref sig .tc := ⟨.hbm, 63, rfl⟩
abbrev main_while0c_c_25 : Ref sig .tc := ⟨.hbm, 64, rfl⟩
abbrev main_while0c_v49 : Ref sig .tc := ⟨.hbm, 65, rfl⟩
abbrev main_while0b_c_25 : Ref sig .tc := ⟨.hbm, 66, rfl⟩
abbrev main_while0b_v49 : Ref sig .tc := ⟨.hbm, 67, rfl⟩
abbrev main_while0b_c_26 : Ref sig .tc := ⟨.hbm, 68, rfl⟩
abbrev main_while0b_v50 : Ref sig .tc := ⟨.hbm, 69, rfl⟩
abbrev main_while0b_call0_c : Ref sig .tc := ⟨.hbm, 70, rfl⟩
abbrev main_while0b_call0_c_0 : Ref sig .tc := ⟨.hbm, 71, rfl⟩
abbrev main_while0b_call0_c_1 : Ref sig .tc := ⟨.hbm, 72, rfl⟩
abbrev main_while0b_call0_v0 : Ref sig .tc := ⟨.hbm, 73, rfl⟩
abbrev main_while0b_v51 : Ref sig .tc := ⟨.hbm, 74, rfl⟩
abbrev main_while0b_call1_c : Ref sig .tc := ⟨.hbm, 75, rfl⟩
abbrev main_while0b_call1_c_0 : Ref sig .tc := ⟨.hbm, 76, rfl⟩
abbrev main_while0b_call1_c_1 : Ref sig .tc := ⟨.hbm, 77, rfl⟩
abbrev main_while0b_call1_v0 : Ref sig .tc := ⟨.hbm, 78, rfl⟩
abbrev main_while0b_v52 : Ref sig .tc := ⟨.hbm, 79, rfl⟩
abbrev main_while0b_call2_c : Ref sig .tc := ⟨.hbm, 80, rfl⟩
abbrev main_while0b_call2_c_0 : Ref sig .tc := ⟨.hbm, 81, rfl⟩
abbrev main_while0b_call2_c_1 : Ref sig .tc := ⟨.hbm, 82, rfl⟩
abbrev main_while0b_call2_v0 : Ref sig .tc := ⟨.hbm, 83, rfl⟩
abbrev main_while0b_v53 : Ref sig .tc := ⟨.hbm, 84, rfl⟩
abbrev main_while0b_call3_c : Ref sig .tc := ⟨.hbm, 85, rfl⟩
abbrev main_while0b_call3_c_0 : Ref sig .tc := ⟨.hbm, 86, rfl⟩
abbrev main_while0b_call3_c_1 : Ref sig .tc := ⟨.hbm, 87, rfl⟩
abbrev main_while0b_call3_v0 : Ref sig .tc := ⟨.hbm, 88, rfl⟩
abbrev main_while0b_v54 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_call4_c_1 : Ref sig .tc := ⟨.hbm, 92, rfl⟩
abbrev main_while0b_call4_v0 : Ref sig .tc := ⟨.hbm, 93, rfl⟩
abbrev main_while0b_v55 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_v0 : Ref sig .tc := ⟨.hbm, 98, rfl⟩
abbrev main_while0b_v56 : Ref sig .tc := ⟨.hbm, 99, rfl⟩
abbrev main_while0b_call6_c : Ref sig .tc := ⟨.hbm, 100, rfl⟩
abbrev main_while0b_call6_c_0 : Ref sig .tc := ⟨.hbm, 101, rfl⟩
abbrev main_while0b_call6_c_1 : Ref sig .tc := ⟨.hbm, 102, rfl⟩
abbrev main_while0b_call6_v0 : Ref sig .tc := ⟨.hbm, 103, rfl⟩
abbrev main_while0b_v57 : Ref sig .tc := ⟨.hbm, 104, rfl⟩
abbrev main_while0b_call7_c : Ref sig .tc := ⟨.hbm, 105, rfl⟩
abbrev main_while0b_call7_v0 : Ref sig .tc := ⟨.hbm, 106, rfl⟩
abbrev main_while0b_v58 : Ref sig .tc := ⟨.hbm, 107, rfl⟩
abbrev main_while0b_v59 : Ref sig .tc := ⟨.hbm, 108, rfl⟩
abbrev main_while0b_v60 : Ref sig .tc := ⟨.hbm, 109, rfl⟩
abbrev main_while0b_v61 : Ref sig .tc := ⟨.hbm, 110, rfl⟩
abbrev main_while0b_v62 : Ref sig .tc := ⟨.hbm, 111, rfl⟩
abbrev main_while0b_v63 : Ref sig .tc := ⟨.hbm, 112, rfl⟩
abbrev main_while0b_v64 : Ref sig .tc := ⟨.hbm, 113, rfl⟩
abbrev main_while0b_v65 : Ref sig .tc := ⟨.hbm, 114, rfl⟩
abbrev main_while0b_v66 : Ref sig .tc := ⟨.hbm, 115, rfl⟩
abbrev main_while0b_v67 : Ref sig .tc := ⟨.hbm, 116, rfl⟩
abbrev main_while0b_v68 : Ref sig .tc := ⟨.hbm, 117, rfl⟩
abbrev main_while0b_v69 : Ref sig .tc := ⟨.hbm, 118, rfl⟩
abbrev main_while0b_v70 : Ref sig .tc := ⟨.hbm, 119, rfl⟩
abbrev main_while0b_v71 : Ref sig .tc := ⟨.hbm, 120, rfl⟩
abbrev main_while0b_v72 : Ref sig .tc := ⟨.hbm, 121, rfl⟩
abbrev main_while0b_v73 : Ref sig .tc := ⟨.hbm, 122, rfl⟩
abbrev main_while0b_v74 : Ref sig .tc := ⟨.hbm, 123, rfl⟩
abbrev main_while0b_cst_27 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_cst_28 : Ref sig .tc := ⟨.hbm, 129, rfl⟩
abbrev main_while0b_v79 : Ref sig .tc := ⟨.hbm, 130, rfl⟩
abbrev main_while0b_v80 : Ref sig .tc := ⟨.hbm, 131, rfl⟩
abbrev main_while0b_v81 : Ref sig .tc := ⟨.hbm, 132, rfl⟩
abbrev main_while0b_v82 : Ref sig .tc := ⟨.hbm, 133, rfl⟩
abbrev main_while0b_v83 : Ref sig .tc := ⟨.hbm, 134, rfl⟩
abbrev main_while0b_v84 : Ref sig .tc := ⟨.hbm, 135, rfl⟩
abbrev main_while0b_v85 : Ref sig .tc := ⟨.hbm, 136, rfl⟩
abbrev main_while0b_v86 : Ref sig .tc := ⟨.hbm, 137, rfl⟩
abbrev main_while0b_v87 : Ref sig .tc := ⟨.hbm, 138, rfl⟩
abbrev main_while0b_v88 : Ref sig .tc := ⟨.hbm, 139, rfl⟩
abbrev main_while0b_v89 : Ref sig .tc := ⟨.hbm, 140, rfl⟩
abbrev main_while0b_v90 : Ref sig .tc := ⟨.hbm, 141, rfl⟩
abbrev main_while0b_v91 : Ref sig .tc := ⟨.hbm, 142, rfl⟩
abbrev main_while0b_v92 : Ref sig .tc := ⟨.hbm, 143, rfl⟩
abbrev main_while0b_v93 : Ref sig .tc := ⟨.hbm, 144, rfl⟩
abbrev main_while0b_call8_v0 : Ref sig .tc := ⟨.hbm, 145, rfl⟩
abbrev main_while0b_call8_c : Ref sig .tc := ⟨.hbm, 146, rfl⟩
abbrev main_while0b_call8_c_0 : Ref sig .tc := ⟨.hbm, 147, rfl⟩
abbrev main_while0b_call8_c_1 : Ref sig .tc := ⟨.hbm, 148, rfl⟩
abbrev main_while0b_v94 : Ref sig .tc := ⟨.hbm, 149, rfl⟩
abbrev main_while0b_call9_v0 : Ref sig .tc := ⟨.hbm, 150, rfl⟩
abbrev main_while0b_call9_c : Ref sig .tc := ⟨.hbm, 151, rfl⟩
abbrev main_while0b_call9_c_0 : Ref sig .tc := ⟨.hbm, 152, rfl⟩
abbrev main_while0b_call9_c_1 : Ref sig .tc := ⟨.hbm, 153, rfl⟩
abbrev main_while0b_v95 : Ref sig .tc := ⟨.hbm, 154, rfl⟩
abbrev main_while0b_call10_v0 : Ref sig .tc := ⟨.hbm, 155, rfl⟩
abbrev main_while0b_call10_c : Ref sig .tc := ⟨.hbm, 156, rfl⟩
abbrev main_while0b_call10_c_0 : Ref sig .tc := ⟨.hbm, 157, rfl⟩
abbrev main_while0b_call10_c_1 : Ref sig .tc := ⟨.hbm, 158, rfl⟩
abbrev main_while0b_v96 : Ref sig .tc := ⟨.hbm, 159, rfl⟩
abbrev main_while0b_call11_v0 : Ref sig .tc := ⟨.hbm, 160, rfl⟩
abbrev main_while0b_call11_c : Ref sig .tc := ⟨.hbm, 161, rfl⟩
abbrev main_while0b_call11_c_0 : Ref sig .tc := ⟨.hbm, 162, rfl⟩
abbrev main_while0b_call11_c_1 : Ref sig .tc := ⟨.hbm, 163, rfl⟩
abbrev main_while0b_v97 : Ref sig .tc := ⟨.hbm, 164, rfl⟩
abbrev main_while0b_call12_v0 : Ref sig .tc := ⟨.hbm, 165, rfl⟩
abbrev main_while0b_call12_c : Ref sig .tc := ⟨.hbm, 166, rfl⟩
abbrev main_while0b_call12_c_0 : Ref sig .tc := ⟨.hbm, 167, rfl⟩
abbrev main_while0b_call12_c_1 : Ref sig .tc := ⟨.hbm, 168, rfl⟩
abbrev main_while0b_v98 : Ref sig .tc := ⟨.hbm, 169, rfl⟩
abbrev main_while0b_call13_v0 : Ref sig .tc := ⟨.hbm, 170, rfl⟩
abbrev main_while0b_call13_c : Ref sig .tc := ⟨.hbm, 171, rfl⟩
abbrev main_while0b_v99 : Ref sig .tc := ⟨.hbm, 172, rfl⟩
abbrev main_while0b_c_29 : Ref sig .tc := ⟨.hbm, 173, rfl⟩
abbrev main_while0b_v100 : Ref sig .tc := ⟨.hbm, 174, rfl⟩
abbrev main_c_6 : Ref sig .tc := ⟨.hbm, 175, rfl⟩
abbrev main_v33 : Ref sig .tc := ⟨.hbm, 176, rfl⟩
abbrev main_call14_v0 : Ref sig .tc := ⟨.hbm, 177, rfl⟩
abbrev main_call14_c : Ref sig .tc := ⟨.hbm, 178, rfl⟩
abbrev main_call14_v1 : Ref sig .tc := ⟨.hbm, 179, rfl⟩
abbrev main_call14_v2 : Ref sig .tc := ⟨.hbm, 180, rfl⟩
abbrev main_call14_v3 : Ref sig .tc := ⟨.hbm, 181, rfl⟩
abbrev main_call14_v4 : Ref sig .tc := ⟨.hbm, 182, rfl⟩
abbrev main_call14_c_0 : Ref sig .tc := ⟨.hbm, 183, rfl⟩
abbrev main_call14_v5 : Ref sig .tc := ⟨.hbm, 184, rfl⟩
abbrev main_v34 : Ref sig .tc := ⟨.hbm, 185, rfl⟩
abbrev main_cst_7 : Ref sig .tc := ⟨.hbm, 186, rfl⟩
abbrev main_call15_v0 : Ref sig .tc := ⟨.hbm, 187, rfl⟩
abbrev main_call15_v1 : Ref sig .tc := ⟨.hbm, 188, rfl⟩
abbrev main_call15_v2 : Ref sig .tc := ⟨.hbm, 189, rfl⟩
abbrev main_v35 : Ref sig .tc := ⟨.hbm, 190, rfl⟩
abbrev main_v36 : Ref sig .tc := ⟨.hbm, 191, rfl⟩
abbrev main_c_8 : Ref sig .tc := ⟨.hbm, 192, rfl⟩
abbrev main_v37 : Ref sig .tc := ⟨.hbm, 193, rfl⟩
abbrev main_v38 : Ref sig .tc := ⟨.hbm, 194, rfl⟩
abbrev main_v39 : Ref sig .tc := ⟨.hbm, 195, rfl⟩
abbrev main_v40 : Ref sig .tc := ⟨.hbm, 196, rfl⟩
abbrev main_v41 : Ref sig .tc := ⟨.hbm, 197, rfl⟩
abbrev main_v42 : Ref sig .tc := ⟨.hbm, 198, rfl⟩
abbrev main_v43 : Ref sig .tc := ⟨.hbm, 199, rfl⟩
abbrev main_v44 : Ref sig .tc := ⟨.hbm, 200, rfl⟩
abbrev main_v45 : Ref sig .tc := ⟨.hbm, 201, rfl⟩
abbrev main_v46 : Ref sig .tc := ⟨.hbm, 202, rfl⟩
abbrev main_v47 : Ref sig .tc := ⟨.hbm, 203, rfl⟩
abbrev main_cst_9 : Ref sig .tc := ⟨.hbm, 204, rfl⟩
abbrev main_call16_v0 : Ref sig .tc := ⟨.hbm, 205, rfl⟩
abbrev main_call16_v1 : Ref sig .tc := ⟨.hbm, 206, rfl⟩
abbrev main_call16_v2 : Ref sig .tc := ⟨.hbm, 207, rfl⟩
abbrev main_call16_v3 : Ref sig .tc := ⟨.hbm, 208, rfl⟩
abbrev main_v48 : Ref sig .tc := ⟨.hbm, 209, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x1024 : Shape := ⟨2, ![4096, 1024]⟩
abbrev S4096x5632 : Shape := ⟨2, ![4096, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .hbm, ⟨3, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x5632 : Shape := ⟨2, ![4096, 5632]⟩
abbrev S4x1024x1408 : Shape := ⟨3, ![4, 1024, 1408]⟩
abbrev S4096x1024 : Shape := ⟨2, ![4096, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S1024x4x1408, .bf16⟩
  | .hbm, ⟨3, _⟩ => ⟨S1024x5632, .bf16⟩
  | .hbm, ⟨4, _⟩ => ⟨S1024x5632, .f32⟩
  | .hbm, ⟨5, _⟩ => ⟨S4096x5632, .f32⟩
  | .hbm, ⟨6, _⟩ => ⟨S_, .f32⟩
  | .hbm, ⟨7, _⟩ => ⟨S4096x1024, .f32⟩
  | .hbm, ⟨8, _⟩ => ⟨S4096x5632, .f32⟩
  | .hbm, ⟨9, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S4096x5760 : Shape := ⟨2, ![4096, 5760]⟩
abbrev S1024x5760 : Shape := ⟨2, ![1024, 5760]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5760, .bf16⟩
  | .hbm, ⟨2, _⟩ => ⟨S1024x5760, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x5760 : Shape := ⟨2, ![4096, 5760]⟩
abbrev S_ : Shape := ⟨0, ![]⟩
abbrev S1024x5760 : Shape := ⟨2, ![1024, 5760]⟩
abbrev S5760x1024 : Shape := ⟨2, ![5760, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5760, .bf16⟩
  | .hbm, ⟨2, _⟩ => ⟨S4096x1024, .f32⟩
  | .hbm, ⟨3, _⟩ => ⟨S4096x5760, .f32⟩
  | .hbm, ⟨4, _⟩ => ⟨S_, .f32⟩
  | .hbm, ⟨5, _⟩ => ⟨S1024x5760, .f32⟩
  | .hbm, ⟨6, _⟩ => ⟨S4096x5760, .f32⟩
  | .hbm, ⟨7, _⟩ => ⟨S5760x1024, .f32⟩
  | .hbm, ⟨8, _⟩ => ⟨S1024x5760, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024x5760 : Shape := ⟨2, ![1024, 5760]⟩
abbrev S4096x5760 : Shape := ⟨2, ![4096, 5760]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x5760, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x5760 : Shape := ⟨2, ![1024, 5760]⟩
abbrev S4096x5760 : Shape := ⟨2, ![4096, 5760]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x1024, .f32⟩
  | .hbm, ⟨3, _⟩ => ⟨S1024x5760, .f32⟩
  | .hbm, ⟨4, _⟩ => ⟨S4096x5760, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S4096x512 : Shape := ⟨2, ![4096, 512]⟩
abbrev S4096x1024 : Shape := ⟨2, ![4096, 1024]⟩
abbrev S4x512x256 : Shape := ⟨3, ![4, 512, 256]⟩
abbrev S1024x512 : Shape := ⟨2, ![1024, 512]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 4
  | .vmem => 9
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x512x256, .f32⟩
  | .hbm, ⟨3, _⟩ => ⟨S4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1x512x256, .f32⟩
  | .local _ .vmem, ⟨5, _⟩ => ⟨S1x512x256, .f32⟩
  | .local _ .vmem, ⟨6, _⟩ => ⟨S1x512x256, .bf16⟩
  | .local _ .vmem, ⟨7, _⟩ => ⟨S1x512x256, .bf16⟩
  | .local _ .vmem, ⟨8, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | .hbm, ⟨11, _⟩ => ⟨S4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S4096x1024 : Shape := ⟨2, ![4096, 1024]⟩
abbrev S4x512x256 : Shape := ⟨3, ![4, 512, 256]⟩
abbrev S4096x512 : Shape := ⟨2, ![4096, 512]⟩
abbrev S2048x256 : Shape := ⟨2, ![2048, 256]⟩
abbrev S1x512x256 : Shape := ⟨3, ![1, 512, 256]⟩
abbrev S2048x512 : Shape := ⟨2, ![2048, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x512x256, .bf16⟩
  | .hbm, ⟨2, _⟩ => ⟨S4096x512, .bf16⟩
  | .local _ .vmem, ⟨0, _⟩ => ⟨S2048x256, .bf16⟩
  | .local _ .vmem, ⟨1, _⟩ => ⟨S2048x256, .bf16⟩
  | .local _ .vmem, ⟨2, _⟩ => ⟨S1x512x256, .bf16⟩
  | .local _ .vmem, ⟨3, _⟩ => ⟨S1x512x256, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S4096x512 : Shape := ⟨2, ![4096, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x512x256, .bf16⟩
  | .hbm, ⟨2, _⟩ => ⟨S512x4x256, .bf16⟩
  | .hbm, ⟨3, _⟩ => ⟨S512x1024, .bf16⟩
  | .hbm, ⟨4, _⟩ => ⟨S512x1024, .f32⟩
  | .hbm, ⟨5, _⟩ => ⟨S4096x1024, .f32⟩
  | .hbm, ⟨6, _⟩ => ⟨S_, .f32⟩
  | .hbm, ⟨7, _⟩ => ⟨S4096x512, .f32⟩
  | .hbm, ⟨8, _⟩ => ⟨S4096x1024, .f32⟩
  | .hbm, ⟨9, _⟩ => ⟨S4096x512, .f32⟩
  | .hbm, ⟨10, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4096x1024 : Shape := ⟨2, ![4096, 1024]⟩
abbrev S4x512x256 : Shape := ⟨3, ![4, 512, 256]⟩
abbrev S4096x512 : Shape := ⟨2, ![4096, 512]⟩
abbrev S2048x256 : Shape := ⟨2, ![2048, 256]⟩
abbrev S1x512x256 : Shape := ⟨3, ![1, 512, 256]⟩
abbrev S2048x512 : Shape := ⟨2, ![2048, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x512x256, .bf16⟩
  | .hbm, ⟨2, _⟩ => ⟨S4096x512, .f32⟩
  | .local _ .vmem, ⟨0, _⟩ => ⟨S2048x256, .bf16⟩
  | .local _ .vmem, ⟨1, _⟩ => ⟨S2048x256, .bf16⟩
  | .local _ .vmem, ⟨2, _⟩ => ⟨S1x512x256, .bf16⟩
  | .local _ .vmem, ⟨3, _⟩ => ⟨S1x512x256, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x512x256, .bf16⟩
  | .hbm, ⟨2, _⟩ => ⟨S512x4x256, .bf16⟩
  | .hbm, ⟨3, _⟩ => ⟨S512x1024, .bf16⟩
  | .hbm, ⟨4, _⟩ => ⟨S512x1024, .f32⟩
  | .hbm, ⟨5, _⟩ => ⟨S4096x1024, .f32⟩
  | .hbm, ⟨6, _⟩ => ⟨S_, .f32⟩
  | .hbm, ⟨7, _⟩ => ⟨S4096x512, .f32⟩
  | .hbm, ⟨8, _⟩ => ⟨S4096x1024, .f32⟩
  | .hbm, ⟨9, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x512 : Shape := ⟨2, ![4096, 512]⟩
abbrev S4x512x256 : Shape := ⟨3, ![4, 512, 256]⟩
abbrev S4096x1024 : Shape := ⟨2, ![4096, 1024]⟩
abbrev S2048x512 : Shape := ⟨2, ![2048, 512]⟩
abbrev S1x512x256 : Shape := ⟨3, ![1, 512, 256]⟩
abbrev S2048x256 : Shape := ⟨2, ![2048, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S1x512x256, .bf16⟩
  | .local _ .vmem, ⟨3, _⟩ => ⟨S1x512x256, .bf16⟩
  | .local _ .vmem, ⟨4, _⟩ => ⟨S2048x256, .bf16⟩
  | .local _ .vmem, ⟨5, _⟩ => ⟨S2048x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x512 : Shape := ⟨2, ![4096, 512]⟩
abbrev S4x512x256 : Shape := ⟨3, ![4, 512, 256]⟩
abbrev S512x4x256 : Shape := ⟨3, ![512, 4, 256]⟩
abbrev S512x1024 : Shape := ⟨2, ![512, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4096x512, .f32⟩
  | .hbm, ⟨3, _⟩ => ⟨S512x4x256, .bf16⟩
  | .hbm, ⟨4, _⟩ => ⟨S512x1024, .bf16⟩
  | .hbm, ⟨5, _⟩ => ⟨S512x1024, .f32⟩
  | .hbm, ⟨6, _⟩ => ⟨S4096x1024, .f32⟩
  | .hbm, ⟨7, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel16.lean ====
abbrev S4096x1024 : Shape := ⟨2, ![4096, 1024]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S1024x4x1408, .bf16⟩
  | .hbm, ⟨4, _⟩ => ⟨S1024x5632, .bf16⟩
  | .hbm, ⟨5, _⟩ => ⟨S1024x5632, .f32⟩
  | .hbm, ⟨6, _⟩ => ⟨S4096x5632, .f32⟩
  | .hbm, ⟨7, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel17.lean ====
abbrev S4x1024x1536 : Shape := ⟨3, ![4, 1024, 1536]⟩
abbrev S4096x1536 : Shape := ⟨2, ![4096, 1536]⟩
abbrev S512x1536 : Shape := ⟨2, ![512, 1536]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S4x1024x1536, .f32⟩
  | .hbm, ⟨12, _⟩ => ⟨S4x1024x1536, .f32⟩
  | .hbm, ⟨13, _⟩ => ⟨S4x1024x1536, .f32⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | .local _ .vmem, ⟨7, _⟩ => ⟨S512x1536, .f32⟩
  | .local _ .vmem, ⟨8, _⟩ => ⟨S512x1536, .f32⟩
  | .local _ .vmem, ⟨9, _⟩ => ⟨S512x1536, .f32⟩
  | .local _ .vmem, ⟨10, _⟩ => ⟨S512x1536, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4x1024x1536 : Shape := ⟨3, ![4, 1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4x8x257 : Shape := ⟨3, ![4, 8, 257]⟩
abbrev S32x257 : Shape := ⟨2, ![32, 257]⟩

abbrev nBuf : Space → Nat
  | .hbm => 14
  | .vmem => 7
  | .smem => 0
  | _ => 0

abbrev bufTy : (tb : Table) → Fin (tcTables nBuf tb) → BufTy
  | .hbm, ⟨0, _⟩ => ⟨S4x8x257, .f32⟩
  | .hbm, ⟨1, _⟩ => ⟨S4x8x257, .f32⟩
  | .hbm, ⟨2, _⟩ => ⟨S4x8x257, .f32⟩
  | .hbm, ⟨3, _⟩ => ⟨S4x8x257, .f32⟩
  | .hbm, ⟨4, _⟩ => ⟨S32x257, .f32⟩
  | .hbm, ⟨5, _⟩ => ⟨S32x257, .f32⟩
  | .hbm, ⟨6, _⟩ => ⟨S32x257, .f32⟩
  | .hbm, ⟨7, _⟩ => ⟨S32x257, .f32⟩
  | .hbm, ⟨8, _⟩ => ⟨S32x257, .f32⟩
  | .hbm, ⟨9, _⟩ => ⟨S32x257, .f32⟩
  | .hbm, ⟨10, _⟩ => ⟨S32x257, .f32⟩
  | .hbm, ⟨11, _⟩ => ⟨S4x8x257, .f32⟩
  | .hbm, ⟨12, _⟩ => ⟨S4x8x257, .f32⟩
  | .hbm, ⟨13, _⟩ => ⟨S4x8x257, .f32⟩
  | .local _ .vmem, ⟨0, _⟩ => ⟨S32x257, .f32⟩
  | .local _ .vmem, ⟨1, _⟩ => ⟨S32x257, .f32⟩
  | .local _ .vmem, ⟨2, _⟩ => ⟨S32x257, .f32⟩
  | .local _ .vmem, ⟨3, _⟩ => ⟨S32x257, .f32⟩
  | .local _ .vmem, ⟨4, _⟩ => ⟨S32x257, .f32⟩
  | .local _ .vmem, ⟨5, _⟩ => ⟨S32x257, .f32⟩
  | .local _ .vmem, ⟨6, _⟩ => ⟨S32x257, .f32⟩
  | _, _ => ⟨S4x8x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x257 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x257 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x257 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x257 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S4x8x257 : Shape := ⟨3, ![4, 8, 257]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x8x257, .f32⟩
  | .hbm, ⟨1, _⟩ => ⟨S4x8x257, .f32⟩
  | .hbm, ⟨2, _⟩ => ⟨S4x8x257, .f32⟩
  | .hbm, ⟨3, _⟩ => ⟨S4x8x257, .f32⟩
  | .hbm, ⟨4, _⟩ => ⟨S_, .f32⟩
  | .hbm, ⟨5, _⟩ => ⟨S4x8x257, .f32⟩
  | .hbm, ⟨6, _⟩ => ⟨S4x8x257, .f32⟩
  | .hbm, ⟨7, _⟩ => ⟨S_, .f32⟩
  | .hbm, ⟨8, _⟩ => ⟨S4x8x257, .f32⟩
  | .hbm, ⟨9, _⟩ => ⟨S4x8x257, .f32⟩
  | .hbm, ⟨10, _⟩ => ⟨S4x8x257, .f32⟩
  | .hbm, ⟨11, _⟩ => ⟨S_, .f32⟩
  | .hbm, ⟨12, _⟩ => ⟨S4x8x257, .f32⟩
  | .hbm, ⟨13, _⟩ => ⟨S4x8x257, .f32⟩
  | .hbm, ⟨14, _⟩ => ⟨S4x8x257, .f32⟩
  | .hbm, ⟨15, _⟩ => ⟨S_, .f32⟩
  | .hbm, ⟨16, _⟩ => ⟨S4x8x257, .f32⟩
  | .hbm, ⟨17, _⟩ => ⟨S4x8x257, .f32⟩
  | .hbm, ⟨18, _⟩ => ⟨S4x8x257, .f32⟩
  | .hbm, ⟨19, _⟩ => ⟨S_, .f32⟩
  | .hbm, ⟨20, _⟩ => ⟨S4x8x257, .f32⟩
  | .hbm, ⟨21, _⟩ => ⟨S4x8x257, .f32⟩
  | .hbm, ⟨22, _⟩ => ⟨S_, .f32⟩
  | .hbm, ⟨23, _⟩ => ⟨S4x8x257, .f32⟩
  | .hbm, ⟨24, _⟩ => ⟨S4x8x257, .f32⟩
  | .hbm, ⟨25, _⟩ => ⟨S4x8x257, .f32⟩
  | .hbm, ⟨26, _⟩ => ⟨S_, .f32⟩
  | .hbm, ⟨27, _⟩ => ⟨S4x8x257, .f32⟩
  | .hbm, ⟨28, _⟩ => ⟨S4x8x257, .f32⟩
  | .hbm, ⟨29, _⟩ => ⟨S4x8x257, .f32⟩
  | .hbm, ⟨30, _⟩ => ⟨S_, .f32⟩
  | .hbm, ⟨31, _⟩ => ⟨S4x8x257, .f32⟩
  | .hbm, ⟨32, _⟩ => ⟨S4x8x257, .f32⟩
  | .hbm, ⟨33, _⟩ => ⟨S4x8x257, .f32⟩
  | .hbm, ⟨34, _⟩ => ⟨S_, .f32⟩
  | .hbm, ⟨35, _⟩ => ⟨S4x8x257, .f32⟩
  | .hbm, ⟨36, _⟩ => ⟨S4x8x257, .f32⟩
  | _, _ => ⟨S4x8x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4x4x384 : Shape := ⟨3, ![4, 4, 384]⟩
abbrev S16x384 : Shape := ⟨2, ![16, 384]⟩

abbrev nBuf : Space → Nat
  | .hbm => 14
  | .vmem => 7
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S16x384, .f32⟩
  | .hbm, ⟨5, _⟩ => ⟨S16x384, .f32⟩
  | .hbm, ⟨6, _⟩ => ⟨S16x384, .f32⟩
  | .hbm, ⟨7, _⟩ => ⟨S16x384, .f32⟩
  | .hbm, ⟨8, _⟩ => ⟨S16x384, .f32⟩
  | .hbm, ⟨9, _⟩ => ⟨S16x384, .f32⟩
  | .hbm, ⟨10, _⟩ => ⟨S16x384, .f32⟩
  | .hbm, ⟨11, _⟩ => ⟨S4x4x384, .f32⟩
  | .hbm, ⟨12, _⟩ => ⟨S4x4x384, .f32⟩
  | .hbm, ⟨13, _⟩ => ⟨S4x4x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | _, _ => ⟨S4x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S4x4x384 : Shape := ⟨3, ![4, 4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S_, .f32⟩
  | .hbm, ⟨5, _⟩ => ⟨S4x4x384, .f32⟩
  | .hbm, ⟨6, _⟩ => ⟨S4x4x384, .f32⟩
  | .hbm, ⟨7, _⟩ => ⟨S_, .f32⟩
  | .hbm, ⟨8, _⟩ => ⟨S4x4x384, .f32⟩
  | .hbm, ⟨9, _⟩ => ⟨S4x4x384, .f32⟩
  | .hbm, ⟨10, _⟩ => ⟨S4x4x384, .f32⟩
  | .hbm, ⟨11, _⟩ => ⟨S_, .f32⟩
  | .hbm, ⟨12, _⟩ => ⟨S4x4x384, .f32⟩
  | .hbm, ⟨13, _⟩ => ⟨S4x4x384, .f32⟩
  | .hbm, ⟨14, _⟩ => ⟨S4x4x384, .f32⟩
  | .hbm, ⟨15, _⟩ => ⟨S_, .f32⟩
  | .hbm, ⟨16, _⟩ => ⟨S4x4x384, .f32⟩
  | .hbm, ⟨17, _⟩ => ⟨S4x4x384, .f32⟩
  | .hbm, ⟨18, _⟩ => ⟨S4x4x384, .f32⟩
  | .hbm, ⟨19, _⟩ => ⟨S_, .f32⟩
  | .hbm, ⟨20, _⟩ => ⟨S4x4x384, .f32⟩
  | .hbm, ⟨21, _⟩ => ⟨S4x4x384, .f32⟩
  | .hbm, ⟨22, _⟩ => ⟨S_, .f32⟩
  | .hbm, ⟨23, _⟩ => ⟨S4x4x384, .f32⟩
  | .hbm, ⟨24, _⟩ => ⟨S4x4x384, .f32⟩
  | .hbm, ⟨25, _⟩ => ⟨S4x4x384, .f32⟩
  | .hbm, ⟨26, _⟩ => ⟨S_, .f32⟩
  | .hbm, ⟨27, _⟩ => ⟨S4x4x384, .f32⟩
  | .hbm, ⟨28, _⟩ => ⟨S4x4x384, .f32⟩
  | .hbm, ⟨29, _⟩ => ⟨S4x4x384, .f32⟩
  | .hbm, ⟨30, _⟩ => ⟨S_, .f32⟩
  | .hbm, ⟨31, _⟩ => ⟨S4x4x384, .f32⟩
  | .hbm, ⟨32, _⟩ => ⟨S4x4x384, .f32⟩
  | .hbm, ⟨33, _⟩ => ⟨S4x4x384, .f32⟩
  | .hbm, ⟨34, _⟩ => ⟨S_, .f32⟩
  | .hbm, ⟨35, _⟩ => ⟨S4x4x384, .f32⟩
  | .hbm, ⟨36, _⟩ => ⟨S4x4x384, .f32⟩
  | _, _ => ⟨S4x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4x4 : Shape := ⟨2, ![4, 4]⟩

abbrev nBuf : Space → Nat
  | .hbm => 7
  | .vmem => 7
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S4x4, .f32⟩
  | .hbm, ⟨5, _⟩ => ⟨S4x4, .f32⟩
  | .hbm, ⟨6, _⟩ => ⟨S4x4, .f32⟩
  | .local _ .vmem, ⟨0, _⟩ => ⟨S4x4, .f32⟩
  | .local _ .vmem, ⟨1, _⟩ => ⟨S4x4, .f32⟩
  | .local _ .vmem, ⟨2, _⟩ => ⟨S4x4, .f32⟩
  | .local _ .vmem, ⟨3, _⟩ => ⟨S4x4, .f32⟩
  | .local _ .vmem, ⟨4, _⟩ => ⟨S4x4, .f32⟩
  | .local _ .vmem, ⟨5, _⟩ => ⟨S4x4, .f32⟩
  | .local _ .vmem, ⟨6, _⟩ => ⟨S4x4, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S4x4 : Shape := ⟨2, ![4, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S_, .f32⟩
  | .hbm, ⟨5, _⟩ => ⟨S4x4, .f32⟩
  | .hbm, ⟨6, _⟩ => ⟨S4x4, .f32⟩
  | .hbm, ⟨7, _⟩ => ⟨S_, .f32⟩
  | .hbm, ⟨8, _⟩ => ⟨S4x4, .f32⟩
  | .hbm, ⟨9, _⟩ => ⟨S4x4, .f32⟩
  | .hbm, ⟨10, _⟩ => ⟨S4x4, .f32⟩
  | .hbm, ⟨11, _⟩ => ⟨S_, .f32⟩
  | .hbm, ⟨12, _⟩ => ⟨S4x4, .f32⟩
  | .hbm, ⟨13, _⟩ => ⟨S4x4, .f32⟩
  | .hbm, ⟨14, _⟩ => ⟨S4x4, .f32⟩
  | .hbm, ⟨15, _⟩ => ⟨S_, .f32⟩
  | .hbm, ⟨16, _⟩ => ⟨S4x4, .f32⟩
  | .hbm, ⟨17, _⟩ => ⟨S4x4, .f32⟩
  | .hbm, ⟨18, _⟩ => ⟨S4x4, .f32⟩
  | .hbm, ⟨19, _⟩ => ⟨S_, .f32⟩
  | .hbm, ⟨20, _⟩ => ⟨S4x4, .f32⟩
  | .hbm, ⟨21, _⟩ => ⟨S4x4, .f32⟩
  | .hbm, ⟨22, _⟩ => ⟨S_, .f32⟩
  | .hbm, ⟨23, _⟩ => ⟨S4x4, .f32⟩
  | .hbm, ⟨24, _⟩ => ⟨S4x4, .f32⟩
  | .hbm, ⟨25, _⟩ => ⟨S4x4, .f32⟩
  | .hbm, ⟨26, _⟩ => ⟨S_, .f32⟩
  | .hbm, ⟨27, _⟩ => ⟨S4x4, .f32⟩
  | .hbm, ⟨28, _⟩ => ⟨S4x4, .f32⟩
  | .hbm, ⟨29, _⟩ => ⟨S4x4, .f32⟩
  | .hbm, ⟨30, _⟩ => ⟨S_, .f32⟩
  | .hbm, ⟨31, _⟩ => ⟨S4x4, .f32⟩
  | .hbm, ⟨32, _⟩ => ⟨S4x4, .f32⟩
  | .hbm, ⟨33, _⟩ => ⟨S4x4, .f32⟩
  | .hbm, ⟨34, _⟩ => ⟨S_, .f32⟩
  | .hbm, ⟨35, _⟩ => ⟨S4x4, .f32⟩
  | .hbm, ⟨36, _⟩ => ⟨S4x4, .f32⟩
  | _, _ => ⟨S4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1024 : Shape := ⟨1, ![1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S1024 : Shape := ⟨1, ![1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4x1024x1410 : Shape := ⟨3, ![4, 1024, 1410]⟩
abbrev S1024x1410 : Shape := ⟨2, ![1024, 1410]⟩
abbrev S1x1024x1410 : Shape := ⟨3, ![1, 1024, 1410]⟩
abbrev S1410x4x1024 : Shape := ⟨3, ![1410, 4, 1024]⟩
abbrev S47x4x1024 : Shape := ⟨3, ![47, 4, 1024]⟩

abbrev nBuf : Space → Nat
  | .hbm => 23
  | .vmem => 14
  | .smem => 0
  | _ => 0

abbrev bufTy : (tb : Table) → Fin (tcTables nBuf tb) → BufTy
  | .hbm, ⟨0, _⟩ => ⟨S4x1024x1410, .f32⟩
  | .hbm, ⟨1, _⟩ => ⟨S1024x1410, .f32⟩
  | .hbm, ⟨2, _⟩ => ⟨S1024x1410, .f32⟩
  | .hbm, ⟨3, _⟩ => ⟨S1024x1410, .f32⟩
  | .hbm, ⟨4, _⟩ => ⟨S1024x1410, .f32⟩
  | .hbm, ⟨5, _⟩ => ⟨S4x1024x1410, .f32⟩
  | .hbm, ⟨6, _⟩ => ⟨S4x1024x1410, .f32⟩
  | .hbm, ⟨7, _⟩ => ⟨S1x1024x1410, .f32⟩
  | .hbm, ⟨8, _⟩ => ⟨S1x1024x1410, .f32⟩
  | .hbm, ⟨9, _⟩ => ⟨S1x1024x1410, .f32⟩
  | .hbm, ⟨10, _⟩ => ⟨S1x1024x1410, .f32⟩
  | .hbm, ⟨11, _⟩ => ⟨S4x1024x1410, .f32⟩
  | .hbm, ⟨12, _⟩ => ⟨S1410x4x1024, .f32⟩
  | .hbm, ⟨13, _⟩ => ⟨S1410x4x1024, .f32⟩
  | .hbm, ⟨14, _⟩ => ⟨S1410x4x1024, .f32⟩
  | .hbm, ⟨15, _⟩ => ⟨S1410x4x1024, .f32⟩
  | .hbm, ⟨16, _⟩ => ⟨S1410x4x1024, .f32⟩
  | .hbm, ⟨17, _⟩ => ⟨S1410x4x1024, .f32⟩
  | .hbm, ⟨18, _⟩ => ⟨S1410x4x1024, .f32⟩
  | .hbm, ⟨19, _⟩ => ⟨S4x1024x1410, .f32⟩
  | .hbm, ⟨20, _⟩ => ⟨S4x1024x1410, .f32⟩
  | .hbm, ⟨21, _⟩ => ⟨S4x1024x1410, .f32⟩
  | .hbm, ⟨22, _⟩ => ⟨S4x1024x1410, .f32⟩
  | .local _ .vmem, ⟨0, _⟩ => ⟨S47x4x1024, .f32⟩
  | .local _ .vmem, ⟨1, _⟩ => ⟨S47x4x1024, .f32⟩
  | .local _ .vmem, ⟨2, _⟩ => ⟨S47x4x1024, .f32⟩
  | .local _ .vmem, ⟨3, _⟩ => ⟨S47x4x1024, .f32⟩
  | .local _ .vmem, ⟨4, _⟩ => ⟨S47x4x1024, .f32⟩
  | .local _ .vmem, ⟨5, _⟩ => ⟨S47x4x1024, .f32⟩
  | .local _ .vmem, ⟨6, _⟩ => ⟨S47x4x1024, .f32⟩
  | .local _ .vmem, ⟨7, _⟩ => ⟨S47x4x1024, .f32⟩
  | .local _ .vmem, ⟨8, _⟩ => ⟨S47x4x1024, .f32⟩
  | .local _ .vmem, ⟨9, _⟩ => ⟨S47x4x1024, .f32⟩
  | .local _ .vmem, ⟨10, _⟩ => ⟨S47x4x1024, .f32⟩
  | .local _ .vmem, ⟨11, _⟩ => ⟨S47x4x1024, .f32⟩
  | .local _ .vmem, ⟨12, _⟩ => ⟨S47x4x1024, .f32⟩
  | .local _ .vmem, ⟨13, _⟩ => ⟨S47x4x1024, .f32⟩
  | _, _ => ⟨S4x1024x1410, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![30], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S47x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S47x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S47x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S47x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S47x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S47x4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S47x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S4x1024x1410 : Shape := ⟨3, ![4, 1024, 1410]⟩
abbrev S1024x1410 : Shape := ⟨2, ![1024, 1410]⟩
abbrev S1x1024x1410 : Shape := ⟨3, ![1, 1024, 1410]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1410, .f32⟩
  | .hbm, ⟨1, _⟩ => ⟨S1024x1410, .f32⟩
  | .hbm, ⟨2, _⟩ => ⟨S1024x1410, .f32⟩
  | .hbm, ⟨3, _⟩ => ⟨S1024x1410, .f32⟩
  | .hbm, ⟨4, _⟩ => ⟨S1024x1410, .f32⟩
  | .hbm, ⟨5, _⟩ => ⟨S4x1024x1410, .f32⟩
  | .hbm, ⟨6, _⟩ => ⟨S4x1024x1410, .f32⟩
  | .hbm, ⟨7, _⟩ => ⟨S1x1024x1410, .f32⟩
  | .hbm, ⟨8, _⟩ => ⟨S1x1024x1410, .f32⟩
  | .hbm, ⟨9, _⟩ => ⟨S1x1024x1410, .f32⟩
  | .hbm, ⟨10, _⟩ => ⟨S1x1024x1410, .f32⟩
  | .hbm, ⟨11, _⟩ => ⟨S4x1024x1410, .f32⟩
  | .hbm, ⟨12, _⟩ => ⟨S_, .f32⟩
  | .hbm, ⟨13, _⟩ => ⟨S4x1024x1410, .f32⟩
  | .hbm, ⟨14, _⟩ => ⟨S4x1024x1410, .f32⟩
  | .hbm, ⟨15, _⟩ => ⟨S_, .f32⟩
  | .hbm, ⟨16, _⟩ => ⟨S4x1024x1410, .f32⟩
  | .hbm, ⟨17, _⟩ => ⟨S4x1024x1410, .f32⟩
  | .hbm, ⟨18, _⟩ => ⟨S4x1024x1410, .f32⟩
  | .hbm, ⟨19, _⟩ => ⟨S_, .f32⟩
  | .hbm, ⟨20, _⟩ => ⟨S4x1024x1410, .f32⟩
  | .hbm, ⟨21, _⟩ => ⟨S4x1024x1410, .f32⟩
  | .hbm, ⟨22, _⟩ => ⟨S4x1024x1410, .f32⟩
  | .hbm, ⟨23, _⟩ => ⟨S_, .f32⟩
  | .hbm, ⟨24, _⟩ => ⟨S4x1024x1410, .f32⟩
  | .hbm, ⟨25, _⟩ => ⟨S4x1024x1410, .f32⟩
  | .hbm, ⟨26, _⟩ => ⟨S4x1024x1410, .f32⟩
  | .hbm, ⟨27, _⟩ => ⟨S_, .f32⟩
  | .hbm, ⟨28, _⟩ => ⟨S4x1024x1410, .f32⟩
  | .hbm, ⟨29, _⟩ => ⟨S4x1024x1410, .f32⟩
  | .hbm, ⟨30, _⟩ => ⟨S_, .f32⟩
  | .hbm, ⟨31, _⟩ => ⟨S4x1024x1410, .f32⟩
  | .hbm, ⟨32, _⟩ => ⟨S4x1024x1410, .f32⟩
  | .hbm, ⟨33, _⟩ => ⟨S4x1024x1410, .f32⟩
  | .hbm, ⟨34, _⟩ => ⟨S_, .f32⟩
  | .hbm, ⟨35, _⟩ => ⟨S4x1024x1410, .f32⟩
  | .hbm, ⟨36, _⟩ => ⟨S4x1024x1410, .f32⟩
  | .hbm, ⟨37, _⟩ => ⟨S4x1024x1410, .f32⟩
  | .hbm, ⟨38, _⟩ => ⟨S_, .f32⟩
  | .hbm, ⟨39, _⟩ => ⟨S4x1024x1410, .f32⟩
  | .hbm, ⟨40, _⟩ => ⟨S4x1024x1410, .f32⟩
  | .hbm, ⟨41, _⟩ => ⟨S4x1024x1410, .f32⟩
  | .hbm, ⟨42, _⟩ => ⟨S_, .f32⟩
  | .hbm, ⟨43, _⟩ => ⟨S4x1024x1410, .f32⟩
  | .hbm, ⟨44, _⟩ => ⟨S4x1024x1410, .f32⟩
  | _, _ => ⟨S4x1024x1410, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel26.lean ====
abbrev S4x512x256 : Shape := ⟨3, ![4, 512, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 11
  | .vmem => 22
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference26Ideal.lean ====
abbrev S4x512x256 : Shape := ⟨3, ![4, 512, 256]⟩
abbrev S512x256 : Shape := ⟨2, ![512, 256]⟩
abbrev S1x512x256 : Shape := ⟨3, ![1, 512, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S4x512x256, .f32⟩
  | .hbm, ⟨6, _⟩ => ⟨S4x512x256, .f32⟩
  | .hbm, ⟨7, _⟩ => ⟨S1x512x256, .f32⟩
  | .hbm, ⟨8, _⟩ => ⟨S1x512x256, .f32⟩
  | .hbm, ⟨9, _⟩ => ⟨S1x512x256, .f32⟩
  | .hbm, ⟨10, _⟩ => ⟨S1x512x256, .f32⟩
  | .hbm, ⟨11, _⟩ => ⟨S4x512x256, .f32⟩
  | .hbm, ⟨12, _⟩ => ⟨S_, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S4x512x256, .f32⟩
  | .hbm, ⟨23, _⟩ => ⟨S_, .f32⟩
  | .hbm, ⟨24, _⟩ => ⟨S4x512x256, .f32⟩
  | .hbm, ⟨25, _⟩ => ⟨S4x512x256, .f32⟩
  | .hbm, ⟨26, _⟩ => ⟨S4x512x256, .f32⟩
  | .hbm, ⟨27, _⟩ => ⟨S_, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | .hbm, ⟨37, _⟩ => ⟨S4x512x256, .f32⟩
  | .hbm, ⟨38, _⟩ => ⟨S_, .f32⟩
  | .hbm, ⟨39, _⟩ => ⟨S4x512x256, .f32⟩
  | .hbm, ⟨40, _⟩ => ⟨S4x512x256, .f32⟩
  | .hbm, ⟨41, _⟩ => ⟨S4x512x256, .f32⟩
  | .hbm, ⟨42, _⟩ => ⟨S_, .f32⟩
  | .hbm, ⟨43, _⟩ => ⟨S4x512x256, .f32⟩
  | .hbm, ⟨44, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel27.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference27Ideal.lean ====
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S4x256x1024, .f32⟩
  | .hbm, ⟨6, _⟩ => ⟨S4x256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S4x256x1024, .f32⟩
  | .hbm, ⟨12, _⟩ => ⟨S_, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256x1024, .f32⟩
  | .hbm, ⟨44, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel28.lean ====
abbrev S4x1024x1408 : Shape := ⟨3, ![4, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference28Ideal.lean ====
abbrev S4x1024x1408 : Shape := ⟨3, ![4, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S4x1024x1408, .f32⟩
  | .hbm, ⟨6, _⟩ => ⟨S4x1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S4x1024x1408, .f32⟩
  | .hbm, ⟨12, _⟩ => ⟨S_, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S4x1024x1408, .f32⟩
  | .hbm, ⟨23, _⟩ => ⟨S_, .f32⟩
  | .hbm, ⟨24, _⟩ => ⟨S4x1024x1408, .f32⟩
  | .hbm, ⟨25, _⟩ => ⟨S4x1024x1408, .f32⟩
  | .hbm, ⟨26, _⟩ => ⟨S4x1024x1408, .f32⟩
  | .hbm, ⟨27, _⟩ => ⟨S_, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4x1024x1408, .f32⟩
  | .hbm, ⟨38, _⟩ => ⟨S_, .f32⟩
  | .hbm, ⟨39, _⟩ => ⟨S4x1024x1408, .f32⟩
  | .hbm, ⟨40, _⟩ => ⟨S4x1024x1408, .f32⟩
  | .hbm, ⟨41, _⟩ => ⟨S4x1024x1408, .f32⟩
  | .hbm, ⟨42, _⟩ => ⟨S_, .f32⟩
  | .hbm, ⟨43, _⟩ => ⟨S4x1024x1408, .f32⟩
  | .hbm, ⟨44, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel29.lean ====
abbrev S4x704x1024 : Shape := ⟨3, ![4, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference29Ideal.lean ====
abbrev S4x704x1024 : Shape := ⟨3, ![4, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S4x704x1024, .f32⟩
  | .hbm, ⟨6, _⟩ => ⟨S4x704x1024, .f32⟩
  | .hbm, ⟨7, _⟩ => ⟨S1x704x1024, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S4x704x1024, .f32⟩
  | .hbm, ⟨12, _⟩ => ⟨S_, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S4x704x1024, .f32⟩
  | .hbm, ⟨23, _⟩ => ⟨S_, .f32⟩
  | .hbm, ⟨24, _⟩ => ⟨S4x704x1024, .f32⟩
  | .hbm, ⟨25, _⟩ => ⟨S4x704x1024, .f32⟩
  | .hbm, ⟨26, _⟩ => ⟨S4x704x1024, .f32⟩
  | .hbm, ⟨27, _⟩ => ⟨S_, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S4x704x1024, .f32⟩
  | .hbm, ⟨38, _⟩ => ⟨S_, .f32⟩
  | .hbm, ⟨39, _⟩ => ⟨S4x704x1024, .f32⟩
  | .hbm, ⟨40, _⟩ => ⟨S4x704x1024, .f32⟩
  | .hbm, ⟨41, _⟩ => ⟨S4x704x1024, .f32⟩
  | .hbm, ⟨42, _⟩ => ⟨S_, .f32⟩
  | .hbm, ⟨43, _⟩ => ⟨S4x704x1024, .f32⟩
  | .hbm, ⟨44, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel30.lean ====
abbrev S8x1024 : Shape := ⟨2, ![8, 1024]⟩
abbrev S4x8x1536 : Shape := ⟨3, ![4, 8, 1536]⟩
abbrev S4x1024x1536 : Shape := ⟨3, ![4, 1024, 1536]⟩
abbrev S1x8x1536 : Shape := ⟨3, ![1, 8, 1536]⟩
abbrev S1x1024x1536 : Shape := ⟨3, ![1, 1024, 1536]⟩
abbrev S8x1536 : Shape := ⟨2, ![8, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .local _ .vmem, ⟨0, _⟩ => ⟨S8x1024, .f32⟩
  | .local _ .vmem, ⟨1, _⟩ => ⟨S1x8x1536, .f32⟩
  | .local _ .vmem, ⟨2, _⟩ => ⟨S1x8x1536, .f32⟩
  | .local _ .vmem, ⟨3, _⟩ => ⟨S1x1024x1536, .f32⟩
  | .local _ .vmem, ⟨4, _⟩ => ⟨S1x1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference30Ideal.lean ====
abbrev S8x1024 : Shape := ⟨2, ![8, 1024]⟩
abbrev S4x8x1536 : Shape := ⟨3, ![4, 8, 1536]⟩
abbrev S_ : Shape := ⟨0, ![]⟩
abbrev S1x8x1536 : Shape := ⟨3, ![1, 8, 1536]⟩
abbrev S8x1536 : Shape := ⟨2, ![8, 1536]⟩
abbrev S1024x1536 : Shape := ⟨2, ![1024, 1536]⟩
abbrev S1536x1024 : Shape := ⟨2, ![1536, 1024]⟩
abbrev S1x1024x1536 : Shape := ⟨3, ![1, 1024, 1536]⟩
abbrev S4x1024x1536 : Shape := ⟨3, ![4, 1024, 1536]⟩

abbrev nBuf : Space → Nat
  | .hbm => 44
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1x8x1536, .f32⟩
  | .hbm, ⟨12, _⟩ => ⟨S8x1536, .f32⟩
  | .hbm, ⟨13, _⟩ => ⟨S_, .f32⟩
  | .hbm, ⟨14, _⟩ => ⟨S1024x1536, .f32⟩
  | .hbm, ⟨15, _⟩ => ⟨S8x1536, .f32⟩
  | .hbm, ⟨16, _⟩ => ⟨S1536x1024, .f32⟩
  | .hbm, ⟨17, _⟩ => ⟨S1024x1536, .f32⟩
  | .hbm, ⟨18, _⟩ => ⟨S1x8x1536, .f32⟩
  | .hbm, ⟨19, _⟩ => ⟨S8x1536, .f32⟩
  | .hbm, ⟨20, _⟩ => ⟨S_, .f32⟩
  | .hbm, ⟨21, _⟩ => ⟨S1024x1536, .f32⟩
  | .hbm, ⟨22, _⟩ => ⟨S8x1536, .f32⟩
  | .hbm, ⟨23, _⟩ => ⟨S1536x1024, .f32⟩
  | .hbm, ⟨24, _⟩ => ⟨S1024x1536, .f32⟩
  | .hbm, ⟨25, _⟩ => ⟨S1x8x1536, .f32⟩
  | .hbm, ⟨26, _⟩ => ⟨S8x1536, .f32⟩
  | .hbm, ⟨27, _⟩ => ⟨S_, .f32⟩
  | .hbm, ⟨28, _⟩ => ⟨S1024x1536, .f32⟩
  | .hbm, ⟨29, _⟩ => ⟨S8x1536, .f32⟩
  | .hbm, ⟨30, _⟩ => ⟨S1536x1024, .f32⟩
  | .hbm, ⟨31, _⟩ => ⟨S1024x1536, .f32⟩
  | .hbm, ⟨32, _⟩ => ⟨S1x8x1536, .f32⟩
  | .hbm, ⟨33, _⟩ => ⟨S8x1536, .f32⟩
  | .hbm, ⟨34, _⟩ => ⟨S_, .f32⟩
  | .hbm, ⟨35, _⟩ => ⟨S1024x1536, .f32⟩
  | .hbm, ⟨36, _⟩ => ⟨S8x1536, .f32⟩
  | .hbm, ⟨37, _⟩ => ⟨S1536x1024, .f32⟩
  | .hbm, ⟨38, _⟩ => ⟨S1024x1536, .f32⟩
  | .hbm, ⟨39, _⟩ => ⟨S1x1024x1536, .f32⟩
  | .hbm, ⟨40, _⟩ => ⟨S1x1024x1536, .f32⟩
  | .hbm, ⟨41, _⟩ => ⟨S1x1024x1536, .f32⟩
  | .hbm, ⟨42, _⟩ => ⟨S1x1024x1536, .f32⟩
  | .hbm, ⟨43, _⟩ => ⟨S4x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.ScanChunk.lean ====
module

public import proofs.«01_k».proof.Proof.Gen.KernelIdeal.Frame
public import Idealize.ShloMosaic.Lib.Pipeline.ValueKit
public import Idealize.ShloMosaic.Lib.Pointwise
public import Idealize.ShloMosaic.Lib.Claim

open Idealize Idealize.ShloMosaic Cert.KernelIdeal.Gen

/-!
The eight chunks of a grid point do the same arithmetic; the printed program cuts it at a different
place in each. Here the arithmetic of one chunk is named once, over the tiles it loads.
-/

set_option maxRecDepth 16384

@[expose] public section

namespace Cert.KernelIdeal.Scan

/-- The four heads' tiles, one above the other. -/
noncomputable def stack (a b c d : Vec Ideal S64x128 .f32) : FVec Ideal S4x64x128 .f32 := k0_pay13 a b c d

/-- `exp` of the running log gate, a column for each head. -/
noncomputable def ep (G : Vec Ideal S1x64x4 .f32) : FVec Ideal S4x64x1 .f32 := k0_pay10 (k0_pay5 G)

/-- `exp` of the last log gate less the running one. -/
noncomputable def em (G : Vec Ideal S1x64x4 .f32) (R0 R1 R2 R3 : Vec Ideal S1x64 .f32) : FVec Ideal S4x64x1 .f32 :=
  k0_pay11 (k0_pay5 G) (k0_pay6 R0) (k0_pay7 R1) (k0_pay8 R2) R3

/-- `exp` of the last log gate of each head. -/
noncomputable def el (R0 R1 R2 R3 : Vec Ideal S1x64 .f32) : FVec Ideal S4x1x1 .f32 :=
  k0_pay12 (k0_pay6 R0) (k0_pay7 R1) (k0_pay8 R2) R3

/-- The corrected values of a chunk, from the state before it. -/
noncomputable def ut (u w : FVec Ideal S4x64x128 .f32) (S : Vec Ideal S1x4x128x128 .f32) : FVec Ideal S4x64x128 .f32 :=
  subf u (matmul dot_S4x64x128_S4x128x128_S4x64x128_2_1_1_2_0_0 none (truncf .bf16 w bitsLt_bf16_f32)
    (truncf .bf16 (shapeCast S4x128x128 S shapeCasts_S1x4x128x128_S4x128x128) bitsLt_bf16_f32)
    (constant S4x64x128 .f32 0x00000000#32))

/-- The gradient of the corrected values. -/
noncomputable def dut (e : FVec Ideal S4x64x1 .f32) (k o : FVec Ideal S4x64x128 .f32) (D : Vec Ideal S4x128x128 .f32)
    (A : Vec Ideal S1x4x64x64 .f32) : FVec Ideal S4x64x128 .f32 := k0_pay20 e k o D A

/-- The gradient of the state before the chunk, from that of the state after it. -/
noncomputable def nx (e m : FVec Ideal S4x64x1 .f32) (l : FVec Ideal S4x1x1 .f32) (q k w o : FVec Ideal S4x64x128 .f32)
    (D : Vec Ideal S4x128x128 .f32) (A : Vec Ideal S1x4x64x64 .f32) : FVec Ideal S4x128x128 .f32 :=
  k0_pay21 e m l q k w o D A

/-- The gradient of `w`. -/
noncomputable def dwt (e : FVec Ideal S4x64x1 .f32) (k o : FVec Ideal S4x64x128 .f32) (S : Vec Ideal S1x4x128x128 .f32)
    (D : Vec Ideal S4x128x128 .f32) (A : Vec Ideal S1x4x64x64 .f32) : FVec Ideal S4x64x128 .f32 :=
  k0_pay22 e k o (k0_pay18 S) D A

/-- The gradient of the decayed queries. -/
noncomputable def dqt (o : FVec Ideal S4x64x128 .f32) (S : Vec Ideal S1x4x128x128 .f32) : FVec Ideal S4x64x128 .f32 :=
  k0_pay23 o (k0_pay18 S)

/-- The gradient of the decayed keys. -/
noncomputable def dkt (D : Vec Ideal S4x128x128 .f32) (x : FVec Ideal S4x64x128 .f32) : FVec Ideal S4x64x128 .f32 :=
  k0_pay24 D x

/-- The gradient of the scores inside the chunk. -/
noncomputable def dat (o x : FVec Ideal S4x64x128 .f32) : FVec Ideal S1x4x64x64 .f32 := k0_pay26 (k0_pay25 k0_pay3 o x)

/-- The gradient of the last log gate, kept in the last lane. -/
noncomputable def dgt (l : FVec Ideal S4x1x1 .f32) (S : Vec Ideal S1x4x128x128 .f32) (D : Vec Ideal S4x128x128 .f32) :
    FVec Ideal S1x4x64 .f32 :=
  k0_pay49 (iota .tc S4x64 32 [0] iota_S4x64_d0_w32) k0_pay4 (k0_pay27 l (k0_pay18 S) D)
    (k0_pay38 (F := Ideal) (iota .tc S4x64 32 [0] iota_S4x64_d0_w32) k0_pay4 (k0_pay27 l (k0_pay18 S) D)
      (k0_pay32 (iota .tc S4x64 32 [0] iota_S4x64_d0_w32) k0_pay4 l (k0_pay18 S) D))
    (k0_pay43 (iota .tc S4x64 32 [0] iota_S4x64_d0_w32)) (k0_pay44 (F := Ideal) (k0_pay27 l (k0_pay18 S) D))
    (FloatOps.ofBits (F := Ideal) .f32 0x00000000#32)

noncomputable def head0 (x : FVec Ideal S4x64x128 .f32) : FVec Ideal S64x128 .f32 := k0_pay28 x
noncomputable def head1 (x : FVec Ideal S4x64x128 .f32) : FVec Ideal S64x128 .f32 := k0_pay33 x
noncomputable def head2 (x : FVec Ideal S4x64x128 .f32) : FVec Ideal S64x128 .f32 := k0_pay39 x
noncomputable def head3 (x : FVec Ideal S4x64x128 .f32) : FVec Ideal S64x128 .f32 := k0_pay45 x

/-- A stack of which three tiles were cast before. -/
noncomputable def mixed (a b c : FVec Ideal S1x64x128 .f32) (d : Vec Ideal S64x128 .f32) : FVec Ideal S4x64x128 .f32 :=
  concatenate S4x64x128 0 [⟨S1x64x128, a⟩, ⟨S1x64x128, b⟩, ⟨S1x64x128, c⟩,
    ⟨S1x64x128, shapeCast S1x64x128 d shapeCasts_S64x128_S1x64x128⟩]
    concatenates_S1x64x128_S1x64x128_S1x64x128_S1x64x128_S4x64x128_d0

end Cert.KernelIdeal.Scan
-- ==== Proof.ScanBlock.lean ====
module

public import proofs.«01_k».proof.Proof.ScanChunk

open Idealize Idealize.ShloMosaic Cert.KernelIdeal.Gen
open Idealize.SL.Sem

/-!
What a grid point loads: a head's tile of a chunk's rows, a chunk's column of log gates, a row of them, a chunk's scores
and its state; and the same eight chunks one after another.
-/

set_option maxRecDepth 16384

@[expose] public section

namespace Cert.KernelIdeal.Scan

/-- Rows `a …`, columns `b …` of a block. -/
noncomputable def til (x : Vec Ideal S512x512 .f32) (a b : ℕ) : Vec Ideal S64x128 .f32 :=
  fun i => x (ix2 ⟨(a + i 0) % 512, Nat.mod_lt _ (by decide)⟩ ⟨(b + i 1) % 512, Nat.mod_lt _ (by decide)⟩)

/-- Chunk `j`'s column of log gates. -/
noncomputable def gcl (x : Vec Ideal S8x64x4 .f32) (j : ℕ) : Vec Ideal S1x64x4 .f32 :=
  fun i => x (ix3 ⟨j % 8, Nat.mod_lt _ (by decide)⟩ (i 1) (i 2))

/-- Chunk `j`'s row of log gates of head `h`. -/
noncomputable def row (x : Vec Ideal S8x4x64 .f32) (j h : ℕ) : Vec Ideal S1x64 .f32 :=
  fun i => x (ix3 ⟨j % 8, Nat.mod_lt _ (by decide)⟩ ⟨h % 4, Nat.mod_lt _ (by decide)⟩ (i 1))

/-- Chunk `j`'s scores. -/
noncomputable def ach (x : Vec Ideal S8x4x64x64 .f32) (j : ℕ) : Vec Ideal S1x4x64x64 .f32 :=
  fun i => x (ix4 ⟨j % 8, Nat.mod_lt _ (by decide)⟩ (i 1) (i 2) (i 3))

/-- The state before chunk `j`. -/
noncomputable def sch (x : Vec Ideal S8x4x128x128 .f32) (j : ℕ) : Vec Ideal S1x4x128x128 .f32 :=
  fun i => x (ix4 ⟨j % 8, Nat.mod_lt _ (by decide)⟩ (i 1) (i 2) (i 3))

/-- The blocks of one grid point. -/
structure Blk where
  q : Vec Ideal S512x512 .f32
  k : Vec Ideal S512x512 .f32
  u : Vec Ideal S512x512 .f32
  w : Vec Ideal S512x512 .f32
  a : Vec Ideal S8x4x64x64 .f32
  gc : Vec Ideal S8x64x4 .f32
  gr : Vec Ideal S8x4x64 .f32
  s : Vec Ideal S8x4x128x128 .f32
  o : Vec Ideal S512x512 .f32

/-- The four heads of chunk `j`. -/
noncomputable def stk (x : Vec Ideal S512x512 .f32) (j : ℕ) : FVec Ideal S4x64x128 .f32 :=
  stack (til x (64 * j) 0) (til x (64 * j) 128) (til x (64 * j) 256) (til x (64 * j) 384)

noncomputable def EM (B : Blk) (j : ℕ) : FVec Ideal S4x64x1 .f32 :=
  em (gcl B.gc j) (row B.gr j 0) (row B.gr j 1) (row B.gr j 2) (row B.gr j 3)

noncomputable def EL (B : Blk) (j : ℕ) : FVec Ideal S4x1x1 .f32 :=
  el (row B.gr j 0) (row B.gr j 1) (row B.gr j 2) (row B.gr j 3)

/-- The gradient of the state before chunk `j`, from that after it. -/
noncomputable def NX (B : Blk) (j : ℕ) (D : FVec Ideal S4x128x128 .f32) : FVec Ideal S4x128x128 .f32 :=
  nx (ep (gcl B.gc j)) (EM B j) (EL B j) (stk B.q j) (stk B.k j) (stk B.w j) (stk B.o j) D (ach B.a j)

/-- The gradient after the last `n` chunks of the block were taken back. -/
noncomputable def chain (B : Blk) (D : FVec Ideal S4x128x128 .f32) : ℕ → FVec Ideal S4x128x128 .f32
  | 0 => D
  | n + 1 => NX B (7 - n) (chain B D n)

noncomputable def UT (B : Blk) (j : ℕ) : FVec Ideal S4x64x128 .f32 := ut (stk B.u j) (stk B.w j) (sch B.s j)
noncomputable def DU (B : Blk) (D : FVec Ideal S4x128x128 .f32) (j : ℕ) : FVec Ideal S4x64x128 .f32 :=
  dut (EM B j) (stk B.k j) (stk B.o j) (chain B D (7 - j)) (ach B.a j)
noncomputable def DW (B : Blk) (D : FVec Ideal S4x128x128 .f32) (j : ℕ) : FVec Ideal S4x64x128 .f32 :=
  dwt (EM B j) (stk B.k j) (stk B.o j) (sch B.s j) (chain B D (7 - j)) (ach B.a j)
noncomputable def DQ (B : Blk) (j : ℕ) : FVec Ideal S4x64x128 .f32 := dqt (stk B.o j) (sch B.s j)
noncomputable def DK (B : Blk) (D : FVec Ideal S4x128x128 .f32) (j : ℕ) : FVec Ideal S4x64x128 .f32 :=
  dkt (chain B D (7 - j)) (UT B j)
noncomputable def DA (B : Blk) (j : ℕ) : FVec Ideal S1x4x64x64 .f32 := dat (stk B.o j) (UT B j)
noncomputable def DG (B : Blk) (D : FVec Ideal S4x128x128 .f32) (j : ℕ) : FVec Ideal S1x4x64 .f32 :=
  dgt (EL B j) (sch B.s j) (chain B D (7 - j))

/-- The block of which chunk `j`, head `h` is `G j` at head `h`. -/
noncomputable def tiles (G : ℕ → FVec Ideal S4x64x128 .f32) : Vec Ideal S512x512 .f32 :=
  fun y => G ((y 0 : ℕ) / 64) (ix3 ⟨(y 1 : ℕ) / 128, by have : (y 1 : ℕ) < 512 := (y 1).isLt; omega⟩
    ⟨(y 0 : ℕ) % 64, Nat.mod_lt _ (by decide)⟩ ⟨(y 1 : ℕ) % 128, Nat.mod_lt _ (by decide)⟩)

theorem tiles_at (G : ℕ → FVec Ideal S4x64x128 .f32) (j h : ℕ) (hh : h < 4) (y : S512x512.Idx) (x : S64x128.Idx)
    (h0 : (y 0 : ℕ) = 64 * j + (x 0 : ℕ)) (h1 : (y 1 : ℕ) = 128 * h + (x 1 : ℕ)) :
    tiles G y = G j (ix3 ⟨h, hh⟩ (x 0) (x 1)) := by
  have hx0 : (x 0 : ℕ) < 64 := (x 0).isLt
  have hx1 : (x 1 : ℕ) < 128 := (x 1).isLt
  have e : (y 0 : ℕ) / 64 = j := by omega
  unfold tiles
  rw [e]
  refine congrArg (G j) (funext fun d => Fin.ext ?_)
  fin_cases d
  · show (y 1 : ℕ) / 128 = h; omega
  · show (y 0 : ℕ) % 64 = x 0; omega
  · show (y 1 : ℕ) % 128 = x 1; omega

theorem head0_at (Z : FVec Ideal S4x64x128 .f32) (x : S64x128.Idx) : head0 Z x = Z (ix3 0 (x 0) (x 1)) := by
  unfold head0; pointwise [k0_pay28]
theorem head1_at (Z : FVec Ideal S4x64x128 .f32) (x : S64x128.Idx) : head1 Z x = Z (ix3 1 (x 0) (x 1)) := by
  unfold head1; pointwise [k0_pay33]
theorem head2_at (Z : FVec Ideal S4x64x128 .f32) (x : S64x128.Idx) : head2 Z x = Z (ix3 2 (x 0) (x 1)) := by
  unfold head2; pointwise [k0_pay39]
theorem head3_at (Z : FVec Ideal S4x64x128 .f32) (x : S64x128.Idx) : head3 Z x = Z (ix3 3 (x 0) (x 1)) := by
  unfold head3; pointwise [k0_pay45]

/-- The block of which chunk `j` is `G j`. -/
noncomputable def chunksA (G : ℕ → FVec Ideal S1x4x64x64 .f32) : Vec Ideal S8x4x64x64 .f32 :=
  fun y => G (y 0 : ℕ) (ix4 0 (y 1) (y 2) (y 3))

/-- The same for one number per head and row. -/
noncomputable def chunksG (G : ℕ → FVec Ideal S1x4x64 .f32) : Vec Ideal S8x4x64 .f32 :=
  fun y => G (y 0 : ℕ) (ix3 0 (y 1) (y 2))

theorem chunksA_at (G : ℕ → FVec Ideal S1x4x64x64 .f32) (j : ℕ) (y : S8x4x64x64.Idx) (x : S1x4x64x64.Idx)
    (h0 : (y 0 : ℕ) = j + (x 0 : ℕ)) (h1 : (y 1 : ℕ) = 0 + (x 1 : ℕ)) (h2 : (y 2 : ℕ) = 0 + (x 2 : ℕ))
    (h3 : (y 3 : ℕ) = 0 + (x 3 : ℕ)) : G j x = chunksA G y := by
  have hx : (x 0 : ℕ) < 1 := (x 0).isLt
  have e : (y 0 : ℕ) = j := by omega
  unfold chunksA
  rw [e]
  refine congrArg (G j) (funext fun d => Fin.ext ?_)
  fin_cases d
  · show (x 0 : ℕ) = 0; omega
  · show (x 1 : ℕ) = y 1; omega
  · show (x 2 : ℕ) = y 2; omega
  · show (x 3 : ℕ) = y 3; omega

theorem chunksG_at (G : ℕ → FVec Ideal S1x4x64 .f32) (j : ℕ) (y : S8x4x64.Idx) (x : S1x4x64.Idx)
    (h0 : (y 0 : ℕ) = j + (x 0 : ℕ)) (h1 : (y 1 : ℕ) = 0 + (x 1 : ℕ)) (h2 : (y 2 : ℕ) = 0 + (x 2 : ℕ)) :
    G j x = chunksG G y := by
  have hx : (x 0 : ℕ) < 1 := (x 0).isLt
  have e : (y 0 : ℕ) = j := by omega
  unfold chunksG
  rw [e]
  refine congrArg (G j) (funext fun d => Fin.ext ?_)
  fin_cases d
  · show (x 0 : ℕ) = 0; omega
  · show (x 1 : ℕ) = y 1; omega
  · show (x 2 : ℕ) = y 2; omega

theorem cat_stack (a b c d : FVec Ideal S64x128 .f32) :
    concatenate S4x64x128 0 [⟨S1x64x128, shapeCast S1x64x128 a shapeCasts_S64x128_S1x64x128⟩,
      ⟨S1x64x128, shapeCast S1x64x128 b shapeCasts_S64x128_S1x64x128⟩,
      ⟨S1x64x128, shapeCast S1x64x128 c shapeCasts_S64x128_S1x64x128⟩,
      ⟨S1x64x128, shapeCast S1x64x128 d shapeCasts_S64x128_S1x64x128⟩]
      concatenates_S1x64x128_S1x64x128_S1x64x128_S1x64x128_S4x64x128_d0 = stack a b c d := rfl

theorem cat_mixed (a b c : FVec Ideal S1x64x128 .f32) (d : FVec Ideal S64x128 .f32) :
    concatenate S4x64x128 0 [⟨S1x64x128, a⟩, ⟨S1x64x128, b⟩, ⟨S1x64x128, c⟩,
      ⟨S1x64x128, shapeCast S1x64x128 d shapeCasts_S64x128_S1x64x128⟩]
      concatenates_S1x64x128_S1x64x128_S1x64x128_S1x64x128_S4x64x128_d0 = mixed a b c d := rfl

theorem tile0_at (G : ℕ → FVec Ideal S4x64x128 .f32) (j : ℕ) (y : S512x512.Idx) (x : S64x128.Idx)
    (h0 : (y 0 : ℕ) = 64 * j + (x 0 : ℕ)) (h1 : (y 1 : ℕ) = 0 + (x 1 : ℕ)) : head0 (G j) x = tiles G y :=
  (head0_at _ _).trans (tiles_at G j 0 (by decide) y x h0 h1).symm
theorem tile1_at (G : ℕ → FVec Ideal S4x64x128 .f32) (j : ℕ) (y : S512x512.Idx) (x : S64x128.Idx)
    (h0 : (y 0 : ℕ) = 64 * j + (x 0 : ℕ)) (h1 : (y 1 : ℕ) = 128 + (x 1 : ℕ)) : head1 (G j) x = tiles G y :=
  (head1_at _ _).trans (tiles_at G j 1 (by decide) y x h0 h1).symm
theorem tile2_at (G : ℕ → FVec Ideal S4x64x128 .f32) (j : ℕ) (y : S512x512.Idx) (x : S64x128.Idx)
    (h0 : (y 0 : ℕ) = 64 * j + (x 0 : ℕ)) (h1 : (y 1 : ℕ) = 256 + (x 1 : ℕ)) : head2 (G j) x = tiles G y :=
  (head2_at _ _).trans (tiles_at G j 2 (by decide) y x h0 h1).symm
theorem tile3_at (G : ℕ → FVec Ideal S4x64x128 .f32) (j : ℕ) (y : S512x512.Idx) (x : S64x128.Idx)
    (h0 : (y 0 : ℕ) = 64 * j + (x 0 : ℕ)) (h1 : (y 1 : ℕ) = 384 + (x 1 : ℕ)) : head3 (G j) x = tiles G y :=
  (head3_at _ _).trans (tiles_at G j 3 (by decide) y x h0 h1).symm

theorem til_load {a b : ℕ} (M : Memref sig .tc .vmem S512x512 .f32) (hM : M.IsWhole) (x : Vec Ideal S512x512 .f32)
    (h1 : ∀ d, (![a, 0] : Fin 2 → ℕ) d + (![64, 512] : Fin 2 → ℕ) d ≤ S512x512.size d)
    (h2 : ∀ d, (![0, b] : Fin 2 → ℕ) d + (![64, 128] : Fin 2 → ℕ) d ≤ S64x512.size d) (h3) :
    View.readAt (Elt Ideal) M.view ((Rect.unit (s := S512x512) ![a, 0] ![64, 512] h1).withinL
      (Rect.unit (s := S64x512) ![0, b] ![64, 128] h2).toLoadRect h3) (hM.unread x) = til x a b := by
  funext i
  have hi0 : (i 0 : ℕ) < 64 := (i 0).isLt
  have hi1 : (i 1 : ℕ) < 128 := (i 1).isLt
  have e1 := h1 0
  have e2 := h2 1
  change a + 64 ≤ 512 at e1
  change b + 128 ≤ 512 at e2
  show View.read (Elt Ideal) M.view (hM.unread x) _ = _
  rw [hM.read_unread]
  refine congrArg x (funext fun d => Fin.ext ?_)
  refine (congrArg (fun f => (f d : ℕ)) (Rect.idx_withinL _ _ h3 i)).trans ?_
  fin_cases d
  · show a + 1 * (0 + 1 * (i 0 : ℕ)) = (a + (i 0 : ℕ)) % 512; omega
  · show 0 + 1 * (b + 1 * (i 1 : ℕ)) = (b + (i 1 : ℕ)) % 512; omega

theorem ld_emb {s : Shape} (X : Vec Ideal s .f32) (r : Rect s) (i : r.shape.Idx) : View.ld X r i = X (r.emb i) := rfl

theorem read_cast {s s' : Shape} (v : View sig .tc .vmem s .f32) (h) (f) (y : s'.Idx) :
    (v.reshape s' h).read (Elt Ideal) f y = v.read (Elt Ideal) f (Shape.reshapeEquiv h y) := rfl

theorem read_part {s : Shape} (v : View sig .tc .vmem s .f32) (r : Rect s) (f) (y : r.shape.Idx) :
    (v.slice r).read (Elt Ideal) f y = v.read (Elt Ideal) f (r.emb y) := rfl

theorem cast_row (h : S4x64.numel = S1x4x64.numel) (a : Fin 4) (b : Fin 64) :
    Shape.reshapeEquiv h (ix2 a b) = (ix3 0 a b : S1x4x64.Idx) :=
  Shape.reshapeEquiv_eq_of_rowMajor h (by
    rw [Shape.rowMajor_val_three, Shape.rowMajor_val_two]; show ((0 : ℕ) * 4 + a.val) * 64 + b.val = a.val * 64 + b.val; omega)

theorem row_read {j : ℕ} (hj : j < 8) (M : Memref sig .tc .vmem S8x4x64 .f32) (hM : M.IsWhole) (x : Vec Ideal S8x4x64 .f32)
    (h1 : ∀ d, (![j, 0, 0] : Fin 3 → ℕ) d + (![1, 4, 64] : Fin 3 → ℕ) d ≤ S8x4x64.size d)
    (h3 : S4x64.numel = (Rect.unit (s := S8x4x64) ![j, 0, 0] ![1, 4, 64] h1).shape.numel) (a : Fin 4) (b : Fin 64) :
    View.read (Elt Ideal) ((M.view.slice (Rect.unit (s := S8x4x64) ![j, 0, 0] ![1, 4, 64] h1)).reshape S4x64 h3)
      (hM.unread x) (ix2 a b) = x (ix3 ⟨j, hj⟩ a b) := by
  rw [read_cast, read_part, hM.read_unread]
  refine (congrArg (fun f => x ((Rect.unit (s := S8x4x64) ![j, 0, 0] ![1, 4, 64] h1).emb f)) (cast_row h3 a b)).trans ?_
  refine congrArg x (funext fun d => Fin.ext ?_)
  fin_cases d
  · show j + 1 * 0 = j; rw [Nat.mul_zero, Nat.add_zero]
  · show 0 + 1 * (a : ℕ) = a; rw [Nat.one_mul, Nat.zero_add]
  · show 0 + 1 * (b : ℕ) = b; rw [Nat.one_mul, Nat.zero_add]

theorem row_load {j h : ℕ} (M : Memref sig .tc .vmem S8x4x64 .f32) (hM : M.IsWhole) (x : Vec Ideal S8x4x64 .f32)
    (h1 : ∀ d, (![j, 0, 0] : Fin 3 → ℕ) d + (![1, 4, 64] : Fin 3 → ℕ) d ≤ S8x4x64.size d)
    (h2 : ∀ d, (![h, 0] : Fin 2 → ℕ) d + (![1, 64] : Fin 2 → ℕ) d ≤ S4x64.size d)
    (h3 : S4x64.numel = (Rect.unit (s := S8x4x64) ![j, 0, 0] ![1, 4, 64] h1).shape.numel) :
    View.ld (View.read (Elt Ideal) ((M.view.slice (Rect.unit (s := S8x4x64) ![j, 0, 0] ![1, 4, 64] h1)).reshape S4x64 h3)
      (hM.unread x)) (Rect.unit (s := S4x64) ![h, 0] ![1, 64] h2) = row x j h := by
  funext i
  have e1 : j + 1 ≤ 8 := h1 0
  have e2 : h + 1 ≤ 4 := h2 0
  have hi : (i 0 : ℕ) < 1 := (i 0).isLt
  have hj : j < 8 := e1
  have hh : h < 4 := e2
  have e0 : (i 0 : ℕ) = 0 := Nat.lt_one_iff.mp hi
  have e : (Rect.unit (s := S4x64) ![h, 0] ![1, 64] h2).emb i = ix2 ⟨h, hh⟩ (i 1) := by
    funext d; refine Fin.ext ?_; fin_cases d
    · show h + 1 * (i 0 : ℕ) = h; rw [e0, Nat.mul_zero, Nat.add_zero]
    · show 0 + 1 * (i 1 : ℕ) = i 1; rw [Nat.one_mul, Nat.zero_add]
  refine (ld_emb _ _ i).trans ((congrArg _ e).trans ?_)
  refine (row_read hj M hM x h1 h3 _ _).trans (congrArg x (funext fun d => Fin.ext ?_))
  fin_cases d
  · show j = j % 8; rw [Nat.mod_eq_of_lt hj]
  · show h = h % 4; rw [Nat.mod_eq_of_lt hh]
  · rfl

theorem gcl_load {j : ℕ} (x : Vec Ideal S8x64x4 .f32)
    (h1 : ∀ d, (![j, 0, 0] : Fin 3 → ℕ) d + (![1, 64, 4] : Fin 3 → ℕ) d ≤ S8x64x4.size d) :
    View.ld x (Rect.unit (s := S8x64x4) ![j, 0, 0] ![1, 64, 4] h1) = gcl x j := by
  funext i
  have e1 : j + 1 ≤ 8 := h1 0
  have hi : (i 0 : ℕ) < 1 := (i 0).isLt
  refine congrArg x (funext fun d => Fin.ext ?_)
  fin_cases d
  · show j + 1 * (i 0 : ℕ) = j % 8; omega
  · show 0 + 1 * (i 1 : ℕ) = i 1; omega
  · show 0 + 1 * (i 2 : ℕ) = i 2; omega

theorem ach_load {j : ℕ} (x : Vec Ideal S8x4x64x64 .f32)
    (h1 : ∀ d, (![j, 0, 0, 0] : Fin 4 → ℕ) d + (![1, 4, 64, 64] : Fin 4 → ℕ) d ≤ S8x4x64x64.size d) :
    View.ld x (Rect.unit (s := S8x4x64x64) ![j, 0, 0, 0] ![1, 4, 64, 64] h1) = ach x j := by
  funext i
  have e1 : j + 1 ≤ 8 := h1 0
  have hi : (i 0 : ℕ) < 1 := (i 0).isLt
  refine congrArg x (funext fun d => Fin.ext ?_)
  fin_cases d
  · show j + 1 * (i 0 : ℕ) = j % 8; omega
  · show 0 + 1 * (i 1 : ℕ) = i 1; omega
  · show 0 + 1 * (i 2 : ℕ) = i 2; omega
  · show 0 + 1 * (i 3 : ℕ) = i 3; omega

theorem sch_load {j : ℕ} (x : Vec Ideal S8x4x128x128 .f32)
    (h1 : ∀ d, (![j, 0, 0, 0] : Fin 4 → ℕ) d + (![1, 4, 128, 128] : Fin 4 → ℕ) d ≤ S8x4x128x128.size d) :
    View.ld x (Rect.unit (s := S8x4x128x128) ![j, 0, 0, 0] ![1, 4, 128, 128] h1) = sch x j := by
  funext i
  have e1 : j + 1 ≤ 8 := h1 0
  have hi : (i 0 : ℕ) < 1 := (i 0).isLt
  refine congrArg x (funext fun d => Fin.ext ?_)
  fin_cases d
  · show j + 1 * (i 0 : ℕ) = j % 8; omega
  · show 0 + 1 * (i 1 : ℕ) = i 1; omega
  · show 0 + 1 * (i 2 : ℕ) = i 2; omega
  · show 0 + 1 * (i 3 : ℕ) = i 3; omega

variable (m : (ℓ : Loc nD τ sig) → Buf (Elt Ideal) ℓ)

/-- The blocks grid point `t` reads. -/
noncomputable def blk (c : Dev nD) (t : Fin cfg0.N) : Blk :=
  ⟨iblk m c 0 t, iblk m c 1 t, iblk m c 2 t, iblk m c 3 t, iblk m c 4 t, iblk m c 5 t, iblk m c 6 t, iblk m c 7 t,
    iblk m c 8 t⟩

end Cert.KernelIdeal.Scan
-- ==== Proof.ScanEntry.lean ====
module

public import proofs.«01_k».proof.Proof.ScanBlock

open Idealize Idealize.ShloMosaic Cert.KernelIdeal.Gen
open Idealize.SL.Sem

/-!
The arithmetic of one chunk, entry by entry.
-/

set_option maxRecDepth 16384

@[expose] public section

namespace Cert.KernelIdeal.Scan

theorem four (h : Fin 4) : h = 0 ∨ h = 1 ∨ h = 2 ∨ h = 3 := by omega

theorem stack_at (a b c d : Vec Ideal S64x128 .f32) (h : Fin 4) (i : Fin 64) (v : Fin 128) :
    stack a b c d (ix3 h i v) = (![a, b, c, d] h) (ix2 i v) := by
  pointwise [stack, k0_pay13]
  rcases four h with rfl | rfl | rfl | rfl <;> rfl

theorem ep_at (G : Vec Ideal S1x64x4 .f32) (h : Fin 4) (i : Fin 64) :
    ep G (ix3 h i 0) = Ideal.exp (G (ix3 0 i h)) := by
  pointwise [ep, k0_pay10, k0_pay5]
  rcases four h with rfl | rfl | rfl | rfl <;> rfl

theorem em_at (G : Vec Ideal S1x64x4 .f32) (R0 R1 R2 R3 : Vec Ideal S1x64 .f32) (h : Fin 4) (i : Fin 64) :
    em G R0 R1 R2 R3 (ix3 h i 0) = Ideal.exp ((![R0, R1, R2, R3] h) (ix2 0 63) - G (ix3 0 i h)) := by
  pointwise [em, k0_pay11, k0_pay5, k0_pay6, k0_pay7, k0_pay8, k0_pay9]
  rcases four h with rfl | rfl | rfl | rfl <;> rfl

theorem el_at (R0 R1 R2 R3 : Vec Ideal S1x64 .f32) (h : Fin 4) :
    el R0 R1 R2 R3 (ix3 h 0 0) = Ideal.exp ((![R0, R1, R2, R3] h) (ix2 0 63)) := by
  pointwise [el, k0_pay12, k0_pay6, k0_pay7, k0_pay8, k0_pay9]
  rcases four h with rfl | rfl | rfl | rfl <;> rfl

theorem ut_at (u w : FVec Ideal S4x64x128 .f32) (S : Vec Ideal S1x4x128x128 .f32) (h : Fin 4) (i : Fin 64) (v : Fin 128) :
    ut u w S (ix3 h i v) = u (ix3 h i v) - ∑ k : Fin 128, w (ix3 h i k) * S (ix4 0 h k v) := by
  pointwise [ut]

theorem dut_at (e : FVec Ideal S4x64x1 .f32) (k o : FVec Ideal S4x64x128 .f32) (D : Vec Ideal S4x128x128 .f32)
    (A : Vec Ideal S1x4x64x64 .f32) (h : Fin 4) (i : Fin 64) (v : Fin 128) :
    dut e k o D A (ix3 h i v) = (∑ j : Fin 64, A (ix4 0 h j i) * o (ix3 h j v)) +
      ∑ l : Fin 128, k (ix3 h i l) * e (ix3 h i 0) * D (ix3 h l v) := by
  pointwise [dut, k0_pay20]

theorem nx_at (e m : FVec Ideal S4x64x1 .f32) (l : FVec Ideal S4x1x1 .f32) (q k w o : FVec Ideal S4x64x128 .f32)
    (D : Vec Ideal S4x128x128 .f32) (A : Vec Ideal S1x4x64x64 .f32) (h : Fin 4) (i v : Fin 128) :
    nx e m l q k w o D A (ix3 h i v) = l (ix3 h 0 0) * D (ix3 h i v)
      + (∑ c : Fin 64, q (ix3 h c i) * e (ix3 h c 0) * o (ix3 h c v))
      - ∑ c : Fin 64, w (ix3 h c i) * dut m k o D A (ix3 h c v) := by
  pointwise [nx, k0_pay21]
  rfl

theorem dwt_at (e : FVec Ideal S4x64x1 .f32) (k o : FVec Ideal S4x64x128 .f32) (S : Vec Ideal S1x4x128x128 .f32)
    (D : Vec Ideal S4x128x128 .f32) (A : Vec Ideal S1x4x64x64 .f32) (h : Fin 4) (i : Fin 64) (v : Fin 128) :
    dwt e k o S D A (ix3 h i v) = 0 - ∑ l : Fin 128, dut e k o D A (ix3 h i l) * S (ix4 0 h v l) := by
  pointwise [dwt, k0_pay22, k0_pay18]
  rfl

theorem dqt_at (o : FVec Ideal S4x64x128 .f32) (S : Vec Ideal S1x4x128x128 .f32) (h : Fin 4) (i : Fin 64) (v : Fin 128) :
    dqt o S (ix3 h i v) = ∑ l : Fin 128, o (ix3 h i l) * S (ix4 0 h v l) := by
  pointwise [dqt, k0_pay23, k0_pay18]

theorem dkt_at (D : Vec Ideal S4x128x128 .f32) (x : FVec Ideal S4x64x128 .f32) (h : Fin 4) (i : Fin 64) (v : Fin 128) :
    dkt D x (ix3 h i v) = ∑ l : Fin 128, x (ix3 h i l) * D (ix3 h v l) := by
  pointwise [dkt, k0_pay24]

theorem dat_at (o x : FVec Ideal S4x64x128 .f32) (h : Fin 4) (i j : Fin 64) :
    dat o x (ix4 0 h i j) = if j ≤ i then ∑ l : Fin 128, o (ix3 h i l) * x (ix3 h j l) else 0 := by
  pointwise [dat, k0_pay26, k0_pay25, k0_pay3]
  by_cases hij : j ≤ i
  · rw [if_pos hij]; word_cmp; rw [if_pos (by omega)]
  · rw [if_neg hij]; word_cmp; rw [if_neg (by omega)]

theorem dgt_at (l : FVec Ideal S4x1x1 .f32) (S : Vec Ideal S1x4x128x128 .f32) (D : Vec Ideal S4x128x128 .f32) (h : Fin 4)
    (i : Fin 64) :
    dgt l S D (ix3 0 h i) = if i = 63 then (∑ a : Fin 128, ∑ b : Fin 128, S (ix4 0 h a b) * D (ix3 h a b)) * l (ix3 h 0 0)
      else 0 := by
  pointwise [dgt, k0_pay49, k0_pay4, k0_pay27, k0_pay18, k0_pay38, k0_pay32, k0_pay43, k0_pay44]
  rcases four h with rfl | rfl | rfl | rfl <;> by_cases hi : i = 63
  all_goals (first | (subst hi; rfl) | (rw [if_neg hi]; word_cmp; have h63 : (i : ℕ) ≠ 63 := by omega
                                        simp only [h63, if_false, ite_self]))

end Cert.KernelIdeal.Scan
-- ==== Proof.ScanSpec.lean ====
module

public import Idealize.ShloMosaic.PureOps.Ideal
public import Idealize.ShloMosaic.Lib.Pointwise
public import Mathlib.Data.EReal.Operations
public import Mathlib.Algebra.BigOperators.Fin

open Idealize.ShloMosaic

/-!
The sweep in plain numbers: what one chunk makes of the gradient of the state after it, and the gradient the chunks from
the last one down leave.
-/

@[expose] public section

namespace Cert.Scan

/-- The arguments by chunk, head, row and column. -/
structure Terms where
  q : Fin 64 → Fin 4 → Fin 64 → Fin 128 → EReal
  k : Fin 64 → Fin 4 → Fin 64 → Fin 128 → EReal
  u : Fin 64 → Fin 4 → Fin 64 → Fin 128 → EReal
  w : Fin 64 → Fin 4 → Fin 64 → Fin 128 → EReal
  o : Fin 64 → Fin 4 → Fin 64 → Fin 128 → EReal
  a : Fin 64 → Fin 4 → Fin 64 → Fin 64 → EReal
  g : Fin 64 → Fin 4 → Fin 64 → EReal
  s : Fin 64 → Fin 4 → Fin 128 → Fin 128 → EReal

variable (P : Terms) (n : Fin 64) (D : Fin 4 → Fin 128 → Fin 128 → EReal) (h : Fin 4)

noncomputable def decK (i : Fin 64) : EReal := Ideal.exp (P.g n h 63 - P.g n h i)

noncomputable def corr (i : Fin 64) (v : Fin 128) : EReal := P.u n h i v - ∑ k : Fin 128, P.w n h i k * P.s n h k v

noncomputable def gu (i : Fin 64) (v : Fin 128) : EReal :=
  (∑ j : Fin 64, P.a n h j i * P.o n h j v) + ∑ l : Fin 128, P.k n h i l * decK P n h i * D h l v

noncomputable def back (i v : Fin 128) : EReal :=
  Ideal.exp (P.g n h 63) * D h i v + (∑ c : Fin 64, P.q n h c i * Ideal.exp (P.g n h c) * P.o n h c v)
    - ∑ c : Fin 64, P.w n h c i * gu P n D h c v

noncomputable def gw (i : Fin 64) (v : Fin 128) : EReal := 0 - ∑ l : Fin 128, gu P n D h i l * P.s n h v l
noncomputable def gq (i : Fin 64) (v : Fin 128) : EReal := ∑ l : Fin 128, P.o n h i l * P.s n h v l
noncomputable def gk (i : Fin 64) (v : Fin 128) : EReal := ∑ l : Fin 128, corr P n h i l * D h v l
noncomputable def ga (i j : Fin 64) : EReal := ∑ l : Fin 128, P.o n h i l * corr P n h j l
noncomputable def gl : EReal := (∑ a : Fin 128, ∑ b : Fin 128, P.s n h a b * D h a b) * Ideal.exp (P.g n h 63)

/-- Chunk number `i` from the end. -/
def ch (i : ℕ) : Fin 64 := ⟨63 - i, by omega⟩

/-- The gradient of the state once the last `i` chunks were taken back. -/
noncomputable def grad : ℕ → Fin 4 → Fin 128 → Fin 128 → EReal
  | 0 => fun _ _ _ => 0
  | i + 1 => fun h => back P (ch i) (grad i) h

/-- The gradient that meets chunk `n`. -/
noncomputable def at_ (n : Fin 64) : Fin 4 → Fin 128 → Fin 128 → EReal := grad P (63 - n)

/-- Row `i` of chunk `n`. -/
def rowOf (n i : Fin 64) : Fin 4096 := ⟨n * 64 + i, by omega⟩

/-- Column `v` of head `h`. -/
def colOf (h : Fin 4) (v : Fin 128) : Fin 512 := ⟨h * 128 + v, by omega⟩

/-- The terms of the argument arrays. -/
noncomputable def terms (q k u w : FVec Ideal ⟨2, ![4096, 512]⟩ .f32) (a : FVec Ideal ⟨4, ![64, 4, 64, 64]⟩ .f32)
    (g : FVec Ideal ⟨2, ![4, 4096]⟩ .f32) (s : FVec Ideal ⟨4, ![64, 4, 128, 128]⟩ .f32)
    (o : FVec Ideal ⟨2, ![4096, 512]⟩ .f32) : Terms where
  q := fun n h i v => q (ix2 (rowOf n i) (colOf h v))
  k := fun n h i v => k (ix2 (rowOf n i) (colOf h v))
  u := fun n h i v => u (ix2 (rowOf n i) (colOf h v))
  w := fun n h i v => w (ix2 (rowOf n i) (colOf h v))
  o := fun n h i v => o (ix2 (rowOf n i) (colOf h v))
  a := fun n h i j => a (ix4 n h i j)
  g := fun n h i => g (ix2 h (rowOf n i))
  s := fun n h i v => s (ix4 n h i v)

/-- A result array of 64 chunks of rows and 4 heads of columns, from its entries. -/
noncomputable def spread (G : Fin 64 → Fin 4 → Fin 64 → Fin 128 → EReal) : FVec Ideal ⟨2, ![4096, 512]⟩ .f32 := fun y =>
  G ⟨(y 0 : ℕ) / 64, by have : (y 0 : ℕ) < 4096 := (y 0).isLt; omega⟩
    ⟨(y 1 : ℕ) / 128, by have : (y 1 : ℕ) < 512 := (y 1).isLt; omega⟩ ⟨(y 0 : ℕ) % 64, by omega⟩ ⟨(y 1 : ℕ) % 128, by omega⟩

/-- The gradient of the scores: nothing above the diagonal. -/
noncomputable def lower (G : Fin 64 → Fin 4 → Fin 64 → Fin 64 → EReal) : FVec Ideal ⟨4, ![64, 4, 64, 64]⟩ .f32 := fun y =>
  if (y 3 : ℕ) ≤ (y 2 : ℕ) then G (y 0) (y 1) (y 2) (y 3) else 0

/-- The gradient of the log gates: the last row of each chunk alone. -/
noncomputable def bottom (G : Fin 64 → Fin 4 → EReal) : FVec Ideal ⟨3, ![64, 4, 64]⟩ .f32 := fun y =>
  if (y 2 : ℕ) = 63 then G (y 0) (y 1) else 0

/-- A number that is no infinity. -/
def Real_ (x : EReal) : Prop := ∃ r : ℝ, x = (r : EReal)

theorem Real_.zero : Real_ 0 := ⟨0, rfl⟩
theorem Real_.add {x y : EReal} : Real_ x → Real_ y → Real_ (x + y)
  | ⟨a, ha⟩, ⟨b, hb⟩ => ⟨a + b, by rw [ha, hb, EReal.coe_add]⟩
theorem Real_.sub {x y : EReal} : Real_ x → Real_ y → Real_ (x - y)
  | ⟨a, ha⟩, ⟨b, hb⟩ => ⟨a - b, by rw [ha, hb, EReal.coe_sub]⟩
theorem Real_.mul {x y : EReal} : Real_ x → Real_ y → Real_ (x * y)
  | ⟨a, ha⟩, ⟨b, hb⟩ => ⟨a * b, by rw [ha, hb, EReal.coe_mul]⟩
theorem Real_.exp {x : EReal} : Real_ x → Real_ (Ideal.exp x)
  | ⟨a, ha⟩ => ⟨Real.exp a, by rw [ha]; rfl⟩
theorem Real_.sum {N : ℕ} {f : Fin N → EReal} (hf : ∀ i, Real_ (f i)) : Real_ (∑ i, f i) :=
  Finset.sum_induction f Real_ (fun _ _ => Real_.add) Real_.zero fun i _ => hf i

theorem Real_.neg_sum {N : ℕ} {f : Fin N → EReal} (hf : ∀ i, Real_ (f i)) : ∑ i, -f i = -∑ i, f i := by
  choose r hr using hf
  induction N with
  | zero => simp
  | succ N ih =>
    rw [Fin.sum_univ_succ, Fin.sum_univ_succ, ih (fun i => r i.succ) fun i => hr i.succ]
    obtain ⟨b, hb⟩ := Real_.sum (f := fun i : Fin N => f i.succ) fun i => ⟨_, hr i.succ⟩
    rw [hb, hr 0, ← EReal.coe_neg, ← EReal.coe_neg, ← EReal.coe_add, ← EReal.coe_add, ← EReal.coe_neg]
    congr 1
    ring

/-- No infinity among the factors of the negated products. -/
structure Terms.Finite : Prop where
  q : ∀ n h i v, Real_ (P.q n h i v)
  k : ∀ n h i v, Real_ (P.k n h i v)
  w : ∀ n h i v, Real_ (P.w n h i v)
  o : ∀ n h i v, Real_ (P.o n h i v)
  a : ∀ n h i v, Real_ (P.a n h i v)
  g : ∀ n h i, Real_ (P.g n h i)
  s : ∀ n h i v, Real_ (P.s n h i v)

variable {P}

theorem gu_real (H : P.Finite) (hD : ∀ h i v, Real_ (D h i v)) (i : Fin 64) (v : Fin 128) : Real_ (gu P n D h i v) :=
  .add (.sum fun _ => .mul (H.a ..) (H.o ..)) (.sum fun _ => .mul (.mul (H.k ..) (.exp (.sub (H.g ..) (H.g ..)))) (hD ..))

theorem back_real (H : P.Finite) (hD : ∀ h i v, Real_ (D h i v)) (i v : Fin 128) : Real_ (back P n D h i v) :=
  .sub (.add (.mul (.exp (H.g ..)) (hD ..)) (.sum fun _ => .mul (.mul (H.q ..) (.exp (H.g ..))) (H.o ..)))
    (.sum fun _ => .mul (H.w ..) (gu_real n D h H hD ..))

theorem grad_real (H : P.Finite) : ∀ i h a b, Real_ (grad P i h a b)
  | 0 => fun _ _ _ => Real_.zero
  | i + 1 => fun h a b => back_real _ _ h H (grad_real H i) a b

/-- The reference's order of the same numbers. -/
theorem gu_ref (i : Fin 64) (v : Fin 128) :
    ∑ x : Fin 128, D h x v * (P.k n h i x * decK P n h i) + ∑ x : Fin 64, P.o n h x v * P.a n h x i = gu P n D h i v := by
  unfold gu
  rw [add_comm]
  congr 1 <;> exact Finset.sum_congr rfl fun _ _ => mul_comm _ _

theorem back_ref (H : P.Finite) (hD : ∀ h i v, Real_ (D h i v)) (i v : Fin 128) :
    D h i v * Ideal.exp (P.g n h 63) + ∑ x : Fin 64, P.o n h x v * (P.q n h x i * Ideal.exp (P.g n h x))
      + ∑ x : Fin 64, -gu P n D h x v * P.w n h x i = back P n D h i v := by
  unfold back
  have e : ∀ x : Fin 64, -gu P n D h x v * P.w n h x i = -(P.w n h x i * gu P n D h x v) := fun x => by
    rw [EReal.neg_mul, mul_comm]
  simp only [e]
  rw [Real_.neg_sum fun x => .mul (H.w ..) (gu_real n D h H hD ..), ← sub_eq_add_neg, mul_comm (D h i v)]
  congr 2
  exact Finset.sum_congr rfl fun _ _ => mul_comm _ _

theorem gw_ref (H : P.Finite) (hD : ∀ h i v, Real_ (D h i v)) (i : Fin 64) (v : Fin 128) :
    ∑ x : Fin 128, -gu P n D h i x * P.s n h v x = gw P n D h i v := by
  unfold gw
  simp only [EReal.neg_mul]
  rw [Real_.neg_sum fun x => .mul (gu_real n D h H hD ..) (H.s ..), zero_sub]

end Cert.Scan
-- ==== Proof.ScanLoad.lean ====
module

public import proofs.«01_k».proof.Proof.ScanEntry
public import proofs.«01_k».proof.Proof.ScanSpec
public import Idealize.ShloMosaic.Lib.Claim
public import Idealize.ShloMosaic.Lib.Pipeline.ValueKit

open Idealize Idealize.ShloMosaic Idealize.ShloMosaic.TcCoe Cert.KernelIdeal.Gen
open Idealize.SL.Sem
open Cert.Scan (Terms ch grad decK terms)

/-!
The blocks of a grid point by chunk, head, row and column of the arguments: point `t` holds the eight chunks from
`8 * (7 - t)` on.
-/

set_option maxRecDepth 16384

@[expose] public section

namespace Cert.KernelIdeal.Scan

variable (m : (ℓ : Loc nD τ sig) → Buf (Elt Ideal) ℓ) (c : Dev nD)

/-- Which block of each array a grid point works on: the points go from the last block to the first. -/
theorem index : ∀ t : Fin cfg0.N, win0_0.index t = ![7 - t.val, 0] ∧ win0_1.index t = ![7 - t.val, 0]
    ∧ win0_2.index t = ![7 - t.val, 0] ∧ win0_3.index t = ![7 - t.val, 0] ∧ win0_4.index t = ![7 - t.val, 0, 0, 0]
    ∧ win0_5.index t = ![7 - t.val, 0, 0] ∧ win0_6.index t = ![7 - t.val, 0, 0] ∧ win0_7.index t = ![7 - t.val, 0, 0, 0]
    ∧ win0_8.index t = ![7 - t.val, 0] ∧ win0_9.index t = ![7 - t.val, 0] ∧ win0_10.index t = ![7 - t.val, 0]
    ∧ win0_11.index t = ![7 - t.val, 0] ∧ win0_12.index t = ![7 - t.val, 0] ∧ win0_13.index t = ![7 - t.val, 0, 0, 0]
    ∧ win0_14.index t = ![7 - t.val, 0, 0] :=
  (by decide +kernel : ∀ t : Fin grid0.N, _)

/-- The terms of the arguments. -/
noncomputable abbrev P : Terms := terms (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))

theorem lt8 (t : Fin cfg0.N) : t.val < 8 := t.isLt

theorem blk0 (t : Fin cfg0.N) (r l : Fin 512) : (iblk m c 0 t : Vec Ideal S512x512 .f32) (ix2 r l) =
    (m ((c.tc : Thread nD τ).loc main_arg0) : FVec Ideal S4096x512 .f32) (ix2 ⟨(7 - t.val) * 512 + r, by omega⟩ l) := by
  blk_point [iblk, V, index t]

theorem blk1 (t : Fin cfg0.N) (r l : Fin 512) : (iblk m c 1 t : Vec Ideal S512x512 .f32) (ix2 r l) =
    (m ((c.tc : Thread nD τ).loc main_arg1) : FVec Ideal S4096x512 .f32) (ix2 ⟨(7 - t.val) * 512 + r, by omega⟩ l) := by
  blk_point [iblk, V, index t]

theorem blk2 (t : Fin cfg0.N) (r l : Fin 512) : (iblk m c 2 t : Vec Ideal S512x512 .f32) (ix2 r l) =
    (m ((c.tc : Thread nD τ).loc main_arg2) : FVec Ideal S4096x512 .f32) (ix2 ⟨(7 - t.val) * 512 + r, by omega⟩ l) := by
  blk_point [iblk, V, index t]

theorem blk3 (t : Fin cfg0.N) (r l : Fin 512) : (iblk m c 3 t : Vec Ideal S512x512 .f32) (ix2 r l) =
    (m ((c.tc : Thread nD τ).loc main_arg3) : FVec Ideal S4096x512 .f32) (ix2 ⟨(7 - t.val) * 512 + r, by omega⟩ l) := by
  blk_point [iblk, V, index t]

theorem blk8 (t : Fin cfg0.N) (r l : Fin 512) : (iblk m c 8 t : Vec Ideal S512x512 .f32) (ix2 r l) =
    (m ((c.tc : Thread nD τ).loc main_arg7) : FVec Ideal S4096x512 .f32) (ix2 ⟨(7 - t.val) * 512 + r, by omega⟩ l) := by
  blk_point [iblk, V, index t]

theorem blk4 (t : Fin cfg0.N) (j : Fin 8) (h : Fin 4) (a b : Fin 64) : (iblk m c 4 t : Vec Ideal S8x4x64x64 .f32) (ix4 j h a b) =
    (m ((c.tc : Thread nD τ).loc main_arg4) : FVec Ideal S64x4x64x64 .f32) (ix4 ⟨(7 - t.val) * 8 + j, by omega⟩ h a b) := by
  blk_point [iblk, V, index t]

theorem blk7 (t : Fin cfg0.N) (j : Fin 8) (h : Fin 4) (a b : Fin 128) : (iblk m c 7 t : Vec Ideal S8x4x128x128 .f32) (ix4 j h a b) =
    (m ((c.tc : Thread nD τ).loc main_arg6) : FVec Ideal S64x4x128x128 .f32) (ix4 ⟨(7 - t.val) * 8 + j, by omega⟩ h a b) := by
  blk_point [iblk, V, index t]

theorem blk5 (t : Fin cfg0.N) (j : Fin 8) (i : Fin 64) (h : Fin 4) : (iblk m c 5 t : Vec Ideal S8x64x4 .f32) (ix3 j i h) =
    (m ((c.tc : Thread nD τ).loc main_arg5) : FVec Ideal S4x4096 .f32) (ix2 h ⟨((7 - t.val) * 8 + j) * 64 + i, by omega⟩) := by
  blk_point [iblk, V, index t]

theorem blk6 (t : Fin cfg0.N) (j : Fin 8) (h : Fin 4) (i : Fin 64) : (iblk m c 6 t : Vec Ideal S8x4x64 .f32) (ix3 j h i) =
    (m ((c.tc : Thread nD τ).loc main_arg5) : FVec Ideal S4x4096 .f32) (ix2 h ⟨((7 - t.val) * 8 + j) * 64 + i, by omega⟩) := by
  blk_point [iblk, V, index t]

/-- The chunk that is `j` of the block at point `t`. -/
abbrev cn (t j : ℕ) : Fin 64 := ch (8 * t + (7 - j))

theorem cn_val (t j : ℕ) (ht : t < 8) (hj : j < 8) : (cn t j : ℕ) = (7 - t) * 8 + j := by
  show 63 - (8 * t + (7 - j)) = _
  omega

theorem stk_at (x : Vec Ideal S512x512 .f32) (j : ℕ) (hj : j < 8) (h : Fin 4) (i : Fin 64) (v : Fin 128) :
    stk x j (ix3 h i v) = x (ix2 ⟨64 * j + i, by omega⟩ ⟨128 * h + v, by omega⟩) := by
  unfold stk
  rw [stack_at]
  rcases four h with rfl | rfl | rfl | rfl <;>
  · refine congrArg x (funext fun d => Fin.ext ?_)
    fin_cases d
    · show (64 * j + (i : ℕ)) % 512 = 64 * j + i; omega
    · exact Nat.mod_eq_of_lt (by show _ + (v : ℕ) < 512; omega)

/-- A block of rows whose chunks are those of an array. -/
theorem stk_rows (X : FVec Ideal S4096x512 .f32) (x : Vec Ideal S512x512 .f32) (t : ℕ) (ht : t < 8)
    (hx : ∀ r l : Fin 512, x (ix2 r l) = X (ix2 ⟨(7 - t) * 512 + r, by omega⟩ l)) (j : ℕ) (hj : j < 8) (h : Fin 4) (i : Fin 64)
    (v : Fin 128) : stk x j (ix3 h i v) = X (ix2 (Cert.Scan.rowOf (cn t j) i) (Cert.Scan.colOf h v)) := by
  rw [stk_at x j hj, hx]
  have e := cn_val t j ht hj
  refine congrArg X (funext fun d => Fin.ext ?_)
  fin_cases d
  · show (7 - t) * 512 + (64 * j + (i : ℕ)) = (cn t j : ℕ) * 64 + i; omega
  · show 128 * (h : ℕ) + v = h * 128 + v; omega

/-- The block `B` holds the eight chunks of point `t`. -/
structure Holds (B : Blk) (T : Terms) (t : ℕ) : Prop where
  q : ∀ j, j < 8 → ∀ h i v, stk B.q j (ix3 h i v) = T.q (cn t j) h i v
  k : ∀ j, j < 8 → ∀ h i v, stk B.k j (ix3 h i v) = T.k (cn t j) h i v
  u : ∀ j, j < 8 → ∀ h i v, stk B.u j (ix3 h i v) = T.u (cn t j) h i v
  w : ∀ j, j < 8 → ∀ h i v, stk B.w j (ix3 h i v) = T.w (cn t j) h i v
  o : ∀ j, j < 8 → ∀ h i v, stk B.o j (ix3 h i v) = T.o (cn t j) h i v
  a : ∀ j, j < 8 → ∀ h i v, ach B.a j (ix4 0 h i v) = T.a (cn t j) h i v
  s : ∀ j, j < 8 → ∀ h i v, sch B.s j (ix4 0 h i v) = T.s (cn t j) h i v
  p : ∀ j, j < 8 → ∀ h i, ep (gcl B.gc j) (ix3 h i 0) = Ideal.exp (T.g (cn t j) h i)
  d : ∀ j, j < 8 → ∀ h i, EM B j (ix3 h i 0) = decK T (cn t j) h i
  l : ∀ j, j < 8 → ∀ h, EL B j (ix3 h 0 0) = Ideal.exp (T.g (cn t j) h 63)

theorem gcl_at (t : Fin cfg0.N) (j : ℕ) (hj : j < 8) (h : Fin 4) (i : Fin 64) :
    gcl (iblk m c 5 t) j (ix3 0 i h) = (P m c).g (cn t j) h i := by
  have e := cn_val t j (lt8 t) hj
  refine (blk5 m c t ⟨j % 8, by omega⟩ i h).trans ?_
  refine congrArg (m ((c.tc : Thread nD τ).loc main_arg5) : FVec Ideal S4x4096 .f32) (funext fun d => Fin.ext ?_)
  fin_cases d
  · rfl
  · show ((7 - t.val) * 8 + j % 8) * 64 + (i : ℕ) = (cn t j : ℕ) * 64 + i; omega

theorem row_at (t : Fin cfg0.N) (j : ℕ) (hj : j < 8) (h : Fin 4) (i : Fin 64) :
    row (iblk m c 6 t) j h (ix2 0 i) = (P m c).g (cn t j) h i := by
  have e := cn_val t j (lt8 t) hj
  refine (blk6 m c t ⟨j % 8, by omega⟩ ⟨(h : ℕ) % 4, by omega⟩ i).trans ?_
  refine congrArg (m ((c.tc : Thread nD τ).loc main_arg5) : FVec Ideal S4x4096 .f32) (funext fun d => Fin.ext ?_)
  fin_cases d
  · exact Nat.mod_eq_of_lt h.isLt
  · show ((7 - t.val) * 8 + j % 8) * 64 + (i : ℕ) = (cn t j : ℕ) * 64 + i; omega

theorem rows_at (t : Fin cfg0.N) (j : ℕ) (hj : j < 8) (h : Fin 4) :
    (![row (iblk m c 6 t) j 0, row (iblk m c 6 t) j 1, row (iblk m c 6 t) j 2, row (iblk m c 6 t) j 3] h) (ix2 0 63) =
      (P m c).g (cn t j) h 63 := by
  refine Eq.trans ?_ (row_at m c t j hj h 63)
  rcases four h with rfl | rfl | rfl | rfl <;> rfl

theorem holds (t : Fin cfg0.N) : Holds (blk m c t) (P m c) t where
  q := stk_rows _ _ t (lt8 t) (blk0 m c t)
  k := stk_rows _ _ t (lt8 t) (blk1 m c t)
  u := stk_rows _ _ t (lt8 t) (blk2 m c t)
  w := stk_rows _ _ t (lt8 t) (blk3 m c t)
  o := stk_rows _ _ t (lt8 t) (blk8 m c t)
  a := fun j hj h i v => by
    have e := cn_val t j (lt8 t) hj
    refine (blk4 m c t ⟨j % 8, by omega⟩ h i v).trans ?_
    refine congrArg (fun n : Fin 64 => (m ((c.tc : Thread nD τ).loc main_arg4) : FVec Ideal S64x4x64x64 .f32) (ix4 n h i v))
      (Fin.ext ?_)
    show (7 - t.val) * 8 + j % 8 = (cn t j : ℕ); omega
  s := fun j hj h i v => by
    have e := cn_val t j (lt8 t) hj
    refine (blk7 m c t ⟨j % 8, by omega⟩ h i v).trans ?_
    refine congrArg (fun n : Fin 64 => (m ((c.tc : Thread nD τ).loc main_arg6) : FVec Ideal S64x4x128x128 .f32) (ix4 n h i v))
      (Fin.ext ?_)
    show (7 - t.val) * 8 + j % 8 = (cn t j : ℕ); omega
  p := fun j hj h i => (ep_at _ h i).trans (congrArg Ideal.exp (gcl_at m c t j hj h i))
  d := fun j hj h i => (em_at _ _ _ _ _ h i).trans
    (congrArg₂ (fun x y : EReal => Ideal.exp (x - y)) (rows_at m c t j hj h) (gcl_at m c t j hj h i))
  l := fun j hj h => (el_at _ _ _ _ h).trans (congrArg Ideal.exp (rows_at m c t j hj h))

variable {B : Blk} {T : Terms} {t : ℕ} (E : Holds B T t)
include E

theorem dut_holds (j : ℕ) (hj : j < 8) (D : FVec Ideal S4x128x128 .f32) (D' : Fin 4 → Fin 128 → Fin 128 → EReal)
    (hD : ∀ h a b, D (ix3 h a b) = D' h a b) (h : Fin 4) (i : Fin 64) (v : Fin 128) :
    dut (EM B j) (stk B.k j) (stk B.o j) D (ach B.a j) (ix3 h i v) = Cert.Scan.gu T (cn t j) D' h i v := by
  rw [dut_at]
  simp only [E.a j hj, E.o j hj, E.k j hj, E.d j hj, hD]
  rfl

theorem nx_holds (j : ℕ) (hj : j < 8) (D : FVec Ideal S4x128x128 .f32) (D' : Fin 4 → Fin 128 → Fin 128 → EReal)
    (hD : ∀ h a b, D (ix3 h a b) = D' h a b) (h : Fin 4) (a b : Fin 128) :
    NX B j D (ix3 h a b) = Cert.Scan.back T (cn t j) D' h a b := by
  unfold NX
  rw [nx_at]
  simp only [dut_holds E j hj D D' hD, E.q j hj, E.w j hj, E.o j hj, E.p j hj, E.l j hj, hD]
  rfl

theorem ut_holds (j : ℕ) (hj : j < 8) (h : Fin 4) (i : Fin 64) (v : Fin 128) :
    UT B j (ix3 h i v) = Cert.Scan.corr T (cn t j) h i v := by
  unfold UT
  rw [ut_at]
  simp only [E.u j hj, E.w j hj, E.s j hj]
  rfl

theorem chain_holds (D : FVec Ideal S4x128x128 .f32) (hD : ∀ h a b, D (ix3 h a b) = grad T (8 * t) h a b) :
    ∀ i, i ≤ 8 → ∀ h a b, chain B D i (ix3 h a b) = grad T (8 * t + i) h a b
  | 0, _ => hD
  | i + 1, hi => fun h a b => by
    have ih := chain_holds D hD i (by omega)
    refine (nx_holds E (7 - i) (by omega) _ _ ih h a b).trans ?_
    rw [show cn t (7 - i) = ch (8 * t + i) from congrArg ch (by omega)]
    rfl

end Cert.KernelIdeal.Scan
-- ==== Proof.ScanFormsA.lean ====
module

public import proofs.«01_k».proof.Proof.ScanChunk

open Idealize Idealize.ShloMosaic Cert.KernelIdeal.Gen

/-!
Each chunk as printed is the arithmetic named in `ScanChunk`.
-/

set_option maxRecDepth 16384

@[expose] public section

namespace Cert.KernelIdeal.Scan

theorem next_7 (G : Vec Ideal S1x64x4 .f32) (R0 R1 R2 R3 : Vec Ideal S1x64 .f32) (q0 q1 q2 q3 k0 k1 k2 k3 w0 w1 w2 w3 o0 o1 o2 o3 : Vec Ideal S64x128 .f32) (A : Vec Ideal S1x4x64x64 .f32) (D : Vec Ideal S4x128x128 .f32) :
    k0_pay21 (F := Ideal) (k0_pay10 (F := Ideal) (k0_pay5 (F := Ideal) G)) (k0_pay11 (F := Ideal) (k0_pay5 (F := Ideal) G) (k0_pay6 (F := Ideal) R0) (k0_pay7 (F := Ideal) R1) (k0_pay8 (F := Ideal) R2) R3) (k0_pay12 (F := Ideal) (k0_pay6 (F := Ideal) R0) (k0_pay7 (F := Ideal) R1) (k0_pay8 (F := Ideal) R2) R3) (k0_pay13 (F := Ideal) q0 q1 q2 q3) (stack k0 k1 k2 k3) (k0_pay16 (F := Ideal) w0 w1 w2 w3) (k0_pay17 (F := Ideal) o0 o1 o2 o3) D A =
      nx (ep G) (em G R0 R1 R2 R3) (el R0 R1 R2 R3) (stack q0 q1 q2 q3) (stack k0 k1 k2 k3) (stack w0 w1 w2 w3) (stack o0 o1 o2 o3) D A := rfl

theorem next_6 (G : Vec Ideal S1x64x4 .f32) (R0 R1 R2 R3 : Vec Ideal S1x64 .f32) (q0 q1 q2 q3 k0 k1 k2 k3 w0 w1 w2 w3 o0 o1 o2 o3 : Vec Ideal S64x128 .f32) (A : Vec Ideal S1x4x64x64 .f32) (D : Vec Ideal S4x128x128 .f32) :
    k0_pay71 (F := Ideal) (k0_pay68 (F := Ideal) (k0_pay57 (F := Ideal) (k0_pay51 (F := Ideal) G) (k0_pay52 (F := Ideal) G) (k0_pay53 (F := Ideal) G) (k0_pay54 (F := Ideal) G)) (k0_pay59 (F := Ideal) R0 R1 R2 R3) (stack q0 q1 q2 q3) o0 o1 o2 o3 D) (k0_pay69 (F := Ideal) (stack w0 w1 w2 w3)) (k0_pay70 (F := Ideal) (k0_pay58 (F := Ideal) (k0_pay51 (F := Ideal) G) (k0_pay52 (F := Ideal) G) (k0_pay53 (F := Ideal) G) (k0_pay54 (F := Ideal) G) R0 R1 R2 R3) (stack k0 k1 k2 k3) o0 o1 o2 o3 D A) =
      nx (ep G) (em G R0 R1 R2 R3) (el R0 R1 R2 R3) (stack q0 q1 q2 q3) (stack k0 k1 k2 k3) (stack w0 w1 w2 w3) (stack o0 o1 o2 o3) D A := rfl

theorem next_5 (G : Vec Ideal S1x64x4 .f32) (R0 R1 R2 R3 : Vec Ideal S1x64 .f32) (q0 q1 q2 q3 k0 k1 k2 k3 w0 w1 w2 w3 o0 o1 o2 o3 : Vec Ideal S64x128 .f32) (A : Vec Ideal S1x4x64x64 .f32) (D : Vec Ideal S4x128x128 .f32) :
    k0_pay114 (F := Ideal) (k0_pay103 (F := Ideal) (k0_pay99 (F := Ideal) G)) (k0_pay104 (F := Ideal) (k0_pay99 (F := Ideal) G) (k0_pay100 (F := Ideal) R0) (k0_pay101 (F := Ideal) R1) R2 R3) (k0_pay105 (F := Ideal) (k0_pay100 (F := Ideal) R0) (k0_pay101 (F := Ideal) R1) R2 R3) (k0_pay106 (F := Ideal) q0 q1 q2 q3) (stack k0 k1 k2 k3) (stack w0 w1 w2 w3) (stack o0 o1 o2 o3) D A =
      nx (ep G) (em G R0 R1 R2 R3) (el R0 R1 R2 R3) (stack q0 q1 q2 q3) (stack k0 k1 k2 k3) (stack w0 w1 w2 w3) (stack o0 o1 o2 o3) D A := rfl

theorem next_4 (G : Vec Ideal S1x64x4 .f32) (R0 R1 R2 R3 : Vec Ideal S1x64 .f32) (q0 q1 q2 q3 k0 k1 k2 k3 w0 w1 w2 w3 o0 o1 o2 o3 : Vec Ideal S64x128 .f32) (A : Vec Ideal S1x4x64x64 .f32) (D : Vec Ideal S4x128x128 .f32) :
    k0_pay162 (F := Ideal) (k0_pay146 (F := Ideal) G) (k0_pay148 (F := Ideal) (k0_pay145 (F := Ideal) R0 R1 R2 R3)) (k0_pay149 (F := Ideal) q0 q1 q2 q3) (stack w0 w1 w2 w3) (k0_pay156 (F := Ideal) o0 o1 o2 o3) D (k0_pay159 (F := Ideal) o0 o1 o2 o3 A) (k0_pay160 (F := Ideal) (k0_pay147 (F := Ideal) (k0_pay144 (F := Ideal) G) (k0_pay145 (F := Ideal) R0 R1 R2 R3)) (mixed (k0_pay150 (F := Ideal) k0) (k0_pay151 (F := Ideal) k1) (k0_pay152 (F := Ideal) k2) k3) D) =
      nx (ep G) (em G R0 R1 R2 R3) (el R0 R1 R2 R3) (stack q0 q1 q2 q3) (stack k0 k1 k2 k3) (stack w0 w1 w2 w3) (stack o0 o1 o2 o3) D A := rfl

theorem next_3 (G : Vec Ideal S1x64x4 .f32) (R0 R1 R2 R3 : Vec Ideal S1x64 .f32) (q0 q1 q2 q3 k0 k1 k2 k3 w0 w1 w2 w3 o0 o1 o2 o3 : Vec Ideal S64x128 .f32) (A : Vec Ideal S1x4x64x64 .f32) (D : Vec Ideal S4x128x128 .f32) :
    k0_pay202 (F := Ideal) (k0_pay191 (F := Ideal) (k0_pay189 (F := Ideal) G)) (k0_pay192 (F := Ideal) (k0_pay189 (F := Ideal) G) R0 R1 R2 R3) (k0_pay193 (F := Ideal) R0 R1 R2 R3) (stack q0 q1 q2 q3) (stack k0 k1 k2 k3) (stack w0 w1 w2 w3) o0 o1 o2 o3 D A =
      nx (ep G) (em G R0 R1 R2 R3) (el R0 R1 R2 R3) (stack q0 q1 q2 q3) (stack k0 k1 k2 k3) (stack w0 w1 w2 w3) (stack o0 o1 o2 o3) D A := rfl

theorem next_2 (G : Vec Ideal S1x64x4 .f32) (R0 R1 R2 R3 : Vec Ideal S1x64 .f32) (q0 q1 q2 q3 k0 k1 k2 k3 w0 w1 w2 w3 o0 o1 o2 o3 : Vec Ideal S64x128 .f32) (A : Vec Ideal S1x4x64x64 .f32) (D : Vec Ideal S4x128x128 .f32) :
    k0_pay248 (F := Ideal) (k0_pay237 (F := Ideal) (k0_pay232 (F := Ideal) G)) (k0_pay238 (F := Ideal) (k0_pay232 (F := Ideal) G) (k0_pay233 (F := Ideal) R0) (k0_pay234 (F := Ideal) R1) (k0_pay235 (F := Ideal) R2) R3) (k0_pay239 (F := Ideal) (k0_pay233 (F := Ideal) R0) (k0_pay234 (F := Ideal) R1) (k0_pay235 (F := Ideal) R2) R3) (k0_pay240 (F := Ideal) q0 q1 q2 q3) (stack k0 k1 k2 k3) (k0_pay243 (F := Ideal) w0 w1 w2 w3) (k0_pay244 (F := Ideal) o0 o1 o2 o3) D A =
      nx (ep G) (em G R0 R1 R2 R3) (el R0 R1 R2 R3) (stack q0 q1 q2 q3) (stack k0 k1 k2 k3) (stack w0 w1 w2 w3) (stack o0 o1 o2 o3) D A := rfl

theorem next_1 (G : Vec Ideal S1x64x4 .f32) (R0 R1 R2 R3 : Vec Ideal S1x64 .f32) (q0 q1 q2 q3 k0 k1 k2 k3 w0 w1 w2 w3 o0 o1 o2 o3 : Vec Ideal S64x128 .f32) (A : Vec Ideal S1x4x64x64 .f32) (D : Vec Ideal S4x128x128 .f32) :
    k0_pay298 (F := Ideal) (k0_pay295 (F := Ideal) (k0_pay284 (F := Ideal) (k0_pay278 (F := Ideal) G) (k0_pay279 (F := Ideal) G) (k0_pay280 (F := Ideal) G) (k0_pay281 (F := Ideal) G)) (k0_pay286 (F := Ideal) R0 R1 R2 R3) (stack q0 q1 q2 q3) o0 o1 o2 o3 D) (k0_pay296 (F := Ideal) (stack w0 w1 w2 w3)) (k0_pay297 (F := Ideal) (k0_pay285 (F := Ideal) (k0_pay278 (F := Ideal) G) (k0_pay279 (F := Ideal) G) (k0_pay280 (F := Ideal) G) (k0_pay281 (F := Ideal) G) R0 R1 R2 R3) (stack k0 k1 k2 k3) o0 o1 o2 o3 D A) =
      nx (ep G) (em G R0 R1 R2 R3) (el R0 R1 R2 R3) (stack q0 q1 q2 q3) (stack k0 k1 k2 k3) (stack w0 w1 w2 w3) (stack o0 o1 o2 o3) D A := rfl

theorem next_0 (G : Vec Ideal S1x64x4 .f32) (R0 R1 R2 R3 : Vec Ideal S1x64 .f32) (q0 q1 q2 q3 k0 k1 k2 k3 w0 w1 w2 w3 o0 o1 o2 o3 : Vec Ideal S64x128 .f32) (A : Vec Ideal S1x4x64x64 .f32) (D : Vec Ideal S4x128x128 .f32) :
    k0_pay341 (F := Ideal) (k0_pay330 (F := Ideal) (k0_pay326 (F := Ideal) G)) (k0_pay331 (F := Ideal) (k0_pay326 (F := Ideal) G) (k0_pay327 (F := Ideal) R0) (k0_pay328 (F := Ideal) R1) R2 R3) (k0_pay332 (F := Ideal) (k0_pay327 (F := Ideal) R0) (k0_pay328 (F := Ideal) R1) R2 R3) (k0_pay333 (F := Ideal) q0 q1 q2 q3) (stack k0 k1 k2 k3) (stack w0 w1 w2 w3) (stack o0 o1 o2 o3) D A =
      nx (ep G) (em G R0 R1 R2 R3) (el R0 R1 R2 R3) (stack q0 q1 q2 q3) (stack k0 k1 k2 k3) (stack w0 w1 w2 w3) (stack o0 o1 o2 o3) D A := rfl

theorem da_0 (u0 u1 u2 u3 w0 w1 w2 w3 o0 o1 o2 o3 : Vec Ideal S64x128 .f32) (S : Vec Ideal S1x4x128x128 .f32) :
    k0_pay347 (F := Ideal) k0_pay3 (stack o0 o1 o2 o3) (k0_pay339 (F := Ideal) (stack u0 u1 u2 u3) (stack w0 w1 w2 w3) (shapeCast S4x128x128 S shapeCasts_S1x4x128x128_S4x128x128)) =
      dat (stack o0 o1 o2 o3) (ut (stack u0 u1 u2 u3) (stack w0 w1 w2 w3) S) := rfl

theorem da_1 (u0 u1 u2 u3 w0 w1 w2 w3 o0 o1 o2 o3 : Vec Ideal S64x128 .f32) (S : Vec Ideal S1x4x128x128 .f32) :
    k0_pay302 (F := Ideal) k0_pay3 (k0_pay291 (F := Ideal) o0 o1 o2 o3) (k0_pay293 (F := Ideal) (stack u0 u1 u2 u3) (stack w0 w1 w2 w3) S) =
      dat (stack o0 o1 o2 o3) (ut (stack u0 u1 u2 u3) (stack w0 w1 w2 w3) S) := rfl

theorem da_2 (u0 u1 u2 u3 w0 w1 w2 w3 o0 o1 o2 o3 : Vec Ideal S64x128 .f32) (S : Vec Ideal S1x4x128x128 .f32) :
    k0_pay253 (F := Ideal) (k0_pay252 (F := Ideal) k0_pay3 (k0_pay244 (F := Ideal) o0 o1 o2 o3) (k0_pay246 (F := Ideal) (stack u0 u1 u2 u3) w0 w1 w2 w3 S)) =
      dat (stack o0 o1 o2 o3) (ut (stack u0 u1 u2 u3) (stack w0 w1 w2 w3) S) := rfl

theorem da_3 (u0 u1 u2 u3 w0 w1 w2 w3 o0 o1 o2 o3 : Vec Ideal S64x128 .f32) (S : Vec Ideal S1x4x128x128 .f32) :
    k0_pay208 (F := Ideal) k0_pay3 (k0_pay198 (F := Ideal) o0 o1 o2 o3) (k0_pay200 (F := Ideal) (stack u0 u1 u2 u3) (stack w0 w1 w2 w3) S) =
      dat (stack o0 o1 o2 o3) (ut (stack u0 u1 u2 u3) (stack w0 w1 w2 w3) S) := rfl

theorem da_4 (u0 u1 u2 u3 w0 w1 w2 w3 o0 o1 o2 o3 : Vec Ideal S64x128 .f32) (S : Vec Ideal S1x4x128x128 .f32) :
    k0_pay166 (F := Ideal) k0_pay3 (k0_pay156 (F := Ideal) o0 o1 o2 o3) (k0_pay158 (F := Ideal) (stack u0 u1 u2 u3) (stack w0 w1 w2 w3) S) =
      dat (stack o0 o1 o2 o3) (ut (stack u0 u1 u2 u3) (stack w0 w1 w2 w3) S) := rfl

theorem da_5 (u0 u1 u2 u3 w0 w1 w2 w3 o0 o1 o2 o3 : Vec Ideal S64x128 .f32) (S : Vec Ideal S1x4x128x128 .f32) :
    k0_pay120 (F := Ideal) k0_pay3 (stack o0 o1 o2 o3) (k0_pay112 (F := Ideal) (stack u0 u1 u2 u3) (stack w0 w1 w2 w3) (shapeCast S4x128x128 S shapeCasts_S1x4x128x128_S4x128x128)) =
      dat (stack o0 o1 o2 o3) (ut (stack u0 u1 u2 u3) (stack w0 w1 w2 w3) S) := rfl

theorem da_6 (u0 u1 u2 u3 w0 w1 w2 w3 o0 o1 o2 o3 : Vec Ideal S64x128 .f32) (S : Vec Ideal S1x4x128x128 .f32) :
    k0_pay75 (F := Ideal) k0_pay3 (k0_pay64 (F := Ideal) o0 o1 o2 o3) (k0_pay66 (F := Ideal) (stack u0 u1 u2 u3) (stack w0 w1 w2 w3) S) =
      dat (stack o0 o1 o2 o3) (ut (stack u0 u1 u2 u3) (stack w0 w1 w2 w3) S) := rfl

theorem da_7 (u0 u1 u2 u3 w0 w1 w2 w3 o0 o1 o2 o3 : Vec Ideal S64x128 .f32) (S : Vec Ideal S1x4x128x128 .f32) :
    k0_pay26 (F := Ideal) (k0_pay25 (F := Ideal) k0_pay3 (k0_pay17 (F := Ideal) o0 o1 o2 o3) (k0_pay19 (F := Ideal) (stack u0 u1 u2 u3) w0 w1 w2 w3 S)) =
      dat (stack o0 o1 o2 o3) (ut (stack u0 u1 u2 u3) (stack w0 w1 w2 w3) S) := rfl

theorem dg_0 (R0 R1 R2 R3 : Vec Ideal S1x64 .f32) (S : Vec Ideal S1x4x128x128 .f32) (D : Vec Ideal S4x128x128 .f32) :
    k0_pay1 (F := Ideal) (k0_pay369 (F := Ideal) (iota .tc S4x64 32 [0] iota_S4x64_d0_w32) k0_pay4 (k0_pay348 (F := Ideal) (k0_pay332 (F := Ideal) (k0_pay327 (F := Ideal) R0) (k0_pay328 (F := Ideal) R1) R2 R3) (shapeCast S4x128x128 S shapeCasts_S1x4x128x128_S4x128x128) D) (k0_pay360 (F := Ideal) (iota .tc S4x64 32 [0] iota_S4x64_d0_w32) k0_pay4 (k0_pay348 (F := Ideal) (k0_pay332 (F := Ideal) (k0_pay327 (F := Ideal) R0) (k0_pay328 (F := Ideal) R1) R2 R3) (shapeCast S4x128x128 S shapeCasts_S1x4x128x128_S4x128x128) D) (k0_pay349 (F := Ideal)) (k0_pay354 (iota .tc S4x64 32 [0] iota_S4x64_d0_w32)) (FloatOps.ofBits (F := Ideal) .f32 0x00000000#32) (k0_pay355 (F := Ideal) (k0_pay332 (F := Ideal) (k0_pay327 (F := Ideal) R0) (k0_pay328 (F := Ideal) R1) R2 R3) (shapeCast S4x128x128 S shapeCasts_S1x4x128x128_S4x128x128) D))) =
      dgt (el R0 R1 R2 R3) S D := rfl

theorem dg_1 (R0 R1 R2 R3 : Vec Ideal S1x64 .f32) (S : Vec Ideal S1x4x128x128 .f32) (D : Vec Ideal S4x128x128 .f32) :
    k0_pay325 (F := Ideal) (iota .tc S4x64 32 [0] iota_S4x64_d0_w32) k0_pay4 (k0_pay303 (F := Ideal) (k0_pay286 (F := Ideal) R0 R1 R2 R3) (k0_pay292 (F := Ideal) S) D) (k0_pay320 (F := Ideal) (iota .tc S4x64 32 [0] iota_S4x64_d0_w32) k0_pay4 (k0_pay303 (F := Ideal) (k0_pay286 (F := Ideal) R0 R1 R2 R3) (k0_pay292 (F := Ideal) S) D) (k0_pay309 (F := Ideal) (iota .tc S4x64 32 [0] iota_S4x64_d0_w32) k0_pay4 (k0_pay303 (F := Ideal) (k0_pay286 (F := Ideal) R0 R1 R2 R3) (k0_pay292 (F := Ideal) S) D) (k0_pay304 (F := Ideal))) (k0_pay314 (iota .tc S4x64 32 [0] iota_S4x64_d0_w32)) (FloatOps.ofBits (F := Ideal) .f32 0x00000000#32) (k0_pay315 (F := Ideal) (k0_pay303 (F := Ideal) (k0_pay286 (F := Ideal) R0 R1 R2 R3) (k0_pay292 (F := Ideal) S) D))) =
      dgt (el R0 R1 R2 R3) S D := rfl

theorem dg_2 (R0 R1 R2 R3 : Vec Ideal S1x64 .f32) (S : Vec Ideal S1x4x128x128 .f32) (D : Vec Ideal S4x128x128 .f32) :
    k0_pay276 (F := Ideal) (iota .tc S4x64 32 [0] iota_S4x64_d0_w32) k0_pay4 (k0_pay254 (F := Ideal) (k0_pay239 (F := Ideal) (k0_pay233 (F := Ideal) R0) (k0_pay234 (F := Ideal) R1) (k0_pay235 (F := Ideal) R2) R3) (k0_pay245 (F := Ideal) S) D) (k0_pay265 (F := Ideal) (iota .tc S4x64 32 [0] iota_S4x64_d0_w32) k0_pay4 (k0_pay254 (F := Ideal) (k0_pay239 (F := Ideal) (k0_pay233 (F := Ideal) R0) (k0_pay234 (F := Ideal) R1) (k0_pay235 (F := Ideal) R2) R3) (k0_pay245 (F := Ideal) S) D) (k0_pay259 (F := Ideal) (iota .tc S4x64 32 [0] iota_S4x64_d0_w32) k0_pay4 (k0_pay239 (F := Ideal) (k0_pay233 (F := Ideal) R0) (k0_pay234 (F := Ideal) R1) (k0_pay235 (F := Ideal) R2) R3) (k0_pay245 (F := Ideal) S) D)) (k0_pay270 (iota .tc S4x64 32 [0] iota_S4x64_d0_w32)) (k0_pay271 (F := Ideal) (k0_pay254 (F := Ideal) (k0_pay239 (F := Ideal) (k0_pay233 (F := Ideal) R0) (k0_pay234 (F := Ideal) R1) (k0_pay235 (F := Ideal) R2) R3) (k0_pay245 (F := Ideal) S) D)) (FloatOps.ofBits (F := Ideal) .f32 0x00000000#32) =
      dgt (el R0 R1 R2 R3) S D := rfl

theorem dg_3 (R0 R1 R2 R3 : Vec Ideal S1x64 .f32) (S : Vec Ideal S1x4x128x128 .f32) (D : Vec Ideal S4x128x128 .f32) :
    k0_pay231 (F := Ideal) k0_pay4 (k0_pay224 (F := Ideal) (iota .tc S4x64 32 [0] iota_S4x64_d0_w32) k0_pay4 (k0_pay209 (F := Ideal) (k0_pay193 (F := Ideal) R0 R1 R2 R3) (k0_pay199 (F := Ideal) S) D) (k0_pay219 (F := Ideal) (iota .tc S4x64 32 [0] iota_S4x64_d0_w32) k0_pay4 (k0_pay209 (F := Ideal) (k0_pay193 (F := Ideal) R0 R1 R2 R3) (k0_pay199 (F := Ideal) S) D) (k0_pay210 (F := Ideal)))) (k0_pay229 (iota .tc S4x64 32 [0] iota_S4x64_d0_w32)) (k0_pay230 (F := Ideal) (k0_pay209 (F := Ideal) (k0_pay193 (F := Ideal) R0 R1 R2 R3) (k0_pay199 (F := Ideal) S) D)) =
      dgt (el R0 R1 R2 R3) S D := rfl

theorem dg_4 (R0 R1 R2 R3 : Vec Ideal S1x64 .f32) (S : Vec Ideal S1x4x128x128 .f32) (D : Vec Ideal S4x128x128 .f32) :
    k0_pay188 (F := Ideal) (iota .tc S4x64 32 [0] iota_S4x64_d0_w32) k0_pay4 (k0_pay168 (F := Ideal) (k0_pay148 (F := Ideal) (k0_pay145 (F := Ideal) R0 R1 R2 R3)) (k0_pay167 (F := Ideal) (k0_pay157 (F := Ideal) S) D)) (k0_pay183 (F := Ideal) (iota .tc S4x64 32 [0] iota_S4x64_d0_w32) k0_pay4 (k0_pay168 (F := Ideal) (k0_pay148 (F := Ideal) (k0_pay145 (F := Ideal) R0 R1 R2 R3)) (k0_pay167 (F := Ideal) (k0_pay157 (F := Ideal) S) D)) (k0_pay173 (F := Ideal) (iota .tc S4x64 32 [0] iota_S4x64_d0_w32) k0_pay4 (k0_pay148 (F := Ideal) (k0_pay145 (F := Ideal) R0 R1 R2 R3)) (k0_pay167 (F := Ideal) (k0_pay157 (F := Ideal) S) D))) =
      dgt (el R0 R1 R2 R3) S D := rfl

theorem dg_5 (R0 R1 R2 R3 : Vec Ideal S1x64 .f32) (S : Vec Ideal S1x4x128x128 .f32) (D : Vec Ideal S4x128x128 .f32) :
    k0_pay143 (F := Ideal) (k0_pay142 (F := Ideal) (iota .tc S4x64 32 [0] iota_S4x64_d0_w32) k0_pay4 (k0_pay121 (F := Ideal) (k0_pay105 (F := Ideal) (k0_pay100 (F := Ideal) R0) (k0_pay101 (F := Ideal) R1) R2 R3) (shapeCast S4x128x128 S shapeCasts_S1x4x128x128_S4x128x128) D) (k0_pay133 (F := Ideal) (iota .tc S4x64 32 [0] iota_S4x64_d0_w32) k0_pay4 (k0_pay121 (F := Ideal) (k0_pay105 (F := Ideal) (k0_pay100 (F := Ideal) R0) (k0_pay101 (F := Ideal) R1) R2 R3) (shapeCast S4x128x128 S shapeCasts_S1x4x128x128_S4x128x128) D) (k0_pay122 (F := Ideal)) (k0_pay127 (iota .tc S4x64 32 [0] iota_S4x64_d0_w32)) (FloatOps.ofBits (F := Ideal) .f32 0x00000000#32) (k0_pay128 (F := Ideal) (k0_pay105 (F := Ideal) (k0_pay100 (F := Ideal) R0) (k0_pay101 (F := Ideal) R1) R2 R3) (shapeCast S4x128x128 S shapeCasts_S1x4x128x128_S4x128x128) D))) =
      dgt (el R0 R1 R2 R3) S D := rfl

theorem dg_6 (R0 R1 R2 R3 : Vec Ideal S1x64 .f32) (S : Vec Ideal S1x4x128x128 .f32) (D : Vec Ideal S4x128x128 .f32) :
    k0_pay98 (F := Ideal) (iota .tc S4x64 32 [0] iota_S4x64_d0_w32) k0_pay4 (k0_pay76 (F := Ideal) (k0_pay59 (F := Ideal) R0 R1 R2 R3) (k0_pay65 (F := Ideal) S) D) (k0_pay93 (F := Ideal) (iota .tc S4x64 32 [0] iota_S4x64_d0_w32) k0_pay4 (k0_pay76 (F := Ideal) (k0_pay59 (F := Ideal) R0 R1 R2 R3) (k0_pay65 (F := Ideal) S) D) (k0_pay82 (F := Ideal) (iota .tc S4x64 32 [0] iota_S4x64_d0_w32) k0_pay4 (k0_pay76 (F := Ideal) (k0_pay59 (F := Ideal) R0 R1 R2 R3) (k0_pay65 (F := Ideal) S) D) (k0_pay77 (F := Ideal))) (k0_pay87 (iota .tc S4x64 32 [0] iota_S4x64_d0_w32)) (FloatOps.ofBits (F := Ideal) .f32 0x00000000#32) (k0_pay88 (F := Ideal) (k0_pay76 (F := Ideal) (k0_pay59 (F := Ideal) R0 R1 R2 R3) (k0_pay65 (F := Ideal) S) D))) =
      dgt (el R0 R1 R2 R3) S D := rfl

theorem dg_7 (R0 R1 R2 R3 : Vec Ideal S1x64 .f32) (S : Vec Ideal S1x4x128x128 .f32) (D : Vec Ideal S4x128x128 .f32) :
    k0_pay49 (F := Ideal) (iota .tc S4x64 32 [0] iota_S4x64_d0_w32) k0_pay4 (k0_pay27 (F := Ideal) (k0_pay12 (F := Ideal) (k0_pay6 (F := Ideal) R0) (k0_pay7 (F := Ideal) R1) (k0_pay8 (F := Ideal) R2) R3) (k0_pay18 (F := Ideal) S) D) (k0_pay38 (F := Ideal) (iota .tc S4x64 32 [0] iota_S4x64_d0_w32) k0_pay4 (k0_pay27 (F := Ideal) (k0_pay12 (F := Ideal) (k0_pay6 (F := Ideal) R0) (k0_pay7 (F := Ideal) R1) (k0_pay8 (F := Ideal) R2) R3) (k0_pay18 (F := Ideal) S) D) (k0_pay32 (F := Ideal) (iota .tc S4x64 32 [0] iota_S4x64_d0_w32) k0_pay4 (k0_pay12 (F := Ideal) (k0_pay6 (F := Ideal) R0) (k0_pay7 (F := Ideal) R1) (k0_pay8 (F := Ideal) R2) R3) (k0_pay18 (F := Ideal) S) D)) (k0_pay43 (iota .tc S4x64 32 [0] iota_S4x64_d0_w32)) (k0_pay44 (F := Ideal) (k0_pay27 (F := Ideal) (k0_pay12 (F := Ideal) (k0_pay6 (F := Ideal) R0) (k0_pay7 (F := Ideal) R1) (k0_pay8 (F := Ideal) R2) R3) (k0_pay18 (F := Ideal) S) D)) (FloatOps.ofBits (F := Ideal) .f32 0x00000000#32) =
      dgt (el R0 R1 R2 R3) S D := rfl

end Cert.KernelIdeal.Scan
-- ==== Proof.ScanFormsB.lean ====
module

public import proofs.«01_k».proof.Proof.ScanChunk

open Idealize Idealize.ShloMosaic Cert.KernelIdeal.Gen

/-!
Each chunk as printed is the arithmetic named in `ScanChunk`.
-/

set_option maxRecDepth 16384

@[expose] public section

namespace Cert.KernelIdeal.Scan

theorem du_0_3 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay365 (F := Ideal) (k0_pay340 (F := Ideal) (k0_pay331 (F := Ideal) (k0_pay326 (F := Ideal) G) (k0_pay327 (F := Ideal) R0) (k0_pay328 (F := Ideal) R1) R2 R3) (stack k0 k1 k2 k3) (stack o0 o1 o2 o3) D A) =
      head3 (dut (em G R0 R1 R2 R3) (stack k0 k1 k2 k3) (stack o0 o1 o2 o3) D A) := rfl

theorem du_0_2 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay361 (F := Ideal) (k0_pay340 (F := Ideal) (k0_pay331 (F := Ideal) (k0_pay326 (F := Ideal) G) (k0_pay327 (F := Ideal) R0) (k0_pay328 (F := Ideal) R1) R2 R3) (stack k0 k1 k2 k3) (stack o0 o1 o2 o3) D A) =
      head2 (dut (em G R0 R1 R2 R3) (stack k0 k1 k2 k3) (stack o0 o1 o2 o3) D A) := rfl

theorem du_0_1 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay356 (F := Ideal) (k0_pay340 (F := Ideal) (k0_pay331 (F := Ideal) (k0_pay326 (F := Ideal) G) (k0_pay327 (F := Ideal) R0) (k0_pay328 (F := Ideal) R1) R2 R3) (stack k0 k1 k2 k3) (stack o0 o1 o2 o3) D A) =
      head1 (dut (em G R0 R1 R2 R3) (stack k0 k1 k2 k3) (stack o0 o1 o2 o3) D A) := rfl

theorem du_0_0 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay350 (F := Ideal) (k0_pay340 (F := Ideal) (k0_pay331 (F := Ideal) (k0_pay326 (F := Ideal) G) (k0_pay327 (F := Ideal) R0) (k0_pay328 (F := Ideal) R1) R2 R3) (stack k0 k1 k2 k3) (stack o0 o1 o2 o3) D A) =
      head0 (dut (em G R0 R1 R2 R3) (stack k0 k1 k2 k3) (stack o0 o1 o2 o3) D A) := rfl

theorem du_1_3 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay321 (F := Ideal) (k0_pay294 (F := Ideal) (k0_pay285 (F := Ideal) (k0_pay278 (F := Ideal) G) (k0_pay279 (F := Ideal) G) (k0_pay280 (F := Ideal) G) (k0_pay281 (F := Ideal) G) R0 R1 R2 R3) (stack k0 k1 k2 k3) o0 o1 o2 o3 D A) =
      head3 (dut (em G R0 R1 R2 R3) (stack k0 k1 k2 k3) (stack o0 o1 o2 o3) D A) := rfl

theorem du_1_2 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay316 (F := Ideal) (k0_pay294 (F := Ideal) (k0_pay285 (F := Ideal) (k0_pay278 (F := Ideal) G) (k0_pay279 (F := Ideal) G) (k0_pay280 (F := Ideal) G) (k0_pay281 (F := Ideal) G) R0 R1 R2 R3) (stack k0 k1 k2 k3) o0 o1 o2 o3 D A) =
      head2 (dut (em G R0 R1 R2 R3) (stack k0 k1 k2 k3) (stack o0 o1 o2 o3) D A) := rfl

theorem du_1_1 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay310 (F := Ideal) (k0_pay294 (F := Ideal) (k0_pay285 (F := Ideal) (k0_pay278 (F := Ideal) G) (k0_pay279 (F := Ideal) G) (k0_pay280 (F := Ideal) G) (k0_pay281 (F := Ideal) G) R0 R1 R2 R3) (stack k0 k1 k2 k3) o0 o1 o2 o3 D A) =
      head1 (dut (em G R0 R1 R2 R3) (stack k0 k1 k2 k3) (stack o0 o1 o2 o3) D A) := rfl

theorem du_1_0 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay305 (F := Ideal) (k0_pay294 (F := Ideal) (k0_pay285 (F := Ideal) (k0_pay278 (F := Ideal) G) (k0_pay279 (F := Ideal) G) (k0_pay280 (F := Ideal) G) (k0_pay281 (F := Ideal) G) R0 R1 R2 R3) (stack k0 k1 k2 k3) o0 o1 o2 o3 D A) =
      head0 (dut (em G R0 R1 R2 R3) (stack k0 k1 k2 k3) (stack o0 o1 o2 o3) D A) := rfl

theorem du_2_3 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay272 (F := Ideal) (k0_pay247 (F := Ideal) (k0_pay238 (F := Ideal) (k0_pay232 (F := Ideal) G) (k0_pay233 (F := Ideal) R0) (k0_pay234 (F := Ideal) R1) (k0_pay235 (F := Ideal) R2) R3) (stack k0 k1 k2 k3) (k0_pay244 (F := Ideal) o0 o1 o2 o3) D A) =
      head3 (dut (em G R0 R1 R2 R3) (stack k0 k1 k2 k3) (stack o0 o1 o2 o3) D A) := rfl

theorem du_2_2 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay266 (F := Ideal) (k0_pay247 (F := Ideal) (k0_pay238 (F := Ideal) (k0_pay232 (F := Ideal) G) (k0_pay233 (F := Ideal) R0) (k0_pay234 (F := Ideal) R1) (k0_pay235 (F := Ideal) R2) R3) (stack k0 k1 k2 k3) (k0_pay244 (F := Ideal) o0 o1 o2 o3) D A) =
      head2 (dut (em G R0 R1 R2 R3) (stack k0 k1 k2 k3) (stack o0 o1 o2 o3) D A) := rfl

theorem du_2_1 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay260 (F := Ideal) (k0_pay247 (F := Ideal) (k0_pay238 (F := Ideal) (k0_pay232 (F := Ideal) G) (k0_pay233 (F := Ideal) R0) (k0_pay234 (F := Ideal) R1) (k0_pay235 (F := Ideal) R2) R3) (stack k0 k1 k2 k3) (k0_pay244 (F := Ideal) o0 o1 o2 o3) D A) =
      head1 (dut (em G R0 R1 R2 R3) (stack k0 k1 k2 k3) (stack o0 o1 o2 o3) D A) := rfl

theorem du_2_0 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay255 (F := Ideal) (k0_pay247 (F := Ideal) (k0_pay238 (F := Ideal) (k0_pay232 (F := Ideal) G) (k0_pay233 (F := Ideal) R0) (k0_pay234 (F := Ideal) R1) (k0_pay235 (F := Ideal) R2) R3) (stack k0 k1 k2 k3) (k0_pay244 (F := Ideal) o0 o1 o2 o3) D A) =
      head0 (dut (em G R0 R1 R2 R3) (stack k0 k1 k2 k3) (stack o0 o1 o2 o3) D A) := rfl

theorem du_3_3 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay225 (F := Ideal) (k0_pay201 (F := Ideal) (k0_pay192 (F := Ideal) (k0_pay189 (F := Ideal) G) R0 R1 R2 R3) (stack k0 k1 k2 k3) o0 o1 o2 o3 D A) =
      head3 (dut (em G R0 R1 R2 R3) (stack k0 k1 k2 k3) (stack o0 o1 o2 o3) D A) := rfl

theorem du_3_2 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay220 (F := Ideal) (k0_pay201 (F := Ideal) (k0_pay192 (F := Ideal) (k0_pay189 (F := Ideal) G) R0 R1 R2 R3) (stack k0 k1 k2 k3) o0 o1 o2 o3 D A) =
      head2 (dut (em G R0 R1 R2 R3) (stack k0 k1 k2 k3) (stack o0 o1 o2 o3) D A) := rfl

theorem du_3_1 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay215 (F := Ideal) (k0_pay201 (F := Ideal) (k0_pay192 (F := Ideal) (k0_pay189 (F := Ideal) G) R0 R1 R2 R3) (stack k0 k1 k2 k3) o0 o1 o2 o3 D A) =
      head1 (dut (em G R0 R1 R2 R3) (stack k0 k1 k2 k3) (stack o0 o1 o2 o3) D A) := rfl

theorem du_3_0 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay211 (F := Ideal) (k0_pay201 (F := Ideal) (k0_pay192 (F := Ideal) (k0_pay189 (F := Ideal) G) R0 R1 R2 R3) (stack k0 k1 k2 k3) o0 o1 o2 o3 D A) =
      head0 (dut (em G R0 R1 R2 R3) (stack k0 k1 k2 k3) (stack o0 o1 o2 o3) D A) := rfl

theorem du_4_3 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay184 (F := Ideal) (k0_pay161 (F := Ideal) (k0_pay159 (F := Ideal) o0 o1 o2 o3 A) (k0_pay160 (F := Ideal) (k0_pay147 (F := Ideal) (k0_pay144 (F := Ideal) G) (k0_pay145 (F := Ideal) R0 R1 R2 R3)) (mixed (k0_pay150 (F := Ideal) k0) (k0_pay151 (F := Ideal) k1) (k0_pay152 (F := Ideal) k2) k3) D)) =
      head3 (dut (em G R0 R1 R2 R3) (stack k0 k1 k2 k3) (stack o0 o1 o2 o3) D A) := rfl

theorem du_4_2 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay179 (F := Ideal) (k0_pay161 (F := Ideal) (k0_pay159 (F := Ideal) o0 o1 o2 o3 A) (k0_pay160 (F := Ideal) (k0_pay147 (F := Ideal) (k0_pay144 (F := Ideal) G) (k0_pay145 (F := Ideal) R0 R1 R2 R3)) (mixed (k0_pay150 (F := Ideal) k0) (k0_pay151 (F := Ideal) k1) (k0_pay152 (F := Ideal) k2) k3) D)) =
      head2 (dut (em G R0 R1 R2 R3) (stack k0 k1 k2 k3) (stack o0 o1 o2 o3) D A) := rfl

theorem du_4_1 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay174 (F := Ideal) (k0_pay161 (F := Ideal) (k0_pay159 (F := Ideal) o0 o1 o2 o3 A) (k0_pay160 (F := Ideal) (k0_pay147 (F := Ideal) (k0_pay144 (F := Ideal) G) (k0_pay145 (F := Ideal) R0 R1 R2 R3)) (mixed (k0_pay150 (F := Ideal) k0) (k0_pay151 (F := Ideal) k1) (k0_pay152 (F := Ideal) k2) k3) D)) =
      head1 (dut (em G R0 R1 R2 R3) (stack k0 k1 k2 k3) (stack o0 o1 o2 o3) D A) := rfl

theorem du_4_0 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay169 (F := Ideal) (k0_pay161 (F := Ideal) (k0_pay159 (F := Ideal) o0 o1 o2 o3 A) (k0_pay160 (F := Ideal) (k0_pay147 (F := Ideal) (k0_pay144 (F := Ideal) G) (k0_pay145 (F := Ideal) R0 R1 R2 R3)) (mixed (k0_pay150 (F := Ideal) k0) (k0_pay151 (F := Ideal) k1) (k0_pay152 (F := Ideal) k2) k3) D)) =
      head0 (dut (em G R0 R1 R2 R3) (stack k0 k1 k2 k3) (stack o0 o1 o2 o3) D A) := rfl

theorem du_5_3 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay138 (F := Ideal) (k0_pay113 (F := Ideal) (k0_pay104 (F := Ideal) (k0_pay99 (F := Ideal) G) (k0_pay100 (F := Ideal) R0) (k0_pay101 (F := Ideal) R1) R2 R3) (stack k0 k1 k2 k3) (stack o0 o1 o2 o3) D A) =
      head3 (dut (em G R0 R1 R2 R3) (stack k0 k1 k2 k3) (stack o0 o1 o2 o3) D A) := rfl

theorem du_5_2 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay134 (F := Ideal) (k0_pay113 (F := Ideal) (k0_pay104 (F := Ideal) (k0_pay99 (F := Ideal) G) (k0_pay100 (F := Ideal) R0) (k0_pay101 (F := Ideal) R1) R2 R3) (stack k0 k1 k2 k3) (stack o0 o1 o2 o3) D A) =
      head2 (dut (em G R0 R1 R2 R3) (stack k0 k1 k2 k3) (stack o0 o1 o2 o3) D A) := rfl

theorem du_5_1 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay129 (F := Ideal) (k0_pay113 (F := Ideal) (k0_pay104 (F := Ideal) (k0_pay99 (F := Ideal) G) (k0_pay100 (F := Ideal) R0) (k0_pay101 (F := Ideal) R1) R2 R3) (stack k0 k1 k2 k3) (stack o0 o1 o2 o3) D A) =
      head1 (dut (em G R0 R1 R2 R3) (stack k0 k1 k2 k3) (stack o0 o1 o2 o3) D A) := rfl

theorem du_5_0 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay123 (F := Ideal) (k0_pay113 (F := Ideal) (k0_pay104 (F := Ideal) (k0_pay99 (F := Ideal) G) (k0_pay100 (F := Ideal) R0) (k0_pay101 (F := Ideal) R1) R2 R3) (stack k0 k1 k2 k3) (stack o0 o1 o2 o3) D A) =
      head0 (dut (em G R0 R1 R2 R3) (stack k0 k1 k2 k3) (stack o0 o1 o2 o3) D A) := rfl

theorem du_6_3 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay94 (F := Ideal) (k0_pay67 (F := Ideal) (k0_pay58 (F := Ideal) (k0_pay51 (F := Ideal) G) (k0_pay52 (F := Ideal) G) (k0_pay53 (F := Ideal) G) (k0_pay54 (F := Ideal) G) R0 R1 R2 R3) (stack k0 k1 k2 k3) o0 o1 o2 o3 D A) =
      head3 (dut (em G R0 R1 R2 R3) (stack k0 k1 k2 k3) (stack o0 o1 o2 o3) D A) := rfl

theorem du_6_2 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay89 (F := Ideal) (k0_pay67 (F := Ideal) (k0_pay58 (F := Ideal) (k0_pay51 (F := Ideal) G) (k0_pay52 (F := Ideal) G) (k0_pay53 (F := Ideal) G) (k0_pay54 (F := Ideal) G) R0 R1 R2 R3) (stack k0 k1 k2 k3) o0 o1 o2 o3 D A) =
      head2 (dut (em G R0 R1 R2 R3) (stack k0 k1 k2 k3) (stack o0 o1 o2 o3) D A) := rfl

theorem du_6_1 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay83 (F := Ideal) (k0_pay67 (F := Ideal) (k0_pay58 (F := Ideal) (k0_pay51 (F := Ideal) G) (k0_pay52 (F := Ideal) G) (k0_pay53 (F := Ideal) G) (k0_pay54 (F := Ideal) G) R0 R1 R2 R3) (stack k0 k1 k2 k3) o0 o1 o2 o3 D A) =
      head1 (dut (em G R0 R1 R2 R3) (stack k0 k1 k2 k3) (stack o0 o1 o2 o3) D A) := rfl

theorem du_6_0 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay78 (F := Ideal) (k0_pay67 (F := Ideal) (k0_pay58 (F := Ideal) (k0_pay51 (F := Ideal) G) (k0_pay52 (F := Ideal) G) (k0_pay53 (F := Ideal) G) (k0_pay54 (F := Ideal) G) R0 R1 R2 R3) (stack k0 k1 k2 k3) o0 o1 o2 o3 D A) =
      head0 (dut (em G R0 R1 R2 R3) (stack k0 k1 k2 k3) (stack o0 o1 o2 o3) D A) := rfl

theorem du_7_3 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay45 (F := Ideal) (k0_pay20 (F := Ideal) (k0_pay11 (F := Ideal) (k0_pay5 (F := Ideal) G) (k0_pay6 (F := Ideal) R0) (k0_pay7 (F := Ideal) R1) (k0_pay8 (F := Ideal) R2) R3) (stack k0 k1 k2 k3) (k0_pay17 (F := Ideal) o0 o1 o2 o3) D A) =
      head3 (dut (em G R0 R1 R2 R3) (stack k0 k1 k2 k3) (stack o0 o1 o2 o3) D A) := rfl

theorem du_7_2 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay39 (F := Ideal) (k0_pay20 (F := Ideal) (k0_pay11 (F := Ideal) (k0_pay5 (F := Ideal) G) (k0_pay6 (F := Ideal) R0) (k0_pay7 (F := Ideal) R1) (k0_pay8 (F := Ideal) R2) R3) (stack k0 k1 k2 k3) (k0_pay17 (F := Ideal) o0 o1 o2 o3) D A) =
      head2 (dut (em G R0 R1 R2 R3) (stack k0 k1 k2 k3) (stack o0 o1 o2 o3) D A) := rfl

theorem du_7_1 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay33 (F := Ideal) (k0_pay20 (F := Ideal) (k0_pay11 (F := Ideal) (k0_pay5 (F := Ideal) G) (k0_pay6 (F := Ideal) R0) (k0_pay7 (F := Ideal) R1) (k0_pay8 (F := Ideal) R2) R3) (stack k0 k1 k2 k3) (k0_pay17 (F := Ideal) o0 o1 o2 o3) D A) =
      head1 (dut (em G R0 R1 R2 R3) (stack k0 k1 k2 k3) (stack o0 o1 o2 o3) D A) := rfl

theorem du_7_0 (G : Vec Ideal S1x64x4 .f32) (R0 R1 R2 R3 : Vec Ideal S1x64 .f32) (k0 k1 k2 k3 o0 o1 o2 o3 : Vec Ideal S64x128 .f32) (A : Vec Ideal S1x4x64x64 .f32) (D : Vec Ideal S4x128x128 .f32) :
    k0_pay28 (F := Ideal) (k0_pay20 (F := Ideal) (k0_pay11 (F := Ideal) (k0_pay5 (F := Ideal) G) (k0_pay6 (F := Ideal) R0) (k0_pay7 (F := Ideal) R1) (k0_pay8 (F := Ideal) R2) R3) (stack k0 k1 k2 k3) (k0_pay17 (F := Ideal) o0 o1 o2 o3) D A) =
      head0 (dut (em G R0 R1 R2 R3) (stack k0 k1 k2 k3) (stack o0 o1 o2 o3) D A) := rfl

theorem dw_0_3 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay366 (F := Ideal) (k0_pay342 (F := Ideal) (k0_pay331 (F := Ideal) (k0_pay326 (F := Ideal) G) (k0_pay327 (F := Ideal) R0) (k0_pay328 (F := Ideal) R1) R2 R3) (stack k0 k1 k2 k3) (stack o0 o1 o2 o3) (shapeCast S4x128x128 S shapeCasts_S1x4x128x128_S4x128x128) D A) =
      head3 (dwt (em G R0 R1 R2 R3) (stack k0 k1 k2 k3) (stack o0 o1 o2 o3) S D A) := rfl

theorem dw_0_2 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay362 (F := Ideal) (k0_pay342 (F := Ideal) (k0_pay331 (F := Ideal) (k0_pay326 (F := Ideal) G) (k0_pay327 (F := Ideal) R0) (k0_pay328 (F := Ideal) R1) R2 R3) (stack k0 k1 k2 k3) (stack o0 o1 o2 o3) (shapeCast S4x128x128 S shapeCasts_S1x4x128x128_S4x128x128) D A) =
      head2 (dwt (em G R0 R1 R2 R3) (stack k0 k1 k2 k3) (stack o0 o1 o2 o3) S D A) := rfl

theorem dw_0_1 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay357 (F := Ideal) (k0_pay342 (F := Ideal) (k0_pay331 (F := Ideal) (k0_pay326 (F := Ideal) G) (k0_pay327 (F := Ideal) R0) (k0_pay328 (F := Ideal) R1) R2 R3) (stack k0 k1 k2 k3) (stack o0 o1 o2 o3) (shapeCast S4x128x128 S shapeCasts_S1x4x128x128_S4x128x128) D A) =
      head1 (dwt (em G R0 R1 R2 R3) (stack k0 k1 k2 k3) (stack o0 o1 o2 o3) S D A) := rfl

theorem dw_0_0 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay351 (F := Ideal) (k0_pay342 (F := Ideal) (k0_pay331 (F := Ideal) (k0_pay326 (F := Ideal) G) (k0_pay327 (F := Ideal) R0) (k0_pay328 (F := Ideal) R1) R2 R3) (stack k0 k1 k2 k3) (stack o0 o1 o2 o3) (shapeCast S4x128x128 S shapeCasts_S1x4x128x128_S4x128x128) D A) =
      head0 (dwt (em G R0 R1 R2 R3) (stack k0 k1 k2 k3) (stack o0 o1 o2 o3) S D A) := rfl

theorem dw_1_3 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay322 (F := Ideal) (k0_pay299 (F := Ideal) (k0_pay292 (F := Ideal) S) (k0_pay294 (F := Ideal) (k0_pay285 (F := Ideal) (k0_pay278 (F := Ideal) G) (k0_pay279 (F := Ideal) G) (k0_pay280 (F := Ideal) G) (k0_pay281 (F := Ideal) G) R0 R1 R2 R3) (stack k0 k1 k2 k3) o0 o1 o2 o3 D A)) =
      head3 (dwt (em G R0 R1 R2 R3) (stack k0 k1 k2 k3) (stack o0 o1 o2 o3) S D A) := rfl

theorem dw_1_2 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay317 (F := Ideal) (k0_pay299 (F := Ideal) (k0_pay292 (F := Ideal) S) (k0_pay294 (F := Ideal) (k0_pay285 (F := Ideal) (k0_pay278 (F := Ideal) G) (k0_pay279 (F := Ideal) G) (k0_pay280 (F := Ideal) G) (k0_pay281 (F := Ideal) G) R0 R1 R2 R3) (stack k0 k1 k2 k3) o0 o1 o2 o3 D A)) =
      head2 (dwt (em G R0 R1 R2 R3) (stack k0 k1 k2 k3) (stack o0 o1 o2 o3) S D A) := rfl

theorem dw_1_1 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay311 (F := Ideal) (k0_pay299 (F := Ideal) (k0_pay292 (F := Ideal) S) (k0_pay294 (F := Ideal) (k0_pay285 (F := Ideal) (k0_pay278 (F := Ideal) G) (k0_pay279 (F := Ideal) G) (k0_pay280 (F := Ideal) G) (k0_pay281 (F := Ideal) G) R0 R1 R2 R3) (stack k0 k1 k2 k3) o0 o1 o2 o3 D A)) =
      head1 (dwt (em G R0 R1 R2 R3) (stack k0 k1 k2 k3) (stack o0 o1 o2 o3) S D A) := rfl

theorem dw_1_0 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay306 (F := Ideal) (k0_pay292 (F := Ideal) S) (k0_pay294 (F := Ideal) (k0_pay285 (F := Ideal) (k0_pay278 (F := Ideal) G) (k0_pay279 (F := Ideal) G) (k0_pay280 (F := Ideal) G) (k0_pay281 (F := Ideal) G) R0 R1 R2 R3) (stack k0 k1 k2 k3) o0 o1 o2 o3 D A) =
      head0 (dwt (em G R0 R1 R2 R3) (stack k0 k1 k2 k3) (stack o0 o1 o2 o3) S D A) := rfl

theorem dw_2_3 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay273 (F := Ideal) (k0_pay249 (F := Ideal) (k0_pay238 (F := Ideal) (k0_pay232 (F := Ideal) G) (k0_pay233 (F := Ideal) R0) (k0_pay234 (F := Ideal) R1) (k0_pay235 (F := Ideal) R2) R3) (stack k0 k1 k2 k3) (k0_pay244 (F := Ideal) o0 o1 o2 o3) (k0_pay245 (F := Ideal) S) D A) =
      head3 (dwt (em G R0 R1 R2 R3) (stack k0 k1 k2 k3) (stack o0 o1 o2 o3) S D A) := rfl

theorem dw_2_2 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay267 (F := Ideal) (k0_pay249 (F := Ideal) (k0_pay238 (F := Ideal) (k0_pay232 (F := Ideal) G) (k0_pay233 (F := Ideal) R0) (k0_pay234 (F := Ideal) R1) (k0_pay235 (F := Ideal) R2) R3) (stack k0 k1 k2 k3) (k0_pay244 (F := Ideal) o0 o1 o2 o3) (k0_pay245 (F := Ideal) S) D A) =
      head2 (dwt (em G R0 R1 R2 R3) (stack k0 k1 k2 k3) (stack o0 o1 o2 o3) S D A) := rfl

theorem dw_2_1 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay262 (F := Ideal) (k0_pay261 (F := Ideal) (k0_pay249 (F := Ideal) (k0_pay238 (F := Ideal) (k0_pay232 (F := Ideal) G) (k0_pay233 (F := Ideal) R0) (k0_pay234 (F := Ideal) R1) (k0_pay235 (F := Ideal) R2) R3) (stack k0 k1 k2 k3) (k0_pay244 (F := Ideal) o0 o1 o2 o3) (k0_pay245 (F := Ideal) S) D A)) =
      head1 (dwt (em G R0 R1 R2 R3) (stack k0 k1 k2 k3) (stack o0 o1 o2 o3) S D A) := rfl

theorem dw_2_0 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay256 (F := Ideal) (k0_pay249 (F := Ideal) (k0_pay238 (F := Ideal) (k0_pay232 (F := Ideal) G) (k0_pay233 (F := Ideal) R0) (k0_pay234 (F := Ideal) R1) (k0_pay235 (F := Ideal) R2) R3) (stack k0 k1 k2 k3) (k0_pay244 (F := Ideal) o0 o1 o2 o3) (k0_pay245 (F := Ideal) S) D A) =
      head0 (dwt (em G R0 R1 R2 R3) (stack k0 k1 k2 k3) (stack o0 o1 o2 o3) S D A) := rfl

theorem dw_3_3 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay226 (F := Ideal) (k0_pay205 (F := Ideal) (k0_pay203 (F := Ideal) (k0_pay192 (F := Ideal) (k0_pay189 (F := Ideal) G) R0 R1 R2 R3) (stack k0 k1 k2 k3) o0 o1 o2 o3 D A) (k0_pay204 (F := Ideal) S)) =
      head3 (dwt (em G R0 R1 R2 R3) (stack k0 k1 k2 k3) (stack o0 o1 o2 o3) S D A) := rfl

theorem dw_3_2 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay221 (F := Ideal) (k0_pay205 (F := Ideal) (k0_pay203 (F := Ideal) (k0_pay192 (F := Ideal) (k0_pay189 (F := Ideal) G) R0 R1 R2 R3) (stack k0 k1 k2 k3) o0 o1 o2 o3 D A) (k0_pay204 (F := Ideal) S)) =
      head2 (dwt (em G R0 R1 R2 R3) (stack k0 k1 k2 k3) (stack o0 o1 o2 o3) S D A) := rfl

theorem dw_3_1 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay216 (F := Ideal) (k0_pay205 (F := Ideal) (k0_pay203 (F := Ideal) (k0_pay192 (F := Ideal) (k0_pay189 (F := Ideal) G) R0 R1 R2 R3) (stack k0 k1 k2 k3) o0 o1 o2 o3 D A) (k0_pay204 (F := Ideal) S)) =
      head1 (dwt (em G R0 R1 R2 R3) (stack k0 k1 k2 k3) (stack o0 o1 o2 o3) S D A) := rfl

theorem dw_3_0 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay212 (F := Ideal) (k0_pay203 (F := Ideal) (k0_pay192 (F := Ideal) (k0_pay189 (F := Ideal) G) R0 R1 R2 R3) (stack k0 k1 k2 k3) o0 o1 o2 o3 D A) (k0_pay204 (F := Ideal) S) =
      head0 (dwt (em G R0 R1 R2 R3) (stack k0 k1 k2 k3) (stack o0 o1 o2 o3) S D A) := rfl

theorem dw_4_3 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay185 (F := Ideal) (k0_pay163 (F := Ideal) (k0_pay157 (F := Ideal) S) (k0_pay159 (F := Ideal) o0 o1 o2 o3 A) (k0_pay160 (F := Ideal) (k0_pay147 (F := Ideal) (k0_pay144 (F := Ideal) G) (k0_pay145 (F := Ideal) R0 R1 R2 R3)) (mixed (k0_pay150 (F := Ideal) k0) (k0_pay151 (F := Ideal) k1) (k0_pay152 (F := Ideal) k2) k3) D)) =
      head3 (dwt (em G R0 R1 R2 R3) (stack k0 k1 k2 k3) (stack o0 o1 o2 o3) S D A) := rfl

theorem dw_4_2 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay180 (F := Ideal) (k0_pay163 (F := Ideal) (k0_pay157 (F := Ideal) S) (k0_pay159 (F := Ideal) o0 o1 o2 o3 A) (k0_pay160 (F := Ideal) (k0_pay147 (F := Ideal) (k0_pay144 (F := Ideal) G) (k0_pay145 (F := Ideal) R0 R1 R2 R3)) (mixed (k0_pay150 (F := Ideal) k0) (k0_pay151 (F := Ideal) k1) (k0_pay152 (F := Ideal) k2) k3) D)) =
      head2 (dwt (em G R0 R1 R2 R3) (stack k0 k1 k2 k3) (stack o0 o1 o2 o3) S D A) := rfl

theorem dw_4_1 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay175 (F := Ideal) (k0_pay163 (F := Ideal) (k0_pay157 (F := Ideal) S) (k0_pay159 (F := Ideal) o0 o1 o2 o3 A) (k0_pay160 (F := Ideal) (k0_pay147 (F := Ideal) (k0_pay144 (F := Ideal) G) (k0_pay145 (F := Ideal) R0 R1 R2 R3)) (mixed (k0_pay150 (F := Ideal) k0) (k0_pay151 (F := Ideal) k1) (k0_pay152 (F := Ideal) k2) k3) D)) =
      head1 (dwt (em G R0 R1 R2 R3) (stack k0 k1 k2 k3) (stack o0 o1 o2 o3) S D A) := rfl

theorem dw_4_0 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay170 (F := Ideal) (k0_pay163 (F := Ideal) (k0_pay157 (F := Ideal) S) (k0_pay159 (F := Ideal) o0 o1 o2 o3 A) (k0_pay160 (F := Ideal) (k0_pay147 (F := Ideal) (k0_pay144 (F := Ideal) G) (k0_pay145 (F := Ideal) R0 R1 R2 R3)) (mixed (k0_pay150 (F := Ideal) k0) (k0_pay151 (F := Ideal) k1) (k0_pay152 (F := Ideal) k2) k3) D)) =
      head0 (dwt (em G R0 R1 R2 R3) (stack k0 k1 k2 k3) (stack o0 o1 o2 o3) S D A) := rfl

theorem dw_5_3 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay139 (F := Ideal) (k0_pay115 (F := Ideal) (k0_pay104 (F := Ideal) (k0_pay99 (F := Ideal) G) (k0_pay100 (F := Ideal) R0) (k0_pay101 (F := Ideal) R1) R2 R3) (stack k0 k1 k2 k3) (stack o0 o1 o2 o3) (shapeCast S4x128x128 S shapeCasts_S1x4x128x128_S4x128x128) D A) =
      head3 (dwt (em G R0 R1 R2 R3) (stack k0 k1 k2 k3) (stack o0 o1 o2 o3) S D A) := rfl

theorem dw_5_2 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay135 (F := Ideal) (k0_pay115 (F := Ideal) (k0_pay104 (F := Ideal) (k0_pay99 (F := Ideal) G) (k0_pay100 (F := Ideal) R0) (k0_pay101 (F := Ideal) R1) R2 R3) (stack k0 k1 k2 k3) (stack o0 o1 o2 o3) (shapeCast S4x128x128 S shapeCasts_S1x4x128x128_S4x128x128) D A) =
      head2 (dwt (em G R0 R1 R2 R3) (stack k0 k1 k2 k3) (stack o0 o1 o2 o3) S D A) := rfl

theorem dw_5_1 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay130 (F := Ideal) (k0_pay115 (F := Ideal) (k0_pay104 (F := Ideal) (k0_pay99 (F := Ideal) G) (k0_pay100 (F := Ideal) R0) (k0_pay101 (F := Ideal) R1) R2 R3) (stack k0 k1 k2 k3) (stack o0 o1 o2 o3) (shapeCast S4x128x128 S shapeCasts_S1x4x128x128_S4x128x128) D A) =
      head1 (dwt (em G R0 R1 R2 R3) (stack k0 k1 k2 k3) (stack o0 o1 o2 o3) S D A) := rfl

theorem dw_5_0 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay124 (F := Ideal) (k0_pay115 (F := Ideal) (k0_pay104 (F := Ideal) (k0_pay99 (F := Ideal) G) (k0_pay100 (F := Ideal) R0) (k0_pay101 (F := Ideal) R1) R2 R3) (stack k0 k1 k2 k3) (stack o0 o1 o2 o3) (shapeCast S4x128x128 S shapeCasts_S1x4x128x128_S4x128x128) D A) =
      head0 (dwt (em G R0 R1 R2 R3) (stack k0 k1 k2 k3) (stack o0 o1 o2 o3) S D A) := rfl

theorem dw_6_3 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay95 (F := Ideal) (k0_pay72 (F := Ideal) (k0_pay65 (F := Ideal) S) (k0_pay67 (F := Ideal) (k0_pay58 (F := Ideal) (k0_pay51 (F := Ideal) G) (k0_pay52 (F := Ideal) G) (k0_pay53 (F := Ideal) G) (k0_pay54 (F := Ideal) G) R0 R1 R2 R3) (stack k0 k1 k2 k3) o0 o1 o2 o3 D A)) =
      head3 (dwt (em G R0 R1 R2 R3) (stack k0 k1 k2 k3) (stack o0 o1 o2 o3) S D A) := rfl

theorem dw_6_2 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay90 (F := Ideal) (k0_pay72 (F := Ideal) (k0_pay65 (F := Ideal) S) (k0_pay67 (F := Ideal) (k0_pay58 (F := Ideal) (k0_pay51 (F := Ideal) G) (k0_pay52 (F := Ideal) G) (k0_pay53 (F := Ideal) G) (k0_pay54 (F := Ideal) G) R0 R1 R2 R3) (stack k0 k1 k2 k3) o0 o1 o2 o3 D A)) =
      head2 (dwt (em G R0 R1 R2 R3) (stack k0 k1 k2 k3) (stack o0 o1 o2 o3) S D A) := rfl

theorem dw_6_1 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay84 (F := Ideal) (k0_pay72 (F := Ideal) (k0_pay65 (F := Ideal) S) (k0_pay67 (F := Ideal) (k0_pay58 (F := Ideal) (k0_pay51 (F := Ideal) G) (k0_pay52 (F := Ideal) G) (k0_pay53 (F := Ideal) G) (k0_pay54 (F := Ideal) G) R0 R1 R2 R3) (stack k0 k1 k2 k3) o0 o1 o2 o3 D A)) =
      head1 (dwt (em G R0 R1 R2 R3) (stack k0 k1 k2 k3) (stack o0 o1 o2 o3) S D A) := rfl

theorem dw_6_0 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay79 (F := Ideal) (k0_pay65 (F := Ideal) S) (k0_pay67 (F := Ideal) (k0_pay58 (F := Ideal) (k0_pay51 (F := Ideal) G) (k0_pay52 (F := Ideal) G) (k0_pay53 (F := Ideal) G) (k0_pay54 (F := Ideal) G) R0 R1 R2 R3) (stack k0 k1 k2 k3) o0 o1 o2 o3 D A) =
      head0 (dwt (em G R0 R1 R2 R3) (stack k0 k1 k2 k3) (stack o0 o1 o2 o3) S D A) := rfl

theorem dw_7_3 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay46 (F := Ideal) (k0_pay22 (F := Ideal) (k0_pay11 (F := Ideal) (k0_pay5 (F := Ideal) G) (k0_pay6 (F := Ideal) R0) (k0_pay7 (F := Ideal) R1) (k0_pay8 (F := Ideal) R2) R3) (stack k0 k1 k2 k3) (k0_pay17 (F := Ideal) o0 o1 o2 o3) (k0_pay18 (F := Ideal) S) D A) =
      head3 (dwt (em G R0 R1 R2 R3) (stack k0 k1 k2 k3) (stack o0 o1 o2 o3) S D A) := rfl

theorem dw_7_2 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay40 (F := Ideal) (k0_pay22 (F := Ideal) (k0_pay11 (F := Ideal) (k0_pay5 (F := Ideal) G) (k0_pay6 (F := Ideal) R0) (k0_pay7 (F := Ideal) R1) (k0_pay8 (F := Ideal) R2) R3) (stack k0 k1 k2 k3) (k0_pay17 (F := Ideal) o0 o1 o2 o3) (k0_pay18 (F := Ideal) S) D A) =
      head2 (dwt (em G R0 R1 R2 R3) (stack k0 k1 k2 k3) (stack o0 o1 o2 o3) S D A) := rfl

theorem dw_7_1 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay35 (F := Ideal) (k0_pay34 (F := Ideal) (k0_pay22 (F := Ideal) (k0_pay11 (F := Ideal) (k0_pay5 (F := Ideal) G) (k0_pay6 (F := Ideal) R0) (k0_pay7 (F := Ideal) R1) (k0_pay8 (F := Ideal) R2) R3) (stack k0 k1 k2 k3) (k0_pay17 (F := Ideal) o0 o1 o2 o3) (k0_pay18 (F := Ideal) S) D A)) =
      head1 (dwt (em G R0 R1 R2 R3) (stack k0 k1 k2 k3) (stack o0 o1 o2 o3) S D A) := rfl

theorem dw_7_0 (G : Vec Ideal S1x64x4 .f32) (R0 R1 R2 R3 : Vec Ideal S1x64 .f32) (k0 k1 k2 k3 o0 o1 o2 o3 : Vec Ideal S64x128 .f32) (A : Vec Ideal S1x4x64x64 .f32) (S : Vec Ideal S1x4x128x128 .f32) (D : Vec Ideal S4x128x128 .f32) :
    k0_pay29 (F := Ideal) (k0_pay22 (F := Ideal) (k0_pay11 (F := Ideal) (k0_pay5 (F := Ideal) G) (k0_pay6 (F := Ideal) R0) (k0_pay7 (F := Ideal) R1) (k0_pay8 (F := Ideal) R2) R3) (stack k0 k1 k2 k3) (k0_pay17 (F := Ideal) o0 o1 o2 o3) (k0_pay18 (F := Ideal) S) D A) =
      head0 (dwt (em G R0 R1 R2 R3) (stack k0 k1 k2 k3) (stack o0 o1 o2 o3) S D A) := rfl

end Cert.KernelIdeal.Scan
-- ==== Proof.ScanPointA1.lean ====
module

public import proofs.«01_k».proof.Proof.ScanBlock
public import proofs.«01_k».proof.Proof.ScanFormsA
public import proofs.«01_k».proof.Proof.ScanFormsB

open Idealize Idealize.ShloMosaic Cert.KernelIdeal.Gen
open Idealize.SL.Sem Idealize.ShloMosaic.TcCoe

/-!
What one grid point writes, at the first point of a head group, which starts from nothing.
-/

set_option maxRecDepth 16384

@[expose] public section

namespace Cert.KernelIdeal.Scan

variable (m : (ℓ : Loc nD τ sig) → Buf (Elt Ideal) ℓ)

set_option maxHeartbeats 4000000 in
set_option backward.isDefEq.respectTransparency false in
theorem du_A (c : Dev nD) (t : Fin cfg0.N) (h0 : t.val % 8 = 0) :
    (outsAt0 m c t.val t.isLt).1 = tiles (DU (blk m c t) (k0_pay2 (F := Ideal))) := by
  rw [outsAt0_A m c t h0]; frame_out
  try simp only [↓cat_stack]
  try simp only [↓cat_mixed]
  simp only [til_load, row_load, gcl_load, ach_load, sch_load]
  simp only [next_7, next_6, next_5, next_4, next_3, next_2, next_1, next_0, du_0_3, du_0_2, du_0_1, du_0_0, du_1_3,
    du_1_2, du_1_1, du_1_0, du_2_3, du_2_2, du_2_1, du_2_0, du_3_3, du_3_2, du_3_1, du_3_0, du_4_3, du_4_2, du_4_1,
    du_4_0, du_5_3, du_5_2, du_5_1, du_5_0, du_6_3, du_6_2, du_6_1, du_6_0, du_7_3, du_7_2, du_7_1, du_7_0]
  generalize (k0_pay2 (F := Ideal)) = D
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact tile3_at (DU ⟨x0, x1, x2, x3, x4, x5, x6, x7, x8⟩ D) 0 _ _ (by omega) (by omega)
  · exact tile2_at (DU ⟨x0, x1, x2, x3, x4, x5, x6, x7, x8⟩ D) 0 _ _ (by omega) (by omega)
  · exact tile1_at (DU ⟨x0, x1, x2, x3, x4, x5, x6, x7, x8⟩ D) 0 _ _ (by omega) (by omega)
  · exact tile0_at (DU ⟨x0, x1, x2, x3, x4, x5, x6, x7, x8⟩ D) 0 _ _ (by omega) (by omega)
  · exact tile3_at (DU ⟨x0, x1, x2, x3, x4, x5, x6, x7, x8⟩ D) 1 _ _ (by omega) (by omega)
  · exact tile2_at (DU ⟨x0, x1, x2, x3, x4, x5, x6, x7, x8⟩ D) 1 _ _ (by omega) (by omega)
  · exact tile1_at (DU ⟨x0, x1, x2, x3, x4, x5, x6, x7, x8⟩ D) 1 _ _ (by omega) (by omega)
  · exact tile0_at (DU ⟨x0, x1, x2, x3, x4, x5, x6, x7, x8⟩ D) 1 _ _ (by omega) (by omega)
  · exact tile3_at (DU ⟨x0, x1, x2, x3, x4, x5, x6, x7, x8⟩ D) 2 _ _ (by omega) (by omega)
  · exact tile2_at (DU ⟨x0, x1, x2, x3, x4, x5, x6, x7, x8⟩ D) 2 _ _ (by omega) (by omega)
  · exact tile1_at (DU ⟨x0, x1, x2, x3, x4, x5, x6, x7, x8⟩ D) 2 _ _ (by omega) (by omega)
  · exact tile0_at (DU ⟨x0, x1, x2, x3, x4, x5, x6, x7, x8⟩ D) 2 _ _ (by omega) (by omega)
  · exact tile3_at (DU ⟨x0, x1, x2, x3, x4, x5, x6, x7, x8⟩ D) 3 _ _ (by omega) (by omega)
  · exact tile2_at (DU ⟨x0, x1, x2, x3, x4, x5, x6, x7, x8⟩ D) 3 _ _ (by omega) (by omega)
  · exact tile1_at (DU ⟨x0, x1, x2, x3, x4, x5, x6, x7, x8⟩ D) 3 _ _ (by omega) (by omega)
  · exact tile0_at (DU ⟨x0, x1, x2, x3, x4, x5, x6, x7, x8⟩ D) 3 _ _ (by omega) (by omega)
  · exact tile3_at (DU ⟨x0, x1, x2, x3, x4, x5, x6, x7, x8⟩ D) 4 _ _ (by omega) (by omega)
  · exact tile2_at (DU ⟨x0, x1, x2, x3, x4, x5, x6, x7, x8⟩ D) 4 _ _ (by omega) (by omega)
  · exact tile1_at (DU ⟨x0, x1, x2, x3, x4, x5, x6, x7, x8⟩ D) 4 _ _ (by omega) (by omega)
  · exact tile0_at (DU ⟨x0, x1, x2, x3, x4, x5, x6, x7, x8⟩ D) 4 _ _ (by omega) (by omega)
  · exact tile3_at (DU ⟨x0, x1, x2, x3, x4, x5, x6, x7, x8⟩ D) 5 _ _ (by omega) (by omega)
  · exact tile2_at (DU ⟨x0, x1, x2, x3, x4, x5, x6, x7, x8⟩ D) 5 _ _ (by omega) (by omega)
  · exact tile1_at (DU ⟨x0, x1, x2, x3, x4, x5, x6, x7, x8⟩ D) 5 _ _ (by omega) (by omega)
  · exact tile0_at (DU ⟨x0, x1, x2, x3, x4, x5, x6, x7, x8⟩ D) 5 _ _ (by omega) (by omega)
  · exact tile3_at (DU ⟨x0, x1, x2, x3, x4, x5, x6, x7, x8⟩ D) 6 _ _ (by omega) (by omega)
  · exact tile2_at (DU ⟨x0, x1, x2, x3, x4, x5, x6, x7, x8⟩ D) 6 _ _ (by omega) (by omega)
  · exact tile1_at (DU ⟨x0, x1, x2, x3, x4, x5, x6, x7, x8⟩ D) 6 _ _ (by omega) (by omega)
  · exact tile0_at (DU ⟨x0, x1, x2, x3, x4, x5, x6, x7, x8⟩ D) 6 _ _ (by omega) (by omega)
  · exact tile3_at (DU ⟨x0, x1, x2, x3, x4, x5, x6, x7, x8⟩ D) 7 _ _ (by omega) (by omega)
  · exact tile2_at (DU ⟨x0, x1, x2, x3, x4, x5, x6, x7, x8⟩ D) 7 _ _ (by omega) (by omega)
  · exact tile1_at (DU ⟨x0, x1, x2, x3, x4, x5, x6, x7, x8⟩ D) 7 _ _ (by omega) (by omega)
  · exact tile0_at (DU ⟨x0, x1, x2, x3, x4, x5, x6, x7, x8⟩ D) 7 _ _ (by omega) (by omega)

end Cert.KernelIdeal.Scan
-- ==== Proof.ScanPointA2.lean ====
module

public import proofs.«01_k».proof.Proof.ScanBlock
public import proofs.«01_k».proof.Proof.ScanFormsA
public import proofs.«01_k».proof.Proof.ScanFormsB

open Idealize Idealize.ShloMosaic Cert.KernelIdeal.Gen
open Idealize.SL.Sem Idealize.ShloMosaic.TcCoe

/-!
What one grid point writes, at the first point of a head group, which starts from nothing.
-/

set_option maxRecDepth 16384

@[expose] public section

namespace Cert.KernelIdeal.Scan

variable (m : (ℓ : Loc nD τ sig) → Buf (Elt Ideal) ℓ)

set_option maxHeartbeats 4000000 in
set_option backward.isDefEq.respectTransparency false in
theorem dw_A (c : Dev nD) (t : Fin cfg0.N) (h0 : t.val % 8 = 0) :
    (outsAt0 m c t.val t.isLt).2.1 = tiles (DW (blk m c t) (k0_pay2 (F := Ideal))) := by
  rw [outsAt0_A m c t h0]; frame_out
  try simp only [↓cat_stack]
  try simp only [↓cat_mixed]
  simp only [til_load, row_load, gcl_load, ach_load, sch_load]
  simp only [next_7, next_6, next_5, next_4, next_3, next_2, next_1, next_0, dw_0_3, dw_0_2, dw_0_1, dw_0_0, dw_1_3,
    dw_1_2, dw_1_1, dw_1_0, dw_2_3, dw_2_2, dw_2_1, dw_2_0, dw_3_3, dw_3_2, dw_3_1, dw_3_0, dw_4_3, dw_4_2, dw_4_1,
    dw_4_0, dw_5_3, dw_5_2, dw_5_1, dw_5_0, dw_6_3, dw_6_2, dw_6_1, dw_6_0, dw_7_3, dw_7_2, dw_7_1, dw_7_0]
  generalize (k0_pay2 (F := Ideal)) = D
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact tile3_at (DW ⟨x0, x1, x2, x3, x4, x5, x6, x7, x8⟩ D) 0 _ _ (by omega) (by omega)
  · exact tile2_at (DW ⟨x0, x1, x2, x3, x4, x5, x6, x7, x8⟩ D) 0 _ _ (by omega) (by omega)
  · exact tile1_at (DW ⟨x0, x1, x2, x3, x4, x5, x6, x7, x8⟩ D) 0 _ _ (by omega) (by omega)
  · exact tile0_at (DW ⟨x0, x1, x2, x3, x4, x5, x6, x7, x8⟩ D) 0 _ _ (by omega) (by omega)
  · exact tile3_at (DW ⟨x0, x1, x2, x3, x4, x5, x6, x7, x8⟩ D) 1 _ _ (by omega) (by omega)
  · exact tile2_at (DW ⟨x0, x1, x2, x3, x4, x5, x6, x7, x8⟩ D) 1 _ _ (by omega) (by omega)
  · exact tile1_at (DW ⟨x0, x1, x2, x3, x4, x5, x6, x7, x8⟩ D) 1 _ _ (by omega) (by omega)
  · exact tile0_at (DW ⟨x0, x1, x2, x3, x4, x5, x6, x7, x8⟩ D) 1 _ _ (by omega) (by omega)
  · exact tile3_at (DW ⟨x0, x1, x2, x3, x4, x5, x6, x7, x8⟩ D) 2 _ _ (by omega) (by omega)
  · exact tile2_at (DW ⟨x0, x1, x2, x3, x4, x5, x6, x7, x8⟩ D) 2 _ _ (by omega) (by omega)
  · exact tile1_at (DW ⟨x0, x1, x2, x3, x4, x5, x6, x7, x8⟩ D) 2 _ _ (by omega) (by omega)
  · exact tile0_at (DW ⟨x0, x1, x2, x3, x4, x5, x6, x7, x8⟩ D) 2 _ _ (by omega) (by omega)
  · exact tile3_at (DW ⟨x0, x1, x2, x3, x4, x5, x6, x7, x8⟩ D) 3 _ _ (by omega) (by omega)
  · exact tile2_at (DW ⟨x0, x1, x2, x3, x4, x5, x6, x7, x8⟩ D) 3 _ _ (by omega) (by omega)
  · exact tile1_at (DW ⟨x0, x1, x2, x3, x4, x5, x6, x7, x8⟩ D) 3 _ _ (by omega) (by omega)
  · exact tile0_at (DW ⟨x0, x1, x2, x3, x4, x5, x6, x7, x8⟩ D) 3 _ _ (by omega) (by omega)
  · exact tile3_at (DW ⟨x0, x1, x2, x3, x4, x5, x6, x7, x8⟩ D) 4 _ _ (by omega) (by omega)
  · exact tile2_at (DW ⟨x0, x1, x2, x3, x4, x5, x6, x7, x8⟩ D) 4 _ _ (by omega) (by omega)
  · exact tile1_at (DW ⟨x0, x1, x2, x3, x4, x5, x6, x7, x8⟩ D) 4 _ _ (by omega) (by omega)
  · exact tile0_at (DW ⟨x0, x1, x2, x3, x4, x5, x6, x7, x8⟩ D) 4 _ _ (by omega) (by omega)
  · exact tile3_at (DW ⟨x0, x1, x2, x3, x4, x5, x6, x7, x8⟩ D) 5 _ _ (by omega) (by omega)
  · exact tile2_at (DW ⟨x0, x1, x2, x3, x4, x5, x6, x7, x8⟩ D) 5 _ _ (by omega) (by omega)
  · exact tile1_at (DW ⟨x0, x1, x2, x3, x4, x5, x6, x7, x8⟩ D) 5 _ _ (by omega) (by omega)
  · exact tile0_at (DW ⟨x0, x1, x2, x3, x4, x5, x6, x7, x8⟩ D) 5 _ _ (by omega) (by omega)
  · exact tile3_at (DW ⟨x0, x1, x2, x3, x4, x5, x6, x7, x8⟩ D) 6 _ _ (by omega) (by omega)
  · exact tile2_at (DW ⟨x0, x1, x2, x3, x4, x5, x6, x7, x8⟩ D) 6 _ _ (by omega) (by omega)
  · exact tile1_at (DW ⟨x0, x1, x2, x3, x4, x5, x6, x7, x8⟩ D) 6 _ _ (by omega) (by omega)
  · exact tile0_at (DW ⟨x0, x1, x2, x3, x4, x5, x6, x7, x8⟩ D) 6 _ _ (by omega) (by omega)
  · exact tile3_at (DW ⟨x0, x1, x2, x3, x4, x5, x6, x7, x8⟩ D) 7 _ _ (by omega) (by omega)
  · exact tile2_at (DW ⟨x0, x1, x2, x3, x4, x5, x6, x7, x8⟩ D) 7 _ _ (by omega) (by omega)
  · exact tile1_at (DW ⟨x0, x1, x2, x3, x4, x5, x6, x7, x8⟩ D) 7 _ _ (by omega) (by omega)
  · exact tile0_at (DW ⟨x0, x1, x2, x3, x4, x5, x6, x7, x8⟩ D) 7 _ _ (by omega) (by omega)

end Cert.KernelIdeal.Scan
-- ==== Proof.ScanFormsC.lean ====
module

public import proofs.«01_k».proof.Proof.ScanChunk

open Idealize Idealize.ShloMosaic Cert.KernelIdeal.Gen

/-!
Each chunk as printed is the arithmetic named in `ScanChunk`.
-/

set_option maxRecDepth 16384

@[expose] public section

namespace Cert.KernelIdeal.Scan

theorem dq_0_3 (o0 o1 o2 o3 : Vec Ideal S64x128 .f32) (S : Vec Ideal S1x4x128x128 .f32) :
    k0_pay367 (F := Ideal) (k0_pay343 (F := Ideal) (stack o0 o1 o2 o3) (shapeCast S4x128x128 S shapeCasts_S1x4x128x128_S4x128x128)) =
      head3 (dqt (stack o0 o1 o2 o3) S) := rfl

theorem dq_0_2 (o0 o1 o2 o3 : Vec Ideal S64x128 .f32) (S : Vec Ideal S1x4x128x128 .f32) :
    k0_pay363 (F := Ideal) (k0_pay343 (F := Ideal) (stack o0 o1 o2 o3) (shapeCast S4x128x128 S shapeCasts_S1x4x128x128_S4x128x128)) =
      head2 (dqt (stack o0 o1 o2 o3) S) := rfl

theorem dq_0_1 (o0 o1 o2 o3 : Vec Ideal S64x128 .f32) (S : Vec Ideal S1x4x128x128 .f32) :
    k0_pay358 (F := Ideal) (k0_pay343 (F := Ideal) (stack o0 o1 o2 o3) (shapeCast S4x128x128 S shapeCasts_S1x4x128x128_S4x128x128)) =
      head1 (dqt (stack o0 o1 o2 o3) S) := rfl

theorem dq_0_0 (o0 o1 o2 o3 : Vec Ideal S64x128 .f32) (S : Vec Ideal S1x4x128x128 .f32) :
    k0_pay352 (F := Ideal) (k0_pay343 (F := Ideal) (stack o0 o1 o2 o3) (shapeCast S4x128x128 S shapeCasts_S1x4x128x128_S4x128x128)) =
      head0 (dqt (stack o0 o1 o2 o3) S) := rfl

theorem dq_1_3 (o0 o1 o2 o3 : Vec Ideal S64x128 .f32) (S : Vec Ideal S1x4x128x128 .f32) :
    k0_pay323 (F := Ideal) (k0_pay300 (F := Ideal) (k0_pay291 (F := Ideal) o0 o1 o2 o3) (k0_pay292 (F := Ideal) S)) =
      head3 (dqt (stack o0 o1 o2 o3) S) := rfl

theorem dq_1_2 (o0 o1 o2 o3 : Vec Ideal S64x128 .f32) (S : Vec Ideal S1x4x128x128 .f32) :
    k0_pay318 (F := Ideal) (k0_pay300 (F := Ideal) (k0_pay291 (F := Ideal) o0 o1 o2 o3) (k0_pay292 (F := Ideal) S)) =
      head2 (dqt (stack o0 o1 o2 o3) S) := rfl

theorem dq_1_1 (o0 o1 o2 o3 : Vec Ideal S64x128 .f32) (S : Vec Ideal S1x4x128x128 .f32) :
    k0_pay312 (F := Ideal) (k0_pay300 (F := Ideal) (k0_pay291 (F := Ideal) o0 o1 o2 o3) (k0_pay292 (F := Ideal) S)) =
      head1 (dqt (stack o0 o1 o2 o3) S) := rfl

theorem dq_1_0 (o0 o1 o2 o3 : Vec Ideal S64x128 .f32) (S : Vec Ideal S1x4x128x128 .f32) :
    k0_pay307 (F := Ideal) (k0_pay300 (F := Ideal) (k0_pay291 (F := Ideal) o0 o1 o2 o3) (k0_pay292 (F := Ideal) S)) =
      head0 (dqt (stack o0 o1 o2 o3) S) := rfl

theorem dq_2_3 (o0 o1 o2 o3 : Vec Ideal S64x128 .f32) (S : Vec Ideal S1x4x128x128 .f32) :
    k0_pay274 (F := Ideal) (k0_pay250 (F := Ideal) (k0_pay244 (F := Ideal) o0 o1 o2 o3) (k0_pay245 (F := Ideal) S)) =
      head3 (dqt (stack o0 o1 o2 o3) S) := rfl

theorem dq_2_2 (o0 o1 o2 o3 : Vec Ideal S64x128 .f32) (S : Vec Ideal S1x4x128x128 .f32) :
    k0_pay268 (F := Ideal) (k0_pay250 (F := Ideal) (k0_pay244 (F := Ideal) o0 o1 o2 o3) (k0_pay245 (F := Ideal) S)) =
      head2 (dqt (stack o0 o1 o2 o3) S) := rfl

theorem dq_2_1 (o0 o1 o2 o3 : Vec Ideal S64x128 .f32) (S : Vec Ideal S1x4x128x128 .f32) :
    k0_pay263 (F := Ideal) (k0_pay250 (F := Ideal) (k0_pay244 (F := Ideal) o0 o1 o2 o3) (k0_pay245 (F := Ideal) S)) =
      head1 (dqt (stack o0 o1 o2 o3) S) := rfl

theorem dq_2_0 (o0 o1 o2 o3 : Vec Ideal S64x128 .f32) (S : Vec Ideal S1x4x128x128 .f32) :
    k0_pay257 (F := Ideal) (k0_pay250 (F := Ideal) (k0_pay244 (F := Ideal) o0 o1 o2 o3) (k0_pay245 (F := Ideal) S)) =
      head0 (dqt (stack o0 o1 o2 o3) S) := rfl

theorem dq_3_3 (o0 o1 o2 o3 : Vec Ideal S64x128 .f32) (S : Vec Ideal S1x4x128x128 .f32) :
    k0_pay227 (F := Ideal) (k0_pay206 (F := Ideal) (k0_pay198 (F := Ideal) o0 o1 o2 o3) (k0_pay199 (F := Ideal) S)) =
      head3 (dqt (stack o0 o1 o2 o3) S) := rfl

theorem dq_3_2 (o0 o1 o2 o3 : Vec Ideal S64x128 .f32) (S : Vec Ideal S1x4x128x128 .f32) :
    k0_pay222 (F := Ideal) (k0_pay206 (F := Ideal) (k0_pay198 (F := Ideal) o0 o1 o2 o3) (k0_pay199 (F := Ideal) S)) =
      head2 (dqt (stack o0 o1 o2 o3) S) := rfl

theorem dq_3_1 (o0 o1 o2 o3 : Vec Ideal S64x128 .f32) (S : Vec Ideal S1x4x128x128 .f32) :
    k0_pay217 (F := Ideal) (k0_pay206 (F := Ideal) (k0_pay198 (F := Ideal) o0 o1 o2 o3) (k0_pay199 (F := Ideal) S)) =
      head1 (dqt (stack o0 o1 o2 o3) S) := rfl

theorem dq_3_0 (o0 o1 o2 o3 : Vec Ideal S64x128 .f32) (S : Vec Ideal S1x4x128x128 .f32) :
    k0_pay213 (F := Ideal) (k0_pay198 (F := Ideal) o0 o1 o2 o3) (k0_pay199 (F := Ideal) S) =
      head0 (dqt (stack o0 o1 o2 o3) S) := rfl

theorem dq_4_3 (o0 o1 o2 o3 : Vec Ideal S64x128 .f32) (S : Vec Ideal S1x4x128x128 .f32) :
    k0_pay186 (F := Ideal) (k0_pay164 (F := Ideal) (k0_pay156 (F := Ideal) o0 o1 o2 o3) (k0_pay157 (F := Ideal) S)) =
      head3 (dqt (stack o0 o1 o2 o3) S) := rfl

theorem dq_4_2 (o0 o1 o2 o3 : Vec Ideal S64x128 .f32) (S : Vec Ideal S1x4x128x128 .f32) :
    k0_pay181 (F := Ideal) (k0_pay164 (F := Ideal) (k0_pay156 (F := Ideal) o0 o1 o2 o3) (k0_pay157 (F := Ideal) S)) =
      head2 (dqt (stack o0 o1 o2 o3) S) := rfl

theorem dq_4_1 (o0 o1 o2 o3 : Vec Ideal S64x128 .f32) (S : Vec Ideal S1x4x128x128 .f32) :
    k0_pay176 (F := Ideal) (k0_pay164 (F := Ideal) (k0_pay156 (F := Ideal) o0 o1 o2 o3) (k0_pay157 (F := Ideal) S)) =
      head1 (dqt (stack o0 o1 o2 o3) S) := rfl

theorem dq_4_0 (o0 o1 o2 o3 : Vec Ideal S64x128 .f32) (S : Vec Ideal S1x4x128x128 .f32) :
    k0_pay171 (F := Ideal) (k0_pay164 (F := Ideal) (k0_pay156 (F := Ideal) o0 o1 o2 o3) (k0_pay157 (F := Ideal) S)) =
      head0 (dqt (stack o0 o1 o2 o3) S) := rfl

theorem dq_5_3 (o0 o1 o2 o3 : Vec Ideal S64x128 .f32) (S : Vec Ideal S1x4x128x128 .f32) :
    k0_pay140 (F := Ideal) (k0_pay116 (F := Ideal) (stack o0 o1 o2 o3) (shapeCast S4x128x128 S shapeCasts_S1x4x128x128_S4x128x128)) =
      head3 (dqt (stack o0 o1 o2 o3) S) := rfl

theorem dq_5_2 (o0 o1 o2 o3 : Vec Ideal S64x128 .f32) (S : Vec Ideal S1x4x128x128 .f32) :
    k0_pay136 (F := Ideal) (k0_pay116 (F := Ideal) (stack o0 o1 o2 o3) (shapeCast S4x128x128 S shapeCasts_S1x4x128x128_S4x128x128)) =
      head2 (dqt (stack o0 o1 o2 o3) S) := rfl

theorem dq_5_1 (o0 o1 o2 o3 : Vec Ideal S64x128 .f32) (S : Vec Ideal S1x4x128x128 .f32) :
    k0_pay131 (F := Ideal) (k0_pay116 (F := Ideal) (stack o0 o1 o2 o3) (shapeCast S4x128x128 S shapeCasts_S1x4x128x128_S4x128x128)) =
      head1 (dqt (stack o0 o1 o2 o3) S) := rfl

theorem dq_5_0 (o0 o1 o2 o3 : Vec Ideal S64x128 .f32) (S : Vec Ideal S1x4x128x128 .f32) :
    k0_pay125 (F := Ideal) (k0_pay116 (F := Ideal) (stack o0 o1 o2 o3) (shapeCast S4x128x128 S shapeCasts_S1x4x128x128_S4x128x128)) =
      head0 (dqt (stack o0 o1 o2 o3) S) := rfl

theorem dq_6_3 (o0 o1 o2 o3 : Vec Ideal S64x128 .f32) (S : Vec Ideal S1x4x128x128 .f32) :
    k0_pay96 (F := Ideal) (k0_pay73 (F := Ideal) (k0_pay64 (F := Ideal) o0 o1 o2 o3) (k0_pay65 (F := Ideal) S)) =
      head3 (dqt (stack o0 o1 o2 o3) S) := rfl

theorem dq_6_2 (o0 o1 o2 o3 : Vec Ideal S64x128 .f32) (S : Vec Ideal S1x4x128x128 .f32) :
    k0_pay91 (F := Ideal) (k0_pay73 (F := Ideal) (k0_pay64 (F := Ideal) o0 o1 o2 o3) (k0_pay65 (F := Ideal) S)) =
      head2 (dqt (stack o0 o1 o2 o3) S) := rfl

theorem dq_6_1 (o0 o1 o2 o3 : Vec Ideal S64x128 .f32) (S : Vec Ideal S1x4x128x128 .f32) :
    k0_pay85 (F := Ideal) (k0_pay73 (F := Ideal) (k0_pay64 (F := Ideal) o0 o1 o2 o3) (k0_pay65 (F := Ideal) S)) =
      head1 (dqt (stack o0 o1 o2 o3) S) := rfl

theorem dq_6_0 (o0 o1 o2 o3 : Vec Ideal S64x128 .f32) (S : Vec Ideal S1x4x128x128 .f32) :
    k0_pay80 (F := Ideal) (k0_pay73 (F := Ideal) (k0_pay64 (F := Ideal) o0 o1 o2 o3) (k0_pay65 (F := Ideal) S)) =
      head0 (dqt (stack o0 o1 o2 o3) S) := rfl

theorem dq_7_3 (o0 o1 o2 o3 : Vec Ideal S64x128 .f32) (S : Vec Ideal S1x4x128x128 .f32) :
    k0_pay47 (F := Ideal) (k0_pay23 (F := Ideal) (k0_pay17 (F := Ideal) o0 o1 o2 o3) (k0_pay18 (F := Ideal) S)) =
      head3 (dqt (stack o0 o1 o2 o3) S) := rfl

theorem dq_7_2 (o0 o1 o2 o3 : Vec Ideal S64x128 .f32) (S : Vec Ideal S1x4x128x128 .f32) :
    k0_pay41 (F := Ideal) (k0_pay23 (F := Ideal) (k0_pay17 (F := Ideal) o0 o1 o2 o3) (k0_pay18 (F := Ideal) S)) =
      head2 (dqt (stack o0 o1 o2 o3) S) := rfl

theorem dq_7_1 (o0 o1 o2 o3 : Vec Ideal S64x128 .f32) (S : Vec Ideal S1x4x128x128 .f32) :
    k0_pay36 (F := Ideal) (k0_pay23 (F := Ideal) (k0_pay17 (F := Ideal) o0 o1 o2 o3) (k0_pay18 (F := Ideal) S)) =
      head1 (dqt (stack o0 o1 o2 o3) S) := rfl

theorem dq_7_0 (o0 o1 o2 o3 : Vec Ideal S64x128 .f32) (S : Vec Ideal S1x4x128x128 .f32) :
    k0_pay30 (F := Ideal) (k0_pay23 (F := Ideal) (k0_pay17 (F := Ideal) o0 o1 o2 o3) (k0_pay18 (F := Ideal) S)) =
      head0 (dqt (stack o0 o1 o2 o3) S) := rfl

theorem dk_0_3 (u0 u1 u2 u3 w0 w1 w2 w3 : Vec Ideal S64x128 .f32) (S : Vec Ideal S1x4x128x128 .f32) (D : Vec Ideal S4x128x128 .f32) :
    k0_pay368 (F := Ideal) (k0_pay346 (F := Ideal) (k0_pay344 (F := Ideal) (stack u0 u1 u2 u3) (stack w0 w1 w2 w3) (shapeCast S4x128x128 S shapeCasts_S1x4x128x128_S4x128x128)) (k0_pay345 (F := Ideal) D) (constant (F := Ideal) S4x64x128 .f32 0x00000000#32)) =
      head3 (dkt D (ut (stack u0 u1 u2 u3) (stack w0 w1 w2 w3) S)) := rfl

theorem dk_0_2 (u0 u1 u2 u3 w0 w1 w2 w3 : Vec Ideal S64x128 .f32) (S : Vec Ideal S1x4x128x128 .f32) (D : Vec Ideal S4x128x128 .f32) :
    k0_pay364 (F := Ideal) (k0_pay346 (F := Ideal) (k0_pay344 (F := Ideal) (stack u0 u1 u2 u3) (stack w0 w1 w2 w3) (shapeCast S4x128x128 S shapeCasts_S1x4x128x128_S4x128x128)) (k0_pay345 (F := Ideal) D) (constant (F := Ideal) S4x64x128 .f32 0x00000000#32)) =
      head2 (dkt D (ut (stack u0 u1 u2 u3) (stack w0 w1 w2 w3) S)) := rfl

theorem dk_0_1 (u0 u1 u2 u3 w0 w1 w2 w3 : Vec Ideal S64x128 .f32) (S : Vec Ideal S1x4x128x128 .f32) (D : Vec Ideal S4x128x128 .f32) :
    k0_pay359 (F := Ideal) (k0_pay346 (F := Ideal) (k0_pay344 (F := Ideal) (stack u0 u1 u2 u3) (stack w0 w1 w2 w3) (shapeCast S4x128x128 S shapeCasts_S1x4x128x128_S4x128x128)) (k0_pay345 (F := Ideal) D) (constant (F := Ideal) S4x64x128 .f32 0x00000000#32)) =
      head1 (dkt D (ut (stack u0 u1 u2 u3) (stack w0 w1 w2 w3) S)) := rfl

theorem dk_0_0 (u0 u1 u2 u3 w0 w1 w2 w3 : Vec Ideal S64x128 .f32) (S : Vec Ideal S1x4x128x128 .f32) (D : Vec Ideal S4x128x128 .f32) :
    k0_pay353 (F := Ideal) (k0_pay344 (F := Ideal) (stack u0 u1 u2 u3) (stack w0 w1 w2 w3) (shapeCast S4x128x128 S shapeCasts_S1x4x128x128_S4x128x128)) (k0_pay345 (F := Ideal) D) (constant (F := Ideal) S4x64x128 .f32 0x00000000#32) =
      head0 (dkt D (ut (stack u0 u1 u2 u3) (stack w0 w1 w2 w3) S)) := rfl

theorem dk_1_3 (u0 u1 u2 u3 w0 w1 w2 w3 : Vec Ideal S64x128 .f32) (S : Vec Ideal S1x4x128x128 .f32) (D : Vec Ideal S4x128x128 .f32) :
    k0_pay324 (F := Ideal) (k0_pay301 (F := Ideal) D (k0_pay293 (F := Ideal) (stack u0 u1 u2 u3) (stack w0 w1 w2 w3) S)) =
      head3 (dkt D (ut (stack u0 u1 u2 u3) (stack w0 w1 w2 w3) S)) := rfl

theorem dk_1_2 (u0 u1 u2 u3 w0 w1 w2 w3 : Vec Ideal S64x128 .f32) (S : Vec Ideal S1x4x128x128 .f32) (D : Vec Ideal S4x128x128 .f32) :
    k0_pay319 (F := Ideal) (k0_pay301 (F := Ideal) D (k0_pay293 (F := Ideal) (stack u0 u1 u2 u3) (stack w0 w1 w2 w3) S)) =
      head2 (dkt D (ut (stack u0 u1 u2 u3) (stack w0 w1 w2 w3) S)) := rfl

theorem dk_1_1 (u0 u1 u2 u3 w0 w1 w2 w3 : Vec Ideal S64x128 .f32) (S : Vec Ideal S1x4x128x128 .f32) (D : Vec Ideal S4x128x128 .f32) :
    k0_pay313 (F := Ideal) (k0_pay301 (F := Ideal) D (k0_pay293 (F := Ideal) (stack u0 u1 u2 u3) (stack w0 w1 w2 w3) S)) =
      head1 (dkt D (ut (stack u0 u1 u2 u3) (stack w0 w1 w2 w3) S)) := rfl

theorem dk_1_0 (u0 u1 u2 u3 w0 w1 w2 w3 : Vec Ideal S64x128 .f32) (S : Vec Ideal S1x4x128x128 .f32) (D : Vec Ideal S4x128x128 .f32) :
    k0_pay308 (F := Ideal) (k0_pay301 (F := Ideal) D (k0_pay293 (F := Ideal) (stack u0 u1 u2 u3) (stack w0 w1 w2 w3) S)) =
      head0 (dkt D (ut (stack u0 u1 u2 u3) (stack w0 w1 w2 w3) S)) := rfl

theorem dk_2_3 (u0 u1 u2 u3 w0 w1 w2 w3 : Vec Ideal S64x128 .f32) (S : Vec Ideal S1x4x128x128 .f32) (D : Vec Ideal S4x128x128 .f32) :
    k0_pay275 (F := Ideal) (k0_pay251 (F := Ideal) D (k0_pay246 (F := Ideal) (stack u0 u1 u2 u3) w0 w1 w2 w3 S)) =
      head3 (dkt D (ut (stack u0 u1 u2 u3) (stack w0 w1 w2 w3) S)) := rfl

theorem dk_2_2 (u0 u1 u2 u3 w0 w1 w2 w3 : Vec Ideal S64x128 .f32) (S : Vec Ideal S1x4x128x128 .f32) (D : Vec Ideal S4x128x128 .f32) :
    k0_pay269 (F := Ideal) (k0_pay251 (F := Ideal) D (k0_pay246 (F := Ideal) (stack u0 u1 u2 u3) w0 w1 w2 w3 S)) =
      head2 (dkt D (ut (stack u0 u1 u2 u3) (stack w0 w1 w2 w3) S)) := rfl

theorem dk_2_1 (u0 u1 u2 u3 w0 w1 w2 w3 : Vec Ideal S64x128 .f32) (S : Vec Ideal S1x4x128x128 .f32) (D : Vec Ideal S4x128x128 .f32) :
    k0_pay264 (F := Ideal) (k0_pay251 (F := Ideal) D (k0_pay246 (F := Ideal) (stack u0 u1 u2 u3) w0 w1 w2 w3 S)) =
      head1 (dkt D (ut (stack u0 u1 u2 u3) (stack w0 w1 w2 w3) S)) := rfl

theorem dk_2_0 (u0 u1 u2 u3 w0 w1 w2 w3 : Vec Ideal S64x128 .f32) (S : Vec Ideal S1x4x128x128 .f32) (D : Vec Ideal S4x128x128 .f32) :
    k0_pay258 (F := Ideal) (k0_pay251 (F := Ideal) D (k0_pay246 (F := Ideal) (stack u0 u1 u2 u3) w0 w1 w2 w3 S)) =
      head0 (dkt D (ut (stack u0 u1 u2 u3) (stack w0 w1 w2 w3) S)) := rfl

theorem dk_3_3 (u0 u1 u2 u3 w0 w1 w2 w3 : Vec Ideal S64x128 .f32) (S : Vec Ideal S1x4x128x128 .f32) (D : Vec Ideal S4x128x128 .f32) :
    k0_pay228 (F := Ideal) (k0_pay207 (F := Ideal) D (k0_pay200 (F := Ideal) (stack u0 u1 u2 u3) (stack w0 w1 w2 w3) S)) =
      head3 (dkt D (ut (stack u0 u1 u2 u3) (stack w0 w1 w2 w3) S)) := rfl

theorem dk_3_2 (u0 u1 u2 u3 w0 w1 w2 w3 : Vec Ideal S64x128 .f32) (S : Vec Ideal S1x4x128x128 .f32) (D : Vec Ideal S4x128x128 .f32) :
    k0_pay223 (F := Ideal) (k0_pay207 (F := Ideal) D (k0_pay200 (F := Ideal) (stack u0 u1 u2 u3) (stack w0 w1 w2 w3) S)) =
      head2 (dkt D (ut (stack u0 u1 u2 u3) (stack w0 w1 w2 w3) S)) := rfl

theorem dk_3_1 (u0 u1 u2 u3 w0 w1 w2 w3 : Vec Ideal S64x128 .f32) (S : Vec Ideal S1x4x128x128 .f32) (D : Vec Ideal S4x128x128 .f32) :
    k0_pay218 (F := Ideal) (k0_pay207 (F := Ideal) D (k0_pay200 (F := Ideal) (stack u0 u1 u2 u3) (stack w0 w1 w2 w3) S)) =
      head1 (dkt D (ut (stack u0 u1 u2 u3) (stack w0 w1 w2 w3) S)) := rfl

theorem dk_3_0 (u0 u1 u2 u3 w0 w1 w2 w3 : Vec Ideal S64x128 .f32) (S : Vec Ideal S1x4x128x128 .f32) (D : Vec Ideal S4x128x128 .f32) :
    k0_pay214 (F := Ideal) D (k0_pay200 (F := Ideal) (stack u0 u1 u2 u3) (stack w0 w1 w2 w3) S) =
      head0 (dkt D (ut (stack u0 u1 u2 u3) (stack w0 w1 w2 w3) S)) := rfl

theorem dk_4_3 (u0 u1 u2 u3 w0 w1 w2 w3 : Vec Ideal S64x128 .f32) (S : Vec Ideal S1x4x128x128 .f32) (D : Vec Ideal S4x128x128 .f32) :
    k0_pay187 (F := Ideal) (k0_pay165 (F := Ideal) D (k0_pay158 (F := Ideal) (stack u0 u1 u2 u3) (stack w0 w1 w2 w3) S)) =
      head3 (dkt D (ut (stack u0 u1 u2 u3) (stack w0 w1 w2 w3) S)) := rfl

theorem dk_4_2 (u0 u1 u2 u3 w0 w1 w2 w3 : Vec Ideal S64x128 .f32) (S : Vec Ideal S1x4x128x128 .f32) (D : Vec Ideal S4x128x128 .f32) :
    k0_pay182 (F := Ideal) (k0_pay165 (F := Ideal) D (k0_pay158 (F := Ideal) (stack u0 u1 u2 u3) (stack w0 w1 w2 w3) S)) =
      head2 (dkt D (ut (stack u0 u1 u2 u3) (stack w0 w1 w2 w3) S)) := rfl

theorem dk_4_1 (u0 u1 u2 u3 w0 w1 w2 w3 : Vec Ideal S64x128 .f32) (S : Vec Ideal S1x4x128x128 .f32) (D : Vec Ideal S4x128x128 .f32) :
    k0_pay178 (F := Ideal) (k0_pay177 (F := Ideal) (k0_pay165 (F := Ideal) D (k0_pay158 (F := Ideal) (stack u0 u1 u2 u3) (stack w0 w1 w2 w3) S))) =
      head1 (dkt D (ut (stack u0 u1 u2 u3) (stack w0 w1 w2 w3) S)) := rfl

theorem dk_4_0 (u0 u1 u2 u3 w0 w1 w2 w3 : Vec Ideal S64x128 .f32) (S : Vec Ideal S1x4x128x128 .f32) (D : Vec Ideal S4x128x128 .f32) :
    k0_pay172 (F := Ideal) (k0_pay165 (F := Ideal) D (k0_pay158 (F := Ideal) (stack u0 u1 u2 u3) (stack w0 w1 w2 w3) S)) =
      head0 (dkt D (ut (stack u0 u1 u2 u3) (stack w0 w1 w2 w3) S)) := rfl

theorem dk_5_3 (u0 u1 u2 u3 w0 w1 w2 w3 : Vec Ideal S64x128 .f32) (S : Vec Ideal S1x4x128x128 .f32) (D : Vec Ideal S4x128x128 .f32) :
    k0_pay141 (F := Ideal) (k0_pay119 (F := Ideal) (k0_pay117 (F := Ideal) (stack u0 u1 u2 u3) (stack w0 w1 w2 w3) (shapeCast S4x128x128 S shapeCasts_S1x4x128x128_S4x128x128)) (k0_pay118 (F := Ideal) D) (constant (F := Ideal) S4x64x128 .f32 0x00000000#32)) =
      head3 (dkt D (ut (stack u0 u1 u2 u3) (stack w0 w1 w2 w3) S)) := rfl

theorem dk_5_2 (u0 u1 u2 u3 w0 w1 w2 w3 : Vec Ideal S64x128 .f32) (S : Vec Ideal S1x4x128x128 .f32) (D : Vec Ideal S4x128x128 .f32) :
    k0_pay137 (F := Ideal) (k0_pay119 (F := Ideal) (k0_pay117 (F := Ideal) (stack u0 u1 u2 u3) (stack w0 w1 w2 w3) (shapeCast S4x128x128 S shapeCasts_S1x4x128x128_S4x128x128)) (k0_pay118 (F := Ideal) D) (constant (F := Ideal) S4x64x128 .f32 0x00000000#32)) =
      head2 (dkt D (ut (stack u0 u1 u2 u3) (stack w0 w1 w2 w3) S)) := rfl

theorem dk_5_1 (u0 u1 u2 u3 w0 w1 w2 w3 : Vec Ideal S64x128 .f32) (S : Vec Ideal S1x4x128x128 .f32) (D : Vec Ideal S4x128x128 .f32) :
    k0_pay132 (F := Ideal) (k0_pay119 (F := Ideal) (k0_pay117 (F := Ideal) (stack u0 u1 u2 u3) (stack w0 w1 w2 w3) (shapeCast S4x128x128 S shapeCasts_S1x4x128x128_S4x128x128)) (k0_pay118 (F := Ideal) D) (constant (F := Ideal) S4x64x128 .f32 0x00000000#32)) =
      head1 (dkt D (ut (stack u0 u1 u2 u3) (stack w0 w1 w2 w3) S)) := rfl

theorem dk_5_0 (u0 u1 u2 u3 w0 w1 w2 w3 : Vec Ideal S64x128 .f32) (S : Vec Ideal S1x4x128x128 .f32) (D : Vec Ideal S4x128x128 .f32) :
    k0_pay126 (F := Ideal) (k0_pay117 (F := Ideal) (stack u0 u1 u2 u3) (stack w0 w1 w2 w3) (shapeCast S4x128x128 S shapeCasts_S1x4x128x128_S4x128x128)) (k0_pay118 (F := Ideal) D) (constant (F := Ideal) S4x64x128 .f32 0x00000000#32) =
      head0 (dkt D (ut (stack u0 u1 u2 u3) (stack w0 w1 w2 w3) S)) := rfl

theorem dk_6_3 (u0 u1 u2 u3 w0 w1 w2 w3 : Vec Ideal S64x128 .f32) (S : Vec Ideal S1x4x128x128 .f32) (D : Vec Ideal S4x128x128 .f32) :
    k0_pay97 (F := Ideal) (k0_pay74 (F := Ideal) D (k0_pay66 (F := Ideal) (stack u0 u1 u2 u3) (stack w0 w1 w2 w3) S)) =
      head3 (dkt D (ut (stack u0 u1 u2 u3) (stack w0 w1 w2 w3) S)) := rfl

theorem dk_6_2 (u0 u1 u2 u3 w0 w1 w2 w3 : Vec Ideal S64x128 .f32) (S : Vec Ideal S1x4x128x128 .f32) (D : Vec Ideal S4x128x128 .f32) :
    k0_pay92 (F := Ideal) (k0_pay74 (F := Ideal) D (k0_pay66 (F := Ideal) (stack u0 u1 u2 u3) (stack w0 w1 w2 w3) S)) =
      head2 (dkt D (ut (stack u0 u1 u2 u3) (stack w0 w1 w2 w3) S)) := rfl

theorem dk_6_1 (u0 u1 u2 u3 w0 w1 w2 w3 : Vec Ideal S64x128 .f32) (S : Vec Ideal S1x4x128x128 .f32) (D : Vec Ideal S4x128x128 .f32) :
    k0_pay86 (F := Ideal) (k0_pay74 (F := Ideal) D (k0_pay66 (F := Ideal) (stack u0 u1 u2 u3) (stack w0 w1 w2 w3) S)) =
      head1 (dkt D (ut (stack u0 u1 u2 u3) (stack w0 w1 w2 w3) S)) := rfl

theorem dk_6_0 (u0 u1 u2 u3 w0 w1 w2 w3 : Vec Ideal S64x128 .f32) (S : Vec Ideal S1x4x128x128 .f32) (D : Vec Ideal S4x128x128 .f32) :
    k0_pay81 (F := Ideal) (k0_pay74 (F := Ideal) D (k0_pay66 (F := Ideal) (stack u0 u1 u2 u3) (stack w0 w1 w2 w3) S)) =
      head0 (dkt D (ut (stack u0 u1 u2 u3) (stack w0 w1 w2 w3) S)) := rfl

theorem dk_7_3 (u0 u1 u2 u3 w0 w1 w2 w3 : Vec Ideal S64x128 .f32) (S : Vec Ideal S1x4x128x128 .f32) (D : Vec Ideal S4x128x128 .f32) :
    k0_pay48 (F := Ideal) (k0_pay24 (F := Ideal) D (k0_pay19 (F := Ideal) (stack u0 u1 u2 u3) w0 w1 w2 w3 S)) =
      head3 (dkt D (ut (stack u0 u1 u2 u3) (stack w0 w1 w2 w3) S)) := rfl

theorem dk_7_2 (u0 u1 u2 u3 w0 w1 w2 w3 : Vec Ideal S64x128 .f32) (S : Vec Ideal S1x4x128x128 .f32) (D : Vec Ideal S4x128x128 .f32) :
    k0_pay42 (F := Ideal) (k0_pay24 (F := Ideal) D (k0_pay19 (F := Ideal) (stack u0 u1 u2 u3) w0 w1 w2 w3 S)) =
      head2 (dkt D (ut (stack u0 u1 u2 u3) (stack w0 w1 w2 w3) S)) := rfl

theorem dk_7_1 (u0 u1 u2 u3 w0 w1 w2 w3 : Vec Ideal S64x128 .f32) (S : Vec Ideal S1x4x128x128 .f32) (D : Vec Ideal S4x128x128 .f32) :
    k0_pay37 (F := Ideal) (k0_pay24 (F := Ideal) D (k0_pay19 (F := Ideal) (stack u0 u1 u2 u3) w0 w1 w2 w3 S)) =
      head1 (dkt D (ut (stack u0 u1 u2 u3) (stack w0 w1 w2 w3) S)) := rfl

theorem dk_7_0 (u0 u1 u2 u3 w0 w1 w2 w3 : Vec Ideal S64x128 .f32) (S : Vec Ideal S1x4x128x128 .f32) (D : Vec Ideal S4x128x128 .f32) :
    k0_pay31 (F := Ideal) (k0_pay24 (F := Ideal) D (k0_pay19 (F := Ideal) (stack u0 u1 u2 u3) w0 w1 w2 w3 S)) =
      head0 (dkt D (ut (stack u0 u1 u2 u3) (stack w0 w1 w2 w3) S)) := rfl

end Cert.KernelIdeal.Scan
-- ==== Proof.ScanPointA3.lean ====
module

public import proofs.«01_k».proof.Proof.ScanBlock
public import proofs.«01_k».proof.Proof.ScanFormsA
public import proofs.«01_k».proof.Proof.ScanFormsC

open Idealize Idealize.ShloMosaic Cert.KernelIdeal.Gen
open Idealize.SL.Sem Idealize.ShloMosaic.TcCoe

/-!
What one grid point writes, at the first point of a head group, which starts from nothing.
-/

set_option maxRecDepth 16384

@[expose] public section

namespace Cert.KernelIdeal.Scan

variable (m : (ℓ : Loc nD τ sig) → Buf (Elt Ideal) ℓ)

set_option maxHeartbeats 4000000 in
set_option backward.isDefEq.respectTransparency false in
theorem dq_A (c : Dev nD) (t : Fin cfg0.N) (h0 : t.val % 8 = 0) :
    (outsAt0 m c t.val t.isLt).2.2.1 = tiles (DQ (blk m c t)) := by
  rw [outsAt0_A m c t h0]; frame_out
  try simp only [↓cat_stack]
  try simp only [↓cat_mixed]
  simp only [til_load, row_load, gcl_load, ach_load, sch_load]
  simp only [dq_0_3, dq_0_2, dq_0_1, dq_0_0, dq_1_3, dq_1_2, dq_1_1, dq_1_0, dq_2_3, dq_2_2, dq_2_1, dq_2_0, dq_3_3,
    dq_3_2, dq_3_1, dq_3_0, dq_4_3, dq_4_2, dq_4_1, dq_4_0, dq_5_3, dq_5_2, dq_5_1, dq_5_0, dq_6_3, dq_6_2, dq_6_1,
    dq_6_0, dq_7_3, dq_7_2, dq_7_1, dq_7_0]
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact tile3_at (DQ ⟨x0, x1, x2, x3, x4, x5, x6, x7, x8⟩) 0 _ _ (by omega) (by omega)
  · exact tile2_at (DQ ⟨x0, x1, x2, x3, x4, x5, x6, x7, x8⟩) 0 _ _ (by omega) (by omega)
  · exact tile1_at (DQ ⟨x0, x1, x2, x3, x4, x5, x6, x7, x8⟩) 0 _ _ (by omega) (by omega)
  · exact tile0_at (DQ ⟨x0, x1, x2, x3, x4, x5, x6, x7, x8⟩) 0 _ _ (by omega) (by omega)
  · exact tile3_at (DQ ⟨x0, x1, x2, x3, x4, x5, x6, x7, x8⟩) 1 _ _ (by omega) (by omega)
  · exact tile2_at (DQ ⟨x0, x1, x2, x3, x4, x5, x6, x7, x8⟩) 1 _ _ (by omega) (by omega)
  · exact tile1_at (DQ ⟨x0, x1, x2, x3, x4, x5, x6, x7, x8⟩) 1 _ _ (by omega) (by omega)
  · exact tile0_at (DQ ⟨x0, x1, x2, x3, x4, x5, x6, x7, x8⟩) 1 _ _ (by omega) (by omega)
  · exact tile3_at (DQ ⟨x0, x1, x2, x3, x4, x5, x6, x7, x8⟩) 2 _ _ (by omega) (by omega)
  · exact tile2_at (DQ ⟨x0, x1, x2, x3, x4, x5, x6, x7, x8⟩) 2 _ _ (by omega) (by omega)
  · exact tile1_at (DQ ⟨x0, x1, x2, x3, x4, x5, x6, x7, x8⟩) 2 _ _ (by omega) (by omega)
  · exact tile0_at (DQ ⟨x0, x1, x2, x3, x4, x5, x6, x7, x8⟩) 2 _ _ (by omega) (by omega)
  · exact tile3_at (DQ ⟨x0, x1, x2, x3, x4, x5, x6, x7, x8⟩) 3 _ _ (by omega) (by omega)
  · exact tile2_at (DQ ⟨x0, x1, x2, x3, x4, x5, x6, x7, x8⟩) 3 _ _ (by omega) (by omega)
  · exact tile1_at (DQ ⟨x0, x1, x2, x3, x4, x5, x6, x7, x8⟩) 3 _ _ (by omega) (by omega)
  · exact tile0_at (DQ ⟨x0, x1, x2, x3, x4, x5, x6, x7, x8⟩) 3 _ _ (by omega) (by omega)
  · exact tile3_at (DQ ⟨x0, x1, x2, x3, x4, x5, x6, x7, x8⟩) 4 _ _ (by omega) (by omega)
  · exact tile2_at (DQ ⟨x0, x1, x2, x3, x4, x5, x6, x7, x8⟩) 4 _ _ (by omega) (by omega)
  · exact tile1_at (DQ ⟨x0, x1, x2, x3, x4, x5, x6, x7, x8⟩) 4 _ _ (by omega) (by omega)
  · exact tile0_at (DQ ⟨x0, x1, x2, x3, x4, x5, x6, x7, x8⟩) 4 _ _ (by omega) (by omega)
  · exact tile3_at (DQ ⟨x0, x1, x2, x3, x4, x5, x6, x7, x8⟩) 5 _ _ (by omega) (by omega)
  · exact tile2_at (DQ ⟨x0, x1, x2, x3, x4, x5, x6, x7, x8⟩) 5 _ _ (by omega) (by omega)
  · exact tile1_at (DQ ⟨x0, x1, x2, x3, x4, x5, x6, x7, x8⟩) 5 _ _ (by omega) (by omega)
  · exact tile0_at (DQ ⟨x0, x1, x2, x3, x4, x5, x6, x7, x8⟩) 5 _ _ (by omega) (by omega)
  · exact tile3_at (DQ ⟨x0, x1, x2, x3, x4, x5, x6, x7, x8⟩) 6 _ _ (by omega) (by omega)
  · exact tile2_at (DQ ⟨x0, x1, x2, x3, x4, x5, x6, x7, x8⟩) 6 _ _ (by omega) (by omega)
  · exact tile1_at (DQ ⟨x0, x1, x2, x3, x4, x5, x6, x7, x8⟩) 6 _ _ (by omega) (by omega)
  · exact tile0_at (DQ ⟨x0, x1, x2, x3, x4, x5, x6, x7, x8⟩) 6 _ _ (by omega) (by omega)
  · exact tile3_at (DQ ⟨x0, x1, x2, x3, x4, x5, x6, x7, x8⟩) 7 _ _ (by omega) (by omega)
  · exact tile2_at (DQ ⟨x0, x1, x2, x3, x4, x5, x6, x7, x8⟩) 7 _ _ (by omega) (by omega)
  · exact tile1_at (DQ ⟨x0, x1, x2, x3, x4, x5, x6, x7, x8⟩) 7 _ _ (by omega) (by omega)
  · exact tile0_at (DQ ⟨x0, x1, x2, x3, x4, x5, x6, x7, x8⟩) 7 _ _ (by omega) (by omega)

set_option maxHeartbeats 4000000 in
set_option backward.isDefEq.respectTransparency false in
theorem dk_A (c : Dev nD) (t : Fin cfg0.N) (h0 : t.val % 8 = 0) :
    (outsAt0 m c t.val t.isLt).2.2.2.1 = tiles (DK (blk m c t) (k0_pay2 (F := Ideal))) := by
  rw [outsAt0_A m c t h0]; frame_out
  try simp only [↓cat_stack]
  try simp only [↓cat_mixed]
  simp only [til_load, row_load, gcl_load, ach_load, sch_load]
  simp only [next_7, next_6, next_5, next_4, next_3, next_2, next_1, next_0, dk_0_3, dk_0_2, dk_0_1, dk_0_0, dk_1_3,
    dk_1_2, dk_1_1, dk_1_0, dk_2_3, dk_2_2, dk_2_1, dk_2_0, dk_3_3, dk_3_2, dk_3_1, dk_3_0, dk_4_3, dk_4_2, dk_4_1,
    dk_4_0, dk_5_3, dk_5_2, dk_5_1, dk_5_0, dk_6_3, dk_6_2, dk_6_1, dk_6_0, dk_7_3, dk_7_2, dk_7_1, dk_7_0]
  generalize (k0_pay2 (F := Ideal)) = D
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact tile3_at (DK ⟨x0, x1, x2, x3, x4, x5, x6, x7, x8⟩ D) 0 _ _ (by omega) (by omega)
  · exact tile2_at (DK ⟨x0, x1, x2, x3, x4, x5, x6, x7, x8⟩ D) 0 _ _ (by omega) (by omega)
  · exact tile1_at (DK ⟨x0, x1, x2, x3, x4, x5, x6, x7, x8⟩ D) 0 _ _ (by omega) (by omega)
  · exact tile0_at (DK ⟨x0, x1, x2, x3, x4, x5, x6, x7, x8⟩ D) 0 _ _ (by omega) (by omega)
  · exact tile3_at (DK ⟨x0, x1, x2, x3, x4, x5, x6, x7, x8⟩ D) 1 _ _ (by omega) (by omega)
  · exact tile2_at (DK ⟨x0, x1, x2, x3, x4, x5, x6, x7, x8⟩ D) 1 _ _ (by omega) (by omega)
  · exact tile1_at (DK ⟨x0, x1, x2, x3, x4, x5, x6, x7, x8⟩ D) 1 _ _ (by omega) (by omega)
  · exact tile0_at (DK ⟨x0, x1, x2, x3, x4, x5, x6, x7, x8⟩ D) 1 _ _ (by omega) (by omega)
  · exact tile3_at (DK ⟨x0, x1, x2, x3, x4, x5, x6, x7, x8⟩ D) 2 _ _ (by omega) (by omega)
  · exact tile2_at (DK ⟨x0, x1, x2, x3, x4, x5, x6, x7, x8⟩ D) 2 _ _ (by omega) (by omega)
  · exact tile1_at (DK ⟨x0, x1, x2, x3, x4, x5, x6, x7, x8⟩ D) 2 _ _ (by omega) (by omega)
  · exact tile0_at (DK ⟨x0, x1, x2, x3, x4, x5, x6, x7, x8⟩ D) 2 _ _ (by omega) (by omega)
  · exact tile3_at (DK ⟨x0, x1, x2, x3, x4, x5, x6, x7, x8⟩ D) 3 _ _ (by omega) (by omega)
  · exact tile2_at (DK ⟨x0, x1, x2, x3, x4, x5, x6, x7, x8⟩ D) 3 _ _ (by omega) (by omega)
  · exact tile1_at (DK ⟨x0, x1, x2, x3, x4, x5, x6, x7, x8⟩ D) 3 _ _ (by omega) (by omega)
  · exact tile0_at (DK ⟨x0, x1, x2, x3, x4, x5, x6, x7, x8⟩ D) 3 _ _ (by omega) (by omega)
  · exact tile3_at (DK ⟨x0, x1, x2, x3, x4, x5, x6, x7, x8⟩ D) 4 _ _ (by omega) (by omega)
  · exact tile2_at (DK ⟨x0, x1, x2, x3, x4, x5, x6, x7, x8⟩ D) 4 _ _ (by omega) (by omega)
  · exact tile1_at (DK ⟨x0, x1, x2, x3, x4, x5, x6, x7, x8⟩ D) 4 _ _ (by omega) (by omega)
  · exact tile0_at (DK ⟨x0, x1, x2, x3, x4, x5, x6, x7, x8⟩ D) 4 _ _ (by omega) (by omega)
  · exact tile3_at (DK ⟨x0, x1, x2, x3, x4, x5, x6, x7, x8⟩ D) 5 _ _ (by omega) (by omega)
  · exact tile2_at (DK ⟨x0, x1, x2, x3, x4, x5, x6, x7, x8⟩ D) 5 _ _ (by omega) (by omega)
  · exact tile1_at (DK ⟨x0, x1, x2, x3, x4, x5, x6, x7, x8⟩ D) 5 _ _ (by omega) (by omega)
  · exact tile0_at (DK ⟨x0, x1, x2, x3, x4, x5, x6, x7, x8⟩ D) 5 _ _ (by omega) (by omega)
  · exact tile3_at (DK ⟨x0, x1, x2, x3, x4, x5, x6, x7, x8⟩ D) 6 _ _ (by omega) (by omega)
  · exact tile2_at (DK ⟨x0, x1, x2, x3, x4, x5, x6, x7, x8⟩ D) 6 _ _ (by omega) (by omega)
  · exact tile1_at (DK ⟨x0, x1, x2, x3, x4, x5, x6, x7, x8⟩ D) 6 _ _ (by omega) (by omega)
  · exact tile0_at (DK ⟨x0, x1, x2, x3, x4, x5, x6, x7, x8⟩ D) 6 _ _ (by omega) (by omega)
  · exact tile3_at (DK ⟨x0, x1, x2, x3, x4, x5, x6, x7, x8⟩ D) 7 _ _ (by omega) (by omega)
  · exact tile2_at (DK ⟨x0, x1, x2, x3, x4, x5, x6, x7, x8⟩ D) 7 _ _ (by omega) (by omega)
  · exact tile1_at (DK ⟨x0, x1, x2, x3, x4, x5, x6, x7, x8⟩ D) 7 _ _ (by omega) (by omega)
  · exact tile0_at (DK ⟨x0, x1, x2, x3, x4, x5, x6, x7, x8⟩ D) 7 _ _ (by omega) (by omega)

end Cert.KernelIdeal.Scan
-- ==== Proof.ScanPointA4.lean ====
module

public import proofs.«01_k».proof.Proof.ScanBlock
public import proofs.«01_k».proof.Proof.ScanFormsA

open Idealize Idealize.ShloMosaic Cert.KernelIdeal.Gen
open Idealize.SL.Sem Idealize.ShloMosaic.TcCoe

/-!
What one grid point writes, at the first point of a head group, which starts from nothing.
-/

set_option maxRecDepth 16384

@[expose] public section

namespace Cert.KernelIdeal.Scan

variable (m : (ℓ : Loc nD τ sig) → Buf (Elt Ideal) ℓ)

set_option maxHeartbeats 4000000 in
set_option backward.isDefEq.respectTransparency false in
theorem da_A (c : Dev nD) (t : Fin cfg0.N) (h0 : t.val % 8 = 0) :
    (outsAt0 m c t.val t.isLt).2.2.2.2.1 = chunksA (DA (blk m c t)) := by
  rw [outsAt0_A m c t h0]; frame_out
  try simp only [↓cat_stack]
  try simp only [↓cat_mixed]
  simp only [til_load, row_load, gcl_load, ach_load, sch_load]
  simp only [da_0, da_1, da_2, da_3, da_4, da_5, da_6, da_7]
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact chunksA_at (DA ⟨x0, x1, x2, x3, x4, x5, x6, x7, x8⟩) 0 _ _ (by omega) (by omega) (by omega) (by omega)
  · exact chunksA_at (DA ⟨x0, x1, x2, x3, x4, x5, x6, x7, x8⟩) 1 _ _ (by omega) (by omega) (by omega) (by omega)
  · exact chunksA_at (DA ⟨x0, x1, x2, x3, x4, x5, x6, x7, x8⟩) 2 _ _ (by omega) (by omega) (by omega) (by omega)
  · exact chunksA_at (DA ⟨x0, x1, x2, x3, x4, x5, x6, x7, x8⟩) 3 _ _ (by omega) (by omega) (by omega) (by omega)
  · exact chunksA_at (DA ⟨x0, x1, x2, x3, x4, x5, x6, x7, x8⟩) 4 _ _ (by omega) (by omega) (by omega) (by omega)
  · exact chunksA_at (DA ⟨x0, x1, x2, x3, x4, x5, x6, x7, x8⟩) 5 _ _ (by omega) (by omega) (by omega) (by omega)
  · exact chunksA_at (DA ⟨x0, x1, x2, x3, x4, x5, x6, x7, x8⟩) 6 _ _ (by omega) (by omega) (by omega) (by omega)
  · exact chunksA_at (DA ⟨x0, x1, x2, x3, x4, x5, x6, x7, x8⟩) 7 _ _ (by omega) (by omega) (by omega) (by omega)

set_option maxHeartbeats 4000000 in
set_option backward.isDefEq.respectTransparency false in
theorem dg_A (c : Dev nD) (t : Fin cfg0.N) (h0 : t.val % 8 = 0) :
    (outsAt0 m c t.val t.isLt).2.2.2.2.2.1 = chunksG (DG (blk m c t) (k0_pay2 (F := Ideal))) := by
  rw [outsAt0_A m c t h0]; frame_out
  try simp only [↓cat_stack]
  try simp only [↓cat_mixed]
  simp only [til_load, row_load, gcl_load, ach_load, sch_load]
  simp only [next_7, next_6, next_5, next_4, next_3, next_2, next_1, next_0, dg_0, dg_1, dg_2, dg_3, dg_4, dg_5, dg_6,
    dg_7]
  generalize (k0_pay2 (F := Ideal)) = D
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact chunksG_at (DG ⟨x0, x1, x2, x3, x4, x5, x6, x7, x8⟩ D) 0 _ _ (by omega) (by omega) (by omega)
  · exact chunksG_at (DG ⟨x0, x1, x2, x3, x4, x5, x6, x7, x8⟩ D) 1 _ _ (by omega) (by omega) (by omega)
  · exact chunksG_at (DG ⟨x0, x1, x2, x3, x4, x5, x6, x7, x8⟩ D) 2 _ _ (by omega) (by omega) (by omega)
  · exact chunksG_at (DG ⟨x0, x1, x2, x3, x4, x5, x6, x7, x8⟩ D) 3 _ _ (by omega) (by omega) (by omega)
  · exact chunksG_at (DG ⟨x0, x1, x2, x3, x4, x5, x6, x7, x8⟩ D) 4 _ _ (by omega) (by omega) (by omega)
  · exact chunksG_at (DG ⟨x0, x1, x2, x3, x4, x5, x6, x7, x8⟩ D) 5 _ _ (by omega) (by omega) (by omega)
  · exact chunksG_at (DG ⟨x0, x1, x2, x3, x4, x5, x6, x7, x8⟩ D) 6 _ _ (by omega) (by omega) (by omega)
  · exact chunksG_at (DG ⟨x0, x1, x2, x3, x4, x5, x6, x7, x8⟩ D) 7 _ _ (by omega) (by omega) (by omega)

set_option maxHeartbeats 4000000 in
set_option backward.isDefEq.respectTransparency false in
theorem carry_A (c : Dev nD) (t : Fin cfg0.N) (h0 : t.val % 8 = 0) :
    (outsAt0 m c t.val t.isLt).2.2.2.2.2.2 = chain (blk m c t) (k0_pay2 (F := Ideal)) 8 := by
  rw [outsAt0_A m c t h0]; frame_out
  try simp only [↓cat_stack]
  try simp only [↓cat_mixed]
  simp only [til_load, row_load, gcl_load, ach_load, sch_load]
  simp only [next_7, next_6, next_5, next_4, next_3, next_2, next_1, next_0]
  rfl

end Cert.KernelIdeal.Scan
-- ==== Proof.ScanPointB1.lean ====
module

public import proofs.«01_k».proof.Proof.ScanBlock
public import proofs.«01_k».proof.Proof.ScanFormsA
public import proofs.«01_k».proof.Proof.ScanFormsB

open Idealize Idealize.ShloMosaic Cert.KernelIdeal.Gen
open Idealize.SL.Sem Idealize.ShloMosaic.TcCoe

/-!
What one grid point writes, from the gradient the point before left.
-/

set_option maxRecDepth 16384

@[expose] public section

namespace Cert.KernelIdeal.Scan

variable (m : (ℓ : Loc nD τ sig) → Buf (Elt Ideal) ℓ)

set_option maxHeartbeats 4000000 in
set_option backward.isDefEq.respectTransparency false in
theorem du_B (c : Dev nD) (t : Fin cfg0.N) (h0 : ¬ t.val % 8 = 0) :
    (outsAt0 m c t.val t.isLt).1 = tiles (DU (blk m c t) (outsAt0 m c (t.val - 1) (by omega)).2.2.2.2.2.2) := by
  rw [outsAt0_B m c t h0]; frame_out
  try simp only [↓cat_stack]
  try simp only [↓cat_mixed]
  simp only [til_load, row_load, gcl_load, ach_load, sch_load]
  simp only [next_7, next_6, next_5, next_4, next_3, next_2, next_1, next_0, du_0_3, du_0_2, du_0_1, du_0_0, du_1_3,
    du_1_2, du_1_1, du_1_0, du_2_3, du_2_2, du_2_1, du_2_0, du_3_3, du_3_2, du_3_1, du_3_0, du_4_3, du_4_2, du_4_1,
    du_4_0, du_5_3, du_5_2, du_5_1, du_5_0, du_6_3, du_6_2, du_6_1, du_6_0, du_7_3, du_7_2, du_7_1, du_7_0]
  rw [(Memref.isWhole_whole cc0_scratch0).read_unread]
  generalize (outsAt0 m c (t.val - 1) _).2.2.2.2.2.2 = D
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact tile3_at (DU ⟨x0, x1, x2, x3, x4, x5, x6, x7, x8⟩ D) 0 _ _ (by omega) (by omega)
  · exact tile2_at (DU ⟨x0, x1, x2, x3, x4, x5, x6, x7, x8⟩ D) 0 _ _ (by omega) (by omega)
  · exact tile1_at (DU ⟨x0, x1, x2, x3, x4, x5, x6, x7, x8⟩ D) 0 _ _ (by omega) (by omega)
  · exact tile0_at (DU ⟨x0, x1, x2, x3, x4, x5, x6, x7, x8⟩ D) 0 _ _ (by omega) (by omega)
  · exact tile3_at (DU ⟨x0, x1, x2, x3, x4, x5, x6, x7, x8⟩ D) 1 _ _ (by omega) (by omega)
  · exact tile2_at (DU ⟨x0, x1, x2, x3, x4, x5, x6, x7, x8⟩ D) 1 _ _ (by omega) (by omega)
  · exact tile1_at (DU ⟨x0, x1, x2, x3, x4, x5, x6, x7, x8⟩ D) 1 _ _ (by omega) (by omega)
  · exact tile0_at (DU ⟨x0, x1, x2, x3, x4, x5, x6, x7, x8⟩ D) 1 _ _ (by omega) (by omega)
  · exact tile3_at (DU ⟨x0, x1, x2, x3, x4, x5, x6, x7, x8⟩ D) 2 _ _ (by omega) (by omega)
  · exact tile2_at (DU ⟨x0, x1, x2, x3, x4, x5, x6, x7, x8⟩ D) 2 _ _ (by omega) (by omega)
  · exact tile1_at (DU ⟨x0, x1, x2, x3, x4, x5, x6, x7, x8⟩ D) 2 _ _ (by omega) (by omega)
  · exact tile0_at (DU ⟨x0, x1, x2, x3, x4, x5, x6, x7, x8⟩ D) 2 _ _ (by omega) (by omega)
  · exact tile3_at (DU ⟨x0, x1, x2, x3, x4, x5, x6, x7, x8⟩ D) 3 _ _ (by omega) (by omega)
  · exact tile2_at (DU ⟨x0, x1, x2, x3, x4, x5, x6, x7, x8⟩ D) 3 _ _ (by omega) (by omega)
  · exact tile1_at (DU ⟨x0, x1, x2, x3, x4, x5, x6, x7, x8⟩ D) 3 _ _ (by omega) (by omega)
  · exact tile0_at (DU ⟨x0, x1, x2, x3, x4, x5, x6, x7, x8⟩ D) 3 _ _ (by omega) (by omega)
  · exact tile3_at (DU ⟨x0, x1, x2, x3, x4, x5, x6, x7, x8⟩ D) 4 _ _ (by omega) (by omega)
  · exact tile2_at (DU ⟨x0, x1, x2, x3, x4, x5, x6, x7, x8⟩ D) 4 _ _ (by omega) (by omega)
  · exact tile1_at (DU ⟨x0, x1, x2, x3, x4, x5, x6, x7, x8⟩ D) 4 _ _ (by omega) (by omega)
  · exact tile0_at (DU ⟨x0, x1, x2, x3, x4, x5, x6, x7, x8⟩ D) 4 _ _ (by omega) (by omega)
  · exact tile3_at (DU ⟨x0, x1, x2, x3, x4, x5, x6, x7, x8⟩ D) 5 _ _ (by omega) (by omega)
  · exact tile2_at (DU ⟨x0, x1, x2, x3, x4, x5, x6, x7, x8⟩ D) 5 _ _ (by omega) (by omega)
  · exact tile1_at (DU ⟨x0, x1, x2, x3, x4, x5, x6, x7, x8⟩ D) 5 _ _ (by omega) (by omega)
  · exact tile0_at (DU ⟨x0, x1, x2, x3, x4, x5, x6, x7, x8⟩ D) 5 _ _ (by omega) (by omega)
  · exact tile3_at (DU ⟨x0, x1, x2, x3, x4, x5, x6, x7, x8⟩ D) 6 _ _ (by omega) (by omega)
  · exact tile2_at (DU ⟨x0, x1, x2, x3, x4, x5, x6, x7, x8⟩ D) 6 _ _ (by omega) (by omega)
  · exact tile1_at (DU ⟨x0, x1, x2, x3, x4, x5, x6, x7, x8⟩ D) 6 _ _ (by omega) (by omega)
  · exact tile0_at (DU ⟨x0, x1, x2, x3, x4, x5, x6, x7, x8⟩ D) 6 _ _ (by omega) (by omega)
  · exact tile3_at (DU ⟨x0, x1, x2, x3, x4, x5, x6, x7, x8⟩ D) 7 _ _ (by omega) (by omega)
  · exact tile2_at (DU ⟨x0, x1, x2, x3, x4, x5, x6, x7, x8⟩ D) 7 _ _ (by omega) (by omega)
  · exact tile1_at (DU ⟨x0, x1, x2, x3, x4, x5, x6, x7, x8⟩ D) 7 _ _ (by omega) (by omega)
  · exact tile0_at (DU ⟨x0, x1, x2, x3, x4, x5, x6, x7, x8⟩ D) 7 _ _ (by omega) (by omega)

end Cert.KernelIdeal.Scan
-- ==== Proof.ScanPointB2.lean ====
module

public import proofs.«01_k».proof.Proof.ScanBlock
public import proofs.«01_k».proof.Proof.ScanFormsA
public import proofs.«01_k».proof.Proof.ScanFormsB

open Idealize Idealize.ShloMosaic Cert.KernelIdeal.Gen
open Idealize.SL.Sem Idealize.ShloMosaic.TcCoe

/-!
What one grid point writes, from the gradient the point before left.
-/

set_option maxRecDepth 16384

@[expose] public section

namespace Cert.KernelIdeal.Scan

variable (m : (ℓ : Loc nD τ sig) → Buf (Elt Ideal) ℓ)

set_option maxHeartbeats 4000000 in
set_option backward.isDefEq.respectTransparency false in
theorem dw_B (c : Dev nD) (t : Fin cfg0.N) (h0 : ¬ t.val % 8 = 0) :
    (outsAt0 m c t.val t.isLt).2.1 = tiles (DW (blk m c t) (outsAt0 m c (t.val - 1) (by omega)).2.2.2.2.2.2) := by
  rw [outsAt0_B m c t h0]; frame_out
  try simp only [↓cat_stack]
  try simp only [↓cat_mixed]
  simp only [til_load, row_load, gcl_load, ach_load, sch_load]
  simp only [next_7, next_6, next_5, next_4, next_3, next_2, next_1, next_0, dw_0_3, dw_0_2, dw_0_1, dw_0_0, dw_1_3,
    dw_1_2, dw_1_1, dw_1_0, dw_2_3, dw_2_2, dw_2_1, dw_2_0, dw_3_3, dw_3_2, dw_3_1, dw_3_0, dw_4_3, dw_4_2, dw_4_1,
    dw_4_0, dw_5_3, dw_5_2, dw_5_1, dw_5_0, dw_6_3, dw_6_2, dw_6_1, dw_6_0, dw_7_3, dw_7_2, dw_7_1, dw_7_0]
  rw [(Memref.isWhole_whole cc0_scratch0).read_unread]
  generalize (outsAt0 m c (t.val - 1) _).2.2.2.2.2.2 = D
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact tile3_at (DW ⟨x0, x1, x2, x3, x4, x5, x6, x7, x8⟩ D) 0 _ _ (by omega) (by omega)
  · exact tile2_at (DW ⟨x0, x1, x2, x3, x4, x5, x6, x7, x8⟩ D) 0 _ _ (by omega) (by omega)
  · exact tile1_at (DW ⟨x0, x1, x2, x3, x4, x5, x6, x7, x8⟩ D) 0 _ _ (by omega) (by omega)
  · exact tile0_at (DW ⟨x0, x1, x2, x3, x4, x5, x6, x7, x8⟩ D) 0 _ _ (by omega) (by omega)
  · exact tile3_at (DW ⟨x0, x1, x2, x3, x4, x5, x6, x7, x8⟩ D) 1 _ _ (by omega) (by omega)
  · exact tile2_at (DW ⟨x0, x1, x2, x3, x4, x5, x6, x7, x8⟩ D) 1 _ _ (by omega) (by omega)
  · exact tile1_at (DW ⟨x0, x1, x2, x3, x4, x5, x6, x7, x8⟩ D) 1 _ _ (by omega) (by omega)
  · exact tile0_at (DW ⟨x0, x1, x2, x3, x4, x5, x6, x7, x8⟩ D) 1 _ _ (by omega) (by omega)
  · exact tile3_at (DW ⟨x0, x1, x2, x3, x4, x5, x6, x7, x8⟩ D) 2 _ _ (by omega) (by omega)
  · exact tile2_at (DW ⟨x0, x1, x2, x3, x4, x5, x6, x7, x8⟩ D) 2 _ _ (by omega) (by omega)
  · exact tile1_at (DW ⟨x0, x1, x2, x3, x4, x5, x6, x7, x8⟩ D) 2 _ _ (by omega) (by omega)
  · exact tile0_at (DW ⟨x0, x1, x2, x3, x4, x5, x6, x7, x8⟩ D) 2 _ _ (by omega) (by omega)
  · exact tile3_at (DW ⟨x0, x1, x2, x3, x4, x5, x6, x7, x8⟩ D) 3 _ _ (by omega) (by omega)
  · exact tile2_at (DW ⟨x0, x1, x2, x3, x4, x5, x6, x7, x8⟩ D) 3 _ _ (by omega) (by omega)
  · exact tile1_at (DW ⟨x0, x1, x2, x3, x4, x5, x6, x7, x8⟩ D) 3 _ _ (by omega) (by omega)
  · exact tile0_at (DW ⟨x0, x1, x2, x3, x4, x5, x6, x7, x8⟩ D) 3 _ _ (by omega) (by omega)
  · exact tile3_at (DW ⟨x0, x1, x2, x3, x4, x5, x6, x7, x8⟩ D) 4 _ _ (by omega) (by omega)
  · exact tile2_at (DW ⟨x0, x1, x2, x3, x4, x5, x6, x7, x8⟩ D) 4 _ _ (by omega) (by omega)
  · exact tile1_at (DW ⟨x0, x1, x2, x3, x4, x5, x6, x7, x8⟩ D) 4 _ _ (by omega) (by omega)
  · exact tile0_at (DW ⟨x0, x1, x2, x3, x4, x5, x6, x7, x8⟩ D) 4 _ _ (by omega) (by omega)
  · exact tile3_at (DW ⟨x0, x1, x2, x3, x4, x5, x6, x7, x8⟩ D) 5 _ _ (by omega) (by omega)
  · exact tile2_at (DW ⟨x0, x1, x2, x3, x4, x5, x6, x7, x8⟩ D) 5 _ _ (by omega) (by omega)
  · exact tile1_at (DW ⟨x0, x1, x2, x3, x4, x5, x6, x7, x8⟩ D) 5 _ _ (by omega) (by omega)
  · exact tile0_at (DW ⟨x0, x1, x2, x3, x4, x5, x6, x7, x8⟩ D) 5 _ _ (by omega) (by omega)
  · exact tile3_at (DW ⟨x0, x1, x2, x3, x4, x5, x6, x7, x8⟩ D) 6 _ _ (by omega) (by omega)
  · exact tile2_at (DW ⟨x0, x1, x2, x3, x4, x5, x6, x7, x8⟩ D) 6 _ _ (by omega) (by omega)
  · exact tile1_at (DW ⟨x0, x1, x2, x3, x4, x5, x6, x7, x8⟩ D) 6 _ _ (by omega) (by omega)
  · exact tile0_at (DW ⟨x0, x1, x2, x3, x4, x5, x6, x7, x8⟩ D) 6 _ _ (by omega) (by omega)
  · exact tile3_at (DW ⟨x0, x1, x2, x3, x4, x5, x6, x7, x8⟩ D) 7 _ _ (by omega) (by omega)
  · exact tile2_at (DW ⟨x0, x1, x2, x3, x4, x5, x6, x7, x8⟩ D) 7 _ _ (by omega) (by omega)
  · exact tile1_at (DW ⟨x0, x1, x2, x3, x4, x5, x6, x7, x8⟩ D) 7 _ _ (by omega) (by omega)
  · exact tile0_at (DW ⟨x0, x1, x2, x3, x4, x5, x6, x7, x8⟩ D) 7 _ _ (by omega) (by omega)

end Cert.KernelIdeal.Scan
-- ==== Proof.ScanPointB3.lean ====
module

public import proofs.«01_k».proof.Proof.ScanBlock
public import proofs.«01_k».proof.Proof.ScanFormsA
public import proofs.«01_k».proof.Proof.ScanFormsC

open Idealize Idealize.ShloMosaic Cert.KernelIdeal.Gen
open Idealize.SL.Sem Idealize.ShloMosaic.TcCoe

/-!
What one grid point writes, from the gradient the point before left.
-/

set_option maxRecDepth 16384

@[expose] public section

namespace Cert.KernelIdeal.Scan

variable (m : (ℓ : Loc nD τ sig) → Buf (Elt Ideal) ℓ)

set_option maxHeartbeats 4000000 in
set_option backward.isDefEq.respectTransparency false in
theorem dq_B (c : Dev nD) (t : Fin cfg0.N) (h0 : ¬ t.val % 8 = 0) :
    (outsAt0 m c t.val t.isLt).2.2.1 = tiles (DQ (blk m c t)) := by
  rw [outsAt0_B m c t h0]; frame_out
  try simp only [↓cat_stack]
  try simp only [↓cat_mixed]
  simp only [til_load, row_load, gcl_load, ach_load, sch_load]
  simp only [dq_0_3, dq_0_2, dq_0_1, dq_0_0, dq_1_3, dq_1_2, dq_1_1, dq_1_0, dq_2_3, dq_2_2, dq_2_1, dq_2_0, dq_3_3,
    dq_3_2, dq_3_1, dq_3_0, dq_4_3, dq_4_2, dq_4_1, dq_4_0, dq_5_3, dq_5_2, dq_5_1, dq_5_0, dq_6_3, dq_6_2, dq_6_1,
    dq_6_0, dq_7_3, dq_7_2, dq_7_1, dq_7_0]
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact tile3_at (DQ ⟨x0, x1, x2, x3, x4, x5, x6, x7, x8⟩) 0 _ _ (by omega) (by omega)
  · exact tile2_at (DQ ⟨x0, x1, x2, x3, x4, x5, x6, x7, x8⟩) 0 _ _ (by omega) (by omega)
  · exact tile1_at (DQ ⟨x0, x1, x2, x3, x4, x5, x6, x7, x8⟩) 0 _ _ (by omega) (by omega)
  · exact tile0_at (DQ ⟨x0, x1, x2, x3, x4, x5, x6, x7, x8⟩) 0 _ _ (by omega) (by omega)
  · exact tile3_at (DQ ⟨x0, x1, x2, x3, x4, x5, x6, x7, x8⟩) 1 _ _ (by omega) (by omega)
  · exact tile2_at (DQ ⟨x0, x1, x2, x3, x4, x5, x6, x7, x8⟩) 1 _ _ (by omega) (by omega)
  · exact tile1_at (DQ ⟨x0, x1, x2, x3, x4, x5, x6, x7, x8⟩) 1 _ _ (by omega) (by omega)
  · exact tile0_at (DQ ⟨x0, x1, x2, x3, x4, x5, x6, x7, x8⟩) 1 _ _ (by omega) (by omega)
  · exact tile3_at (DQ ⟨x0, x1, x2, x3, x4, x5, x6, x7, x8⟩) 2 _ _ (by omega) (by omega)
  · exact tile2_at (DQ ⟨x0, x1, x2, x3, x4, x5, x6, x7, x8⟩) 2 _ _ (by omega) (by omega)
  · exact tile1_at (DQ ⟨x0, x1, x2, x3, x4, x5, x6, x7, x8⟩) 2 _ _ (by omega) (by omega)
  · exact tile0_at (DQ ⟨x0, x1, x2, x3, x4, x5, x6, x7, x8⟩) 2 _ _ (by omega) (by omega)
  · exact tile3_at (DQ ⟨x0, x1, x2, x3, x4, x5, x6, x7, x8⟩) 3 _ _ (by omega) (by omega)
  · exact tile2_at (DQ ⟨x0, x1, x2, x3, x4, x5, x6, x7, x8⟩) 3 _ _ (by omega) (by omega)
  · exact tile1_at (DQ ⟨x0, x1, x2, x3, x4, x5, x6, x7, x8⟩) 3 _ _ (by omega) (by omega)
  · exact tile0_at (DQ ⟨x0, x1, x2, x3, x4, x5, x6, x7, x8⟩) 3 _ _ (by omega) (by omega)
  · exact tile3_at (DQ ⟨x0, x1, x2, x3, x4, x5, x6, x7, x8⟩) 4 _ _ (by omega) (by omega)
  · exact tile2_at (DQ ⟨x0, x1, x2, x3, x4, x5, x6, x7, x8⟩) 4 _ _ (by omega) (by omega)
  · exact tile1_at (DQ ⟨x0, x1, x2, x3, x4, x5, x6, x7, x8⟩) 4 _ _ (by omega) (by omega)
  · exact tile0_at (DQ ⟨x0, x1, x2, x3, x4, x5, x6, x7, x8⟩) 4 _ _ (by omega) (by omega)
  · exact tile3_at (DQ ⟨x0, x1, x2, x3, x4, x5, x6, x7, x8⟩) 5 _ _ (by omega) (by omega)
  · exact tile2_at (DQ ⟨x0, x1, x2, x3, x4, x5, x6, x7, x8⟩) 5 _ _ (by omega) (by omega)
  · exact tile1_at (DQ ⟨x0, x1, x2, x3, x4, x5, x6, x7, x8⟩) 5 _ _ (by omega) (by omega)
  · exact tile0_at (DQ ⟨x0, x1, x2, x3, x4, x5, x6, x7, x8⟩) 5 _ _ (by omega) (by omega)
  · exact tile3_at (DQ ⟨x0, x1, x2, x3, x4, x5, x6, x7, x8⟩) 6 _ _ (by omega) (by omega)
  · exact tile2_at (DQ ⟨x0, x1, x2, x3, x4, x5, x6, x7, x8⟩) 6 _ _ (by omega) (by omega)
  · exact tile1_at (DQ ⟨x0, x1, x2, x3, x4, x5, x6, x7, x8⟩) 6 _ _ (by omega) (by omega)
  · exact tile0_at (DQ ⟨x0, x1, x2, x3, x4, x5, x6, x7, x8⟩) 6 _ _ (by omega) (by omega)
  · exact tile3_at (DQ ⟨x0, x1, x2, x3, x4, x5, x6, x7, x8⟩) 7 _ _ (by omega) (by omega)
  · exact tile2_at (DQ ⟨x0, x1, x2, x3, x4, x5, x6, x7, x8⟩) 7 _ _ (by omega) (by omega)
  · exact tile1_at (DQ ⟨x0, x1, x2, x3, x4, x5, x6, x7, x8⟩) 7 _ _ (by omega) (by omega)
  · exact tile0_at (DQ ⟨x0, x1, x2, x3, x4, x5, x6, x7, x8⟩) 7 _ _ (by omega) (by omega)

set_option maxHeartbeats 4000000 in
set_option backward.isDefEq.respectTransparency false in
theorem dk_B (c : Dev nD) (t : Fin cfg0.N) (h0 : ¬ t.val % 8 = 0) :
    (outsAt0 m c t.val t.isLt).2.2.2.1 = tiles (DK (blk m c t) (outsAt0 m c (t.val - 1) (by omega)).2.2.2.2.2.2) := by
  rw [outsAt0_B m c t h0]; frame_out
  try simp only [↓cat_stack]
  try simp only [↓cat_mixed]
  simp only [til_load, row_load, gcl_load, ach_load, sch_load]
  simp only [next_7, next_6, next_5, next_4, next_3, next_2, next_1, next_0, dk_0_3, dk_0_2, dk_0_1, dk_0_0, dk_1_3,
    dk_1_2, dk_1_1, dk_1_0, dk_2_3, dk_2_2, dk_2_1, dk_2_0, dk_3_3, dk_3_2, dk_3_1, dk_3_0, dk_4_3, dk_4_2, dk_4_1,
    dk_4_0, dk_5_3, dk_5_2, dk_5_1, dk_5_0, dk_6_3, dk_6_2, dk_6_1, dk_6_0, dk_7_3, dk_7_2, dk_7_1, dk_7_0]
  rw [(Memref.isWhole_whole cc0_scratch0).read_unread]
  generalize (outsAt0 m c (t.val - 1) _).2.2.2.2.2.2 = D
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact tile3_at (DK ⟨x0, x1, x2, x3, x4, x5, x6, x7, x8⟩ D) 0 _ _ (by omega) (by omega)
  · exact tile2_at (DK ⟨x0, x1, x2, x3, x4, x5, x6, x7, x8⟩ D) 0 _ _ (by omega) (by omega)
  · exact tile1_at (DK ⟨x0, x1, x2, x3, x4, x5, x6, x7, x8⟩ D) 0 _ _ (by omega) (by omega)
  · exact tile0_at (DK ⟨x0, x1, x2, x3, x4, x5, x6, x7, x8⟩ D) 0 _ _ (by omega) (by omega)
  · exact tile3_at (DK ⟨x0, x1, x2, x3, x4, x5, x6, x7, x8⟩ D) 1 _ _ (by omega) (by omega)
  · exact tile2_at (DK ⟨x0, x1, x2, x3, x4, x5, x6, x7, x8⟩ D) 1 _ _ (by omega) (by omega)
  · exact tile1_at (DK ⟨x0, x1, x2, x3, x4, x5, x6, x7, x8⟩ D) 1 _ _ (by omega) (by omega)
  · exact tile0_at (DK ⟨x0, x1, x2, x3, x4, x5, x6, x7, x8⟩ D) 1 _ _ (by omega) (by omega)
  · exact tile3_at (DK ⟨x0, x1, x2, x3, x4, x5, x6, x7, x8⟩ D) 2 _ _ (by omega) (by omega)
  · exact tile2_at (DK ⟨x0, x1, x2, x3, x4, x5, x6, x7, x8⟩ D) 2 _ _ (by omega) (by omega)
  · exact tile1_at (DK ⟨x0, x1, x2, x3, x4, x5, x6, x7, x8⟩ D) 2 _ _ (by omega) (by omega)
  · exact tile0_at (DK ⟨x0, x1, x2, x3, x4, x5, x6, x7, x8⟩ D) 2 _ _ (by omega) (by omega)
  · exact tile3_at (DK ⟨x0, x1, x2, x3, x4, x5, x6, x7, x8⟩ D) 3 _ _ (by omega) (by omega)
  · exact tile2_at (DK ⟨x0, x1, x2, x3, x4, x5, x6, x7, x8⟩ D) 3 _ _ (by omega) (by omega)
  · exact tile1_at (DK ⟨x0, x1, x2, x3, x4, x5, x6, x7, x8⟩ D) 3 _ _ (by omega) (by omega)
  · exact tile0_at (DK ⟨x0, x1, x2, x3, x4, x5, x6, x7, x8⟩ D) 3 _ _ (by omega) (by omega)
  · exact tile3_at (DK ⟨x0, x1, x2, x3, x4, x5, x6, x7, x8⟩ D) 4 _ _ (by omega) (by omega)
  · exact tile2_at (DK ⟨x0, x1, x2, x3, x4, x5, x6, x7, x8⟩ D) 4 _ _ (by omega) (by omega)
  · exact tile1_at (DK ⟨x0, x1, x2, x3, x4, x5, x6, x7, x8⟩ D) 4 _ _ (by omega) (by omega)
  · exact tile0_at (DK ⟨x0, x1, x2, x3, x4, x5, x6, x7, x8⟩ D) 4 _ _ (by omega) (by omega)
  · exact tile3_at (DK ⟨x0, x1, x2, x3, x4, x5, x6, x7, x8⟩ D) 5 _ _ (by omega) (by omega)
  · exact tile2_at (DK ⟨x0, x1, x2, x3, x4, x5, x6, x7, x8⟩ D) 5 _ _ (by omega) (by omega)
  · exact tile1_at (DK ⟨x0, x1, x2, x3, x4, x5, x6, x7, x8⟩ D) 5 _ _ (by omega) (by omega)
  · exact tile0_at (DK ⟨x0, x1, x2, x3, x4, x5, x6, x7, x8⟩ D) 5 _ _ (by omega) (by omega)
  · exact tile3_at (DK ⟨x0, x1, x2, x3, x4, x5, x6, x7, x8⟩ D) 6 _ _ (by omega) (by omega)
  · exact tile2_at (DK ⟨x0, x1, x2, x3, x4, x5, x6, x7, x8⟩ D) 6 _ _ (by omega) (by omega)
  · exact tile1_at (DK ⟨x0, x1, x2, x3, x4, x5, x6, x7, x8⟩ D) 6 _ _ (by omega) (by omega)
  · exact tile0_at (DK ⟨x0, x1, x2, x3, x4, x5, x6, x7, x8⟩ D) 6 _ _ (by omega) (by omega)
  · exact tile3_at (DK ⟨x0, x1, x2, x3, x4, x5, x6, x7, x8⟩ D) 7 _ _ (by omega) (by omega)
  · exact tile2_at (DK ⟨x0, x1, x2, x3, x4, x5, x6, x7, x8⟩ D) 7 _ _ (by omega) (by omega)
  · exact tile1_at (DK ⟨x0, x1, x2, x3, x4, x5, x6, x7, x8⟩ D) 7 _ _ (by omega) (by omega)
  · exact tile0_at (DK ⟨x0, x1, x2, x3, x4, x5, x6, x7, x8⟩ D) 7 _ _ (by omega) (by omega)

end Cert.KernelIdeal.Scan
-- ==== Proof.ScanPointB4.lean ====
module

public import proofs.«01_k».proof.Proof.ScanBlock
public import proofs.«01_k».proof.Proof.ScanFormsA

open Idealize Idealize.ShloMosaic Cert.KernelIdeal.Gen
open Idealize.SL.Sem Idealize.ShloMosaic.TcCoe

/-!
What one grid point writes, from the gradient the point before left.
-/

set_option maxRecDepth 16384

@[expose] public section

namespace Cert.KernelIdeal.Scan

variable (m : (ℓ : Loc nD τ sig) → Buf (Elt Ideal) ℓ)

set_option maxHeartbeats 4000000 in
set_option backward.isDefEq.respectTransparency false in
theorem da_B (c : Dev nD) (t : Fin cfg0.N) (h0 : ¬ t.val % 8 = 0) :
    (outsAt0 m c t.val t.isLt).2.2.2.2.1 = chunksA (DA (blk m c t)) := by
  rw [outsAt0_B m c t h0]; frame_out
  try simp only [↓cat_stack]
  try simp only [↓cat_mixed]
  simp only [til_load, row_load, gcl_load, ach_load, sch_load]
  simp only [da_0, da_1, da_2, da_3, da_4, da_5, da_6, da_7]
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact chunksA_at (DA ⟨x0, x1, x2, x3, x4, x5, x6, x7, x8⟩) 0 _ _ (by omega) (by omega) (by omega) (by omega)
  · exact chunksA_at (DA ⟨x0, x1, x2, x3, x4, x5, x6, x7, x8⟩) 1 _ _ (by omega) (by omega) (by omega) (by omega)
  · exact chunksA_at (DA ⟨x0, x1, x2, x3, x4, x5, x6, x7, x8⟩) 2 _ _ (by omega) (by omega) (by omega) (by omega)
  · exact chunksA_at (DA ⟨x0, x1, x2, x3, x4, x5, x6, x7, x8⟩) 3 _ _ (by omega) (by omega) (by omega) (by omega)
  · exact chunksA_at (DA ⟨x0, x1, x2, x3, x4, x5, x6, x7, x8⟩) 4 _ _ (by omega) (by omega) (by omega) (by omega)
  · exact chunksA_at (DA ⟨x0, x1, x2, x3, x4, x5, x6, x7, x8⟩) 5 _ _ (by omega) (by omega) (by omega) (by omega)
  · exact chunksA_at (DA ⟨x0, x1, x2, x3, x4, x5, x6, x7, x8⟩) 6 _ _ (by omega) (by omega) (by omega) (by omega)
  · exact chunksA_at (DA ⟨x0, x1, x2, x3, x4, x5, x6, x7, x8⟩) 7 _ _ (by omega) (by omega) (by omega) (by omega)

set_option maxHeartbeats 4000000 in
set_option backward.isDefEq.respectTransparency false in
theorem dg_B (c : Dev nD) (t : Fin cfg0.N) (h0 : ¬ t.val % 8 = 0) :
    (outsAt0 m c t.val t.isLt).2.2.2.2.2.1 = chunksG (DG (blk m c t) (outsAt0 m c (t.val - 1) (by omega)).2.2.2.2.2.2) := by
  rw [outsAt0_B m c t h0]; frame_out
  try simp only [↓cat_stack]
  try simp only [↓cat_mixed]
  simp only [til_load, row_load, gcl_load, ach_load, sch_load]
  simp only [next_7, next_6, next_5, next_4, next_3, next_2, next_1, next_0, dg_0, dg_1, dg_2, dg_3, dg_4, dg_5, dg_6,
    dg_7]
  rw [(Memref.isWhole_whole cc0_scratch0).read_unread]
  generalize (outsAt0 m c (t.val - 1) _).2.2.2.2.2.2 = D
  unfold blk
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext y
  canon_tiles y h
  · exact chunksG_at (DG ⟨x0, x1, x2, x3, x4, x5, x6, x7, x8⟩ D) 0 _ _ (by omega) (by omega) (by omega)
  · exact chunksG_at (DG ⟨x0, x1, x2, x3, x4, x5, x6, x7, x8⟩ D) 1 _ _ (by omega) (by omega) (by omega)
  · exact chunksG_at (DG ⟨x0, x1, x2, x3, x4, x5, x6, x7, x8⟩ D) 2 _ _ (by omega) (by omega) (by omega)
  · exact chunksG_at (DG ⟨x0, x1, x2, x3, x4, x5, x6, x7, x8⟩ D) 3 _ _ (by omega) (by omega) (by omega)
  · exact chunksG_at (DG ⟨x0, x1, x2, x3, x4, x5, x6, x7, x8⟩ D) 4 _ _ (by omega) (by omega) (by omega)
  · exact chunksG_at (DG ⟨x0, x1, x2, x3, x4, x5, x6, x7, x8⟩ D) 5 _ _ (by omega) (by omega) (by omega)
  · exact chunksG_at (DG ⟨x0, x1, x2, x3, x4, x5, x6, x7, x8⟩ D) 6 _ _ (by omega) (by omega) (by omega)
  · exact chunksG_at (DG ⟨x0, x1, x2, x3, x4, x5, x6, x7, x8⟩ D) 7 _ _ (by omega) (by omega) (by omega)

set_option maxHeartbeats 4000000 in
set_option backward.isDefEq.respectTransparency false in
theorem carry_B (c : Dev nD) (t : Fin cfg0.N) (h0 : ¬ t.val % 8 = 0) :
    (outsAt0 m c t.val t.isLt).2.2.2.2.2.2 = chain (blk m c t) (outsAt0 m c (t.val - 1) (by omega)).2.2.2.2.2.2 8 := by
  rw [outsAt0_B m c t h0]; frame_out
  try simp only [↓cat_stack]
  try simp only [↓cat_mixed]
  simp only [til_load, row_load, gcl_load, ach_load, sch_load]
  simp only [next_7, next_6, next_5, next_4, next_3, next_2, next_1, next_0]
  rw [(Memref.isWhole_whole cc0_scratch0).read_unread]
  rfl

end Cert.KernelIdeal.Scan
-- ==== Proof.ScanSweep.lean ====
module

public import proofs.«01_k».proof.Proof.ScanLoad
public import proofs.«01_k».proof.Proof.ScanPointA1
public import proofs.«01_k».proof.Proof.ScanPointA2
public import proofs.«01_k».proof.Proof.ScanPointA3
public import proofs.«01_k».proof.Proof.ScanPointA4
public import proofs.«01_k».proof.Proof.ScanPointB1
public import proofs.«01_k».proof.Proof.ScanPointB2
public import proofs.«01_k».proof.Proof.ScanPointB3
public import proofs.«01_k».proof.Proof.ScanPointB4

open Idealize Idealize.ShloMosaic Idealize.ShloMosaic.TcCoe Cert.KernelIdeal.Gen
open Idealize.SL.Sem
open Idealize.ShloMosaic.Pipeline (Dat)
open Cert.Scan (Terms ch grad decK terms at_ spread lower bottom)

/-!
The whole sweep: the gradient each grid point starts from, and the six result arrays.
-/

set_option maxRecDepth 16384

@[expose] public section

namespace Cert.KernelIdeal.Scan

variable (m : (ℓ : Loc nD τ sig) → Buf (Elt Ideal) ℓ) (c : Dev nD)

theorem zero_at (h : Fin 4) (a b : Fin 128) : (k0_pay2 (F := Ideal) : FVec Ideal S4x128x128 .f32) (ix3 h a b) = grad (P m c) 0 h a b := by
  pointwise [k0_pay2]
  rfl

theorem carry (t : ℕ) (ht : t < cfg0.N) (h : Fin 4) (a b : Fin 128) :
    (outsAt0 m c t ht).2.2.2.2.2.2 (ix3 h a b) = grad (P m c) (8 * (t + 1)) h a b := by
  induction t generalizing h a b with
  | zero =>
    rw [carry_A m c ⟨0, ht⟩ rfl]
    exact chain_holds (holds m c ⟨0, ht⟩) _ (zero_at m c) 8 le_rfl h a b
  | succ t ih =>
    have h8 : t + 1 < 8 := ht
    rw [carry_B m c ⟨t + 1, ht⟩ (by show ¬ (t + 1) % 8 = 0; omega)]
    exact chain_holds (holds m c ⟨t + 1, ht⟩) _ (fun h a b => ih (by omega) h a b) 8 le_rfl h a b

/-- What a grid point writes, of the gradient it starts from. -/
theorem point (t : Fin cfg0.N) : ∃ D : FVec Ideal S4x128x128 .f32, (∀ h a b, D (ix3 h a b) = grad (P m c) (8 * t.val) h a b)
    ∧ (outsAt0 m c t.val t.isLt).1 = tiles (DU (blk m c t) D)
    ∧ (outsAt0 m c t.val t.isLt).2.1 = tiles (DW (blk m c t) D)
    ∧ (outsAt0 m c t.val t.isLt).2.2.1 = tiles (DQ (blk m c t))
    ∧ (outsAt0 m c t.val t.isLt).2.2.2.1 = tiles (DK (blk m c t) D)
    ∧ (outsAt0 m c t.val t.isLt).2.2.2.2.1 = chunksA (DA (blk m c t))
    ∧ (outsAt0 m c t.val t.isLt).2.2.2.2.2.1 = chunksG (DG (blk m c t) D) := by
  have h8 := lt8 t
  by_cases h0 : t.val % 8 = 0
  · refine ⟨_, fun h a b => ?_, du_A m c t h0, dw_A m c t h0, dq_A m c t h0, dk_A m c t h0, da_A m c t h0, dg_A m c t h0⟩
    rw [show 8 * t.val = 0 by omega]
    exact zero_at m c h a b
  · refine ⟨_, fun h a b => ?_, du_B m c t h0, dw_B m c t h0, dq_B m c t h0, dk_B m c t h0, da_B m c t h0, dg_B m c t h0⟩
    rw [carry m c (t.val - 1) (by omega) h a b, show t.val - 1 + 1 = t.val by omega]

section
variable {B : Blk} {T : Terms} {t : ℕ} (E : Holds B T t) (D : FVec Ideal S4x128x128 .f32)
  (hD : ∀ h a b, D (ix3 h a b) = grad T (8 * t) h a b) (ht : t < 8) (j : ℕ) (hj : j < 8)
include E hD ht hj

theorem chain_at (h : Fin 4) (a b : Fin 128) : chain B D (7 - j) (ix3 h a b) = at_ T (cn t j) h a b := by
  rw [chain_holds E D hD (7 - j) (by omega)]
  unfold at_
  rw [cn_val t j ht hj, show 8 * t + (7 - j) = 63 - ((7 - t) * 8 + j) by omega]

theorem DU_at (h : Fin 4) (i : Fin 64) (v : Fin 128) : DU B D j (ix3 h i v) = Cert.Scan.gu T (cn t j) (at_ T (cn t j)) h i v :=
  dut_holds E j hj _ _ (chain_at E D hD ht j hj) h i v

theorem DW_at (h : Fin 4) (i : Fin 64) (v : Fin 128) : DW B D j (ix3 h i v) = Cert.Scan.gw T (cn t j) (at_ T (cn t j)) h i v := by
  unfold DW
  rw [dwt_at]
  simp only [dut_holds E j hj _ _ (chain_at E D hD ht j hj), E.s j hj]
  rfl

omit hD ht in
theorem DQ_at (h : Fin 4) (i : Fin 64) (v : Fin 128) : DQ B j (ix3 h i v) = Cert.Scan.gq T (cn t j) h i v := by
  unfold DQ
  rw [dqt_at]
  simp only [E.o j hj, E.s j hj]
  rfl

theorem DK_at (h : Fin 4) (i : Fin 64) (v : Fin 128) : DK B D j (ix3 h i v) = Cert.Scan.gk T (cn t j) (at_ T (cn t j)) h i v := by
  unfold DK
  rw [dkt_at]
  simp only [ut_holds E j hj, chain_at E D hD ht j hj]
  rfl

omit hD ht in
theorem DA_at (h : Fin 4) (i v : Fin 64) : DA B j (ix4 0 h i v) = if (v : ℕ) ≤ (i : ℕ) then Cert.Scan.ga T (cn t j) h i v else 0 := by
  unfold DA
  rw [dat_at]
  simp only [ut_holds E j hj, E.o j hj]
  rfl

theorem DG_at (h : Fin 4) (i : Fin 64) : DG B D j (ix3 0 h i) =
    if (i : ℕ) = 63 then Cert.Scan.gl T (cn t j) (at_ T (cn t j)) h else 0 := by
  unfold DG
  rw [dgt_at]
  simp only [chain_at E D hD ht j hj, E.s j hj, E.l j hj, Fin.ext_iff]
  rfl

end

/-- A block's place read in the array of all chunks. -/
theorem tiles_spread {t : ℕ} (ht : t < 8) (F : ℕ → FVec Ideal S4x64x128 .f32) (G : Fin 64 → Fin 4 → Fin 64 → Fin 128 → EReal)
    (h : ∀ j, j < 8 → ∀ h i v, F j (ix3 h i v) = G (cn t j) h i v) (r l : Fin 512) :
    tiles F (ix2 r l) = spread G (ix2 ⟨(7 - t) * 512 + r, by omega⟩ l) := by
  refine (h ((r : ℕ) / 64) (by omega) _ _ _).trans ?_
  have e := cn_val t ((r : ℕ) / 64) ht (by omega)
  show G _ _ _ _ = G ⟨((7 - t) * 512 + (r : ℕ)) / 64, _⟩ _ ⟨((7 - t) * 512 + (r : ℕ)) % 64, _⟩ _
  congr 1
  · congr 1
    refine Fin.ext ?_; show (cn t ((r : ℕ) / 64) : ℕ) = ((7 - t) * 512 + (r : ℕ)) / 64; omega
  · refine Fin.ext ?_; show (r : ℕ) % 64 = ((7 - t) * 512 + (r : ℕ)) % 64; omega

theorem chunksA_lower {t : ℕ} (ht : t < 8) (F : ℕ → FVec Ideal S1x4x64x64 .f32) (G : Fin 64 → Fin 4 → Fin 64 → Fin 64 → EReal)
    (h : ∀ j, j < 8 → ∀ h i v, F j (ix4 0 h i v) = if (v : ℕ) ≤ (i : ℕ) then G (cn t j) h i v else 0) (j : Fin 8) (b : Fin 4)
    (i v : Fin 64) : chunksA F (ix4 j b i v) = lower G (ix4 ⟨(7 - t) * 8 + j, by omega⟩ b i v) := by
  refine (h j j.isLt b i v).trans ?_
  rw [show cn t j = ⟨(7 - t) * 8 + j, by omega⟩ from Fin.ext (cn_val t j ht j.isLt)]
  rfl

theorem chunksG_bottom {t : ℕ} (ht : t < 8) (F : ℕ → FVec Ideal S1x4x64 .f32) (G : Fin 64 → Fin 4 → EReal)
    (h : ∀ j, j < 8 → ∀ h i, F j (ix3 0 h i) = if (i : ℕ) = 63 then G (cn t j) h else 0) (j : Fin 8) (b : Fin 4)
    (i : Fin 64) : chunksG F (ix3 j b i) = bottom G (ix3 ⟨(7 - t) * 8 + j, by omega⟩ b i) := by
  refine (h j j.isLt b i).trans ?_
  rw [show cn t j = ⟨(7 - t) * 8 + j, by omega⟩ from Fin.ext (cn_val t j ht j.isLt)]
  rfl

theorem final9 : (dats m 0 c).arrAt 9 (cfgs 0).N = spread fun n => Cert.Scan.gu (P m c) n (at_ (P m c) n) := by
  refine (dats m 0 c).arrAt_eq_of_covers 9 _ (by decide +kernel) fun t _ y => ?_
  obtain ⟨D, hD, e, -⟩ := point m c t
  blk_simp
  rw [after0_9, e]
  idx_vars y
  refine (tiles_spread (lt8 t) _ _ (fun j hj => DU_at (holds m c t) D hD (lt8 t) j hj) y0 y1).trans (congrArg (spread _) ?_)
  blk_ext [index t]

theorem final10 : (dats m 0 c).arrAt 10 (cfgs 0).N = spread fun n => Cert.Scan.gw (P m c) n (at_ (P m c) n) := by
  refine (dats m 0 c).arrAt_eq_of_covers 10 _ (by decide +kernel) fun t _ y => ?_
  obtain ⟨D, hD, -, e, -⟩ := point m c t
  blk_simp
  rw [after0_10, e]
  idx_vars y
  refine (tiles_spread (lt8 t) _ _ (fun j hj => DW_at (holds m c t) D hD (lt8 t) j hj) y0 y1).trans (congrArg (spread _) ?_)
  blk_ext [index t]

theorem final11 : (dats m 0 c).arrAt 11 (cfgs 0).N = spread fun n => Cert.Scan.gq (P m c) n := by
  refine (dats m 0 c).arrAt_eq_of_covers 11 _ (by decide +kernel) fun t _ y => ?_
  obtain ⟨D, hD, -, -, e, -⟩ := point m c t
  blk_simp
  rw [after0_11, e]
  idx_vars y
  refine (tiles_spread (lt8 t) _ _ (fun j hj => DQ_at (holds m c t) j hj) y0 y1).trans (congrArg (spread _) ?_)
  blk_ext [index t]

theorem final12 : (dats m 0 c).arrAt 12 (cfgs 0).N = spread fun n => Cert.Scan.gk (P m c) n (at_ (P m c) n) := by
  refine (dats m 0 c).arrAt_eq_of_covers 12 _ (by decide +kernel) fun t _ y => ?_
  obtain ⟨D, hD, -, -, -, e, -⟩ := point m c t
  blk_simp
  rw [after0_12, e]
  idx_vars y
  refine (tiles_spread (lt8 t) _ _ (fun j hj => DK_at (holds m c t) D hD (lt8 t) j hj) y0 y1).trans (congrArg (spread _) ?_)
  blk_ext [index t]

theorem final13 : (dats m 0 c).arrAt 13 (cfgs 0).N = lower (Cert.Scan.ga (P m c)) := by
  refine (dats m 0 c).arrAt_eq_of_covers 13 _ (by decide +kernel) fun t _ y => ?_
  obtain ⟨D, hD, -, -, -, -, e, -⟩ := point m c t
  blk_simp
  rw [after0_13, e]
  idx_vars y
  refine (chunksA_lower (lt8 t) _ _ (fun j hj => DA_at (holds m c t) j hj) y0 y1 y2 y3).trans (congrArg (lower _) ?_)
  blk_ext [index t]

theorem final14 : (dats m 0 c).arrAt 14 (cfgs 0).N = bottom fun n => Cert.Scan.gl (P m c) n (at_ (P m c) n) := by
  refine (dats m 0 c).arrAt_eq_of_covers 14 _ (by decide +kernel) fun t _ y => ?_
  obtain ⟨D, hD, -, -, -, -, -, e⟩ := point m c t
  blk_simp
  rw [after0_14, e]
  idx_vars y
  refine (chunksG_bottom (lt8 t) _ _ (fun j hj => DG_at (holds m c t) D hD (lt8 t) j hj) y0 y1 y2).trans
    (congrArg (bottom _) ?_)
  blk_ext [index t]

end Cert.KernelIdeal.Scan
-- ==== Proof.ScanTrip.lean ====
module

public import proofs.«01_k».proof.Proof.Gen.ReferenceIdeal.Run
public import proofs.«01_k».proof.Proof.ScanSpec
public import Idealize.ShloMosaic.Lib.Pointwise
public import Idealize.ShloMosaic.Lib.Claim

open Idealize Idealize.ShloMosaic Idealize.ShloMosaic.TcCoe
open Idealize.SL.Sem Cert.ReferenceIdeal Cert.ReferenceIdeal.Gen Cert.ReferenceIdeal.Value
open Cert.Scan

/-!
One trip of the reference's loop: it reads chunk `63 - t` of each array, takes the gradient of the state one chunk back
and writes that chunk of each result.
-/

set_option maxRecDepth 16384

@[expose] public section

namespace Cert.ReferenceIdeal.Scan

theorem slS (X : FVec Ideal S64x4x128x128 .f32) (f : Fin 4 → ℤ) (t : ℕ) (h0 : f 0 = (63 - t : ℕ)) (h1 : f 1 = 0) (h2 : f 2 = 0) (h3 : f 3 = 0)
    (h : Fin 4) (i : Fin 128) (v : Fin 128) :
    shapeCast S4x128x128 (Host.dynamicSlice S1x4x128x128 X f sliceFits_S64x4x128x128_S1x4x128x128) shapeCasts_S1x4x128x128_S4x128x128 (ix3 h i v) = X (ix4 (ch t) h i v) := by
  pointwise []
  have e0 : ∀ ht, Host.clampedStart S64x4x128x128 S1x4x128x128 ht f 0 = 63 - t := fun ht =>
    Host.clampedStart_of_le ht f 0 _ h0 (by show 63 - t + 1 ≤ 64; omega)
  have e1 : ∀ ht, Host.clampedStart S64x4x128x128 S1x4x128x128 ht f 1 = 0 := fun ht =>
    Host.clampedStart_of_le ht f 1 0 h1 (by show 0 + 4 ≤ 4; omega)
  have e2 : ∀ ht, Host.clampedStart S64x4x128x128 S1x4x128x128 ht f 2 = 0 := fun ht =>
    Host.clampedStart_of_le ht f 2 0 h2 (by show 0 + 128 ≤ 128; omega)
  have e3 : ∀ ht, Host.clampedStart S64x4x128x128 S1x4x128x128 ht f 3 = 0 := fun ht =>
    Host.clampedStart_of_le ht f 3 0 h3 (by show 0 + 128 ≤ 128; omega)
  simp only [e0, e1, e2, e3]
  simp only [Nat.zero_add]
  rfl

theorem slX (X : FVec Ideal S64x4x64x128 .f32) (f : Fin 4 → ℤ) (t : ℕ) (h0 : f 0 = (63 - t : ℕ)) (h1 : f 1 = 0) (h2 : f 2 = 0) (h3 : f 3 = 0)
    (h : Fin 4) (i : Fin 64) (v : Fin 128) :
    shapeCast S4x64x128 (Host.dynamicSlice S1x4x64x128 X f sliceFits_S64x4x64x128_S1x4x64x128) shapeCasts_S1x4x64x128_S4x64x128 (ix3 h i v) = X (ix4 (ch t) h i v) := by
  pointwise []
  have e0 : ∀ ht, Host.clampedStart S64x4x64x128 S1x4x64x128 ht f 0 = 63 - t := fun ht =>
    Host.clampedStart_of_le ht f 0 _ h0 (by show 63 - t + 1 ≤ 64; omega)
  have e1 : ∀ ht, Host.clampedStart S64x4x64x128 S1x4x64x128 ht f 1 = 0 := fun ht =>
    Host.clampedStart_of_le ht f 1 0 h1 (by show 0 + 4 ≤ 4; omega)
  have e2 : ∀ ht, Host.clampedStart S64x4x64x128 S1x4x64x128 ht f 2 = 0 := fun ht =>
    Host.clampedStart_of_le ht f 2 0 h2 (by show 0 + 64 ≤ 64; omega)
  have e3 : ∀ ht, Host.clampedStart S64x4x64x128 S1x4x64x128 ht f 3 = 0 := fun ht =>
    Host.clampedStart_of_le ht f 3 0 h3 (by show 0 + 128 ≤ 128; omega)
  simp only [e0, e1, e2, e3]
  simp only [Nat.zero_add]
  rfl

theorem slA (X : FVec Ideal S64x4x64x64 .f32) (f : Fin 4 → ℤ) (t : ℕ) (h0 : f 0 = (63 - t : ℕ)) (h1 : f 1 = 0) (h2 : f 2 = 0) (h3 : f 3 = 0)
    (h : Fin 4) (i : Fin 64) (v : Fin 64) :
    shapeCast S4x64x64 (Host.dynamicSlice S1x4x64x64 X f sliceFits_S64x4x64x64_S1x4x64x64) shapeCasts_S1x4x64x64_S4x64x64 (ix3 h i v) = X (ix4 (ch t) h i v) := by
  pointwise []
  have e0 : ∀ ht, Host.clampedStart S64x4x64x64 S1x4x64x64 ht f 0 = 63 - t := fun ht =>
    Host.clampedStart_of_le ht f 0 _ h0 (by show 63 - t + 1 ≤ 64; omega)
  have e1 : ∀ ht, Host.clampedStart S64x4x64x64 S1x4x64x64 ht f 1 = 0 := fun ht =>
    Host.clampedStart_of_le ht f 1 0 h1 (by show 0 + 4 ≤ 4; omega)
  have e2 : ∀ ht, Host.clampedStart S64x4x64x64 S1x4x64x64 ht f 2 = 0 := fun ht =>
    Host.clampedStart_of_le ht f 2 0 h2 (by show 0 + 64 ≤ 64; omega)
  have e3 : ∀ ht, Host.clampedStart S64x4x64x64 S1x4x64x64 ht f 3 = 0 := fun ht =>
    Host.clampedStart_of_le ht f 3 0 h3 (by show 0 + 64 ≤ 64; omega)
  simp only [e0, e1, e2, e3]
  simp only [Nat.zero_add]
  rfl

theorem slG (X : FVec Ideal S64x4 .f32) (f : Fin 2 → ℤ) (t : ℕ) (h0 : f 0 = (63 - t : ℕ)) (h1 : f 1 = 0)
    (h : Fin 4) :
    shapeCast S4 (Host.dynamicSlice S1x4 X f sliceFits_S64x4_S1x4) shapeCasts_S1x4_S4 (ix1 h ) = X (ix2 (ch t) h ) := by
  pointwise []
  have e0 : ∀ ht, Host.clampedStart S64x4 S1x4 ht f 0 = 63 - t := fun ht =>
    Host.clampedStart_of_le ht f 0 _ h0 (by show 63 - t + 1 ≤ 64; omega)
  have e1 : ∀ ht, Host.clampedStart S64x4 S1x4 ht f 1 = 0 := fun ht =>
    Host.clampedStart_of_le ht f 1 0 h1 (by show 0 + 4 ≤ 4; omega)
  simp only [e0, e1]
  simp only [Nat.zero_add]
  rfl

theorem upX (X : FVec Ideal S64x4x64x128 .f32) (y : FVec Ideal S4x64x128 .f32) (f : Fin 4 → ℤ) (t : ℕ) (h0 : f 0 = (63 - t : ℕ)) (h1 : f 1 = 0) (h2 : f 2 = 0) (h3 : f 3 = 0)
    (n : Fin 64) (h : Fin 4) (i : Fin 64) (v : Fin 128) :
    Host.dynamicUpdateSlice X (broadcastInDim S1x4x64x128 ![1, 2, 3] bcast_S4x64x128_S1x4x64x128_1_2_3 y) f updateFits_S64x4x64x128_S1x4x64x128 (ix4 n h i v) =
      if (n : ℕ) = 63 - t then y (ix3 h i v) else X (ix4 n h i v) := by
  pointwise []
  have e0 : ∀ ht, Host.clampedStart S64x4x64x128 S1x4x64x128 ht f 0 = 63 - t := fun ht =>
    Host.clampedStart_of_le ht f 0 _ h0 (by show 63 - t + 1 ≤ 64; omega)
  have e1 : ∀ ht, Host.clampedStart S64x4x64x128 S1x4x64x128 ht f 1 = 0 := fun ht =>
    Host.clampedStart_of_le ht f 1 0 h1 (by show 0 + 4 ≤ 4; omega)
  have e2 : ∀ ht, Host.clampedStart S64x4x64x128 S1x4x64x128 ht f 2 = 0 := fun ht =>
    Host.clampedStart_of_le ht f 2 0 h2 (by show 0 + 64 ≤ 64; omega)
  have e3 : ∀ ht, Host.clampedStart S64x4x64x128 S1x4x64x128 ht f 3 = 0 := fun ht =>
    Host.clampedStart_of_le ht f 3 0 h3 (by show 0 + 128 ≤ 128; omega)
  simp only [e0, e1, e2, e3]
  by_cases hn : (n : ℕ) = 63 - t
  · rw [dif_pos (by omega), if_pos hn]; rfl
  · rw [dif_neg (by omega), if_neg hn]

theorem upA (X : FVec Ideal S64x4x64x64 .f32) (y : FVec Ideal S4x64x64 .f32) (f : Fin 4 → ℤ) (t : ℕ) (h0 : f 0 = (63 - t : ℕ)) (h1 : f 1 = 0) (h2 : f 2 = 0) (h3 : f 3 = 0)
    (n : Fin 64) (h : Fin 4) (i : Fin 64) (v : Fin 64) :
    Host.dynamicUpdateSlice X (broadcastInDim S1x4x64x64 ![1, 2, 3] bcast_S4x64x64_S1x4x64x64_1_2_3 y) f updateFits_S64x4x64x64_S1x4x64x64 (ix4 n h i v) =
      if (n : ℕ) = 63 - t then y (ix3 h i v) else X (ix4 n h i v) := by
  pointwise []
  have e0 : ∀ ht, Host.clampedStart S64x4x64x64 S1x4x64x64 ht f 0 = 63 - t := fun ht =>
    Host.clampedStart_of_le ht f 0 _ h0 (by show 63 - t + 1 ≤ 64; omega)
  have e1 : ∀ ht, Host.clampedStart S64x4x64x64 S1x4x64x64 ht f 1 = 0 := fun ht =>
    Host.clampedStart_of_le ht f 1 0 h1 (by show 0 + 4 ≤ 4; omega)
  have e2 : ∀ ht, Host.clampedStart S64x4x64x64 S1x4x64x64 ht f 2 = 0 := fun ht =>
    Host.clampedStart_of_le ht f 2 0 h2 (by show 0 + 64 ≤ 64; omega)
  have e3 : ∀ ht, Host.clampedStart S64x4x64x64 S1x4x64x64 ht f 3 = 0 := fun ht =>
    Host.clampedStart_of_le ht f 3 0 h3 (by show 0 + 64 ≤ 64; omega)
  simp only [e0, e1, e2, e3]
  by_cases hn : (n : ℕ) = 63 - t
  · rw [dif_pos (by omega), if_pos hn]; rfl
  · rw [dif_neg (by omega), if_neg hn]

theorem upG (X : FVec Ideal S64x4 .f32) (y : FVec Ideal S4 .f32) (f : Fin 2 → ℤ) (t : ℕ) (h0 : f 0 = (63 - t : ℕ)) (h1 : f 1 = 0)
    (n : Fin 64) (h : Fin 4) :
    Host.dynamicUpdateSlice X (broadcastInDim S1x4 ![1] bcast_S4_S1x4_1 y) f updateFits_S64x4_S1x4 (ix2 n h ) =
      if (n : ℕ) = 63 - t then y (ix1 h ) else X (ix2 n h ) := by
  pointwise []
  have e0 : ∀ ht, Host.clampedStart S64x4 S1x4 ht f 0 = 63 - t := fun ht =>
    Host.clampedStart_of_le ht f 0 _ h0 (by show 63 - t + 1 ≤ 64; omega)
  have e1 : ∀ ht, Host.clampedStart S64x4 S1x4 ht f 1 = 0 := fun ht =>
    Host.clampedStart_of_le ht f 1 0 h1 (by show 0 + 4 ≤ 4; omega)
  simp only [e0, e1]
  by_cases hn : (n : ℕ) = 63 - t
  · rw [dif_pos (by omega), if_pos hn]; rfl
  · rw [dif_neg (by omega), if_neg hn]

variable (V : Valuation τ sig (Elt Ideal)) (P : Terms) (t : ℕ)

theorem start_int (b : BitVec 32) (ht : t < 64) (hb : b = BitVec.ofNat 32 t) :
    (IntOp.subi (IntOp.subi 64#32 b) 1#32).toInt = (63 - t : ℕ) := by
  subst hb
  interval_cases t <;> decide

theorem v50_at (ht : t < 64) (h8 : V (Proc.devRef .tc main_v32_8) = constantI S_ 32 (BitVec.ofNat 32 t)) :
    (res_main_while0b_v50 V (Shape.Idx.first h_S_)).toInt = (63 - t : ℕ) := by
  refine Eq.trans ?_ (start_int t _ ht rfl)
  unfold res_main_while0b_v50
  rw [h8]
  rfl

theorem s9_at (D : FVec Ideal S4x128x128 .f32) (e : FVec Ideal S4 .f32) (o q u w : FVec Ideal S4x64x128 .f32) (h : Fin 4)
    (i v : Fin 128) :
    addf (addf (mulf D (broadcastInDim S4x128x128 ![0, 1, 2] bcast_S4x1x1_S4x128x128_0_1_2
      (broadcastInDim S4x1x1 ![0] bcast_S4_S4x1x1_0 e))) (transpose S4x128x128 [0, 2, 1]
      (Host.dotGeneral dot_S4x64x128_S4x64x128_S4x128x128_1_1_2_2_0_0 none o q) transposes_S4x128x128_S4x128x128_0_2_1))
      (transpose S4x128x128 [0, 2, 1] (Host.dotGeneral dot_S4x64x128_S4x64x128_S4x128x128_1_1_2_2_0_0 none (Host.negf u) w)
      transposes_S4x128x128_S4x128x128_0_2_1) (ix3 h i v) = D (ix3 h i v) * e (ix1 h)
      + ∑ x : Fin 64, o (ix3 h x v) * q (ix3 h x i) + ∑ x : Fin 64, -u (ix3 h x v) * w (ix3 h x i) := by
  pointwise []

theorem s82_at (D : FVec Ideal S4x128x128 .f32) (k o : FVec Ideal S4x64x128 .f32) (a : FVec Ideal S4x64x64 .f32) (h : Fin 4)
    (i : Fin 64) (v : Fin 128) :
    addf (transpose S4x64x128 [0, 2, 1] (Host.dotGeneral dot_S4x128x128_S4x64x128_S4x128x64_1_2_2_1_0_0 none D k)
      transposes_S4x128x64_S4x64x128_0_2_1) (transpose S4x64x128 [0, 2, 1]
      (Host.dotGeneral dot_S4x64x128_S4x64x64_S4x128x64_1_1_2_2_0_0 none o a) transposes_S4x128x64_S4x64x128_0_2_1)
      (ix3 h i v) = ∑ x : Fin 128, D (ix3 h x v) * k (ix3 h i x) + ∑ x : Fin 64, o (ix3 h x v) * a (ix3 h x i) := by
  pointwise []

theorem s11_at (u : FVec Ideal S4x64x128 .f32) (S : FVec Ideal S4x128x128 .f32) (h : Fin 4) (i : Fin 64) (v : Fin 128) :
    Host.dotGeneral dot_S4x64x128_S4x128x128_S4x64x128_2_2_1_1_0_0 none (Host.negf u) S (ix3 h i v) =
      ∑ x : Fin 128, -u (ix3 h i x) * S (ix3 h v x) := by
  pointwise []

theorem s13_at (u : FVec Ideal S4x64x128 .f32) (S : FVec Ideal S4x128x128 .f32) (h : Fin 4) (i : Fin 64) (v : Fin 128) :
    Host.dotGeneral dot_S4x64x128_S4x128x128_S4x64x128_2_2_1_1_0_0 none u S (ix3 h i v) =
      ∑ x : Fin 128, u (ix3 h i x) * S (ix3 h v x) := by
  pointwise []

theorem s12_at (o u : FVec Ideal S4x64x128 .f32) (h : Fin 4) (i j : Fin 64) :
    Host.dotGeneral dot_S4x64x128_S4x64x128_S4x64x64_2_2_1_1_0_0 none o u (ix3 h i j) =
      ∑ x : Fin 128, o (ix3 h i x) * u (ix3 h j x) := by
  pointwise []

theorem s14_at (D : FVec Ideal S4x128x128 .f32) (u : FVec Ideal S4x64x128 .f32) (h : Fin 4) (i : Fin 64) (v : Fin 128) :
    transpose S4x64x128 [0, 2, 1] (Host.dotGeneral dot_S4x128x128_S4x64x128_S4x128x64_2_2_1_1_0_0 none D u)
      transposes_S4x128x64_S4x64x128_0_2_1 (ix3 h i v) = ∑ x : Fin 128, D (ix3 h v x) * u (ix3 h i x) := by
  pointwise []

theorem s15_at (S D : FVec Ideal S4x128x128 .f32) (e : FVec Ideal S4 .f32) (h : Fin 4) :
    mulf (Host.reduceAdd (shapeCast S4x1x1 (Host.reduceAdd (mulf S D) (constant S_ .f32 0x00000000#32)
      reducesTo_S4x128x128_S4_d1_2 h_S_) shapeCasts_S4_S4x1x1) (constant S_ .f32 0x00000000#32) reducesTo_S4x1x1_S4_d1_2 h_S_)
      e (ix1 h) = (∑ a : Fin 128, ∑ b : Fin 128, S (ix3 h a b) * D (ix3 h a b)) * e (ix1 h) := by
  pointwise []
  rw [Fin.sum_univ_one, Fin.sum_univ_one]

theorem s61_at (u w : FVec Ideal S4x64x128 .f32) (S : FVec Ideal S4x128x128 .f32) (h : Fin 4) (i : Fin 64) (v : Fin 128) :
    subf u (Host.dotGeneral dot_S4x64x128_S4x128x128_S4x64x128_2_1_1_2_0_0 none w S) (ix3 h i v) =
      u (ix3 h i v) - ∑ k : Fin 128, w (ix3 h i k) * S (ix3 h k v) := by
  pointwise []

/-- The arrays the loop only reads. -/
structure Held : Prop where
  s : ∀ n h i v, (V (Proc.devRef .tc main_v32_0) : FVec Ideal S64x4x128x128 .f32) (ix4 n h i v) = P.s n h i v
  o : ∀ n h i v, (V (Proc.devRef .tc main_v32_1) : FVec Ideal S64x4x64x128 .f32) (ix4 n h i v) = P.o n h i v
  u : ∀ n h i v, (V (Proc.devRef .tc main_v32_2) : FVec Ideal S64x4x64x128 .f32) (ix4 n h i v) = P.u n h i v
  w : ∀ n h i v, (V (Proc.devRef .tc main_v32_3) : FVec Ideal S64x4x64x128 .f32) (ix4 n h i v) = P.w n h i v
  a : ∀ n h i v, (V (Proc.devRef .tc main_v32_4) : FVec Ideal S64x4x64x64 .f32) (ix4 n h i v) = P.a n h i v
  q : ∀ n h i v, (V (Proc.devRef .tc main_v32_5) : FVec Ideal S64x4x64x128 .f32) (ix4 n h i v) =
    P.q n h i v * Ideal.exp (P.g n h i)
  k : ∀ n h i v, (V (Proc.devRef .tc main_v32_6) : FVec Ideal S64x4x64x128 .f32) (ix4 n h i v) =
    P.k n h i v * decK P n h i
  g : ∀ n h, (V (Proc.devRef .tc main_v32_7) : FVec Ideal S64x4 .f32) (ix2 n h) = P.g n h 63

/-- Before trip `t`. -/
structure Inv : Prop extends Held V P where
  ctr : V (Proc.devRef .tc main_v32_8) = constantI S_ 32 (BitVec.ofNat 32 t)
  d : ∀ h i v, (V (Proc.devRef .tc main_v32_9) : FVec Ideal S4x128x128 .f32) (ix3 h i v) = grad P t h i v
  gu : ∀ (n : Fin 64) h i v, (V (Proc.devRef .tc main_v32_10) : FVec Ideal S64x4x64x128 .f32) (ix4 n h i v) =
    if 64 - t ≤ (n : ℕ) then Cert.Scan.gu P n (at_ P n) h i v else 0
  gw : ∀ (n : Fin 64) h i v, (V (Proc.devRef .tc main_v32_11) : FVec Ideal S64x4x64x128 .f32) (ix4 n h i v) =
    if 64 - t ≤ (n : ℕ) then Cert.Scan.gw P n (at_ P n) h i v else 0
  ga : ∀ (n : Fin 64) h i v, (V (Proc.devRef .tc main_v32_12) : FVec Ideal S64x4x64x64 .f32) (ix4 n h i v) =
    if 64 - t ≤ (n : ℕ) then Cert.Scan.ga P n h i v else 0
  gq : ∀ (n : Fin 64) h i v, (V (Proc.devRef .tc main_v32_13) : FVec Ideal S64x4x64x128 .f32) (ix4 n h i v) =
    if 64 - t ≤ (n : ℕ) then Cert.Scan.gq P n h i v else 0
  gk : ∀ (n : Fin 64) h i v, (V (Proc.devRef .tc main_v32_14) : FVec Ideal S64x4x64x128 .f32) (ix4 n h i v) =
    if 64 - t ≤ (n : ℕ) then Cert.Scan.gk P n (at_ P n) h i v else 0
  gl : ∀ (n : Fin 64) h, (V (Proc.devRef .tc main_v32_15) : FVec Ideal S64x4 .f32) (ix2 n h) =
    if 64 - t ≤ (n : ℕ) then Cert.Scan.gl P n (at_ P n) h else 0

theorem at_ch (ht : t < 64) : at_ P (ch t) = grad P t := by
  unfold at_ ch
  congr 1
  show 63 - (63 - t) = t
  omega

/-- A result's chunk just written, or as it was. -/
theorem upd_eq {x : EReal} (n : Fin 64) (f : Fin 64 → EReal) (ht : t < 64) (hx : x = f (ch t)) :
    (if (n : ℕ) = 63 - t then x else if 64 - t ≤ (n : ℕ) then f n else 0) = if 64 - (t + 1) ≤ (n : ℕ) then f n else 0 := by
  by_cases hn : (n : ℕ) = 63 - t
  · rw [if_pos hn, if_pos (by omega), hx]
    exact congrArg f (Fin.ext hn.symm)
  · rw [if_neg hn]
    by_cases h2 : 64 - t ≤ (n : ℕ)
    · rw [if_pos h2, if_pos (by omega)]
    · rw [if_neg h2, if_neg (by omega)]

section
variable {V P t} (I : Inv V P t) (ht : t < 64)
include I ht

theorem v51_at (h : Fin 4) (i v : Fin 128) :
    (res_main_while0b_v51 V : FVec Ideal S4x128x128 .f32) (ix3 h i v) = P.s (ch t) h i v :=
  (slS _ _ t (v50_at V t ht I.ctr) rfl rfl rfl h i v).trans (I.s ..)
theorem v52_at (h : Fin 4) (i : Fin 64) (v : Fin 128) :
    (res_main_while0b_v52 V : FVec Ideal S4x64x128 .f32) (ix3 h i v) = P.o (ch t) h i v :=
  (slX _ _ t (v50_at V t ht I.ctr) rfl rfl rfl h i v).trans (I.o ..)
theorem v54_at (h : Fin 4) (i : Fin 64) (v : Fin 128) :
    (res_main_while0b_v54 V : FVec Ideal S4x64x128 .f32) (ix3 h i v) = P.w (ch t) h i v :=
  (slX _ _ t (v50_at V t ht I.ctr) rfl rfl rfl h i v).trans (I.w ..)
theorem v55_at (h : Fin 4) (i v : Fin 64) :
    (res_main_while0b_v55 V : FVec Ideal S4x64x64 .f32) (ix3 h i v) = P.a (ch t) h i v :=
  (slA _ _ t (v50_at V t ht I.ctr) rfl rfl rfl h i v).trans (I.a ..)
theorem v56_at (h : Fin 4) (i : Fin 64) (v : Fin 128) :
    (res_main_while0b_v56 V : FVec Ideal S4x64x128 .f32) (ix3 h i v) = P.q (ch t) h i v * Ideal.exp (P.g (ch t) h i) :=
  (slX _ _ t (v50_at V t ht I.ctr) rfl rfl rfl h i v).trans (I.q ..)
theorem v57_at (h : Fin 4) (i : Fin 64) (v : Fin 128) :
    (res_main_while0b_v57 V : FVec Ideal S4x64x128 .f32) (ix3 h i v) = P.k (ch t) h i v * decK P (ch t) h i :=
  (slX _ _ t (v50_at V t ht I.ctr) rfl rfl rfl h i v).trans (I.k ..)
theorem v59_at (h : Fin 4) :
    (res_main_while0b_v59 V : FVec Ideal S4 .f32) (ix1 h) = Ideal.exp (P.g (ch t) h 63) :=
  congrArg Ideal.exp ((slG _ _ t (v50_at V t ht I.ctr) rfl h).trans (I.g ..))
theorem v61_at (h : Fin 4) (i : Fin 64) (v : Fin 128) :
    (res_main_while0b_v61 V : FVec Ideal S4x64x128 .f32) (ix3 h i v) = corr P (ch t) h i v := by
  refine (s61_at _ _ _ h i v).trans ?_
  simp only [v54_at I ht, v51_at I ht]
  exact congrArg (· - _) ((slX _ _ t (v50_at V t ht I.ctr) rfl rfl rfl h i v).trans (I.u ..))
theorem v82_at (h : Fin 4) (i : Fin 64) (v : Fin 128) :
    (res_main_while0b_v82 V : FVec Ideal S4x64x128 .f32) (ix3 h i v) = gu P (ch t) (grad P t) h i v := by
  refine (s82_at _ _ _ _ h i v).trans ?_
  simp only [v57_at I ht, v52_at I ht, v55_at I ht, I.d]
  exact gu_ref ..

theorem d_step (H : P.Finite) (h : Fin 4) (i v : Fin 128) :
    (STEP V (Proc.devRef .tc main_v32_9) : FVec Ideal S4x128x128 .f32) (ix3 h i v) = grad P (t + 1) h i v := by
  rw [STEP_main_v32_9]
  refine (s9_at _ _ _ _ _ _ h i v).trans ?_
  simp only [v82_at I ht, v52_at I ht, v54_at I ht, v56_at I ht, v59_at I ht, I.d]
  exact back_ref _ _ _ H (grad_real H t) i v

theorem gu_step (n : Fin 64) (h : Fin 4) (i : Fin 64) (v : Fin 128) :
    (STEP V (Proc.devRef .tc main_v32_10) : FVec Ideal S64x4x64x128 .f32) (ix4 n h i v) =
      if 64 - (t + 1) ≤ (n : ℕ) then Cert.Scan.gu P n (at_ P n) h i v else 0 := by
  rw [STEP_main_v32_10]
  refine (upX _ _ _ t (v50_at V t ht I.ctr) rfl rfl rfl n h i v).trans ?_
  rw [I.gu]
  exact upd_eq t n (fun n => Cert.Scan.gu P n (at_ P n) h i v) ht ((v82_at I ht h i v).trans (by rw [at_ch P t ht]))

theorem gw_step (H : P.Finite) (n : Fin 64) (h : Fin 4) (i : Fin 64) (v : Fin 128) :
    (STEP V (Proc.devRef .tc main_v32_11) : FVec Ideal S64x4x64x128 .f32) (ix4 n h i v) =
      if 64 - (t + 1) ≤ (n : ℕ) then Cert.Scan.gw P n (at_ P n) h i v else 0 := by
  rw [STEP_main_v32_11]
  refine (upX _ _ _ t (v50_at V t ht I.ctr) rfl rfl rfl n h i v).trans ?_
  rw [I.gw]
  refine upd_eq t n (fun n => Cert.Scan.gw P n (at_ P n) h i v) ht ((s11_at _ _ h i v).trans ?_)
  simp only [v82_at I ht, v51_at I ht]
  rw [at_ch P t ht]
  exact gw_ref _ _ _ H (grad_real H t) i v

theorem ga_step (n : Fin 64) (h : Fin 4) (i v : Fin 64) :
    (STEP V (Proc.devRef .tc main_v32_12) : FVec Ideal S64x4x64x64 .f32) (ix4 n h i v) =
      if 64 - (t + 1) ≤ (n : ℕ) then Cert.Scan.ga P n h i v else 0 := by
  rw [STEP_main_v32_12]
  refine (upA _ _ _ t (v50_at V t ht I.ctr) rfl rfl rfl n h i v).trans ?_
  rw [I.ga]
  refine upd_eq t n (fun n => Cert.Scan.ga P n h i v) ht ((s12_at _ _ h i v).trans ?_)
  simp only [v52_at I ht, v61_at I ht]
  rfl

theorem gq_step (n : Fin 64) (h : Fin 4) (i : Fin 64) (v : Fin 128) :
    (STEP V (Proc.devRef .tc main_v32_13) : FVec Ideal S64x4x64x128 .f32) (ix4 n h i v) =
      if 64 - (t + 1) ≤ (n : ℕ) then Cert.Scan.gq P n h i v else 0 := by
  rw [STEP_main_v32_13]
  refine (upX _ _ _ t (v50_at V t ht I.ctr) rfl rfl rfl n h i v).trans ?_
  rw [I.gq]
  refine upd_eq t n (fun n => Cert.Scan.gq P n h i v) ht ((s13_at _ _ h i v).trans ?_)
  simp only [v52_at I ht, v51_at I ht]
  rfl

theorem gk_step (n : Fin 64) (h : Fin 4) (i : Fin 64) (v : Fin 128) :
    (STEP V (Proc.devRef .tc main_v32_14) : FVec Ideal S64x4x64x128 .f32) (ix4 n h i v) =
      if 64 - (t + 1) ≤ (n : ℕ) then Cert.Scan.gk P n (at_ P n) h i v else 0 := by
  rw [STEP_main_v32_14]
  refine (upX _ _ _ t (v50_at V t ht I.ctr) rfl rfl rfl n h i v).trans ?_
  rw [I.gk]
  refine upd_eq t n (fun n => Cert.Scan.gk P n (at_ P n) h i v) ht ((s14_at _ _ h i v).trans ?_)
  simp only [v61_at I ht, I.d]
  rw [at_ch P t ht]
  exact Finset.sum_congr rfl fun _ _ => mul_comm _ _

theorem gl_step (n : Fin 64) (h : Fin 4) :
    (STEP V (Proc.devRef .tc main_v32_15) : FVec Ideal S64x4 .f32) (ix2 n h) =
      if 64 - (t + 1) ≤ (n : ℕ) then Cert.Scan.gl P n (at_ P n) h else 0 := by
  rw [STEP_main_v32_15]
  refine (upG _ _ _ t (v50_at V t ht I.ctr) rfl n h).trans ?_
  rw [I.gl]
  refine upd_eq t n (fun n => Cert.Scan.gl P n (at_ P n) h) ht ((s15_at _ _ _ h).trans ?_)
  simp only [v51_at I ht, v59_at I ht, I.d]
  rw [at_ch P t ht]
  rfl

theorem ctr_next : STEP V (Proc.devRef .tc main_v32_8) = constantI S_ 32 (BitVec.ofNat 32 (t + 1)) := by
  rw [STEP_main_v32_8]
  show (fun i => IntOp.addi ((V (Proc.devRef .tc main_v32_8) : IVec S_ 32) i) 1#32) = _
  rw [I.ctr]
  funext i
  show BitVec.ofNat 32 t + 1#32 = BitVec.ofNat 32 (t + 1)
  rw [BitVec.ofNat_add]

theorem Inv.next (H : P.Finite) : Inv (STEP V) P (t + 1) where
  s := by rw [STEP_main_v32_0]; exact I.s
  o := by rw [STEP_main_v32_1]; exact I.o
  u := by rw [STEP_main_v32_2]; exact I.u
  w := by rw [STEP_main_v32_3]; exact I.w
  a := by rw [STEP_main_v32_4]; exact I.a
  q := by rw [STEP_main_v32_5]; exact I.q
  k := by rw [STEP_main_v32_6]; exact I.k
  g := by rw [STEP_main_v32_7]; exact I.g
  ctr := ctr_next I ht
  d := d_step I ht H
  gu := gu_step I ht
  gw := gw_step I ht H
  ga := ga_step I ht
  gq := gq_step I ht
  gk := gk_step I ht
  gl := gl_step I ht
end

variable {V P} in
/-- After `t` trips. -/
theorem Inv.iterate (I : Inv V P 0) (H : P.Finite) : ∀ t, t ≤ 64 → Inv (STEP^[t] V) P t
  | 0, _ => I
  | t + 1, ht => by
    rw [Function.iterate_succ_apply']
    exact (Inv.iterate I H t (by omega)).next (by omega) H

end Cert.ReferenceIdeal.Scan
-- ==== Proof.ScanStart.lean ====
module

public import proofs.«01_k».proof.Proof.ScanTrip
public import Idealize.ShloMosaic.Lib.WordCmp
public import Idealize.ShloMosaic.Lib.Tactic.WordOmega

open Idealize Idealize.ShloMosaic Idealize.ShloMosaic.TcCoe
open Idealize.SL.Sem Cert.ReferenceIdeal Cert.ReferenceIdeal.Gen Cert.ReferenceIdeal.Value
open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.Scan

/-!
What the reference's loop starts from and ends with.
-/

set_option maxRecDepth 16384

@[expose] public section

namespace Cert.ReferenceIdeal.Scan

variable (m : (ℓ : Loc nD τ sig) → Buf (Elt Ideal) ℓ) (c : Dev nD)

/-- The terms of the arguments. -/
noncomputable abbrev P : Terms := terms (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))

theorem entry_s (n : Fin 64) (h : Fin 4) (i v : Fin 128) :
    (entryContents preI m c (Proc.devRef .tc main_v32_0) : FVec Ideal S64x4x128x128 .f32) (ix4 n h i v) = (P m c).s n h i v := by
  simp only [entryContents, afterL_cons, afterL_nil]
  after_reads_simp
  pointwise []
  rw [id_eq]
  pointwise []
  rfl

theorem entry_o (n : Fin 64) (h : Fin 4) (i : Fin 64) (v : Fin 128) :
    (entryContents preI m c (Proc.devRef .tc main_v32_1) : FVec Ideal S64x4x64x128 .f32) (ix4 n h i v) = (P m c).o n h i v := by
  simp only [entryContents, afterL_cons, afterL_nil]
  after_reads_simp
  pointwise []
  rw [id_eq]
  pointwise []
  rfl

theorem entry_u (n : Fin 64) (h : Fin 4) (i : Fin 64) (v : Fin 128) :
    (entryContents preI m c (Proc.devRef .tc main_v32_2) : FVec Ideal S64x4x64x128 .f32) (ix4 n h i v) = (P m c).u n h i v := by
  simp only [entryContents, afterL_cons, afterL_nil]
  after_reads_simp
  pointwise []
  rw [id_eq]
  pointwise []
  rfl

theorem entry_w (n : Fin 64) (h : Fin 4) (i : Fin 64) (v : Fin 128) :
    (entryContents preI m c (Proc.devRef .tc main_v32_3) : FVec Ideal S64x4x64x128 .f32) (ix4 n h i v) = (P m c).w n h i v := by
  simp only [entryContents, afterL_cons, afterL_nil]
  after_reads_simp
  pointwise []
  rw [id_eq]
  pointwise []
  rfl

theorem entry_a (n : Fin 64) (h : Fin 4) (i v : Fin 64) :
    (entryContents preI m c (Proc.devRef .tc main_v32_4) : FVec Ideal S64x4x64x64 .f32) (ix4 n h i v) = (P m c).a n h i v := by
  simp only [entryContents, afterL_cons, afterL_nil]
  after_reads_simp
  pointwise []
  rw [id_eq]
  pointwise []
  rfl

theorem entry_q (n : Fin 64) (h : Fin 4) (i : Fin 64) (v : Fin 128) :
    (entryContents preI m c (Proc.devRef .tc main_v32_5) : FVec Ideal S64x4x64x128 .f32) (ix4 n h i v) =
      (P m c).q n h i v * Ideal.exp ((P m c).g n h i) := by
  simp only [entryContents, afterL_cons, afterL_nil]
  after_reads_simp
  pointwise []
  rw [id_eq]
  pointwise []
  rfl

theorem entry_k (n : Fin 64) (h : Fin 4) (i : Fin 64) (v : Fin 128) :
    (entryContents preI m c (Proc.devRef .tc main_v32_6) : FVec Ideal S64x4x64x128 .f32) (ix4 n h i v) =
      (P m c).k n h i v * decK (P m c) n h i := by
  simp only [entryContents, afterL_cons, afterL_nil]
  after_reads_simp
  pointwise []
  rw [id_eq]
  pointwise []
  rfl

theorem entry_g (n : Fin 64) (h : Fin 4) :
    (entryContents preI m c (Proc.devRef .tc main_v32_7) : FVec Ideal S64x4 .f32) (ix2 n h) = (P m c).g n h 63 := by
  simp only [entryContents, afterL_cons, afterL_nil]
  after_reads_simp
  pointwise []
  rw [id_eq]
  pointwise []
  rfl

theorem entry_d (h : Fin 4) (i v : Fin 128) :
    (entryContents preI m c (Proc.devRef .tc main_v32_9) : FVec Ideal S4x128x128 .f32) (ix3 h i v) = grad (P m c) 0 h i v := by
  simp only [entryContents, afterL_cons, afterL_nil]
  after_reads_simp
  pointwise []
  rw [id_eq]
  pointwise []
  rfl

theorem entry_z10 (n : Fin 64) (h : Fin 4) (i : Fin 64) (v : Fin 128) :
    (entryContents preI m c (Proc.devRef .tc main_v32_10) : FVec Ideal S64x4x64x128 .f32) (ix4 n h i v) = (0 : EReal) := by
  simp only [entryContents, afterL_cons, afterL_nil]
  after_reads_simp
  pointwise []
  rw [id_eq]
  pointwise []

theorem entry_z11 (n : Fin 64) (h : Fin 4) (i : Fin 64) (v : Fin 128) :
    (entryContents preI m c (Proc.devRef .tc main_v32_11) : FVec Ideal S64x4x64x128 .f32) (ix4 n h i v) = (0 : EReal) := by
  simp only [entryContents, afterL_cons, afterL_nil]
  after_reads_simp
  pointwise []
  rw [id_eq]
  pointwise []

theorem entry_z12 (n : Fin 64) (h : Fin 4) (i v : Fin 64) :
    (entryContents preI m c (Proc.devRef .tc main_v32_12) : FVec Ideal S64x4x64x64 .f32) (ix4 n h i v) = (0 : EReal) := by
  simp only [entryContents, afterL_cons, afterL_nil]
  after_reads_simp
  pointwise []
  rw [id_eq]
  pointwise []

theorem entry_z13 (n : Fin 64) (h : Fin 4) (i : Fin 64) (v : Fin 128) :
    (entryContents preI m c (Proc.devRef .tc main_v32_13) : FVec Ideal S64x4x64x128 .f32) (ix4 n h i v) = (0 : EReal) := by
  simp only [entryContents, afterL_cons, afterL_nil]
  after_reads_simp
  pointwise []
  rw [id_eq]
  pointwise []

theorem entry_z14 (n : Fin 64) (h : Fin 4) (i : Fin 64) (v : Fin 128) :
    (entryContents preI m c (Proc.devRef .tc main_v32_14) : FVec Ideal S64x4x64x128 .f32) (ix4 n h i v) = (0 : EReal) := by
  simp only [entryContents, afterL_cons, afterL_nil]
  after_reads_simp
  pointwise []
  rw [id_eq]
  pointwise []

theorem entry_z15 (n : Fin 64) (h : Fin 4) :
    (entryContents preI m c (Proc.devRef .tc main_v32_15) : FVec Ideal S64x4 .f32) (ix2 n h) = (0 : EReal) := by
  simp only [entryContents, afterL_cons, afterL_nil]
  after_reads_simp
  pointwise []
  rw [id_eq]
  pointwise []

theorem entry (c : Dev nD) : Inv (entryContents preI m c) (P m c) 0 where
  s := entry_s m c
  o := entry_o m c
  u := entry_u m c
  w := entry_w m c
  a := entry_a m c
  q := entry_q m c
  k := entry_k m c
  g := entry_g m c
  ctr := ctr_entry m c
  d := entry_d m c
  gu := fun n h i v => by rw [if_neg (by omega)]; exact entry_z10 m c n h i v
  gw := fun n h i v => by rw [if_neg (by omega)]; exact entry_z11 m c n h i v
  ga := fun n h i v => by rw [if_neg (by omega)]; exact entry_z12 m c n h i v
  gq := fun n h i v => by rw [if_neg (by omega)]; exact entry_z13 m c n h i v
  gk := fun n h i v => by rw [if_neg (by omega)]; exact entry_z14 m c n h i v
  gl := fun n h => by rw [if_neg (by omega)]; exact entry_z15 m c n h

/-- After the loop. -/
theorem last (H : (P m c).Finite) : Inv (STEP^[64] (entryContents preI m c)) (P m c) 64 := (entry m c).iterate H 64 le_rfl

end Cert.ReferenceIdeal.Scan
-- ==== Proof.ScanMask.lean ====
module

public import proofs.«01_k».proof.Proof.ScanTrip
public import Idealize.ShloMosaic.Lib.WordCmp
public import Idealize.ShloMosaic.Lib.Tactic.WordOmega

open Idealize Idealize.ShloMosaic Idealize.ShloMosaic.TcCoe
open Idealize.SL.Sem Cert.ReferenceIdeal Cert.ReferenceIdeal.Gen Cert.ReferenceIdeal.Value
open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.Scan

/-!
The reference's lower triangle of an array of scores.
-/

set_option maxRecDepth 16384

@[expose] public section

namespace Cert.ReferenceIdeal.Scan

/-- Whether row `i` reaches column `j`, as the reference asks. -/
theorem tril_at (i j : Fin 64) :
    Scalar.select (IntOp.cmpi .sge (IntOp.addi (BitVec.ofNat 32 (i : ℕ)) 0#32) (BitVec.ofNat 32 (j : ℕ))) 1#1 0#1
      = if (j : ℕ) ≤ (i : ℕ) then 1#1 else 0#1 := by
  rw [show IntOp.addi (BitVec.ofNat 32 (i : ℕ)) 0#32 = BitVec.ofNat 32 (i : ℕ) from BitVec.add_zero _]
  by_cases hij : (j : ℕ) ≤ i
  · rw [if_pos hij]; word_cmp; rw [if_pos (by omega)]
  · rw [if_neg hij]; word_cmp; rw [if_neg (by omega)]

theorem tril_eq (X : FVec Ideal S64x4x64x64 .f32) (n : Fin 64) (h : Fin 4) (i j : Fin 64) :
    select (broadcastInDim S64x4x64x64 ![2, 3] bcast_S64x64_S64x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) X (broadcastInDim S64x4x64x64 ![] bcast_S_S64x4x64x64 (id (constant (F := Ideal) S_ .f32 0x00000000#32))) (ix4 n h i j) = if (j : ℕ) ≤ (i : ℕ) then X (ix4 n h i j) else 0 := by
  pointwise []
  rw [id_eq]
  pointwise []
  rw [tril_at]
  by_cases hij : (j : ℕ) ≤ i
  · rw [if_pos hij, if_pos hij]; rfl
  · rw [if_neg hij, if_neg hij]; rfl

end Cert.ReferenceIdeal.Scan
-- ==== Proof.ScanRef.lean ====
module

public import proofs.«01_k».proof.Proof.ScanStart
public import proofs.«01_k».proof.Proof.ScanMask
public import Idealize.ShloMosaic.Lib.WordCmp
public import Idealize.ShloMosaic.Lib.Tactic.WordOmega

open Idealize Idealize.ShloMosaic Idealize.ShloMosaic.TcCoe
open Idealize.SL.Sem Cert.ReferenceIdeal Cert.ReferenceIdeal.Gen Cert.ReferenceIdeal.Value
open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.Scan

/-!
The reference's results by chunk, head, row and column.
-/

set_option maxRecDepth 16384

@[expose] public section

namespace Cert.ReferenceIdeal.Scan

variable {m : (ℓ : Loc nD τ sig) → Buf (Elt Ideal) ℓ} {c : Dev nD}

theorem v40_eq (H : (P m c).Finite) : out_main_v40 (STEP^[64] (entryContents preI m c)) =
    spread fun n => Cert.Scan.gu (P m c) n (at_ (P m c) n) := by
  have I := last m c H
  generalize STEP^[64] (entryContents preI m c) = V at I ⊢
  funext y
  idx_vars y
  pointwise [out_main_v40]
  exact (I.gu _ _ _ _).trans (if_pos (by omega))

theorem v42_eq (H : (P m c).Finite) : out_main_v42 (STEP^[64] (entryContents preI m c)) =
    spread fun n => Cert.Scan.gw (P m c) n (at_ (P m c) n) := by
  have I := last m c H
  generalize STEP^[64] (entryContents preI m c) = V at I ⊢
  funext y
  idx_vars y
  pointwise [out_main_v42]
  exact (I.gw _ _ _ _).trans (if_pos (by omega))

theorem v44_eq (H : (P m c).Finite) : out_main_v44 (STEP^[64] (entryContents preI m c)) =
    spread fun n => Cert.Scan.gq (P m c) n := by
  have I := last m c H
  generalize STEP^[64] (entryContents preI m c) = V at I ⊢
  funext y
  idx_vars y
  pointwise [out_main_v44]
  exact (I.gq _ _ _ _).trans (if_pos (by omega))

theorem v46_eq (H : (P m c).Finite) : out_main_v46 (STEP^[64] (entryContents preI m c)) =
    spread fun n => Cert.Scan.gk (P m c) n (at_ (P m c) n) := by
  have I := last m c H
  generalize STEP^[64] (entryContents preI m c) = V at I ⊢
  funext y
  idx_vars y
  pointwise [out_main_v46]
  exact (I.gk _ _ _ _).trans (if_pos (by omega))

theorem v35_eq (H : (P m c).Finite) : out_main_v35 (STEP^[64] (entryContents preI m c)) =
    lower (Cert.Scan.ga (P m c)) := by
  have I := last m c H
  generalize STEP^[64] (entryContents preI m c) = V at I ⊢
  funext y
  idx_vars y
  revert y0 y1 y2 y3
  intro n h i j
  have e : (V (Proc.devRef .tc main_v32_12) : FVec Ideal S64x4x64x64 .f32) (ix4 n h i j) = Cert.Scan.ga (P m c) n h i j :=
    (I.ga _ _ _ _).trans (if_pos (by omega))
  refine (tril_eq _ n h i j).trans ?_
  rw [e]
  rfl

theorem v48_eq (H : (P m c).Finite) : out_main_v48 (STEP^[64] (entryContents preI m c)) =
    bottom fun n => Cert.Scan.gl (P m c) n (at_ (P m c) n) := by
  have I := last m c H
  generalize STEP^[64] (entryContents preI m c) = V at I ⊢
  funext y
  idx_vars y
  revert y0 y1 y2
  intro n h i
  pointwise [out_main_v48]
  rw [id_eq]
  pointwise []
  have e : (V (Proc.devRef .tc main_v32_15) : FVec Ideal S64x4 .f32) (ix2 n h) = Cert.Scan.gl (P m c) n (at_ (P m c) n) h :=
    (I.gl _ _).trans (if_pos (by omega))
  show _ = if (i : ℕ) = 63 then Cert.Scan.gl (P m c) n (at_ (P m c) n) h else 0
  by_cases hi : (i : ℕ) = 63
  · rw [if_pos hi]; word_cmp; rw [if_pos (by omega)]; exact e
  · rw [if_neg hi]; word_cmp; rw [if_neg (by omega)]

end Cert.ReferenceIdeal.Scan
-- ==== Proof.ScanFinite.lean ====
module

public import proofs.«01_k».proof.Defs
public import proofs.«01_k».proof.Proof.ScanSpec
public import Idealize.ShloMosaic.Lib.ReduceAll

open Idealize.ShloMosaic

/-!
The precondition read back: every entry of the seven arrays it names is a real number.
-/

set_option maxRecDepth 16384

@[expose] public section

namespace Cert.Scan

/-- A number strictly between two others is no infinity. -/
theorem Real_.between {x a b : EReal} (ha : a < x) (hb : x < b) : Real_ x := by
  induction x with
  | bot => exact absurd ha not_lt_bot
  | coe r => exact ⟨r, rfl⟩
  | top => exact absurd hb not_top_lt

theorem real_of_and {S : Shape} (x lo hi : FVec Ideal S .f32) (i : S.Idx)
    (h : andi (cmpf .ogt x lo) (cmpf .olt x hi) i = 1#1) : Real_ (x i) := by
  obtain ⟨h1, h2⟩ := IntOp.andi_eq_one.1 h
  have e1 : BitVec.ofBool (decide ((lo i : EReal) < x i)) = 1#1 := h1
  have e2 : BitVec.ofBool (decide ((x i : EReal) < hi i)) = 1#1 := h2
  refine Real_.between (a := lo i) (b := hi i) ?_ ?_
  · by_contra hn
    rw [decide_eq_false hn] at e1
    exact absurd e1 (by decide)
  · by_contra hn
    rw [decide_eq_false hn] at e2
    exact absurd e2 (by decide)

instance : Subsingleton (⟨0, ![]⟩ : Shape).Idx := ⟨fun _ _ => funext fun d => d.elim0⟩

theorem real_of_all {S : Shape} {axes : List (Fin S.rank)} (x lo hi : FVec Ideal S .f32) (init : IVec ⟨0, ![]⟩ 1)
    (h : S.ReducesTo axes ⟨0, ![]⟩) (hu : 0 < (⟨0, ![]⟩ : Shape).numel) (j : (⟨0, ![]⟩ : Shape).Idx)
    (e : Host.reduce IntOp.andi (andi (cmpf .ogt x lo) (cmpf .olt x hi)) init h hu j = 1#1) (i : S.Idx) : Real_ (x i) :=
  real_of_and x lo hi i (Host.reduce_andi_all _ _ _ _ _ e i)

variable [Cert.Pre_finite_terms.Facts]

theorem finite_of_pre (q k u w : FVec Ideal ⟨2, ![4096, 512]⟩ .f32) (a : FVec Ideal ⟨4, ![64, 4, 64, 64]⟩ .f32)
    (g : FVec Ideal ⟨2, ![4, 4096]⟩ .f32) (s : FVec Ideal ⟨4, ![64, 4, 128, 128]⟩ .f32)
    (o : FVec Ideal ⟨2, ![4096, 512]⟩ .f32) (H : Cert.Pre_finite_terms.fn (F := Ideal) q k u w a g s o = fun _ => 1#1) :
    (terms q k u w a g s o).Finite := by
  have e := congrFun H (Shape.Idx.first Cert.Pre_finite_terms.Facts.h_S_)
  dsimp only [Cert.Pre_finite_terms.fn, Cert.Pre_finite_terms.fn_part1, Cert.Pre_finite_terms.fn_part2] at e
  obtain ⟨e, eo⟩ := IntOp.andi_eq_one.1 e
  obtain ⟨e, es⟩ := IntOp.andi_eq_one.1 e
  obtain ⟨e, eg⟩ := IntOp.andi_eq_one.1 e
  obtain ⟨e, ea⟩ := IntOp.andi_eq_one.1 e
  obtain ⟨e, ew⟩ := IntOp.andi_eq_one.1 e
  obtain ⟨eq, ek⟩ := IntOp.andi_eq_one.1 e
  exact {
    q := fun _ _ _ _ => real_of_all _ _ _ _ _ _ _ eq _
    k := fun _ _ _ _ => real_of_all _ _ _ _ _ _ _ ek _
    w := fun _ _ _ _ => real_of_all _ _ _ _ _ _ _ ew _
    o := fun _ _ _ _ => real_of_all _ _ _ _ _ _ _ eo _
    a := fun _ _ _ _ => real_of_all _ _ _ _ _ _ _ ea _
    g := fun _ _ _ => real_of_all _ _ _ _ _ _ _ eg _
    s := fun _ _ _ _ => real_of_all _ _ _ _ _ _ _ es _ }

end Cert.Scan
-- ==== Proof.Scan.lean ====
module

public import proofs.«01_k».proof.Proof.ScanSweep
public import proofs.«01_k».proof.Proof.ScanRef
public import proofs.«01_k».proof.Proof.ScanFinite

/-!
The sweep and its reference end with the same six arrays.
-/

@[expose] public section

set_option maxRecDepth 16384

open Idealize.ShloMosaic Idealize.ShloMosaic.TcCoe Idealize.SL.Sem

namespace Cert.Scan

variable [Cert.Pre_finite_terms.Facts]

/-- Equal arguments give the reference the kernel's terms. -/
theorem same_terms (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Scan.P m' c = Cert.KernelIdeal.Scan.P m c := by
  obtain ⟨e0, e1, e2, e3, e4, e5, e6, e7⟩ := e
  unfold Cert.ReferenceIdeal.Scan.P Cert.KernelIdeal.Scan.P
  rw [e0, e1, e2, e3, e4, e5, e6, e7]

/-- The six arrays of the terms. -/
noncomputable def result0 (P : Terms) : FVec Ideal ⟨2, ![4096, 512]⟩ .f32 := spread fun n => gu P n (at_ P n)

noncomputable def result1 (P : Terms) : FVec Ideal ⟨2, ![4096, 512]⟩ .f32 := spread fun n => gw P n (at_ P n)

noncomputable def result2 (P : Terms) : FVec Ideal ⟨2, ![4096, 512]⟩ .f32 := spread fun n => gq P n

noncomputable def result3 (P : Terms) : FVec Ideal ⟨2, ![4096, 512]⟩ .f32 := spread fun n => gk P n (at_ P n)

noncomputable def result4 (P : Terms) : FVec Ideal ⟨4, ![64, 4, 64, 64]⟩ .f32 := lower (ga P)

noncomputable def result5 (P : Terms) : FVec Ideal ⟨3, ![64, 4, 64]⟩ .f32 := bottom fun n => gl P n (at_ P n)

theorem kernel_run (m : (ℓ : Loc Cert.KernelIdeal.nD Cert.KernelIdeal.τ Cert.KernelIdeal.sig) → Buf (Elt Ideal) ℓ)
    (r : PUnit × MemSt Cert.KernelIdeal.nD Cert.KernelIdeal.τ Cert.KernelIdeal.sig (Elt Ideal)) (c : Dev Cert.KernelIdeal.nD)
    (h : ∀ w, r.2.mem (((Cert.KernelIdeal.cfgs 0).spec w).arr.view.loc (c.tc : Thread Cert.KernelIdeal.nD Cert.KernelIdeal.τ))
      = (Cert.KernelIdeal.Gen.dats m 0 c).arrAt w (Cert.KernelIdeal.cfgs 0).N) :
    r.2.mem ((c.tc : Thread Cert.KernelIdeal.nD Cert.KernelIdeal.τ).loc Cert.KernelIdeal.main_v4_0) = result0 (Cert.KernelIdeal.Scan.P m c)
      ∧ r.2.mem ((c.tc : Thread Cert.KernelIdeal.nD Cert.KernelIdeal.τ).loc Cert.KernelIdeal.main_v4_1) = result1 (Cert.KernelIdeal.Scan.P m c)
      ∧ r.2.mem ((c.tc : Thread Cert.KernelIdeal.nD Cert.KernelIdeal.τ).loc Cert.KernelIdeal.main_v4_2) = result2 (Cert.KernelIdeal.Scan.P m c)
      ∧ r.2.mem ((c.tc : Thread Cert.KernelIdeal.nD Cert.KernelIdeal.τ).loc Cert.KernelIdeal.main_v4_3) = result3 (Cert.KernelIdeal.Scan.P m c)
      ∧ r.2.mem ((c.tc : Thread Cert.KernelIdeal.nD Cert.KernelIdeal.τ).loc Cert.KernelIdeal.main_v4_4) = result4 (Cert.KernelIdeal.Scan.P m c)
      ∧ r.2.mem ((c.tc : Thread Cert.KernelIdeal.nD Cert.KernelIdeal.τ).loc Cert.KernelIdeal.main_v4_5) = result5 (Cert.KernelIdeal.Scan.P m c) :=
  ⟨(h 9).trans (Cert.KernelIdeal.Scan.final9 m c), (h 10).trans (Cert.KernelIdeal.Scan.final10 m c), (h 11).trans (Cert.KernelIdeal.Scan.final11 m c), (h 12).trans (Cert.KernelIdeal.Scan.final12 m c), (h 13).trans (Cert.KernelIdeal.Scan.final13 m c), (h 14).trans (Cert.KernelIdeal.Scan.final14 m c)⟩

theorem algebraic : Cert.algebraic_KernelIdeal_ReferenceIdeal_pre_finite_terms := by
  intro m g m' g' hpre hagree
  have hP : ∀ c, Cert.ReferenceIdeal.Scan.P m' c = Cert.KernelIdeal.Scan.P m c := fun c => same_terms m m' c (hagree c)
  have hF : ∀ c, (Cert.ReferenceIdeal.Scan.P m' c).Finite := fun c => by
    rw [hP c]; exact finite_of_pre _ _ _ _ _ _ _ _ (hpre c)
  refine ⟨fun c => result0 (Cert.KernelIdeal.Scan.P m c), fun c => result1 (Cert.KernelIdeal.Scan.P m c), fun c => result2 (Cert.KernelIdeal.Scan.P m c), fun c => result3 (Cert.KernelIdeal.Scan.P m c), fun c => result4 (Cert.KernelIdeal.Scan.P m c), fun c => result5 (Cert.KernelIdeal.Scan.P m c), ?_, ?_⟩
  · refine θ_run_mono (θ_run_and (Cert.KernelIdeal.Gen.run_main m g) (Cert.KernelIdeal.Gen.unchanged m g)) fun r hr c => ?_
    obtain ⟨h0, h1, h2, h3, h4, h5⟩ := kernel_run m r c (hr.1 c).1
    exact ⟨h0, h1, h2, h3, h4, h5, hr.2 c⟩
  · refine θ_run_mono (Cert.ReferenceIdeal.Value.run m' g') fun r hr c => ?_
    obtain ⟨h0, h1, h2, h3, h4, h5, h⟩ := hr c
    exact ⟨h0.trans ((Cert.ReferenceIdeal.Scan.v40_eq (hF c)).trans (congrArg result0 (hP c))),
      h1.trans ((Cert.ReferenceIdeal.Scan.v42_eq (hF c)).trans (congrArg result1 (hP c))),
      h2.trans ((Cert.ReferenceIdeal.Scan.v44_eq (hF c)).trans (congrArg result2 (hP c))),
      h3.trans ((Cert.ReferenceIdeal.Scan.v46_eq (hF c)).trans (congrArg result3 (hP c))),
      h4.trans ((Cert.ReferenceIdeal.Scan.v35_eq (hF c)).trans (congrArg result4 (hP c))),
      h5.trans ((Cert.ReferenceIdeal.Scan.v48_eq (hF c)).trans (congrArg result5 (hP c))), h⟩

end Cert.Scan
-- ==== Proof.Product2.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Lib.Claim
public import Idealize.ShloMosaic.Lib.Pointwise
public import Idealize.ShloMosaic.Lib.Pipeline.ValueKit

/-!
The blocked product `dwfi: the gradient of w_ffn_in`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference2Ideal.Product
open Cert.Reference2Ideal Cert.Reference2Ideal.Gen

/-- The reference's result 0 over its arguments. -/
def REF0 (x0 : FVec Ideal S4096x1024 .bf16) (x1 : FVec Ideal S4096x5632 .bf16) : FVec Ideal S4x1024x1408 .f32 :=
  transpose S4x1024x1408 [1, 0, 2] (shapeCast _ (transpose S1024x5632 [1, 0] (Host.dotGeneral dot_S4096x5632_S4096x1024_S5632x1024_0_0_1_1_n_n none (extf .f32 x1 bitsLt_bf16_f32) (extf .f32 x0 bitsLt_bf16_f32)) transposes_S5632x1024_S1024x5632_1_0) shapeCasts_S1024x5632_S1024x4x1408) transposes_S1024x4x1408_S4x1024x1408_1_0_2

/-- The reference's result 1 over its arguments. -/
def REF1 (x0 : FVec Ideal S4096x1024 .bf16) (x1 : FVec Ideal S4096x5632 .bf16) : FVec Ideal S4x1024x1408 .bf16 :=
  truncf .bf16 (transpose S4x1024x1408 [1, 0, 2] (shapeCast _ (transpose S1024x5632 [1, 0] (Host.dotGeneral dot_S4096x5632_S4096x1024_S5632x1024_0_0_1_1_n_n none (extf .f32 x1 bitsLt_bf16_f32) (extf .f32 x0 bitsLt_bf16_f32)) transposes_S5632x1024_S1024x5632_1_0) shapeCasts_S1024x5632_S1024x4x1408) transposes_S1024x4x1408_S4x1024x1408_1_0_2) bitsLt_bf16_f32

end Cert.Reference2Ideal.Product

namespace Cert.Kernel2Ideal.Product
open Cert.Kernel2Ideal Cert.Kernel2Ideal.Gen
open Cert.Reference2Ideal.Product (REF0 REF1)

variable (m : (ℓ : Loc nD τ sig) → Buf (Elt Ideal) ℓ)

/-- Which block of each array a grid point works on. -/
theorem index : ∀ t : Fin cfg0.N, win0_0.index t = ![t.val % 4, 0]
    ∧ win0_1.index t = ![t.val % 4, t.val / 4]
    ∧ win0_2.index t = ![t.val / 4, 0, 0]
    ∧ win0_3.index t = ![t.val / 4, 0, 0] :=
  (by decide +kernel : ∀ t : Fin grid0.N, _)

theorem zero_apply (j) : k0_pay1 (F := Ideal) j = 0 := by pointwise [k0_pay1]

theorem step_apply (acc : Vec Ideal S1024x1408 .f32) (x0 : Vec Ideal S1024x1024 .bf16) (x1 : Vec Ideal S1024x1408 .bf16) (j) :
    k0_pay2 acc x0 x1 j = acc j + ∑ k : Fin 1024, x0 (ix2 k (j 0)) * x1 (ix2 k (j 1)) := by
  pointwise [k0_pay2]

/-- The running sum at a block's last step is the whole contraction. -/
theorem acc_apply (c : Dev nD) (t : Fin cfg0.N) (hr : t.val % 4 = 3) (i : S4x1024x1408.Idx) (j : S1024x1408.Idx)
    (h0 : (i 0 : ℕ) = t.val / 4) (h1 : (i 1 : ℕ) = j 0) (h2 : (i 2 : ℕ) = j 1) :
    (outsAt0 m c t.val t.isLt).2.2 j = REF0 (m ((c : Thread nD τ).loc main_arg0)) (m ((c : Thread nD τ).loc main_arg1)) i := by
  rw [Pipeline.eq_sum_fin_of_reset_step_apply_of_flush (fun n h => (outsAt0 m c n h).2.2) 4 (fun _ => 0) _
    (fun t h j => by rw [outsAt0_A m c t h (by omega)]; frame_out; rw [step_apply, zero_apply])
    (fun t h j => by
      by_cases h1 : t.val % 4 = 3
      · rw [outsAt0_C m c t h h1]; frame_out; rw [step_apply]; exact congrArg (· + _) (congrFun ((Memref.isWhole_whole cc0_scratch0).read_unread _) j)
      · rw [outsAt0_B m c t h h1]; frame_out; rw [step_apply]; exact congrArg (· + _) (congrFun ((Memref.isWhole_whole cc0_scratch0).read_unread _) j))
    t hr j, zero_add]
  pointwise [REF0]
  refine Fin.sum_mul_add_congr fun s k hl => ?_
  rw [mul_comm]
  blk_point [iblk, V, index t, index ⟨_, Pipeline.run_point_lt_of_flush t hr s⟩]

theorem last0 (c : Dev nD) (t : Fin cfg0.N) (hr : t.val % 4 = 3) :
    (outsAt0 m c t.val t.isLt).1 = k0_pay3 ((outsAt0 m c t.val t.isLt).2.2) := by
  rw [outsAt0_C m c t (by omega) hr]; frame_out

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, last0 m c t hr]
  pointwise [k0_pay3]
  refine acc_apply m c t hr _ _ ?_ ?_ ?_ <;> blk_simp [index t]

theorem last1 (c : Dev nD) (t : Fin cfg0.N) (hr : t.val % 4 = 3) :
    (outsAt0 m c t.val t.isLt).2.1 = k0_pay4 ((outsAt0 m c t.val t.isLt).2.2) := by
  rw [outsAt0_C m c t (by omega) hr]; frame_out

/-- The result array is the reference's. -/
theorem final1 (c : Dev nD) : (dats m 0 c).arrAt 3 (cfgs 0).N = REF1 (m ((c : Thread nD τ).loc main_arg0)) (m ((c : Thread nD τ).loc main_arg1)) := by
  refine (dats m 0 c).arrAt_eq_of_covers 3 _ (by decide +kernel) fun t hf y => ?_
  have hr := (flush0_3 t).mp hf
  blk_simp
  rw [after0_3, last1 m c t hr]
  pointwise [k0_pay4]
  refine acc_apply m c t hr _ _ ?_ ?_ ?_ <;> blk_simp [index t]

end Cert.Kernel2Ideal.Product

namespace Cert.Proof2

theorem frame : Cert.quiescent_Kernel2 := fun m ρ _ => Cert.Kernel2.Gen.frame m ρ

theorem frameIdeal : Cert.quiescent_Kernel2Ideal := fun m ρ _ => Cert.Kernel2Ideal.Gen.frame m ρ

theorem frameReference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem algebraic : Cert.algebraic_Kernel2Ideal_Reference2Ideal := by
  pair_intro
  · run_from Cert.Kernel2Ideal.Gen.run_main m g
  · run_from Cert.Reference2Ideal.Value.run m' g'
    · exact (Cert.Kernel2Ideal.Product.final0 m c).symm
    · exact (Cert.Kernel2Ideal.Product.final1 m c).symm

end Cert.Proof2

end
-- ==== Proof.Product3.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import Idealize.ShloMosaic.Lib.Claim
public import Idealize.ShloMosaic.Lib.Pointwise
public import Idealize.ShloMosaic.Lib.Pipeline.ValueKit

/-!
The blocked product `dh2: the gradient through w_ffn_in`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference3Ideal.Product
open Cert.Reference3Ideal Cert.Reference3Ideal.Gen

/-- The reference's result 0 over its arguments. -/
def REF0 (x0 : FVec Ideal S4096x5632 .bf16) (x1 : FVec Ideal S4x1024x1408 .bf16) : FVec Ideal S4096x1024 .f32 :=
  Host.dotGeneral dot_S4096x5632_S1024x5632_S4096x1024_1_1_0_0_n_n none (extf .f32 x0 bitsLt_bf16_f32) (extf .f32 (shapeCast _ (transpose S1024x4x1408 [1, 0, 2] x1 transposes_S4x1024x1408_S1024x4x1408_1_0_2) shapeCasts_S1024x4x1408_S1024x5632) bitsLt_bf16_f32)

end Cert.Reference3Ideal.Product

namespace Cert.Kernel3Ideal.Product
open Cert.Kernel3Ideal Cert.Kernel3Ideal.Gen
open Cert.Reference3Ideal.Product (REF0)

variable (m : (ℓ : Loc nD τ sig) → Buf (Elt Ideal) ℓ)

/-- Which block of each array a grid point works on. -/
theorem index : ∀ t : Fin cfg0.N, win0_0.index t = ![t.val / 4, t.val % 4]
    ∧ win0_1.index t = ![t.val % 4, 0, 0]
    ∧ win0_2.index t = ![t.val / 4, 0] :=
  (by decide +kernel : ∀ t : Fin grid0.N, _)

theorem zero_apply (j) : k0_pay1 (F := Ideal) j = 0 := by pointwise [k0_pay1]

theorem step_apply (acc : Vec Ideal S1024x1024 .f32) (x0 : Vec Ideal S1024x1408 .bf16) (x1 : Vec Ideal S1x1024x1408 .bf16) (j) :
    k0_pay2 acc x0 x1 j = acc j + ∑ k : Fin 1408, x0 (ix2 (j 0) k) * x1 (ix3 0 (j 1) k) := by
  pointwise [k0_pay2]

/-- The running sum at a block's last step is the whole contraction. -/
theorem acc_apply (c : Dev nD) (t : Fin cfg0.N) (hr : t.val % 4 = 3) (i : S4096x1024.Idx) (j : S1024x1024.Idx)
    (h0 : (i 0 : ℕ) = (t.val / 4) * 1024 + j 0) (h1 : (i 1 : ℕ) = j 1) :
    (outsAt0 m c t.val t.isLt).2 j = REF0 (m ((c : Thread nD τ).loc main_arg0)) (m ((c : Thread nD τ).loc main_arg1)) i := by
  rw [Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h1 : t.val % 4 = 3
      · rw [outsAt0_C m c t h h1]; frame_out; rw [step_apply]; exact congrArg (· + _) (congrFun ((Memref.isWhole_whole cc0_scratch0).read_unread _) j)
      · rw [outsAt0_B m c t h h1]; frame_out; rw [step_apply]; exact congrArg (· + _) (congrFun ((Memref.isWhole_whole cc0_scratch0).read_unread _) j))
    t hr j, zero_add]
  pointwise [REF0]
  refine Fin.sum_mul_add_congr fun s k hl => ?_
  blk_point [iblk, V, index t, index ⟨_, Pipeline.run_point_lt_of_flush t hr s⟩]

theorem last0 (c : Dev nD) (t : Fin cfg0.N) (hr : t.val % 4 = 3) :
    (outsAt0 m c t.val t.isLt).1 = (outsAt0 m c t.val t.isLt).2 := by
  rw [outsAt0_C m c t (by omega) hr]; frame_out

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, last0 m c t hr]
  refine acc_apply m c t hr _ _ ?_ ?_ <;> blk_simp [index t]

end Cert.Kernel3Ideal.Product

namespace Cert.Proof3

theorem frame : Cert.quiescent_Kernel3 := fun m ρ _ => Cert.Kernel3.Gen.frame m ρ

theorem frameIdeal : Cert.quiescent_Kernel3Ideal := fun m ρ _ => Cert.Kernel3Ideal.Gen.frame m ρ

theorem frameReference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  pair_intro
  · run_from Cert.Kernel3Ideal.Gen.run_main m g
  · run_from Cert.Reference3Ideal.Value.run m' g'
    · exact (Cert.Kernel3Ideal.Product.final0 m c).symm

end Cert.Proof3

end
-- ==== Proof.Product4.lean ====
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import Idealize.ShloMosaic.Lib.Claim
public import Idealize.ShloMosaic.Lib.Pointwise
public import Idealize.ShloMosaic.Lib.Pipeline.ValueKit

/-!
The blocked product `dwin: the gradient of w_in, its columns in the order of the call`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference4Ideal.Product
open Cert.Reference4Ideal Cert.Reference4Ideal.Gen

/-- The reference's result 0 over its arguments. -/
def REF0 (x0 : FVec Ideal S4096x1024 .bf16) (x1 : FVec Ideal S4096x5760 .bf16) : FVec Ideal S1024x5760 .f32 :=
  transpose S1024x5760 [1, 0] (Host.dotGeneral dot_S4096x5760_S4096x1024_S5760x1024_0_0_1_1_n_n none (extf .f32 x1 bitsLt_bf16_f32) (extf .f32 x0 bitsLt_bf16_f32)) transposes_S5760x1024_S1024x5760_1_0

end Cert.Reference4Ideal.Product

namespace Cert.Kernel4Ideal.Product
open Cert.Kernel4Ideal Cert.Kernel4Ideal.Gen
open Cert.Reference4Ideal.Product (REF0)

variable (m : (ℓ : Loc nD τ sig) → Buf (Elt Ideal) ℓ)

/-- Which block of each array a grid point works on. -/
theorem index : ∀ t : Fin cfg0.N, win0_0.index t = ![t.val % 4, 0]
    ∧ win0_1.index t = ![t.val % 4, t.val / 4]
    ∧ win0_2.index t = ![0, t.val / 4] :=
  (by decide +kernel : ∀ t : Fin grid0.N, _)

theorem zero_apply (j) : k0_pay1 (F := Ideal) j = 0 := by pointwise [k0_pay1]

theorem step_apply (acc : Vec Ideal S1024x1152 .f32) (x0 : Vec Ideal S1024x1024 .bf16) (x1 : Vec Ideal S1024x1152 .bf16) (j) :
    k0_pay2 acc x0 x1 j = acc j + ∑ k : Fin 1024, x0 (ix2 k (j 0)) * x1 (ix2 k (j 1)) := by
  pointwise [k0_pay2]

/-- The running sum at a block's last step is the whole contraction. -/
theorem acc_apply (c : Dev nD) (t : Fin cfg0.N) (hr : t.val % 4 = 3) (i : S1024x5760.Idx) (j : S1024x1152.Idx)
    (h0 : (i 0 : ℕ) = j 0) (h1 : (i 1 : ℕ) = (t.val / 4) * 1152 + j 1) :
    (outsAt0 m c t.val t.isLt).2 j = REF0 (m ((c : Thread nD τ).loc main_arg0)) (m ((c : Thread nD τ).loc main_arg1)) i := by
  rw [Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h1 : t.val % 4 = 3
      · rw [outsAt0_C m c t h h1]; frame_out; rw [step_apply]; exact congrArg (· + _) (congrFun ((Memref.isWhole_whole cc0_scratch0).read_unread _) j)
      · rw [outsAt0_B m c t h h1]; frame_out; rw [step_apply]; exact congrArg (· + _) (congrFun ((Memref.isWhole_whole cc0_scratch0).read_unread _) j))
    t hr j, zero_add]
  pointwise [REF0]
  refine Fin.sum_mul_add_congr fun s k hl => ?_
  rw [mul_comm]
  blk_point [iblk, V, index t, index ⟨_, Pipeline.run_point_lt_of_flush t hr s⟩]

theorem last0 (c : Dev nD) (t : Fin cfg0.N) (hr : t.val % 4 = 3) :
    (outsAt0 m c t.val t.isLt).1 = (outsAt0 m c t.val t.isLt).2 := by
  rw [outsAt0_C m c t (by omega) hr]; frame_out

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, last0 m c t hr]
  refine acc_apply m c t hr _ _ ?_ ?_ <;> blk_simp [index t]

end Cert.Kernel4Ideal.Product

namespace Cert.Proof4

theorem frame : Cert.quiescent_Kernel4 := fun m ρ _ => Cert.Kernel4.Gen.frame m ρ

theorem frameIdeal : Cert.quiescent_Kernel4Ideal := fun m ρ _ => Cert.Kernel4Ideal.Gen.frame m ρ

theorem frameReference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  pair_intro
  · run_from Cert.Kernel4Ideal.Gen.run_main m g
  · run_from Cert.Reference4Ideal.Value.run m' g'
    · exact (Cert.Kernel4Ideal.Product.final0 m c).symm

end Cert.Proof4

end
-- ==== Proof.Product5.lean ====
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import Idealize.ShloMosaic.Lib.Claim
public import Idealize.ShloMosaic.Lib.Pointwise
public import Idealize.ShloMosaic.Lib.Pipeline.ValueKit

/-!
The blocked product `dwfo: the gradient of w_ffn_out`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference5Ideal.Product
open Cert.Reference5Ideal Cert.Reference5Ideal.Gen

/-- The reference's result 0 over its arguments. -/
def REF0 (x0 : FVec Ideal S4096x2816 .bf16) (x1 : FVec Ideal S4096x1024 .bf16) : FVec Ideal S2816x1024 .f32 :=
  transpose S2816x1024 [1, 0] (Host.dotGeneral dot_S4096x1024_S4096x2816_S1024x2816_0_0_1_1_n_n none (extf .f32 x1 bitsLt_bf16_f32) (extf .f32 x0 bitsLt_bf16_f32)) transposes_S1024x2816_S2816x1024_1_0

/-- The reference's result 1 over its arguments. -/
def REF1 (x0 : FVec Ideal S4096x2816 .bf16) (x1 : FVec Ideal S4096x1024 .bf16) : FVec Ideal S2816x1024 .bf16 :=
  truncf .bf16 (transpose S2816x1024 [1, 0] (Host.dotGeneral dot_S4096x1024_S4096x2816_S1024x2816_0_0_1_1_n_n none (extf .f32 x1 bitsLt_bf16_f32) (extf .f32 x0 bitsLt_bf16_f32)) transposes_S1024x2816_S2816x1024_1_0) bitsLt_bf16_f32

end Cert.Reference5Ideal.Product

namespace Cert.Kernel5Ideal.Product
open Cert.Kernel5Ideal Cert.Kernel5Ideal.Gen
open Cert.Reference5Ideal.Product (REF0 REF1)

variable (m : (ℓ : Loc nD τ sig) → Buf (Elt Ideal) ℓ)

/-- Which block of each array a grid point works on. -/
theorem index : ∀ t : Fin cfg0.N, win0_0.index t = ![t.val % 4, t.val / 4]
    ∧ win0_1.index t = ![t.val % 4, 0]
    ∧ win0_2.index t = ![t.val / 4, 0]
    ∧ win0_3.index t = ![t.val / 4, 0] :=
  (by decide +kernel : ∀ t : Fin grid0.N, _)

theorem zero_apply (j) : k0_pay1 (F := Ideal) j = 0 := by pointwise [k0_pay1]

theorem step_apply (acc : Vec Ideal S1408x1024 .f32) (x0 : Vec Ideal S1024x1408 .bf16) (x1 : Vec Ideal S1024x1024 .bf16) (j) :
    k0_pay2 acc x0 x1 j = acc j + ∑ k : Fin 1024, x0 (ix2 k (j 0)) * x1 (ix2 k (j 1)) := by
  pointwise [k0_pay2]

/-- The running sum at a block's last step is the whole contraction. -/
theorem acc_apply (c : Dev nD) (t : Fin cfg0.N) (hr : t.val % 4 = 3) (i : S2816x1024.Idx) (j : S1408x1024.Idx)
    (h0 : (i 0 : ℕ) = (t.val / 4) * 1408 + j 0) (h1 : (i 1 : ℕ) = j 1) :
    (outsAt0 m c t.val t.isLt).2.2 j = REF0 (m ((c : Thread nD τ).loc main_arg0)) (m ((c : Thread nD τ).loc main_arg1)) i := by
  rw [Pipeline.eq_sum_fin_of_reset_step_apply_of_flush (fun n h => (outsAt0 m c n h).2.2) 4 (fun _ => 0) _
    (fun t h j => by rw [outsAt0_A m c t h (by omega)]; frame_out; rw [step_apply, zero_apply])
    (fun t h j => by
      by_cases h1 : t.val % 4 = 3
      · rw [outsAt0_C m c t h h1]; frame_out; rw [step_apply]; exact congrArg (· + _) (congrFun ((Memref.isWhole_whole cc0_scratch0).read_unread _) j)
      · rw [outsAt0_B m c t h h1]; frame_out; rw [step_apply]; exact congrArg (· + _) (congrFun ((Memref.isWhole_whole cc0_scratch0).read_unread _) j))
    t hr j, zero_add]
  pointwise [REF0]
  refine Fin.sum_mul_add_congr fun s k hl => ?_
  rw [mul_comm]
  blk_point [iblk, V, index t, index ⟨_, Pipeline.run_point_lt_of_flush t hr s⟩]

theorem last0 (c : Dev nD) (t : Fin cfg0.N) (hr : t.val % 4 = 3) :
    (outsAt0 m c t.val t.isLt).1 = (outsAt0 m c t.val t.isLt).2.2 := by
  rw [outsAt0_C m c t (by omega) hr]; frame_out

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, last0 m c t hr]
  refine acc_apply m c t hr _ _ ?_ ?_ <;> blk_simp [index t]

theorem last1 (c : Dev nD) (t : Fin cfg0.N) (hr : t.val % 4 = 3) :
    (outsAt0 m c t.val t.isLt).2.1 = k0_pay3 ((outsAt0 m c t.val t.isLt).2.2) := by
  rw [outsAt0_C m c t (by omega) hr]; frame_out

/-- The result array is the reference's. -/
theorem final1 (c : Dev nD) : (dats m 0 c).arrAt 3 (cfgs 0).N = REF1 (m ((c : Thread nD τ).loc main_arg0)) (m ((c : Thread nD τ).loc main_arg1)) := by
  refine (dats m 0 c).arrAt_eq_of_covers 3 _ (by decide +kernel) fun t hf y => ?_
  have hr := (flush0_3 t).mp hf
  blk_simp
  rw [after0_3, last1 m c t hr]
  pointwise [k0_pay3]
  refine acc_apply m c t hr _ _ ?_ ?_ <;> blk_simp [index t]

end Cert.Kernel5Ideal.Product

namespace Cert.Proof5

theorem frame : Cert.quiescent_Kernel5 := fun m ρ _ => Cert.Kernel5.Gen.frame m ρ

theorem frameIdeal : Cert.quiescent_Kernel5Ideal := fun m ρ _ => Cert.Kernel5Ideal.Gen.frame m ρ

theorem frameReference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic : Cert.algebraic_Kernel5Ideal_Reference5Ideal := by
  pair_intro
  · run_from Cert.Kernel5Ideal.Gen.run_main m g
  · run_from Cert.Reference5Ideal.Value.run m' g'
    · exact (Cert.Kernel5Ideal.Product.final0 m c).symm
    · exact (Cert.Kernel5Ideal.Product.final1 m c).symm

end Cert.Proof5

end
-- ==== Proof.Product6.lean ====
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import Idealize.ShloMosaic.Lib.Claim
public import Idealize.ShloMosaic.Lib.Pointwise
public import Idealize.ShloMosaic.Lib.Pipeline.ValueKit

/-!
The blocked product `dact: the gradient through w_ffn_out`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference6Ideal.Product
open Cert.Reference6Ideal Cert.Reference6Ideal.Gen

/-- The reference's result 0 over its arguments. -/
def REF0 (x0 : FVec Ideal S4096x1024 .bf16) (x1 : FVec Ideal S2816x1024 .bf16) : FVec Ideal S4096x2816 .bf16 :=
  truncf .bf16 (Host.dotGeneral dot_S4096x1024_S2816x1024_S4096x2816_1_1_0_0_n_n none (extf .f32 x0 bitsLt_bf16_f32) (extf .f32 x1 bitsLt_bf16_f32)) bitsLt_bf16_f32

end Cert.Reference6Ideal.Product

namespace Cert.Kernel6Ideal.Product
open Cert.Kernel6Ideal Cert.Kernel6Ideal.Gen
open Cert.Reference6Ideal.Product (REF0)

variable (m : (ℓ : Loc nD τ sig) → Buf (Elt Ideal) ℓ)

/-- Which block of each array a grid point works on. -/
theorem index : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- A place of the block a point stores is the plain product there. -/
theorem point0 (c : Dev nD) (t : Fin cfg0.N) (y) : k0_pay1 (iblk m c 0 t) (iblk m c 1 t) y
    = REF0 (m ((c : Thread nD τ).loc main_arg0)) (m ((c : Thread nD τ).loc main_arg1)) (((cfg0.win 2).blk t).view.emb y) := by
  pointwise [k0_pay1, REF0]
  blk_point [iblk, V, index t]

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

end Cert.Kernel6Ideal.Product

namespace Cert.Proof6

theorem frame : Cert.quiescent_Kernel6 := fun m ρ _ => Cert.Kernel6.Gen.frame m ρ

theorem frameIdeal : Cert.quiescent_Kernel6Ideal := fun m ρ _ => Cert.Kernel6Ideal.Gen.frame m ρ

theorem frameReference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  pair_intro
  · run_from Cert.Kernel6Ideal.Gen.run_main m g
  · run_from Cert.Reference6Ideal.Value.run m' g'
    · exact (Cert.Kernel6Ideal.Product.final0 m c).symm

end Cert.Proof6

end
-- ==== Proof.Product7.lean ====
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import Idealize.ShloMosaic.Lib.Claim
public import Idealize.ShloMosaic.Lib.Pointwise
public import Idealize.ShloMosaic.Lib.Pipeline.ValueKit

/-!
The blocked product `proj: the input projection, its columns in the order of the call`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference7Ideal.Product
open Cert.Reference7Ideal Cert.Reference7Ideal.Gen

/-- The reference's result 0 over its arguments. -/
def REF0 (x0 : FVec Ideal S4096x1024 .bf16) (x1 : FVec Ideal S1024x5760 .bf16) : FVec Ideal S4096x5760 .f32 :=
  Host.dotGeneral dot_S4096x1024_S1024x5760_S4096x5760_1_0_0_1_n_n none (extf .f32 x0 bitsLt_bf16_f32) (extf .f32 x1 bitsLt_bf16_f32)

end Cert.Reference7Ideal.Product

namespace Cert.Kernel7Ideal.Product
open Cert.Kernel7Ideal Cert.Kernel7Ideal.Gen
open Cert.Reference7Ideal.Product (REF0)

variable (m : (ℓ : Loc nD τ sig) → Buf (Elt Ideal) ℓ)

/-- Which block of each array a grid point works on. -/
theorem index : ∀ t : Fin cfg0.N, win0_0.index t = ![t.val / 5, 0]
    ∧ win0_1.index t = ![0, t.val % 5]
    ∧ win0_2.index t = ![t.val / 5, t.val % 5] :=
  (by decide +kernel : ∀ t : Fin grid0.N, _)

/-- A place of the block a point stores is the plain product there. -/
theorem point0 (c : Dev nD) (t : Fin cfg0.N) (y) : k0_pay1 (iblk m c 0 t) (iblk m c 1 t) y
    = REF0 (m ((c : Thread nD τ).loc main_arg0)) (m ((c : Thread nD τ).loc main_arg1)) (((cfg0.win 2).blk t).view.emb y) := by
  pointwise [k0_pay1, REF0]
  blk_point [iblk, V, index t]

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

end Cert.Kernel7Ideal.Product

namespace Cert.Proof7

theorem frame : Cert.quiescent_Kernel7 := fun m ρ _ => Cert.Kernel7.Gen.frame m ρ

theorem frameIdeal : Cert.quiescent_Kernel7Ideal := fun m ρ _ => Cert.Kernel7Ideal.Gen.frame m ρ

theorem frameReference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  pair_intro
  · run_from Cert.Kernel7Ideal.Gen.run_main m g
  · run_from Cert.Reference7Ideal.Value.run m' g'
    · exact (Cert.Kernel7Ideal.Product.final0 m c).symm

end Cert.Proof7

end
-- ==== Proof.Product8.lean ====
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import Idealize.ShloMosaic.Lib.Claim
public import Idealize.ShloMosaic.Lib.Pointwise
public import Idealize.ShloMosaic.Lib.Pipeline.ValueKit

/-!
The blocked product `fo: the output of the feed-forward layer, and the residual`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference8Ideal.Product
open Cert.Reference8Ideal Cert.Reference8Ideal.Gen

/-- The reference's result 0 over its arguments. -/
def REF0 (x0 : FVec Ideal S4096x2816 .bf16) (x1 : FVec Ideal S2816x1024 .bf16) (x2 : FVec Ideal S4096x1024 .f32) (x3 : FVec Ideal S1x1024 .f32) : FVec Ideal S4096x1024 .f32 :=
  Host.dotGeneral dot_S4096x2816_S2816x1024_S4096x1024_1_0_0_1_n_n none (extf .f32 x0 bitsLt_bf16_f32) (extf .f32 x1 bitsLt_bf16_f32)

/-- The reference's result 1 over its arguments. -/
def REF1 (x0 : FVec Ideal S4096x2816 .bf16) (x1 : FVec Ideal S2816x1024 .bf16) (x2 : FVec Ideal S4096x1024 .f32) (x3 : FVec Ideal S1x1024 .f32) : FVec Ideal S4096x1024 .f32 :=
  addf x2 (mulf (broadcastInDim S4096x1024 ![0, 1] bcast_S1x1024_S4096x1024_0_1 x3) (Host.dotGeneral dot_S4096x2816_S2816x1024_S4096x1024_1_0_0_1_n_n none (extf .f32 x0 bitsLt_bf16_f32) (extf .f32 x1 bitsLt_bf16_f32)))

end Cert.Reference8Ideal.Product

namespace Cert.Kernel8Ideal.Product
open Cert.Kernel8Ideal Cert.Kernel8Ideal.Gen
open Cert.Reference8Ideal.Product (REF0 REF1)

variable (m : (ℓ : Loc nD τ sig) → Buf (Elt Ideal) ℓ)

/-- Which block of each array a grid point works on. -/
theorem index : ∀ t : Fin cfg0.N, win0_0.index t = ![t.val / 2, t.val % 2]
    ∧ win0_1.index t = ![t.val % 2, 0]
    ∧ win0_2.index t = ![t.val / 2, 0]
    ∧ win0_3.index t = ![0, 0]
    ∧ win0_4.index t = ![t.val / 2, 0]
    ∧ win0_5.index t = ![t.val / 2, 0] :=
  (by decide +kernel : ∀ t : Fin grid0.N, _)

theorem zero_apply (j) : k0_pay1 (F := Ideal) j = 0 := by pointwise [k0_pay1]

theorem step_apply (acc : Vec Ideal S1024x1024 .f32) (x0 : Vec Ideal S1024x1408 .bf16) (x1 : Vec Ideal S1408x1024 .bf16) (j) :
    k0_pay2 acc x0 x1 j = acc j + ∑ k : Fin 1408, x0 (ix2 (j 0) k) * x1 (ix2 k (j 1)) := by
  pointwise [k0_pay2]

/-- The running sum at a block's last step is the whole contraction. -/
theorem acc_apply (c : Dev nD) (t : Fin cfg0.N) (hr : t.val % 2 = 1) (i : S4096x1024.Idx) (j : S1024x1024.Idx)
    (h0 : (i 0 : ℕ) = (t.val / 2) * 1024 + j 0) (h1 : (i 1 : ℕ) = j 1) :
    (outsAt0 m c t.val t.isLt).2.2 j = REF0 (m ((c : Thread nD τ).loc main_arg0)) (m ((c : Thread nD τ).loc main_arg1)) (m ((c : Thread nD τ).loc main_arg2)) (m ((c : Thread nD τ).loc main_arg3)) i := by
  rw [Pipeline.eq_sum_fin_of_reset_step_apply_of_flush (fun n h => (outsAt0 m c n h).2.2) 2 (fun _ => 0) _
    (fun t h j => by rw [outsAt0_A m c t h (by omega)]; frame_out; rw [step_apply, zero_apply])
    (fun t h j => by rw [outsAt0_B m c t h (by omega)]; frame_out; rw [step_apply]; exact congrArg (· + _) (congrFun ((Memref.isWhole_whole cc0_scratch0).read_unread _) j))
    t hr j, zero_add]
  pointwise [REF0]
  refine Fin.sum_mul_add_congr fun s k hl => ?_
  blk_point [iblk, V, index t, index ⟨_, Pipeline.run_point_lt_of_flush t hr s⟩]

theorem last0 (c : Dev nD) (t : Fin cfg0.N) (hr : t.val % 2 = 1) :
    (outsAt0 m c t.val t.isLt).1 = (outsAt0 m c t.val t.isLt).2.2 := by
  rw [outsAt0_B m c t (by omega) hr]; frame_out

/-- The result array is the reference's. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hr := (flush0_4 t).mp hf
  blk_simp
  rw [after0_4, last0 m c t hr]
  refine acc_apply m c t hr _ _ ?_ ?_ <;> blk_simp [index t]

theorem last1 (c : Dev nD) (t : Fin cfg0.N) (hr : t.val % 2 = 1) :
    (outsAt0 m c t.val t.isLt).2.1 = k0_pay3 ((outsAt0 m c t.val t.isLt).2.2) (iblk m c 2 t) (iblk m c 3 t) := by
  rw [outsAt0_B m c t (by omega) hr]; frame_out

theorem residual (x0 : FVec Ideal S4096x2816 .bf16) (x1 : FVec Ideal S2816x1024 .bf16) (x2 : FVec Ideal S4096x1024 .f32)
    (x3 : FVec Ideal S1x1024 .f32) (i : S4096x1024.Idx) :
    REF1 x0 x1 x2 x3 i = x2 i + x3 (ix2 0 (i 1)) * REF0 x0 x1 x2 x3 i := by
  pointwise [REF1, REF0]

/-- The result array is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hr := (flush0_5 t).mp hf
  blk_simp
  rw [after0_5, last1 m c t hr]
  refine Eq.trans ?_ (residual _ _ _ _ _).symm
  pointwise [k0_pay3]
  rw [acc_apply m c t hr (((View.whole main_v0_1).slice (win0_5.rect t)).emb y) y (by blk_simp [index t]) (by blk_simp [index t])]
  blk_point [iblk, V, index t]

end Cert.Kernel8Ideal.Product

namespace Cert.Proof8

theorem frame : Cert.quiescent_Kernel8 := fun m ρ _ => Cert.Kernel8.Gen.frame m ρ

theorem frameIdeal : Cert.quiescent_Kernel8Ideal := fun m ρ _ => Cert.Kernel8Ideal.Gen.frame m ρ

theorem frameReference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem algebraic : Cert.algebraic_Kernel8Ideal_Reference8Ideal := by
  pair_intro
  · run_from Cert.Kernel8Ideal.Gen.run_main m g
  · run_from Cert.Reference8Ideal.Value.run m' g'
    · exact (Cert.Kernel8Ideal.Product.final0 m c).symm
    · exact (Cert.Kernel8Ideal.Product.final1 m c).symm

end Cert.Proof8

end
-- ==== Proof.Product9.lean ====
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import Idealize.ShloMosaic.Lib.Claim
public import Idealize.ShloMosaic.Lib.Pointwise
public import Idealize.ShloMosaic.Lib.Pipeline.ValueKit

/-!
The blocked product `dwo: the gradient of w_out`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference9Ideal.Product
open Cert.Reference9Ideal Cert.Reference9Ideal.Gen

/-- The reference's result 0 over its arguments. -/
def REF0 (x0 : FVec Ideal S4096x1024 .bf16) (x1 : FVec Ideal S4096x1024 .bf16) : FVec Ideal S1024x1024 .f32 :=
  transpose S1024x1024 [1, 0] (Host.dotGeneral dot_S4096x1024_S4096x1024_S1024x1024_0_0_1_1_n_n none (extf .f32 x1 bitsLt_bf16_f32) (extf .f32 x0 bitsLt_bf16_f32)) transposes_S1024x1024_S1024x1024_1_0

/-- The reference's result 1 over its arguments. -/
def REF1 (x0 : FVec Ideal S4096x1024 .bf16) (x1 : FVec Ideal S4096x1024 .bf16) : FVec Ideal S1024x1024 .bf16 :=
  truncf .bf16 (transpose S1024x1024 [1, 0] (Host.dotGeneral dot_S4096x1024_S4096x1024_S1024x1024_0_0_1_1_n_n none (extf .f32 x1 bitsLt_bf16_f32) (extf .f32 x0 bitsLt_bf16_f32)) transposes_S1024x1024_S1024x1024_1_0) bitsLt_bf16_f32

end Cert.Reference9Ideal.Product

namespace Cert.Kernel9Ideal.Product
open Cert.Kernel9Ideal Cert.Kernel9Ideal.Gen
open Cert.Reference9Ideal.Product (REF0 REF1)

variable (m : (ℓ : Loc nD τ sig) → Buf (Elt Ideal) ℓ)

/-- Which block of each array a grid point works on. -/
theorem index : ∀ t : Fin cfg0.N, win0_0.index t = ![t.val, 0]
    ∧ win0_1.index t = ![t.val, 0]
    ∧ win0_2.index t = ![0, 0]
    ∧ win0_3.index t = ![0, 0] :=
  (by decide +kernel : ∀ t : Fin grid0.N, _)

theorem zero_apply (j) : k0_pay1 (F := Ideal) j = 0 := by pointwise [k0_pay1]

theorem step_apply (acc : Vec Ideal S1024x1024 .f32) (x0 : Vec Ideal S1024x1024 .bf16) (x1 : Vec Ideal S1024x1024 .bf16) (j) :
    k0_pay2 acc x0 x1 j = acc j + ∑ k : Fin 1024, x0 (ix2 k (j 0)) * x1 (ix2 k (j 1)) := by
  pointwise [k0_pay2]

/-- The running sum at a block's last step is the whole contraction. -/
theorem acc_apply (c : Dev nD) (t : Fin cfg0.N) (hr : t.val % 4 = 3) (i : S1024x1024.Idx) (j : S1024x1024.Idx)
    (h0 : (i 0 : ℕ) = j 0) (h1 : (i 1 : ℕ) = j 1) :
    (outsAt0 m c t.val t.isLt).2.2 j = REF0 (m ((c : Thread nD τ).loc main_arg0)) (m ((c : Thread nD τ).loc main_arg1)) i := by
  rw [Pipeline.eq_sum_fin_of_reset_step_apply_of_flush (fun n h => (outsAt0 m c n h).2.2) 4 (fun _ => 0) _
    (fun t h j => by rw [outsAt0_A m c t h (by omega)]; frame_out; rw [step_apply, zero_apply])
    (fun t h j => by
      by_cases h1 : t.val % 4 = 3
      · rw [outsAt0_C m c t h h1]; frame_out; rw [step_apply]; exact congrArg (· + _) (congrFun ((Memref.isWhole_whole cc0_scratch0).read_unread _) j)
      · rw [outsAt0_B m c t h h1]; frame_out; rw [step_apply]; exact congrArg (· + _) (congrFun ((Memref.isWhole_whole cc0_scratch0).read_unread _) j))
    t hr j, zero_add]
  pointwise [REF0]
  refine Fin.sum_mul_add_congr fun s k hl => ?_
  rw [mul_comm]
  blk_point [iblk, V, index t, index ⟨_, Pipeline.run_point_lt_of_flush t hr s⟩]

theorem last0 (c : Dev nD) (t : Fin cfg0.N) (hr : t.val % 4 = 3) :
    (outsAt0 m c t.val t.isLt).1 = (outsAt0 m c t.val t.isLt).2.2 := by
  rw [outsAt0_C m c t (by omega) hr]; frame_out

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, last0 m c t hr]
  refine acc_apply m c t hr _ _ ?_ ?_ <;> blk_simp [index t]

theorem last1 (c : Dev nD) (t : Fin cfg0.N) (hr : t.val % 4 = 3) :
    (outsAt0 m c t.val t.isLt).2.1 = k0_pay3 ((outsAt0 m c t.val t.isLt).2.2) := by
  rw [outsAt0_C m c t (by omega) hr]; frame_out

/-- The result array is the reference's. -/
theorem final1 (c : Dev nD) : (dats m 0 c).arrAt 3 (cfgs 0).N = REF1 (m ((c : Thread nD τ).loc main_arg0)) (m ((c : Thread nD τ).loc main_arg1)) := by
  refine (dats m 0 c).arrAt_eq_of_covers 3 _ (by decide +kernel) fun t hf y => ?_
  have hr := (flush0_3 t).mp hf
  blk_simp
  rw [after0_3, last1 m c t hr]
  pointwise [k0_pay3]
  refine acc_apply m c t hr _ _ ?_ ?_ <;> blk_simp [index t]

end Cert.Kernel9Ideal.Product

namespace Cert.Proof9

theorem frame : Cert.quiescent_Kernel9 := fun m ρ _ => Cert.Kernel9.Gen.frame m ρ

theorem frameIdeal : Cert.quiescent_Kernel9Ideal := fun m ρ _ => Cert.Kernel9Ideal.Gen.frame m ρ

theorem frameReference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem algebraic : Cert.algebraic_Kernel9Ideal_Reference9Ideal := by
  pair_intro
  · run_from Cert.Kernel9Ideal.Gen.run_main m g
  · run_from Cert.Reference9Ideal.Value.run m' g'
    · exact (Cert.Kernel9Ideal.Product.final0 m c).symm
    · exact (Cert.Kernel9Ideal.Product.final1 m c).symm

end Cert.Proof9

end
-- ==== Proof.Product10.lean ====
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import Idealize.ShloMosaic.Lib.Claim
public import Idealize.ShloMosaic.Lib.Pointwise
public import Idealize.ShloMosaic.Lib.Pipeline.ValueKit

/-!
The blocked product `dmerged: the gradient through w_out`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference10Ideal.Product
open Cert.Reference10Ideal Cert.Reference10Ideal.Gen

/-- The reference's result 0 over its arguments. -/
def REF0 (x0 : FVec Ideal S4096x1024 .bf16) (x1 : FVec Ideal S1024x1024 .bf16) : FVec Ideal S4096x1024 .bf16 :=
  truncf .bf16 (Host.dotGeneral dot_S4096x1024_S1024x1024_S4096x1024_1_1_0_0_n_n none (extf .f32 x0 bitsLt_bf16_f32) (extf .f32 x1 bitsLt_bf16_f32)) bitsLt_bf16_f32

end Cert.Reference10Ideal.Product

namespace Cert.Kernel10Ideal.Product
open Cert.Kernel10Ideal Cert.Kernel10Ideal.Gen
open Cert.Reference10Ideal.Product (REF0)

variable (m : (ℓ : Loc nD τ sig) → Buf (Elt Ideal) ℓ)

/-- Which block of each array a grid point works on. -/
theorem index : ∀ t : Fin cfg0.N, win0_0.index t = ![t.val, 0]
    ∧ win0_1.index t = ![0, 0]
    ∧ win0_2.index t = ![t.val, 0] :=
  (by decide +kernel : ∀ t : Fin grid0.N, _)

/-- A place of the block a point stores is the plain product there. -/
theorem point0 (c : Dev nD) (t : Fin cfg0.N) (y) : k0_pay1 (iblk m c 0 t) (iblk m c 1 t) y
    = REF0 (m ((c : Thread nD τ).loc main_arg0)) (m ((c : Thread nD τ).loc main_arg1)) (((cfg0.win 2).blk t).view.emb y) := by
  pointwise [k0_pay1, REF0]
  blk_point [iblk, V, index t]

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

end Cert.Kernel10Ideal.Product

namespace Cert.Proof10

theorem frame : Cert.quiescent_Kernel10 := fun m ρ _ => Cert.Kernel10.Gen.frame m ρ

theorem frameIdeal : Cert.quiescent_Kernel10Ideal := fun m ρ _ => Cert.Kernel10Ideal.Gen.frame m ρ

theorem frameReference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  pair_intro
  · run_from Cert.Kernel10Ideal.Gen.run_main m g
  · run_from Cert.Reference10Ideal.Value.run m' g'
    · exact (Cert.Kernel10Ideal.Product.final0 m c).symm

end Cert.Proof10

end
-- ==== Proof.Product11.lean ====
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import Idealize.ShloMosaic.Lib.Claim
public import Idealize.ShloMosaic.Lib.Pointwise
public import Idealize.ShloMosaic.Lib.Pipeline.ValueKit

/-!
The blocked product `ao: the output projection, and the residual`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference11Ideal.Product
open Cert.Reference11Ideal Cert.Reference11Ideal.Gen

/-- The reference's result 0 over its arguments. -/
def REF0 (x0 : FVec Ideal S4096x1024 .bf16) (x1 : FVec Ideal S1024x1024 .bf16) (x2 : FVec Ideal S4096x1024 .f32) (x3 : FVec Ideal S1x1024 .f32) : FVec Ideal S4096x1024 .f32 :=
  Host.dotGeneral dot_S4096x1024_S1024x1024_S4096x1024_1_0_0_1_n_n none (extf .f32 x0 bitsLt_bf16_f32) (extf .f32 x1 bitsLt_bf16_f32)

/-- The reference's result 1 over its arguments. -/
def REF1 (x0 : FVec Ideal S4096x1024 .bf16) (x1 : FVec Ideal S1024x1024 .bf16) (x2 : FVec Ideal S4096x1024 .f32) (x3 : FVec Ideal S1x1024 .f32) : FVec Ideal S4096x1024 .f32 :=
  addf x2 (mulf (broadcastInDim S4096x1024 ![0, 1] bcast_S1x1024_S4096x1024_0_1 x3) (Host.dotGeneral dot_S4096x1024_S1024x1024_S4096x1024_1_0_0_1_n_n none (extf .f32 x0 bitsLt_bf16_f32) (extf .f32 x1 bitsLt_bf16_f32)))

end Cert.Reference11Ideal.Product

namespace Cert.Kernel11Ideal.Product
open Cert.Kernel11Ideal Cert.Kernel11Ideal.Gen
open Cert.Reference11Ideal.Product (REF0 REF1)

variable (m : (ℓ : Loc nD τ sig) → Buf (Elt Ideal) ℓ)

/-- Which block of each array a grid point works on. -/
theorem index : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- A place of the block a point stores is the plain product there. -/
theorem point0 (c : Dev nD) (t : Fin cfg0.N) (y) : k0_pay1 (iblk m c 0 t) (iblk m c 1 t) y
    = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF0]
  blk_point [iblk, V, index t]

/-- The result array is the reference's. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

/-- A place of the block a point stores is the plain product there. -/
theorem point1 (c : Dev nD) (t : Fin cfg0.N) (y) : k0_pay2 (iblk m c 0 t) (iblk m c 1 t) (iblk m c 2 t) (iblk m c 3 t) y
    = REF1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay1, REF1]
  blk_point [iblk, V, index t]

/-- The result array is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point1 m c t y

end Cert.Kernel11Ideal.Product

namespace Cert.Proof11

theorem frame : Cert.quiescent_Kernel11 := fun m ρ _ => Cert.Kernel11.Gen.frame m ρ

theorem frameIdeal : Cert.quiescent_Kernel11Ideal := fun m ρ _ => Cert.Kernel11Ideal.Gen.frame m ρ

theorem frameReference : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem algebraic : Cert.algebraic_Kernel11Ideal_Reference11Ideal := by
  pair_intro
  · run_from Cert.Kernel11Ideal.Gen.run_main m g
  · run_from Cert.Reference11Ideal.Value.run m' g'
    · exact (Cert.Kernel11Ideal.Product.final0 m c).symm
    · exact (Cert.Kernel11Ideal.Product.final1 m c).symm

end Cert.Proof11

end
-- ==== Proof.Product12.lean ====
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import Idealize.ShloMosaic.Lib.Claim
public import Idealize.ShloMosaic.Lib.Pointwise
public import Idealize.ShloMosaic.Lib.Pipeline.ValueKit

/-!
The blocked product `dwa and dwb: the gradient of a branch's weight`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference12Ideal.Product
open Cert.Reference12Ideal Cert.Reference12Ideal.Gen

/-- The reference's result 0 over its arguments. -/
def REF0 (x0 : FVec Ideal S4096x512 .bf16) (x1 : FVec Ideal S4096x1024 .bf16) : FVec Ideal S4x512x256 .f32 :=
  transpose S4x512x256 [1, 0, 2] (shapeCast _ (transpose S512x1024 [1, 0] (Host.dotGeneral dot_S4096x1024_S4096x512_S1024x512_0_0_1_1_n_n none (extf .f32 x1 bitsLt_bf16_f32) (extf .f32 x0 bitsLt_bf16_f32)) transposes_S1024x512_S512x1024_1_0) shapeCasts_S512x1024_S512x4x256) transposes_S512x4x256_S4x512x256_1_0_2

/-- The reference's result 1 over its arguments. -/
def REF1 (x0 : FVec Ideal S4096x512 .bf16) (x1 : FVec Ideal S4096x1024 .bf16) : FVec Ideal S4x512x256 .bf16 :=
  truncf .bf16 (transpose S4x512x256 [1, 0, 2] (shapeCast _ (transpose S512x1024 [1, 0] (Host.dotGeneral dot_S4096x1024_S4096x512_S1024x512_0_0_1_1_n_n none (extf .f32 x1 bitsLt_bf16_f32) (extf .f32 x0 bitsLt_bf16_f32)) transposes_S1024x512_S512x1024_1_0) shapeCasts_S512x1024_S512x4x256) transposes_S512x4x256_S4x512x256_1_0_2) bitsLt_bf16_f32

end Cert.Reference12Ideal.Product

namespace Cert.Kernel12Ideal.Product
open Cert.Kernel12Ideal Cert.Kernel12Ideal.Gen
open Cert.Reference12Ideal.Product (REF0 REF1)

variable (m : (ℓ : Loc nD τ sig) → Buf (Elt Ideal) ℓ)

/-- Which block of each array a grid point works on. -/
theorem index : ∀ t : Fin cfg0.N, win0_0.index t = ![t.val % 4, 0]
    ∧ win0_1.index t = ![t.val % 4, t.val / 4]
    ∧ win0_2.index t = ![t.val / 4, 0, 0]
    ∧ win0_3.index t = ![t.val / 4, 0, 0] :=
  (by decide +kernel : ∀ t : Fin grid0.N, _)

theorem zero_apply (j) : k0_pay1 (F := Ideal) j = 0 := by pointwise [k0_pay1]

theorem step_apply (acc : Vec Ideal S512x256 .f32) (x0 : Vec Ideal S1024x512 .bf16) (x1 : Vec Ideal S1024x256 .bf16) (j) :
    k0_pay2 acc x0 x1 j = acc j + ∑ k : Fin 1024, x0 (ix2 k (j 0)) * x1 (ix2 k (j 1)) := by
  pointwise [k0_pay2]

/-- The running sum at a block's last step is the whole contraction. -/
theorem acc_apply (c : Dev nD) (t : Fin cfg0.N) (hr : t.val % 4 = 3) (i : S4x512x256.Idx) (j : S512x256.Idx)
    (h0 : (i 0 : ℕ) = t.val / 4) (h1 : (i 1 : ℕ) = j 0) (h2 : (i 2 : ℕ) = j 1) :
    (outsAt0 m c t.val t.isLt).2.2 j = REF0 (m ((c : Thread nD τ).loc main_arg0)) (m ((c : Thread nD τ).loc main_arg1)) i := by
  rw [Pipeline.eq_sum_fin_of_reset_step_apply_of_flush (fun n h => (outsAt0 m c n h).2.2) 4 (fun _ => 0) _
    (fun t h j => by rw [outsAt0_A m c t h (by omega)]; frame_out; rw [step_apply, zero_apply])
    (fun t h j => by
      by_cases h1 : t.val % 4 = 3
      · rw [outsAt0_C m c t h h1]; frame_out; rw [step_apply]; exact congrArg (· + _) (congrFun ((Memref.isWhole_whole cc0_scratch0).read_unread _) j)
      · rw [outsAt0_B m c t h h1]; frame_out; rw [step_apply]; exact congrArg (· + _) (congrFun ((Memref.isWhole_whole cc0_scratch0).read_unread _) j))
    t hr j, zero_add]
  pointwise [REF0]
  refine Fin.sum_mul_add_congr fun s k hl => ?_
  rw [mul_comm]
  blk_point [iblk, V, index t, index ⟨_, Pipeline.run_point_lt_of_flush t hr s⟩]

theorem last0 (c : Dev nD) (t : Fin cfg0.N) (hr : t.val % 4 = 3) :
    (outsAt0 m c t.val t.isLt).1 = k0_pay3 ((outsAt0 m c t.val t.isLt).2.2) := by
  rw [outsAt0_C m c t (by omega) hr]; frame_out

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, last0 m c t hr]
  pointwise [k0_pay3]
  refine acc_apply m c t hr _ _ ?_ ?_ ?_ <;> blk_simp [index t]

theorem last1 (c : Dev nD) (t : Fin cfg0.N) (hr : t.val % 4 = 3) :
    (outsAt0 m c t.val t.isLt).2.1 = k0_pay4 ((outsAt0 m c t.val t.isLt).2.2) := by
  rw [outsAt0_C m c t (by omega) hr]; frame_out

/-- The result array is the reference's. -/
theorem final1 (c : Dev nD) : (dats m 0 c).arrAt 3 (cfgs 0).N = REF1 (m ((c : Thread nD τ).loc main_arg0)) (m ((c : Thread nD τ).loc main_arg1)) := by
  refine (dats m 0 c).arrAt_eq_of_covers 3 _ (by decide +kernel) fun t hf y => ?_
  have hr := (flush0_3 t).mp hf
  blk_simp
  rw [after0_3, last1 m c t hr]
  pointwise [k0_pay4]
  refine acc_apply m c t hr _ _ ?_ ?_ ?_ <;> blk_simp [index t]

end Cert.Kernel12Ideal.Product

namespace Cert.Proof12

theorem frame : Cert.quiescent_Kernel12 := fun m ρ _ => Cert.Kernel12.Gen.frame m ρ

theorem frameIdeal : Cert.quiescent_Kernel12Ideal := fun m ρ _ => Cert.Kernel12Ideal.Gen.frame m ρ

theorem frameReference : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem algebraic : Cert.algebraic_Kernel12Ideal_Reference12Ideal := by
  pair_intro
  · run_from Cert.Kernel12Ideal.Gen.run_main m g
  · run_from Cert.Reference12Ideal.Value.run m' g'
    · exact (Cert.Kernel12Ideal.Product.final0 m c).symm
    · exact (Cert.Kernel12Ideal.Product.final1 m c).symm

end Cert.Proof12

end
-- ==== Proof.Product13.lean ====
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import Idealize.ShloMosaic.Lib.Claim
public import Idealize.ShloMosaic.Lib.Pointwise
public import Idealize.ShloMosaic.Lib.Pipeline.ValueKit

/-!
The blocked product `dya: the gradient through w_branch_a`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference13Ideal.Product
open Cert.Reference13Ideal Cert.Reference13Ideal.Gen

/-- The reference's result 0 over its arguments. -/
def REF0 (x0 : FVec Ideal S4096x1024 .bf16) (x1 : FVec Ideal S4x512x256 .bf16) : FVec Ideal S4096x512 .bf16 :=
  truncf .bf16 (Host.dotGeneral dot_S4096x1024_S512x1024_S4096x512_1_1_0_0_n_n none (extf .f32 x0 bitsLt_bf16_f32) (extf .f32 (shapeCast _ (transpose S512x4x256 [1, 0, 2] x1 transposes_S4x512x256_S512x4x256_1_0_2) shapeCasts_S512x4x256_S512x1024) bitsLt_bf16_f32)) bitsLt_bf16_f32

end Cert.Reference13Ideal.Product

namespace Cert.Kernel13Ideal.Product
open Cert.Kernel13Ideal Cert.Kernel13Ideal.Gen
open Cert.Reference13Ideal.Product (REF0)

variable (m : (ℓ : Loc nD τ sig) → Buf (Elt Ideal) ℓ)

/-- Which block of each array a grid point works on. -/
theorem index : ∀ t : Fin cfg0.N, win0_0.index t = ![t.val / 4, t.val % 4]
    ∧ win0_1.index t = ![t.val % 4, 0, 0]
    ∧ win0_2.index t = ![t.val / 4, 0] :=
  (by decide +kernel : ∀ t : Fin grid0.N, _)

theorem zero_apply (j) : k0_pay1 (F := Ideal) j = 0 := by pointwise [k0_pay1]

theorem step_apply (acc : Vec Ideal S2048x512 .f32) (x0 : Vec Ideal S2048x256 .bf16) (x1 : Vec Ideal S1x512x256 .bf16) (j) :
    k0_pay2 acc x0 x1 j = acc j + ∑ k : Fin 256, x0 (ix2 (j 0) k) * x1 (ix3 0 (j 1) k) := by
  pointwise [k0_pay2]

/-- The running sum at a block's last step is the whole contraction. -/
theorem acc_apply (c : Dev nD) (t : Fin cfg0.N) (hr : t.val % 4 = 3) (i : S4096x512.Idx) (j : S2048x512.Idx)
    (h0 : (i 0 : ℕ) = (t.val / 4) * 2048 + j 0) (h1 : (i 1 : ℕ) = j 1) :
    (outsAt0 m c t.val t.isLt).2 j = REF0 (m ((c : Thread nD τ).loc main_arg0)) (m ((c : Thread nD τ).loc main_arg1)) i := by
  rw [Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h1 : t.val % 4 = 3
      · rw [outsAt0_C m c t h h1]; frame_out; rw [step_apply]; exact congrArg (· + _) (congrFun ((Memref.isWhole_whole cc0_scratch0).read_unread _) j)
      · rw [outsAt0_B m c t h h1]; frame_out; rw [step_apply]; exact congrArg (· + _) (congrFun ((Memref.isWhole_whole cc0_scratch0).read_unread _) j))
    t hr j, zero_add]
  pointwise [REF0]
  refine Fin.sum_mul_add_congr fun s k hl => ?_
  blk_point [iblk, V, index t, index ⟨_, Pipeline.run_point_lt_of_flush t hr s⟩]

theorem last0 (c : Dev nD) (t : Fin cfg0.N) (hr : t.val % 4 = 3) :
    (outsAt0 m c t.val t.isLt).1 = k0_pay3 ((outsAt0 m c t.val t.isLt).2) := by
  rw [outsAt0_C m c t (by omega) hr]; frame_out

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, last0 m c t hr]
  pointwise [k0_pay3]
  refine acc_apply m c t hr _ _ ?_ ?_ <;> blk_simp [index t]

end Cert.Kernel13Ideal.Product

namespace Cert.Proof13

theorem frame : Cert.quiescent_Kernel13 := fun m ρ _ => Cert.Kernel13.Gen.frame m ρ

theorem frameIdeal : Cert.quiescent_Kernel13Ideal := fun m ρ _ => Cert.Kernel13Ideal.Gen.frame m ρ

theorem frameReference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic : Cert.algebraic_Kernel13Ideal_Reference13Ideal := by
  pair_intro
  · run_from Cert.Kernel13Ideal.Gen.run_main m g
  · run_from Cert.Reference13Ideal.Value.run m' g'
    · exact (Cert.Kernel13Ideal.Product.final0 m c).symm

end Cert.Proof13

end
-- ==== Proof.Product14.lean ====
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import Idealize.ShloMosaic.Lib.Claim
public import Idealize.ShloMosaic.Lib.Pointwise
public import Idealize.ShloMosaic.Lib.Pipeline.ValueKit

/-!
The blocked product `dyb: the gradient through w_branch_b`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference14Ideal.Product
open Cert.Reference14Ideal Cert.Reference14Ideal.Gen

/-- The reference's result 0 over its arguments. -/
def REF0 (x0 : FVec Ideal S4096x1024 .bf16) (x1 : FVec Ideal S4x512x256 .bf16) : FVec Ideal S4096x512 .f32 :=
  Host.dotGeneral dot_S4096x1024_S512x1024_S4096x512_1_1_0_0_n_n none (extf .f32 x0 bitsLt_bf16_f32) (extf .f32 (shapeCast _ (transpose S512x4x256 [1, 0, 2] x1 transposes_S4x512x256_S512x4x256_1_0_2) shapeCasts_S512x4x256_S512x1024) bitsLt_bf16_f32)

end Cert.Reference14Ideal.Product

namespace Cert.Kernel14Ideal.Product
open Cert.Kernel14Ideal Cert.Kernel14Ideal.Gen
open Cert.Reference14Ideal.Product (REF0)

variable (m : (ℓ : Loc nD τ sig) → Buf (Elt Ideal) ℓ)

/-- Which block of each array a grid point works on. -/
theorem index : ∀ t : Fin cfg0.N, win0_0.index t = ![t.val / 4, t.val % 4]
    ∧ win0_1.index t = ![t.val % 4, 0, 0]
    ∧ win0_2.index t = ![t.val / 4, 0] :=
  (by decide +kernel : ∀ t : Fin grid0.N, _)

theorem zero_apply (j) : k0_pay1 (F := Ideal) j = 0 := by pointwise [k0_pay1]

theorem step_apply (acc : Vec Ideal S2048x512 .f32) (x0 : Vec Ideal S2048x256 .bf16) (x1 : Vec Ideal S1x512x256 .bf16) (j) :
    k0_pay2 acc x0 x1 j = acc j + ∑ k : Fin 256, x0 (ix2 (j 0) k) * x1 (ix3 0 (j 1) k) := by
  pointwise [k0_pay2]

/-- The running sum at a block's last step is the whole contraction. -/
theorem acc_apply (c : Dev nD) (t : Fin cfg0.N) (hr : t.val % 4 = 3) (i : S4096x512.Idx) (j : S2048x512.Idx)
    (h0 : (i 0 : ℕ) = (t.val / 4) * 2048 + j 0) (h1 : (i 1 : ℕ) = j 1) :
    (outsAt0 m c t.val t.isLt).2 j = REF0 (m ((c : Thread nD τ).loc main_arg0)) (m ((c : Thread nD τ).loc main_arg1)) i := by
  rw [Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h1 : t.val % 4 = 3
      · rw [outsAt0_C m c t h h1]; frame_out; rw [step_apply]; exact congrArg (· + _) (congrFun ((Memref.isWhole_whole cc0_scratch0).read_unread _) j)
      · rw [outsAt0_B m c t h h1]; frame_out; rw [step_apply]; exact congrArg (· + _) (congrFun ((Memref.isWhole_whole cc0_scratch0).read_unread _) j))
    t hr j, zero_add]
  pointwise [REF0]
  refine Fin.sum_mul_add_congr fun s k hl => ?_
  blk_point [iblk, V, index t, index ⟨_, Pipeline.run_point_lt_of_flush t hr s⟩]

theorem last0 (c : Dev nD) (t : Fin cfg0.N) (hr : t.val % 4 = 3) :
    (outsAt0 m c t.val t.isLt).1 = (outsAt0 m c t.val t.isLt).2 := by
  rw [outsAt0_C m c t (by omega) hr]; frame_out

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, last0 m c t hr]
  refine acc_apply m c t hr _ _ ?_ ?_ <;> blk_simp [index t]

end Cert.Kernel14Ideal.Product

namespace Cert.Proof14

theorem frame : Cert.quiescent_Kernel14 := fun m ρ _ => Cert.Kernel14.Gen.frame m ρ

theorem frameIdeal : Cert.quiescent_Kernel14Ideal := fun m ρ _ => Cert.Kernel14Ideal.Gen.frame m ρ

theorem frameReference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic : Cert.algebraic_Kernel14Ideal_Reference14Ideal := by
  pair_intro
  · run_from Cert.Kernel14Ideal.Gen.run_main m g
  · run_from Cert.Reference14Ideal.Value.run m' g'
    · exact (Cert.Kernel14Ideal.Product.final0 m c).symm

end Cert.Proof14

end
-- ==== Proof.Product15.lean ====
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import Idealize.ShloMosaic.Lib.Claim
public import Idealize.ShloMosaic.Lib.Pointwise
public import Idealize.ShloMosaic.Lib.Pipeline.ValueKit

/-!
The blocked product `pa and pb: a branch's output product`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference15Ideal.Product
open Cert.Reference15Ideal Cert.Reference15Ideal.Gen

/-- The reference's result 0 over its arguments. -/
def REF0 (x0 : FVec Ideal S4096x512 .bf16) (x1 : FVec Ideal S4x512x256 .bf16) : FVec Ideal S4096x1024 .bf16 :=
  truncf .bf16 (Host.dotGeneral dot_S4096x512_S512x1024_S4096x1024_1_0_0_1_n_n none (extf .f32 x0 bitsLt_bf16_f32) (extf .f32 (shapeCast _ (transpose S512x4x256 [1, 0, 2] x1 transposes_S4x512x256_S512x4x256_1_0_2) shapeCasts_S512x4x256_S512x1024) bitsLt_bf16_f32)) bitsLt_bf16_f32

end Cert.Reference15Ideal.Product

namespace Cert.Kernel15Ideal.Product
open Cert.Kernel15Ideal Cert.Kernel15Ideal.Gen
open Cert.Reference15Ideal.Product (REF0)

variable (m : (ℓ : Loc nD τ sig) → Buf (Elt Ideal) ℓ)

/-- Which block of each array a grid point works on. -/
theorem index : ∀ t : Fin cfg0.N, win0_0.index t = ![t.val / 4, 0]
    ∧ win0_1.index t = ![t.val % 4, 0, 0]
    ∧ win0_2.index t = ![t.val / 4, t.val % 4] :=
  (by decide +kernel : ∀ t : Fin grid0.N, _)

/-- A place of the block a point stores is the plain product there. -/
theorem point0 (c : Dev nD) (t : Fin cfg0.N) (y) : k0_pay1 (iblk m c 0 t) (iblk m c 1 t) y
    = REF0 (m ((c : Thread nD τ).loc main_arg0)) (m ((c : Thread nD τ).loc main_arg1)) (((cfg0.win 2).blk t).view.emb y) := by
  pointwise [k0_pay1, REF0]
  blk_point [iblk, V, index t]

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

end Cert.Kernel15Ideal.Product

namespace Cert.Proof15

theorem frame : Cert.quiescent_Kernel15 := fun m ρ _ => Cert.Kernel15.Gen.frame m ρ

theorem frameIdeal : Cert.quiescent_Kernel15Ideal := fun m ρ _ => Cert.Kernel15Ideal.Gen.frame m ρ

theorem frameReference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic : Cert.algebraic_Kernel15Ideal_Reference15Ideal := by
  pair_intro
  · run_from Cert.Kernel15Ideal.Gen.run_main m g
  · run_from Cert.Reference15Ideal.Value.run m' g'
    · exact (Cert.Kernel15Ideal.Product.final0 m c).symm

end Cert.Proof15

end
-- ==== Proof.Product16.lean ====
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import Idealize.ShloMosaic.Lib.Claim
public import Idealize.ShloMosaic.Lib.Pointwise
public import Idealize.ShloMosaic.Lib.Pipeline.ValueKit

/-!
The blocked product `gu: the input product of the last layer's feed-forward part`: what one block ends holding, what the result arrays hold, and the equation with the
plain product.
-/

@[expose] public section

set_option maxRecDepth 16384

noncomputable section

open Idealize.ShloMosaic Idealize.ShloMosaic.TcCoe Idealize.SL.Sem
open Idealize.ShloMosaic.Pipeline (Dat)

namespace Cert.Reference16Ideal.Product
open Cert.Reference16Ideal Cert.Reference16Ideal.Gen

/-- The reference's result 0 over its arguments. -/
def REF0 (x0 : FVec Ideal S4096x1024 .bf16) (x1 : FVec Ideal S4x1024x1408 .bf16) : FVec Ideal S4096x5632 .bf16 :=
  truncf .bf16 (Host.dotGeneral dot_S4096x1024_S1024x5632_S4096x5632_1_0_0_1_n_n none (extf .f32 x0 bitsLt_bf16_f32) (extf .f32 (shapeCast _ (transpose S1024x4x1408 [1, 0, 2] x1 transposes_S4x1024x1408_S1024x4x1408_1_0_2) shapeCasts_S1024x4x1408_S1024x5632) bitsLt_bf16_f32)) bitsLt_bf16_f32

end Cert.Reference16Ideal.Product

namespace Cert.Kernel16Ideal.Product
open Cert.Kernel16Ideal Cert.Kernel16Ideal.Gen
open Cert.Reference16Ideal.Product (REF0)

variable (m : (ℓ : Loc nD τ sig) → Buf (Elt Ideal) ℓ)

/-- Which block of each array a grid point works on. -/
theorem index : ∀ t : Fin cfg0.N, win0_0.index t = ![t.val / 4, 0]
    ∧ win0_1.index t = ![t.val % 4, 0, 0]
    ∧ win0_2.index t = ![t.val / 4, t.val % 4] :=
  (by decide +kernel : ∀ t : Fin grid0.N, _)

/-- A place of the block a point stores is the plain product there. -/
theorem point0 (c : Dev nD) (t : Fin cfg0.N) (y) : k0_pay1 (iblk m c 0 t) (iblk m c 1 t) y
    = REF0 (m ((c : Thread nD τ).loc main_arg0)) (m ((c : Thread nD τ).loc main_arg1)) (((cfg0.win 2).blk t).view.emb y) := by
  pointwise [k0_pay1, REF0]
  blk_point [iblk, V, index t]

/-- The result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

end Cert.Kernel16Ideal.Product

namespace Cert.Proof16

theorem frame : Cert.quiescent_Kernel16 := fun m ρ _ => Cert.Kernel16.Gen.frame m ρ

theorem frameIdeal : Cert.quiescent_Kernel16Ideal := fun m ρ _ => Cert.Kernel16Ideal.Gen.frame m ρ

theorem frameReference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic : Cert.algebraic_Kernel16Ideal_Reference16Ideal := by
  pair_intro
  · run_from Cert.Kernel16Ideal.Gen.run_main m g
  · run_from Cert.Reference16Ideal.Value.run m' g'
    · exact (Cert.Kernel16Ideal.Product.final0 m c).symm

end Cert.Proof16

end
-- ==== Proof.Adam.lean ====
module

public import Idealize.ShloMosaic.Lib.Claim
public import Idealize.ShloMosaic.Lib.Pointwise

/-!
The optimiser at one place: the two moments and the step, over the reals.
-/

@[expose] public section

noncomputable section

open Idealize.ShloMosaic

namespace Cert.Adam

/-- The new first moment. -/
def moment (g m : EReal) : EReal := Ideal.ofBits .f32 1063675494#32 * m + Ideal.ofBits .f32 1036831949#32 * g

/-- The new second moment. -/
def square (g v : EReal) : EReal := Ideal.ofBits .f32 1065336439#32 * v + Ideal.ofBits .f32 981668463#32 * (g * g)

/-- The step of the weight. -/
def step (w g m v : EReal) : EReal :=
  Ideal.ofBits .f32 3129152111#32 * (Ideal.div (Ideal.div (moment g m) (Ideal.ofBits .f32 1059503362#32))
    (Ideal.sqrt (Ideal.div (square g v) (Ideal.ofBits .f32 1008933580#32)) + Ideal.ofBits .f32 841731191#32)
      + Ideal.ofBits .f32 1008981770#32 * w)

end Cert.Adam
-- ==== Proof.Optimiser17.lean ====
module

public import proofs.«01_k».proof.Defs
public import proofs.«01_k».proof.Proof.Gen.Kernel17.Frame
public import proofs.«01_k».proof.Proof.Gen.Kernel17Ideal.Frame
public import proofs.«01_k».proof.Proof.Gen.Reference17Ideal.Run
public import Idealize.ShloMosaic.Lib.Claim
public import Idealize.ShloMosaic.Lib.Pointwise
public import Idealize.ShloMosaic.Lib.Pipeline.ValueKit
public import proofs.«01_k».proof.Proof.Adam

/-!
The optimiser of w_ada: what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference17Ideal.Adam
open Cert.Reference17Ideal Cert.Reference17Ideal.Gen
open Cert.Adam

/-- The reference's result 0 over its arguments. -/
def REF0 (x0 : FVec Ideal S4x1024x1536 .f32) (x1 : FVec Ideal S4x1024x1536 .f32) (x2 : FVec Ideal S4x1024x1536 .f32) (x3 : FVec Ideal S4x1024x1536 .f32) : FVec Ideal S4x1024x1536 .f32 :=
  mulf (broadcastInDim S4x1024x1536 ![] bcast_S_S4x1024x1536 (constant S_ .f32 0xBA83126F#32)) (addf (Host.divf (Host.divf (addf (mulf (broadcastInDim S4x1024x1536 ![] bcast_S_S4x1024x1536 (constant S_ .f32 0x3F666666#32)) x2) (mulf (broadcastInDim S4x1024x1536 ![] bcast_S_S4x1024x1536 (constant S_ .f32 0x3DCCCCCD#32)) x1)) (broadcastInDim S4x1024x1536 ![] bcast_S_S4x1024x1536 (constant S_ .f32 0x3F26BD02#32))) (addf (Host.sqrt (Host.divf (addf (mulf (broadcastInDim S4x1024x1536 ![] bcast_S_S4x1024x1536 (constant S_ .f32 0x3F7FBE77#32)) x3) (mulf (broadcastInDim S4x1024x1536 ![] bcast_S_S4x1024x1536 (constant S_ .f32 0x3A83126F#32)) (mulf x1 x1))) (broadcastInDim S4x1024x1536 ![] bcast_S_S4x1024x1536 (constant S_ .f32 0x3C231ACC#32)))) (broadcastInDim S4x1024x1536 ![] bcast_S_S4x1024x1536 (constant S_ .f32 0x322BCC77#32)))) (mulf (broadcastInDim S4x1024x1536 ![] bcast_S_S4x1024x1536 (constant S_ .f32 0x3C23D70A#32)) x0))

theorem REF0_apply (x0 : FVec Ideal S4x1024x1536 .f32) (x1 : FVec Ideal S4x1024x1536 .f32) (x2 : FVec Ideal S4x1024x1536 .f32) (x3 : FVec Ideal S4x1024x1536 .f32) (i : S4x1024x1536.Idx) :
    REF0 x0 x1 x2 x3 i = step (x0 i) (x1 i) (x2 i) (x3 i) := by
  pointwise [REF0, step, moment, square]

/-- The reference's result 1 over its arguments. -/
def REF1 (x0 : FVec Ideal S4x1024x1536 .f32) (x1 : FVec Ideal S4x1024x1536 .f32) (x2 : FVec Ideal S4x1024x1536 .f32) (x3 : FVec Ideal S4x1024x1536 .f32) : FVec Ideal S4x1024x1536 .f32 :=
  addf (mulf (broadcastInDim S4x1024x1536 ![] bcast_S_S4x1024x1536 (constant S_ .f32 0x3F666666#32)) x2) (mulf (broadcastInDim S4x1024x1536 ![] bcast_S_S4x1024x1536 (constant S_ .f32 0x3DCCCCCD#32)) x1)

theorem REF1_apply (x0 : FVec Ideal S4x1024x1536 .f32) (x1 : FVec Ideal S4x1024x1536 .f32) (x2 : FVec Ideal S4x1024x1536 .f32) (x3 : FVec Ideal S4x1024x1536 .f32) (i : S4x1024x1536.Idx) :
    REF1 x0 x1 x2 x3 i = moment (x1 i) (x2 i) := by
  pointwise [REF1, moment]

/-- The reference's result 2 over its arguments. -/
def REF2 (x0 : FVec Ideal S4x1024x1536 .f32) (x1 : FVec Ideal S4x1024x1536 .f32) (x2 : FVec Ideal S4x1024x1536 .f32) (x3 : FVec Ideal S4x1024x1536 .f32) : FVec Ideal S4x1024x1536 .f32 :=
  addf (mulf (broadcastInDim S4x1024x1536 ![] bcast_S_S4x1024x1536 (constant S_ .f32 0x3F7FBE77#32)) x3) (mulf (broadcastInDim S4x1024x1536 ![] bcast_S_S4x1024x1536 (constant S_ .f32 0x3A83126F#32)) (mulf x1 x1))

theorem REF2_apply (x0 : FVec Ideal S4x1024x1536 .f32) (x1 : FVec Ideal S4x1024x1536 .f32) (x2 : FVec Ideal S4x1024x1536 .f32) (x3 : FVec Ideal S4x1024x1536 .f32) (i : S4x1024x1536.Idx) :
    REF2 x0 x1 x2 x3 i = square (x1 i) (x3 i) := by
  pointwise [REF2, square]

end Cert.Reference17Ideal.Adam

namespace Cert.Kernel17Ideal.Adam
open Cert.Kernel17Ideal Cert.Kernel17Ideal.Gen
open Cert.Adam
open Cert.Reference17Ideal.Adam (REF0 REF1 REF2 REF0_apply REF1_apply REF2_apply)

variable (m : (ℓ : Loc nD τ sig) → Buf (Elt Ideal) ℓ)

theorem arg0 (c : Dev nD) : V m c main_v0
    = shapeCast S4096x1536 (m ((c : Thread nD τ).loc main_arg0) : Vec Ideal S4x1024x1536 .f32) shapeCasts_S4x1024x1536_S4096x1536 := by
  unfold V V0
  simp only [List.flatten_cons, List.flatten_nil, List.append_nil]
  after_results_simp
  rfl

theorem arg1 (c : Dev nD) : V m c main_v1
    = shapeCast S4096x1536 (m ((c : Thread nD τ).loc main_arg1) : Vec Ideal S4x1024x1536 .f32) shapeCasts_S4x1024x1536_S4096x1536 := by
  unfold V V0
  simp only [List.flatten_cons, List.flatten_nil, List.append_nil]
  after_results_simp
  rfl

theorem arg2 (c : Dev nD) : V m c main_v2
    = shapeCast S4096x1536 (m ((c : Thread nD τ).loc main_arg2) : Vec Ideal S4x1024x1536 .f32) shapeCasts_S4x1024x1536_S4096x1536 := by
  unfold V V0
  simp only [List.flatten_cons, List.flatten_nil, List.append_nil]
  after_results_simp
  rfl

theorem arg3 (c : Dev nD) : V m c main_v3
    = shapeCast S4096x1536 (m ((c : Thread nD τ).loc main_arg3) : Vec Ideal S4x1024x1536 .f32) shapeCasts_S4x1024x1536_S4096x1536 := by
  unfold V V0
  simp only [List.flatten_cons, List.flatten_nil, List.append_nil]
  after_results_simp
  rfl

theorem pay0_apply (x0 : Vec Ideal S512x1536 .f32) (x1 : Vec Ideal S512x1536 .f32) (x2 : Vec Ideal S512x1536 .f32) (x3 : Vec Ideal S512x1536 .f32) (y : S512x1536.Idx) :
    k0_pay4 x0 x1 x2 x3 y = step (x0 y) (x1 y) (x2 y) (x3 y) := by
  pointwise [k0_pay1, k0_pay2, k0_pay3, k0_pay4, step, moment, square]

theorem pay1_apply (x1 : Vec Ideal S512x1536 .f32) (x2 : Vec Ideal S512x1536 .f32) (y : S512x1536.Idx) :
    k0_pay2 x1 x2 y = moment (x1 y) (x2 y) := by
  pointwise [k0_pay1, k0_pay2, k0_pay3, k0_pay4, moment]

theorem pay2_apply (x1 : Vec Ideal S512x1536 .f32) (x3 : Vec Ideal S512x1536 .f32) (y : S512x1536.Idx) :
    k0_pay3 x1 x3 y = square (x1 y) (x3 y) := by
  pointwise [k0_pay1, k0_pay2, k0_pay3, k0_pay4, square]

theorem block0 (c : Dev nD) (t : Fin cfg0.N) (y : S512x1536.Idx) :
    iblk m c 0 t y = (shapeCast S4096x1536 (m ((c : Thread nD τ).loc main_arg0) : Vec Ideal S4x1024x1536 .f32) shapeCasts_S4x1024x1536_S4096x1536) (((cfg0.win 4).blk t).view.emb y) := by
  rw [← arg0 m c]
  rfl

theorem block1 (c : Dev nD) (t : Fin cfg0.N) (y : S512x1536.Idx) :
    iblk m c 1 t y = (shapeCast S4096x1536 (m ((c : Thread nD τ).loc main_arg1) : Vec Ideal S4x1024x1536 .f32) shapeCasts_S4x1024x1536_S4096x1536) (((cfg0.win 4).blk t).view.emb y) := by
  rw [← arg1 m c]
  rfl

theorem block2 (c : Dev nD) (t : Fin cfg0.N) (y : S512x1536.Idx) :
    iblk m c 2 t y = (shapeCast S4096x1536 (m ((c : Thread nD τ).loc main_arg2) : Vec Ideal S4x1024x1536 .f32) shapeCasts_S4x1024x1536_S4096x1536) (((cfg0.win 4).blk t).view.emb y) := by
  rw [← arg2 m c]
  rfl

theorem block3 (c : Dev nD) (t : Fin cfg0.N) (y : S512x1536.Idx) :
    iblk m c 3 t y = (shapeCast S4096x1536 (m ((c : Thread nD τ).loc main_arg3) : Vec Ideal S4x1024x1536 .f32) shapeCasts_S4x1024x1536_S4096x1536) (((cfg0.win 4).blk t).view.emb y) := by
  rw [← arg3 m c]
  rfl

/-- The result array is the reference's, row by row. -/
theorem final0 (c : Dev nD) : (dats m 0 c).arrAt 4 (cfgs 0).N = shapeCast S4096x1536 (REF0 (m ((c : Thread nD τ).loc main_arg0)) (m ((c : Thread nD τ).loc main_arg1)) (m ((c : Thread nD τ).loc main_arg2)) (m ((c : Thread nD τ).loc main_arg3))) shapeCasts_S4x1024x1536_S4096x1536 := by
  refine (dats m 0 c).arrAt_eq_of_covers 4 _ (by decide +kernel) fun t _ y => ?_
  rw [after0_4]; frame_out
  refine (pay0_apply _ _ _ _ y).trans ?_
  refine Eq.trans ?_ (REF0_apply _ _ _ _ _).symm
  rw [block0 m c t y, block1 m c t y, block2 m c t y, block3 m c t y]
  rfl

theorem tail0 (c : Dev nD) : Pipeline.afterTail₀ cfgs (dats m) 0 (V0 m) [hostOps1] c main_v5
    = REF0 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S4x1024x1536 x shapeCasts_S4096x1536_S4x1024x1536)
    ((Pipeline.withArrays_arr (cfgs 0).spec (by decide) c _ _ 4).trans (final0 m c))).trans (shapeCast_shapeCast _ _ _)

/-- The result array is the reference's, row by row. -/
theorem final1 (c : Dev nD) : (dats m 0 c).arrAt 5 (cfgs 0).N = shapeCast S4096x1536 (REF1 (m ((c : Thread nD τ).loc main_arg0)) (m ((c : Thread nD τ).loc main_arg1)) (m ((c : Thread nD τ).loc main_arg2)) (m ((c : Thread nD τ).loc main_arg3))) shapeCasts_S4x1024x1536_S4096x1536 := by
  refine (dats m 0 c).arrAt_eq_of_covers 5 _ (by decide +kernel) fun t _ y => ?_
  rw [after0_5]; frame_out
  refine (pay1_apply _ _ y).trans ?_
  refine Eq.trans ?_ (REF1_apply _ _ _ _ _).symm
  rw [block1 m c t y, block2 m c t y]
  rfl

theorem tail1 (c : Dev nD) : Pipeline.afterTail₀ cfgs (dats m) 0 (V0 m) [hostOps1] c main_v6
    = REF1 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S4x1024x1536 x shapeCasts_S4096x1536_S4x1024x1536)
    ((Pipeline.withArrays_arr (cfgs 0).spec (by decide) c _ _ 5).trans (final1 m c))).trans (shapeCast_shapeCast _ _ _)

/-- The result array is the reference's, row by row. -/
theorem final2 (c : Dev nD) : (dats m 0 c).arrAt 6 (cfgs 0).N = shapeCast S4096x1536 (REF2 (m ((c : Thread nD τ).loc main_arg0)) (m ((c : Thread nD τ).loc main_arg1)) (m ((c : Thread nD τ).loc main_arg2)) (m ((c : Thread nD τ).loc main_arg3))) shapeCasts_S4x1024x1536_S4096x1536 := by
  refine (dats m 0 c).arrAt_eq_of_covers 6 _ (by decide +kernel) fun t _ y => ?_
  rw [after0_6]; frame_out
  refine (pay2_apply _ _ y).trans ?_
  refine Eq.trans ?_ (REF2_apply _ _ _ _ _).symm
  rw [block1 m c t y, block3 m c t y]
  rfl

theorem tail2 (c : Dev nD) : Pipeline.afterTail₀ cfgs (dats m) 0 (V0 m) [hostOps1] c main_v7
    = REF2 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S4x1024x1536 x shapeCasts_S4096x1536_S4x1024x1536)
    ((Pipeline.withArrays_arr (cfgs 0).spec (by decide) c _ _ 6).trans (final2 m c))).trans (shapeCast_shapeCast _ _ _)

end Cert.Kernel17Ideal.Adam

namespace Cert.Proof17

theorem frame : Cert.quiescent_Kernel17 := fun m ρ _ => Cert.Kernel17.Gen.frame m ρ

theorem frameIdeal : Cert.quiescent_Kernel17Ideal := fun m ρ _ => Cert.Kernel17Ideal.Gen.frame m ρ

theorem frameReference : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

theorem algebraic : Cert.algebraic_Kernel17Ideal_Reference17Ideal := by
  pair_intro
  · run_from Cert.Kernel17Ideal.Gen.run_main m g
    · exact Cert.Kernel17Ideal.Gen.W_main_arg0 m _ c
    · exact Cert.Kernel17Ideal.Gen.W_main_arg1 m _ c
    · exact Cert.Kernel17Ideal.Gen.W_main_arg2 m _ c
    · exact Cert.Kernel17Ideal.Gen.W_main_arg3 m _ c
  · run_from Cert.Reference17Ideal.Value.run m' g'
    · exact (Cert.Kernel17Ideal.Adam.tail0 m c).symm
    · exact (Cert.Kernel17Ideal.Adam.tail1 m c).symm
    · exact (Cert.Kernel17Ideal.Adam.tail2 m c).symm

end Cert.Proof17

end
-- ==== Proof.Optimiser18.lean ====
module

public import proofs.«01_k».proof.Defs
public import proofs.«01_k».proof.Proof.Gen.Kernel18.Frame
public import proofs.«01_k».proof.Proof.Gen.Kernel18Ideal.Frame
public import proofs.«01_k».proof.Proof.Gen.Reference18Ideal.Run
public import Idealize.ShloMosaic.Lib.Claim
public import Idealize.ShloMosaic.Lib.Pointwise
public import Idealize.ShloMosaic.Lib.Pipeline.ValueKit
public import proofs.«01_k».proof.Proof.Adam

/-!
The optimiser of b_ada: what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference18Ideal.Adam
open Cert.Reference18Ideal Cert.Reference18Ideal.Gen
open Cert.Adam

/-- The reference's result 0 over its arguments. -/
def REF0 (x0 : FVec Ideal S4x6144 .f32) (x1 : FVec Ideal S4x6144 .f32) (x2 : FVec Ideal S4x6144 .f32) (x3 : FVec Ideal S4x6144 .f32) : FVec Ideal S4x6144 .f32 :=
  mulf (broadcastInDim S4x6144 ![] bcast_S_S4x6144 (constant S_ .f32 0xBA83126F#32)) (addf (Host.divf (Host.divf (addf (mulf (broadcastInDim S4x6144 ![] bcast_S_S4x6144 (constant S_ .f32 0x3F666666#32)) x2) (mulf (broadcastInDim S4x6144 ![] bcast_S_S4x6144 (constant S_ .f32 0x3DCCCCCD#32)) x1)) (broadcastInDim S4x6144 ![] bcast_S_S4x6144 (constant S_ .f32 0x3F26BD02#32))) (addf (Host.sqrt (Host.divf (addf (mulf (broadcastInDim S4x6144 ![] bcast_S_S4x6144 (constant S_ .f32 0x3F7FBE77#32)) x3) (mulf (broadcastInDim S4x6144 ![] bcast_S_S4x6144 (constant S_ .f32 0x3A83126F#32)) (mulf x1 x1))) (broadcastInDim S4x6144 ![] bcast_S_S4x6144 (constant S_ .f32 0x3C231ACC#32)))) (broadcastInDim S4x6144 ![] bcast_S_S4x6144 (constant S_ .f32 0x322BCC77#32)))) (mulf (broadcastInDim S4x6144 ![] bcast_S_S4x6144 (constant S_ .f32 0x3C23D70A#32)) x0))

theorem REF0_apply (x0 : FVec Ideal S4x6144 .f32) (x1 : FVec Ideal S4x6144 .f32) (x2 : FVec Ideal S4x6144 .f32) (x3 : FVec Ideal S4x6144 .f32) (i : S4x6144.Idx) :
    REF0 x0 x1 x2 x3 i = step (x0 i) (x1 i) (x2 i) (x3 i) := by
  pointwise [REF0, step, moment, square]

/-- The reference's result 1 over its arguments. -/
def REF1 (x0 : FVec Ideal S4x6144 .f32) (x1 : FVec Ideal S4x6144 .f32) (x2 : FVec Ideal S4x6144 .f32) (x3 : FVec Ideal S4x6144 .f32) : FVec Ideal S4x6144 .f32 :=
  addf (mulf (broadcastInDim S4x6144 ![] bcast_S_S4x6144 (constant S_ .f32 0x3F666666#32)) x2) (mulf (broadcastInDim S4x6144 ![] bcast_S_S4x6144 (constant S_ .f32 0x3DCCCCCD#32)) x1)

theorem REF1_apply (x0 : FVec Ideal S4x6144 .f32) (x1 : FVec Ideal S4x6144 .f32) (x2 : FVec Ideal S4x6144 .f32) (x3 : FVec Ideal S4x6144 .f32) (i : S4x6144.Idx) :
    REF1 x0 x1 x2 x3 i = moment (x1 i) (x2 i) := by
  pointwise [REF1, moment]

/-- The reference's result 2 over its arguments. -/
def REF2 (x0 : FVec Ideal S4x6144 .f32) (x1 : FVec Ideal S4x6144 .f32) (x2 : FVec Ideal S4x6144 .f32) (x3 : FVec Ideal S4x6144 .f32) : FVec Ideal S4x6144 .f32 :=
  addf (mulf (broadcastInDim S4x6144 ![] bcast_S_S4x6144 (constant S_ .f32 0x3F7FBE77#32)) x3) (mulf (broadcastInDim S4x6144 ![] bcast_S_S4x6144 (constant S_ .f32 0x3A83126F#32)) (mulf x1 x1))

theorem REF2_apply (x0 : FVec Ideal S4x6144 .f32) (x1 : FVec Ideal S4x6144 .f32) (x2 : FVec Ideal S4x6144 .f32) (x3 : FVec Ideal S4x6144 .f32) (i : S4x6144.Idx) :
    REF2 x0 x1 x2 x3 i = square (x1 i) (x3 i) := by
  pointwise [REF2, square]

end Cert.Reference18Ideal.Adam

namespace Cert.Kernel18Ideal.Adam
open Cert.Kernel18Ideal Cert.Kernel18Ideal.Gen
open Cert.Adam
open Cert.Reference18Ideal.Adam (REF0 REF1 REF2 REF0_apply REF1_apply REF2_apply)

variable (m : (ℓ : Loc nD τ sig) → Buf (Elt Ideal) ℓ)

theorem pay0_apply (x0 : Vec Ideal S4x6144 .f32) (x1 : Vec Ideal S4x6144 .f32) (x2 : Vec Ideal S4x6144 .f32) (x3 : Vec Ideal S4x6144 .f32) (y : S4x6144.Idx) :
    k0_pay3 x0 x1 x2 x3 y = step (x0 y) (x1 y) (x2 y) (x3 y) := by
  pointwise [k0_pay1, k0_pay2, k0_pay3, step, moment, square]

theorem pay1_apply (x1 : Vec Ideal S4x6144 .f32) (x2 : Vec Ideal S4x6144 .f32) (y : S4x6144.Idx) :
    k0_pay1 x1 x2 y = moment (x1 y) (x2 y) := by
  pointwise [k0_pay1, k0_pay2, k0_pay3, moment]

theorem pay2_apply (x1 : Vec Ideal S4x6144 .f32) (x3 : Vec Ideal S4x6144 .f32) (y : S4x6144.Idx) :
    k0_pay2 x1 x3 y = square (x1 y) (x3 y) := by
  pointwise [k0_pay1, k0_pay2, k0_pay3, square]

theorem block0 (c : Dev nD) (t : Fin cfg0.N) (y : S4x6144.Idx) :
    iblk m c 0 t y = (m ((c : Thread nD τ).loc main_arg0) : Vec Ideal S4x6144 .f32) (((cfg0.win 4).blk t).view.emb y) := by
  rfl

theorem block1 (c : Dev nD) (t : Fin cfg0.N) (y : S4x6144.Idx) :
    iblk m c 1 t y = (m ((c : Thread nD τ).loc main_arg1) : Vec Ideal S4x6144 .f32) (((cfg0.win 4).blk t).view.emb y) := by
  rfl

theorem block2 (c : Dev nD) (t : Fin cfg0.N) (y : S4x6144.Idx) :
    iblk m c 2 t y = (m ((c : Thread nD τ).loc main_arg2) : Vec Ideal S4x6144 .f32) (((cfg0.win 4).blk t).view.emb y) := by
  rfl

theorem block3 (c : Dev nD) (t : Fin cfg0.N) (y : S4x6144.Idx) :
    iblk m c 3 t y = (m ((c : Thread nD τ).loc main_arg3) : Vec Ideal S4x6144 .f32) (((cfg0.win 4).blk t).view.emb y) := by
  rfl

/-- The result array is the reference's. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4]; frame_out
  refine (pay0_apply _ _ _ _ y).trans ?_
  refine Eq.trans ?_ (REF0_apply _ _ _ _ _).symm
  rw [block0 m c t y, block1 m c t y, block2 m c t y, block3 m c t y]

/-- The result array is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  rw [after0_5]; frame_out
  refine (pay1_apply _ _ y).trans ?_
  refine Eq.trans ?_ (REF1_apply _ _ _ _ _).symm
  rw [block1 m c t y, block2 m c t y]
  rfl

/-- The result array is the reference's. -/
theorem final2 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [after0_6]; frame_out
  refine (pay2_apply _ _ y).trans ?_
  refine Eq.trans ?_ (REF2_apply _ _ _ _ _).symm
  rw [block1 m c t y, block3 m c t y]
  rfl

end Cert.Kernel18Ideal.Adam

namespace Cert.Proof18

theorem frame : Cert.quiescent_Kernel18 := fun m ρ _ => Cert.Kernel18.Gen.frame m ρ

theorem frameIdeal : Cert.quiescent_Kernel18Ideal := fun m ρ _ => Cert.Kernel18Ideal.Gen.frame m ρ

theorem frameReference : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

theorem algebraic : Cert.algebraic_Kernel18Ideal_Reference18Ideal := by
  pair_intro
  · run_from Cert.Kernel18Ideal.Gen.run_main m g
  · run_from Cert.Reference18Ideal.Value.run m' g'
    · exact (Cert.Kernel18Ideal.Adam.final0 m c).symm
    · exact (Cert.Kernel18Ideal.Adam.final1 m c).symm
    · exact (Cert.Kernel18Ideal.Adam.final2 m c).symm

end Cert.Proof18

end
-- ==== Proof.Optimiser19.lean ====
module

public import proofs.«01_k».proof.Defs
public import proofs.«01_k».proof.Proof.Gen.Kernel19.Frame
public import proofs.«01_k».proof.Proof.Gen.Kernel19Ideal.Frame
public import proofs.«01_k».proof.Proof.Gen.Reference19Ideal.Run
public import Idealize.ShloMosaic.Lib.Claim
public import Idealize.ShloMosaic.Lib.Pointwise
public import Idealize.ShloMosaic.Lib.Pipeline.ValueKit
public import proofs.«01_k».proof.Proof.Adam

/-!
The optimiser of norm1_g and of norm2_g: what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference19Ideal.Adam
open Cert.Reference19Ideal Cert.Reference19Ideal.Gen
open Cert.Adam

/-- The reference's result 0 over its arguments. -/
def REF0 (x0 : FVec Ideal S4x1024 .f32) (x1 : FVec Ideal S4x1024 .f32) (x2 : FVec Ideal S4x1024 .f32) (x3 : FVec Ideal S4x1024 .f32) : FVec Ideal S4x1024 .f32 :=
  mulf (broadcastInDim S4x1024 ![] bcast_S_S4x1024 (constant S_ .f32 0xBA83126F#32)) (addf (Host.divf (Host.divf (addf (mulf (broadcastInDim S4x1024 ![] bcast_S_S4x1024 (constant S_ .f32 0x3F666666#32)) x2) (mulf (broadcastInDim S4x1024 ![] bcast_S_S4x1024 (constant S_ .f32 0x3DCCCCCD#32)) x1)) (broadcastInDim S4x1024 ![] bcast_S_S4x1024 (constant S_ .f32 0x3F26BD02#32))) (addf (Host.sqrt (Host.divf (addf (mulf (broadcastInDim S4x1024 ![] bcast_S_S4x1024 (constant S_ .f32 0x3F7FBE77#32)) x3) (mulf (broadcastInDim S4x1024 ![] bcast_S_S4x1024 (constant S_ .f32 0x3A83126F#32)) (mulf x1 x1))) (broadcastInDim S4x1024 ![] bcast_S_S4x1024 (constant S_ .f32 0x3C231ACC#32)))) (broadcastInDim S4x1024 ![] bcast_S_S4x1024 (constant S_ .f32 0x322BCC77#32)))) (mulf (broadcastInDim S4x1024 ![] bcast_S_S4x1024 (constant S_ .f32 0x3C23D70A#32)) x0))

theorem REF0_apply (x0 : FVec Ideal S4x1024 .f32) (x1 : FVec Ideal S4x1024 .f32) (x2 : FVec Ideal S4x1024 .f32) (x3 : FVec Ideal S4x1024 .f32) (i : S4x1024.Idx) :
    REF0 x0 x1 x2 x3 i = step (x0 i) (x1 i) (x2 i) (x3 i) := by
  pointwise [REF0, step, moment, square]

/-- The reference's result 1 over its arguments. -/
def REF1 (x0 : FVec Ideal S4x1024 .f32) (x1 : FVec Ideal S4x1024 .f32) (x2 : FVec Ideal S4x1024 .f32) (x3 : FVec Ideal S4x1024 .f32) : FVec Ideal S4x1024 .f32 :=
  addf (mulf (broadcastInDim S4x1024 ![] bcast_S_S4x1024 (constant S_ .f32 0x3F666666#32)) x2) (mulf (broadcastInDim S4x1024 ![] bcast_S_S4x1024 (constant S_ .f32 0x3DCCCCCD#32)) x1)

theorem REF1_apply (x0 : FVec Ideal S4x1024 .f32) (x1 : FVec Ideal S4x1024 .f32) (x2 : FVec Ideal S4x1024 .f32) (x3 : FVec Ideal S4x1024 .f32) (i : S4x1024.Idx) :
    REF1 x0 x1 x2 x3 i = moment (x1 i) (x2 i) := by
  pointwise [REF1, moment]

/-- The reference's result 2 over its arguments. -/
def REF2 (x0 : FVec Ideal S4x1024 .f32) (x1 : FVec Ideal S4x1024 .f32) (x2 : FVec Ideal S4x1024 .f32) (x3 : FVec Ideal S4x1024 .f32) : FVec Ideal S4x1024 .f32 :=
  addf (mulf (broadcastInDim S4x1024 ![] bcast_S_S4x1024 (constant S_ .f32 0x3F7FBE77#32)) x3) (mulf (broadcastInDim S4x1024 ![] bcast_S_S4x1024 (constant S_ .f32 0x3A83126F#32)) (mulf x1 x1))

theorem REF2_apply (x0 : FVec Ideal S4x1024 .f32) (x1 : FVec Ideal S4x1024 .f32) (x2 : FVec Ideal S4x1024 .f32) (x3 : FVec Ideal S4x1024 .f32) (i : S4x1024.Idx) :
    REF2 x0 x1 x2 x3 i = square (x1 i) (x3 i) := by
  pointwise [REF2, square]

end Cert.Reference19Ideal.Adam

namespace Cert.Kernel19Ideal.Adam
open Cert.Kernel19Ideal Cert.Kernel19Ideal.Gen
open Cert.Adam
open Cert.Reference19Ideal.Adam (REF0 REF1 REF2 REF0_apply REF1_apply REF2_apply)

variable (m : (ℓ : Loc nD τ sig) → Buf (Elt Ideal) ℓ)

theorem pay0_apply (x0 : Vec Ideal S4x1024 .f32) (x1 : Vec Ideal S4x1024 .f32) (x2 : Vec Ideal S4x1024 .f32) (x3 : Vec Ideal S4x1024 .f32) (y : S4x1024.Idx) :
    k0_pay3 x0 x1 x2 x3 y = step (x0 y) (x1 y) (x2 y) (x3 y) := by
  pointwise [k0_pay1, k0_pay2, k0_pay3, step, moment, square]

theorem pay1_apply (x1 : Vec Ideal S4x1024 .f32) (x2 : Vec Ideal S4x1024 .f32) (y : S4x1024.Idx) :
    k0_pay1 x1 x2 y = moment (x1 y) (x2 y) := by
  pointwise [k0_pay1, k0_pay2, k0_pay3, moment]

theorem pay2_apply (x1 : Vec Ideal S4x1024 .f32) (x3 : Vec Ideal S4x1024 .f32) (y : S4x1024.Idx) :
    k0_pay2 x1 x3 y = square (x1 y) (x3 y) := by
  pointwise [k0_pay1, k0_pay2, k0_pay3, square]

theorem block0 (c : Dev nD) (t : Fin cfg0.N) (y : S4x1024.Idx) :
    iblk m c 0 t y = (m ((c : Thread nD τ).loc main_arg0) : Vec Ideal S4x1024 .f32) (((cfg0.win 4).blk t).view.emb y) := by
  rfl

theorem block1 (c : Dev nD) (t : Fin cfg0.N) (y : S4x1024.Idx) :
    iblk m c 1 t y = (m ((c : Thread nD τ).loc main_arg1) : Vec Ideal S4x1024 .f32) (((cfg0.win 4).blk t).view.emb y) := by
  rfl

theorem block2 (c : Dev nD) (t : Fin cfg0.N) (y : S4x1024.Idx) :
    iblk m c 2 t y = (m ((c : Thread nD τ).loc main_arg2) : Vec Ideal S4x1024 .f32) (((cfg0.win 4).blk t).view.emb y) := by
  rfl

theorem block3 (c : Dev nD) (t : Fin cfg0.N) (y : S4x1024.Idx) :
    iblk m c 3 t y = (m ((c : Thread nD τ).loc main_arg3) : Vec Ideal S4x1024 .f32) (((cfg0.win 4).blk t).view.emb y) := by
  rfl

/-- The result array is the reference's. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4]; frame_out
  refine (pay0_apply _ _ _ _ y).trans ?_
  refine Eq.trans ?_ (REF0_apply _ _ _ _ _).symm
  rw [block0 m c t y, block1 m c t y, block2 m c t y, block3 m c t y]

/-- The result array is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  rw [after0_5]; frame_out
  refine (pay1_apply _ _ y).trans ?_
  refine Eq.trans ?_ (REF1_apply _ _ _ _ _).symm
  rw [block1 m c t y, block2 m c t y]
  rfl

/-- The result array is the reference's. -/
theorem final2 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [after0_6]; frame_out
  refine (pay2_apply _ _ y).trans ?_
  refine Eq.trans ?_ (REF2_apply _ _ _ _ _).symm
  rw [block1 m c t y, block3 m c t y]
  rfl

end Cert.Kernel19Ideal.Adam

namespace Cert.Proof19

theorem frame : Cert.quiescent_Kernel19 := fun m ρ _ => Cert.Kernel19.Gen.frame m ρ

theorem frameIdeal : Cert.quiescent_Kernel19Ideal := fun m ρ _ => Cert.Kernel19Ideal.Gen.frame m ρ

theorem frameReference : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

theorem algebraic : Cert.algebraic_Kernel19Ideal_Reference19Ideal := by
  pair_intro
  · run_from Cert.Kernel19Ideal.Gen.run_main m g
  · run_from Cert.Reference19Ideal.Value.run m' g'
    · exact (Cert.Kernel19Ideal.Adam.final0 m c).symm
    · exact (Cert.Kernel19Ideal.Adam.final1 m c).symm
    · exact (Cert.Kernel19Ideal.Adam.final2 m c).symm

end Cert.Proof19

end
-- ==== Proof.Optimiser20.lean ====
module

public import proofs.«01_k».proof.Defs
public import proofs.«01_k».proof.Proof.Gen.Kernel20.Frame
public import proofs.«01_k».proof.Proof.Gen.Kernel20Ideal.Frame
public import proofs.«01_k».proof.Proof.Gen.Reference20Ideal.Run
public import Idealize.ShloMosaic.Lib.Claim
public import Idealize.ShloMosaic.Lib.Pointwise
public import Idealize.ShloMosaic.Lib.Pipeline.ValueKit
public import proofs.«01_k».proof.Proof.Adam

/-!
The optimiser of rel_table: what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference20Ideal.Adam
open Cert.Reference20Ideal Cert.Reference20Ideal.Gen
open Cert.Adam

/-- The reference's result 0 over its arguments. -/
def REF0 (x0 : FVec Ideal S4x8x257 .f32) (x1 : FVec Ideal S4x8x257 .f32) (x2 : FVec Ideal S4x8x257 .f32) (x3 : FVec Ideal S4x8x257 .f32) : FVec Ideal S4x8x257 .f32 :=
  mulf (broadcastInDim S4x8x257 ![] bcast_S_S4x8x257 (constant S_ .f32 0xBA83126F#32)) (addf (Host.divf (Host.divf (addf (mulf (broadcastInDim S4x8x257 ![] bcast_S_S4x8x257 (constant S_ .f32 0x3F666666#32)) x2) (mulf (broadcastInDim S4x8x257 ![] bcast_S_S4x8x257 (constant S_ .f32 0x3DCCCCCD#32)) x1)) (broadcastInDim S4x8x257 ![] bcast_S_S4x8x257 (constant S_ .f32 0x3F26BD02#32))) (addf (Host.sqrt (Host.divf (addf (mulf (broadcastInDim S4x8x257 ![] bcast_S_S4x8x257 (constant S_ .f32 0x3F7FBE77#32)) x3) (mulf (broadcastInDim S4x8x257 ![] bcast_S_S4x8x257 (constant S_ .f32 0x3A83126F#32)) (mulf x1 x1))) (broadcastInDim S4x8x257 ![] bcast_S_S4x8x257 (constant S_ .f32 0x3C231ACC#32)))) (broadcastInDim S4x8x257 ![] bcast_S_S4x8x257 (constant S_ .f32 0x322BCC77#32)))) (mulf (broadcastInDim S4x8x257 ![] bcast_S_S4x8x257 (constant S_ .f32 0x3C23D70A#32)) x0))

theorem REF0_apply (x0 : FVec Ideal S4x8x257 .f32) (x1 : FVec Ideal S4x8x257 .f32) (x2 : FVec Ideal S4x8x257 .f32) (x3 : FVec Ideal S4x8x257 .f32) (i : S4x8x257.Idx) :
    REF0 x0 x1 x2 x3 i = step (x0 i) (x1 i) (x2 i) (x3 i) := by
  pointwise [REF0, step, moment, square]

/-- The reference's result 1 over its arguments. -/
def REF1 (x0 : FVec Ideal S4x8x257 .f32) (x1 : FVec Ideal S4x8x257 .f32) (x2 : FVec Ideal S4x8x257 .f32) (x3 : FVec Ideal S4x8x257 .f32) : FVec Ideal S4x8x257 .f32 :=
  addf (mulf (broadcastInDim S4x8x257 ![] bcast_S_S4x8x257 (constant S_ .f32 0x3F666666#32)) x2) (mulf (broadcastInDim S4x8x257 ![] bcast_S_S4x8x257 (constant S_ .f32 0x3DCCCCCD#32)) x1)

theorem REF1_apply (x0 : FVec Ideal S4x8x257 .f32) (x1 : FVec Ideal S4x8x257 .f32) (x2 : FVec Ideal S4x8x257 .f32) (x3 : FVec Ideal S4x8x257 .f32) (i : S4x8x257.Idx) :
    REF1 x0 x1 x2 x3 i = moment (x1 i) (x2 i) := by
  pointwise [REF1, moment]

/-- The reference's result 2 over its arguments. -/
def REF2 (x0 : FVec Ideal S4x8x257 .f32) (x1 : FVec Ideal S4x8x257 .f32) (x2 : FVec Ideal S4x8x257 .f32) (x3 : FVec Ideal S4x8x257 .f32) : FVec Ideal S4x8x257 .f32 :=
  addf (mulf (broadcastInDim S4x8x257 ![] bcast_S_S4x8x257 (constant S_ .f32 0x3F7FBE77#32)) x3) (mulf (broadcastInDim S4x8x257 ![] bcast_S_S4x8x257 (constant S_ .f32 0x3A83126F#32)) (mulf x1 x1))

theorem REF2_apply (x0 : FVec Ideal S4x8x257 .f32) (x1 : FVec Ideal S4x8x257 .f32) (x2 : FVec Ideal S4x8x257 .f32) (x3 : FVec Ideal S4x8x257 .f32) (i : S4x8x257.Idx) :
    REF2 x0 x1 x2 x3 i = square (x1 i) (x3 i) := by
  pointwise [REF2, square]

end Cert.Reference20Ideal.Adam

namespace Cert.Kernel20Ideal.Adam
open Cert.Kernel20Ideal Cert.Kernel20Ideal.Gen
open Cert.Adam
open Cert.Reference20Ideal.Adam (REF0 REF1 REF2 REF0_apply REF1_apply REF2_apply)

variable (m : (ℓ : Loc nD τ sig) → Buf (Elt Ideal) ℓ)

theorem arg0 (c : Dev nD) : V m c main_v0
    = shapeCast S32x257 (m ((c : Thread nD τ).loc main_arg0) : Vec Ideal S4x8x257 .f32) shapeCasts_S4x8x257_S32x257 := by
  unfold V V0
  simp only [List.flatten_cons, List.flatten_nil, List.append_nil]
  after_results_simp
  rfl

theorem arg1 (c : Dev nD) : V m c main_v1
    = shapeCast S32x257 (m ((c : Thread nD τ).loc main_arg1) : Vec Ideal S4x8x257 .f32) shapeCasts_S4x8x257_S32x257 := by
  unfold V V0
  simp only [List.flatten_cons, List.flatten_nil, List.append_nil]
  after_results_simp
  rfl

theorem arg2 (c : Dev nD) : V m c main_v2
    = shapeCast S32x257 (m ((c : Thread nD τ).loc main_arg2) : Vec Ideal S4x8x257 .f32) shapeCasts_S4x8x257_S32x257 := by
  unfold V V0
  simp only [List.flatten_cons, List.flatten_nil, List.append_nil]
  after_results_simp
  rfl

theorem arg3 (c : Dev nD) : V m c main_v3
    = shapeCast S32x257 (m ((c : Thread nD τ).loc main_arg3) : Vec Ideal S4x8x257 .f32) shapeCasts_S4x8x257_S32x257 := by
  unfold V V0
  simp only [List.flatten_cons, List.flatten_nil, List.append_nil]
  after_results_simp
  rfl

theorem pay0_apply (x0 : Vec Ideal S32x257 .f32) (x1 : Vec Ideal S32x257 .f32) (x2 : Vec Ideal S32x257 .f32) (x3 : Vec Ideal S32x257 .f32) (y : S32x257.Idx) :
    k0_pay4 x0 x1 x2 x3 y = step (x0 y) (x1 y) (x2 y) (x3 y) := by
  pointwise [k0_pay1, k0_pay2, k0_pay3, k0_pay4, step, moment, square]

theorem pay1_apply (x1 : Vec Ideal S32x257 .f32) (x2 : Vec Ideal S32x257 .f32) (y : S32x257.Idx) :
    k0_pay2 x1 x2 y = moment (x1 y) (x2 y) := by
  pointwise [k0_pay1, k0_pay2, k0_pay3, k0_pay4, moment]

theorem pay2_apply (x1 : Vec Ideal S32x257 .f32) (x3 : Vec Ideal S32x257 .f32) (y : S32x257.Idx) :
    k0_pay3 x1 x3 y = square (x1 y) (x3 y) := by
  pointwise [k0_pay1, k0_pay2, k0_pay3, k0_pay4, square]

theorem block0 (c : Dev nD) (t : Fin cfg0.N) (y : S32x257.Idx) :
    iblk m c 0 t y = (shapeCast S32x257 (m ((c : Thread nD τ).loc main_arg0) : Vec Ideal S4x8x257 .f32) shapeCasts_S4x8x257_S32x257) (((cfg0.win 4).blk t).view.emb y) := by
  rw [← arg0 m c]
  rfl

theorem block1 (c : Dev nD) (t : Fin cfg0.N) (y : S32x257.Idx) :
    iblk m c 1 t y = (shapeCast S32x257 (m ((c : Thread nD τ).loc main_arg1) : Vec Ideal S4x8x257 .f32) shapeCasts_S4x8x257_S32x257) (((cfg0.win 4).blk t).view.emb y) := by
  rw [← arg1 m c]
  rfl

theorem block2 (c : Dev nD) (t : Fin cfg0.N) (y : S32x257.Idx) :
    iblk m c 2 t y = (shapeCast S32x257 (m ((c : Thread nD τ).loc main_arg2) : Vec Ideal S4x8x257 .f32) shapeCasts_S4x8x257_S32x257) (((cfg0.win 4).blk t).view.emb y) := by
  rw [← arg2 m c]
  rfl

theorem block3 (c : Dev nD) (t : Fin cfg0.N) (y : S32x257.Idx) :
    iblk m c 3 t y = (shapeCast S32x257 (m ((c : Thread nD τ).loc main_arg3) : Vec Ideal S4x8x257 .f32) shapeCasts_S4x8x257_S32x257) (((cfg0.win 4).blk t).view.emb y) := by
  rw [← arg3 m c]
  rfl

/-- The result array is the reference's, row by row. -/
theorem final0 (c : Dev nD) : (dats m 0 c).arrAt 4 (cfgs 0).N = shapeCast S32x257 (REF0 (m ((c : Thread nD τ).loc main_arg0)) (m ((c : Thread nD τ).loc main_arg1)) (m ((c : Thread nD τ).loc main_arg2)) (m ((c : Thread nD τ).loc main_arg3))) shapeCasts_S4x8x257_S32x257 := by
  refine (dats m 0 c).arrAt_eq_of_covers 4 _ (by decide +kernel) fun t _ y => ?_
  rw [after0_4]; frame_out
  refine (pay0_apply _ _ _ _ y).trans ?_
  refine Eq.trans ?_ (REF0_apply _ _ _ _ _).symm
  rw [block0 m c t y, block1 m c t y, block2 m c t y, block3 m c t y]
  rfl

theorem tail0 (c : Dev nD) : Pipeline.afterTail₀ cfgs (dats m) 0 (V0 m) [hostOps1] c main_v5
    = REF0 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S4x8x257 x shapeCasts_S32x257_S4x8x257)
    ((Pipeline.withArrays_arr (cfgs 0).spec (by decide) c _ _ 4).trans (final0 m c))).trans (shapeCast_shapeCast _ _ _)

/-- The result array is the reference's, row by row. -/
theorem final1 (c : Dev nD) : (dats m 0 c).arrAt 5 (cfgs 0).N = shapeCast S32x257 (REF1 (m ((c : Thread nD τ).loc main_arg0)) (m ((c : Thread nD τ).loc main_arg1)) (m ((c : Thread nD τ).loc main_arg2)) (m ((c : Thread nD τ).loc main_arg3))) shapeCasts_S4x8x257_S32x257 := by
  refine (dats m 0 c).arrAt_eq_of_covers 5 _ (by decide +kernel) fun t _ y => ?_
  rw [after0_5]; frame_out
  refine (pay1_apply _ _ y).trans ?_
  refine Eq.trans ?_ (REF1_apply _ _ _ _ _).symm
  rw [block1 m c t y, block2 m c t y]
  rfl

theorem tail1 (c : Dev nD) : Pipeline.afterTail₀ cfgs (dats m) 0 (V0 m) [hostOps1] c main_v6
    = REF1 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S4x8x257 x shapeCasts_S32x257_S4x8x257)
    ((Pipeline.withArrays_arr (cfgs 0).spec (by decide) c _ _ 5).trans (final1 m c))).trans (shapeCast_shapeCast _ _ _)

/-- The result array is the reference's, row by row. -/
theorem final2 (c : Dev nD) : (dats m 0 c).arrAt 6 (cfgs 0).N = shapeCast S32x257 (REF2 (m ((c : Thread nD τ).loc main_arg0)) (m ((c : Thread nD τ).loc main_arg1)) (m ((c : Thread nD τ).loc main_arg2)) (m ((c : Thread nD τ).loc main_arg3))) shapeCasts_S4x8x257_S32x257 := by
  refine (dats m 0 c).arrAt_eq_of_covers 6 _ (by decide +kernel) fun t _ y => ?_
  rw [after0_6]; frame_out
  refine (pay2_apply _ _ y).trans ?_
  refine Eq.trans ?_ (REF2_apply _ _ _ _ _).symm
  rw [block1 m c t y, block3 m c t y]
  rfl

theorem tail2 (c : Dev nD) : Pipeline.afterTail₀ cfgs (dats m) 0 (V0 m) [hostOps1] c main_v7
    = REF2 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S4x8x257 x shapeCasts_S32x257_S4x8x257)
    ((Pipeline.withArrays_arr (cfgs 0).spec (by decide) c _ _ 6).trans (final2 m c))).trans (shapeCast_shapeCast _ _ _)

end Cert.Kernel20Ideal.Adam

namespace Cert.Proof20

theorem frame : Cert.quiescent_Kernel20 := fun m ρ _ => Cert.Kernel20.Gen.frame m ρ

theorem frameIdeal : Cert.quiescent_Kernel20Ideal := fun m ρ _ => Cert.Kernel20Ideal.Gen.frame m ρ

theorem frameReference : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

theorem algebraic : Cert.algebraic_Kernel20Ideal_Reference20Ideal := by
  pair_intro
  · run_from Cert.Kernel20Ideal.Gen.run_main m g
    · exact Cert.Kernel20Ideal.Gen.W_main_arg0 m _ c
    · exact Cert.Kernel20Ideal.Gen.W_main_arg1 m _ c
    · exact Cert.Kernel20Ideal.Gen.W_main_arg2 m _ c
    · exact Cert.Kernel20Ideal.Gen.W_main_arg3 m _ c
  · run_from Cert.Reference20Ideal.Value.run m' g'
    · exact (Cert.Kernel20Ideal.Adam.tail0 m c).symm
    · exact (Cert.Kernel20Ideal.Adam.tail1 m c).symm
    · exact (Cert.Kernel20Ideal.Adam.tail2 m c).symm

end Cert.Proof20

end
-- ==== Proof.Optimiser21.lean ====
module

public import proofs.«01_k».proof.Defs
public import proofs.«01_k».proof.Proof.Gen.Kernel21.Frame
public import proofs.«01_k».proof.Proof.Gen.Kernel21Ideal.Frame
public import proofs.«01_k».proof.Proof.Gen.Reference21Ideal.Run
public import Idealize.ShloMosaic.Lib.Claim
public import Idealize.ShloMosaic.Lib.Pointwise
public import Idealize.ShloMosaic.Lib.Pipeline.ValueKit
public import proofs.«01_k».proof.Proof.Adam

/-!
The optimiser of w_conv: what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference21Ideal.Adam
open Cert.Reference21Ideal Cert.Reference21Ideal.Gen
open Cert.Adam

/-- The reference's result 0 over its arguments. -/
def REF0 (x0 : FVec Ideal S4x4x384 .f32) (x1 : FVec Ideal S4x4x384 .f32) (x2 : FVec Ideal S4x4x384 .f32) (x3 : FVec Ideal S4x4x384 .f32) : FVec Ideal S4x4x384 .f32 :=
  mulf (broadcastInDim S4x4x384 ![] bcast_S_S4x4x384 (constant S_ .f32 0xBA83126F#32)) (addf (Host.divf (Host.divf (addf (mulf (broadcastInDim S4x4x384 ![] bcast_S_S4x4x384 (constant S_ .f32 0x3F666666#32)) x2) (mulf (broadcastInDim S4x4x384 ![] bcast_S_S4x4x384 (constant S_ .f32 0x3DCCCCCD#32)) x1)) (broadcastInDim S4x4x384 ![] bcast_S_S4x4x384 (constant S_ .f32 0x3F26BD02#32))) (addf (Host.sqrt (Host.divf (addf (mulf (broadcastInDim S4x4x384 ![] bcast_S_S4x4x384 (constant S_ .f32 0x3F7FBE77#32)) x3) (mulf (broadcastInDim S4x4x384 ![] bcast_S_S4x4x384 (constant S_ .f32 0x3A83126F#32)) (mulf x1 x1))) (broadcastInDim S4x4x384 ![] bcast_S_S4x4x384 (constant S_ .f32 0x3C231ACC#32)))) (broadcastInDim S4x4x384 ![] bcast_S_S4x4x384 (constant S_ .f32 0x322BCC77#32)))) (mulf (broadcastInDim S4x4x384 ![] bcast_S_S4x4x384 (constant S_ .f32 0x3C23D70A#32)) x0))

theorem REF0_apply (x0 : FVec Ideal S4x4x384 .f32) (x1 : FVec Ideal S4x4x384 .f32) (x2 : FVec Ideal S4x4x384 .f32) (x3 : FVec Ideal S4x4x384 .f32) (i : S4x4x384.Idx) :
    REF0 x0 x1 x2 x3 i = step (x0 i) (x1 i) (x2 i) (x3 i) := by
  pointwise [REF0, step, moment, square]

/-- The reference's result 1 over its arguments. -/
def REF1 (x0 : FVec Ideal S4x4x384 .f32) (x1 : FVec Ideal S4x4x384 .f32) (x2 : FVec Ideal S4x4x384 .f32) (x3 : FVec Ideal S4x4x384 .f32) : FVec Ideal S4x4x384 .f32 :=
  addf (mulf (broadcastInDim S4x4x384 ![] bcast_S_S4x4x384 (constant S_ .f32 0x3F666666#32)) x2) (mulf (broadcastInDim S4x4x384 ![] bcast_S_S4x4x384 (constant S_ .f32 0x3DCCCCCD#32)) x1)

theorem REF1_apply (x0 : FVec Ideal S4x4x384 .f32) (x1 : FVec Ideal S4x4x384 .f32) (x2 : FVec Ideal S4x4x384 .f32) (x3 : FVec Ideal S4x4x384 .f32) (i : S4x4x384.Idx) :
    REF1 x0 x1 x2 x3 i = moment (x1 i) (x2 i) := by
  pointwise [REF1, moment]

/-- The reference's result 2 over its arguments. -/
def REF2 (x0 : FVec Ideal S4x4x384 .f32) (x1 : FVec Ideal S4x4x384 .f32) (x2 : FVec Ideal S4x4x384 .f32) (x3 : FVec Ideal S4x4x384 .f32) : FVec Ideal S4x4x384 .f32 :=
  addf (mulf (broadcastInDim S4x4x384 ![] bcast_S_S4x4x384 (constant S_ .f32 0x3F7FBE77#32)) x3) (mulf (broadcastInDim S4x4x384 ![] bcast_S_S4x4x384 (constant S_ .f32 0x3A83126F#32)) (mulf x1 x1))

theorem REF2_apply (x0 : FVec Ideal S4x4x384 .f32) (x1 : FVec Ideal S4x4x384 .f32) (x2 : FVec Ideal S4x4x384 .f32) (x3 : FVec Ideal S4x4x384 .f32) (i : S4x4x384.Idx) :
    REF2 x0 x1 x2 x3 i = square (x1 i) (x3 i) := by
  pointwise [REF2, square]

end Cert.Reference21Ideal.Adam

namespace Cert.Kernel21Ideal.Adam
open Cert.Kernel21Ideal Cert.Kernel21Ideal.Gen
open Cert.Adam
open Cert.Reference21Ideal.Adam (REF0 REF1 REF2 REF0_apply REF1_apply REF2_apply)

variable (m : (ℓ : Loc nD τ sig) → Buf (Elt Ideal) ℓ)

theorem arg0 (c : Dev nD) : V m c main_v0
    = shapeCast S16x384 (m ((c : Thread nD τ).loc main_arg0) : Vec Ideal S4x4x384 .f32) shapeCasts_S4x4x384_S16x384 := by
  unfold V V0
  simp only [List.flatten_cons, List.flatten_nil, List.append_nil]
  after_results_simp
  rfl

theorem arg1 (c : Dev nD) : V m c main_v1
    = shapeCast S16x384 (m ((c : Thread nD τ).loc main_arg1) : Vec Ideal S4x4x384 .f32) shapeCasts_S4x4x384_S16x384 := by
  unfold V V0
  simp only [List.flatten_cons, List.flatten_nil, List.append_nil]
  after_results_simp
  rfl

theorem arg2 (c : Dev nD) : V m c main_v2
    = shapeCast S16x384 (m ((c : Thread nD τ).loc main_arg2) : Vec Ideal S4x4x384 .f32) shapeCasts_S4x4x384_S16x384 := by
  unfold V V0
  simp only [List.flatten_cons, List.flatten_nil, List.append_nil]
  after_results_simp
  rfl

theorem arg3 (c : Dev nD) : V m c main_v3
    = shapeCast S16x384 (m ((c : Thread nD τ).loc main_arg3) : Vec Ideal S4x4x384 .f32) shapeCasts_S4x4x384_S16x384 := by
  unfold V V0
  simp only [List.flatten_cons, List.flatten_nil, List.append_nil]
  after_results_simp
  rfl

theorem pay0_apply (x0 : Vec Ideal S16x384 .f32) (x1 : Vec Ideal S16x384 .f32) (x2 : Vec Ideal S16x384 .f32) (x3 : Vec Ideal S16x384 .f32) (y : S16x384.Idx) :
    k0_pay4 x0 x1 x2 x3 y = step (x0 y) (x1 y) (x2 y) (x3 y) := by
  pointwise [k0_pay1, k0_pay2, k0_pay3, k0_pay4, step, moment, square]

theorem pay1_apply (x1 : Vec Ideal S16x384 .f32) (x2 : Vec Ideal S16x384 .f32) (y : S16x384.Idx) :
    k0_pay2 x1 x2 y = moment (x1 y) (x2 y) := by
  pointwise [k0_pay1, k0_pay2, k0_pay3, k0_pay4, moment]

theorem pay2_apply (x1 : Vec Ideal S16x384 .f32) (x3 : Vec Ideal S16x384 .f32) (y : S16x384.Idx) :
    k0_pay3 x1 x3 y = square (x1 y) (x3 y) := by
  pointwise [k0_pay1, k0_pay2, k0_pay3, k0_pay4, square]

theorem block0 (c : Dev nD) (t : Fin cfg0.N) (y : S16x384.Idx) :
    iblk m c 0 t y = (shapeCast S16x384 (m ((c : Thread nD τ).loc main_arg0) : Vec Ideal S4x4x384 .f32) shapeCasts_S4x4x384_S16x384) (((cfg0.win 4).blk t).view.emb y) := by
  rw [← arg0 m c]
  rfl

theorem block1 (c : Dev nD) (t : Fin cfg0.N) (y : S16x384.Idx) :
    iblk m c 1 t y = (shapeCast S16x384 (m ((c : Thread nD τ).loc main_arg1) : Vec Ideal S4x4x384 .f32) shapeCasts_S4x4x384_S16x384) (((cfg0.win 4).blk t).view.emb y) := by
  rw [← arg1 m c]
  rfl

theorem block2 (c : Dev nD) (t : Fin cfg0.N) (y : S16x384.Idx) :
    iblk m c 2 t y = (shapeCast S16x384 (m ((c : Thread nD τ).loc main_arg2) : Vec Ideal S4x4x384 .f32) shapeCasts_S4x4x384_S16x384) (((cfg0.win 4).blk t).view.emb y) := by
  rw [← arg2 m c]
  rfl

theorem block3 (c : Dev nD) (t : Fin cfg0.N) (y : S16x384.Idx) :
    iblk m c 3 t y = (shapeCast S16x384 (m ((c : Thread nD τ).loc main_arg3) : Vec Ideal S4x4x384 .f32) shapeCasts_S4x4x384_S16x384) (((cfg0.win 4).blk t).view.emb y) := by
  rw [← arg3 m c]
  rfl

/-- The result array is the reference's, row by row. -/
theorem final0 (c : Dev nD) : (dats m 0 c).arrAt 4 (cfgs 0).N = shapeCast S16x384 (REF0 (m ((c : Thread nD τ).loc main_arg0)) (m ((c : Thread nD τ).loc main_arg1)) (m ((c : Thread nD τ).loc main_arg2)) (m ((c : Thread nD τ).loc main_arg3))) shapeCasts_S4x4x384_S16x384 := by
  refine (dats m 0 c).arrAt_eq_of_covers 4 _ (by decide +kernel) fun t _ y => ?_
  rw [after0_4]; frame_out
  refine (pay0_apply _ _ _ _ y).trans ?_
  refine Eq.trans ?_ (REF0_apply _ _ _ _ _).symm
  rw [block0 m c t y, block1 m c t y, block2 m c t y, block3 m c t y]
  rfl

theorem tail0 (c : Dev nD) : Pipeline.afterTail₀ cfgs (dats m) 0 (V0 m) [hostOps1] c main_v5
    = REF0 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S4x4x384 x shapeCasts_S16x384_S4x4x384)
    ((Pipeline.withArrays_arr (cfgs 0).spec (by decide) c _ _ 4).trans (final0 m c))).trans (shapeCast_shapeCast _ _ _)

/-- The result array is the reference's, row by row. -/
theorem final1 (c : Dev nD) : (dats m 0 c).arrAt 5 (cfgs 0).N = shapeCast S16x384 (REF1 (m ((c : Thread nD τ).loc main_arg0)) (m ((c : Thread nD τ).loc main_arg1)) (m ((c : Thread nD τ).loc main_arg2)) (m ((c : Thread nD τ).loc main_arg3))) shapeCasts_S4x4x384_S16x384 := by
  refine (dats m 0 c).arrAt_eq_of_covers 5 _ (by decide +kernel) fun t _ y => ?_
  rw [after0_5]; frame_out
  refine (pay1_apply _ _ y).trans ?_
  refine Eq.trans ?_ (REF1_apply _ _ _ _ _).symm
  rw [block1 m c t y, block2 m c t y]
  rfl

theorem tail1 (c : Dev nD) : Pipeline.afterTail₀ cfgs (dats m) 0 (V0 m) [hostOps1] c main_v6
    = REF1 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S4x4x384 x shapeCasts_S16x384_S4x4x384)
    ((Pipeline.withArrays_arr (cfgs 0).spec (by decide) c _ _ 5).trans (final1 m c))).trans (shapeCast_shapeCast _ _ _)

/-- The result array is the reference's, row by row. -/
theorem final2 (c : Dev nD) : (dats m 0 c).arrAt 6 (cfgs 0).N = shapeCast S16x384 (REF2 (m ((c : Thread nD τ).loc main_arg0)) (m ((c : Thread nD τ).loc main_arg1)) (m ((c : Thread nD τ).loc main_arg2)) (m ((c : Thread nD τ).loc main_arg3))) shapeCasts_S4x4x384_S16x384 := by
  refine (dats m 0 c).arrAt_eq_of_covers 6 _ (by decide +kernel) fun t _ y => ?_
  rw [after0_6]; frame_out
  refine (pay2_apply _ _ y).trans ?_
  refine Eq.trans ?_ (REF2_apply _ _ _ _ _).symm
  rw [block1 m c t y, block3 m c t y]
  rfl

theorem tail2 (c : Dev nD) : Pipeline.afterTail₀ cfgs (dats m) 0 (V0 m) [hostOps1] c main_v7
    = REF2 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S4x4x384 x shapeCasts_S16x384_S4x4x384)
    ((Pipeline.withArrays_arr (cfgs 0).spec (by decide) c _ _ 6).trans (final2 m c))).trans (shapeCast_shapeCast _ _ _)

end Cert.Kernel21Ideal.Adam

namespace Cert.Proof21

theorem frame : Cert.quiescent_Kernel21 := fun m ρ _ => Cert.Kernel21.Gen.frame m ρ

theorem frameIdeal : Cert.quiescent_Kernel21Ideal := fun m ρ _ => Cert.Kernel21Ideal.Gen.frame m ρ

theorem frameReference : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

theorem algebraic : Cert.algebraic_Kernel21Ideal_Reference21Ideal := by
  pair_intro
  · run_from Cert.Kernel21Ideal.Gen.run_main m g
    · exact Cert.Kernel21Ideal.Gen.W_main_arg0 m _ c
    · exact Cert.Kernel21Ideal.Gen.W_main_arg1 m _ c
    · exact Cert.Kernel21Ideal.Gen.W_main_arg2 m _ c
    · exact Cert.Kernel21Ideal.Gen.W_main_arg3 m _ c
  · run_from Cert.Reference21Ideal.Value.run m' g'
    · exact (Cert.Kernel21Ideal.Adam.tail0 m c).symm
    · exact (Cert.Kernel21Ideal.Adam.tail1 m c).symm
    · exact (Cert.Kernel21Ideal.Adam.tail2 m c).symm

end Cert.Proof21

end
-- ==== Proof.Optimiser22.lean ====
module

public import proofs.«01_k».proof.Defs
public import proofs.«01_k».proof.Proof.Gen.Kernel22.Frame
public import proofs.«01_k».proof.Proof.Gen.Kernel22Ideal.Frame
public import proofs.«01_k».proof.Proof.Gen.Reference22Ideal.Run
public import Idealize.ShloMosaic.Lib.Claim
public import Idealize.ShloMosaic.Lib.Pointwise
public import Idealize.ShloMosaic.Lib.Pipeline.ValueKit
public import proofs.«01_k».proof.Proof.Adam

/-!
The optimiser of a_log and of dt_bias: what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference22Ideal.Adam
open Cert.Reference22Ideal Cert.Reference22Ideal.Gen
open Cert.Adam

/-- The reference's result 0 over its arguments. -/
def REF0 (x0 : FVec Ideal S4x4 .f32) (x1 : FVec Ideal S4x4 .f32) (x2 : FVec Ideal S4x4 .f32) (x3 : FVec Ideal S4x4 .f32) : FVec Ideal S4x4 .f32 :=
  mulf (broadcastInDim S4x4 ![] bcast_S_S4x4 (constant S_ .f32 0xBA83126F#32)) (addf (Host.divf (Host.divf (addf (mulf (broadcastInDim S4x4 ![] bcast_S_S4x4 (constant S_ .f32 0x3F666666#32)) x2) (mulf (broadcastInDim S4x4 ![] bcast_S_S4x4 (constant S_ .f32 0x3DCCCCCD#32)) x1)) (broadcastInDim S4x4 ![] bcast_S_S4x4 (constant S_ .f32 0x3F26BD02#32))) (addf (Host.sqrt (Host.divf (addf (mulf (broadcastInDim S4x4 ![] bcast_S_S4x4 (constant S_ .f32 0x3F7FBE77#32)) x3) (mulf (broadcastInDim S4x4 ![] bcast_S_S4x4 (constant S_ .f32 0x3A83126F#32)) (mulf x1 x1))) (broadcastInDim S4x4 ![] bcast_S_S4x4 (constant S_ .f32 0x3C231ACC#32)))) (broadcastInDim S4x4 ![] bcast_S_S4x4 (constant S_ .f32 0x322BCC77#32)))) (mulf (broadcastInDim S4x4 ![] bcast_S_S4x4 (constant S_ .f32 0x3C23D70A#32)) x0))

theorem REF0_apply (x0 : FVec Ideal S4x4 .f32) (x1 : FVec Ideal S4x4 .f32) (x2 : FVec Ideal S4x4 .f32) (x3 : FVec Ideal S4x4 .f32) (i : S4x4.Idx) :
    REF0 x0 x1 x2 x3 i = step (x0 i) (x1 i) (x2 i) (x3 i) := by
  pointwise [REF0, step, moment, square]

/-- The reference's result 1 over its arguments. -/
def REF1 (x0 : FVec Ideal S4x4 .f32) (x1 : FVec Ideal S4x4 .f32) (x2 : FVec Ideal S4x4 .f32) (x3 : FVec Ideal S4x4 .f32) : FVec Ideal S4x4 .f32 :=
  addf (mulf (broadcastInDim S4x4 ![] bcast_S_S4x4 (constant S_ .f32 0x3F666666#32)) x2) (mulf (broadcastInDim S4x4 ![] bcast_S_S4x4 (constant S_ .f32 0x3DCCCCCD#32)) x1)

theorem REF1_apply (x0 : FVec Ideal S4x4 .f32) (x1 : FVec Ideal S4x4 .f32) (x2 : FVec Ideal S4x4 .f32) (x3 : FVec Ideal S4x4 .f32) (i : S4x4.Idx) :
    REF1 x0 x1 x2 x3 i = moment (x1 i) (x2 i) := by
  pointwise [REF1, moment]

/-- The reference's result 2 over its arguments. -/
def REF2 (x0 : FVec Ideal S4x4 .f32) (x1 : FVec Ideal S4x4 .f32) (x2 : FVec Ideal S4x4 .f32) (x3 : FVec Ideal S4x4 .f32) : FVec Ideal S4x4 .f32 :=
  addf (mulf (broadcastInDim S4x4 ![] bcast_S_S4x4 (constant S_ .f32 0x3F7FBE77#32)) x3) (mulf (broadcastInDim S4x4 ![] bcast_S_S4x4 (constant S_ .f32 0x3A83126F#32)) (mulf x1 x1))

theorem REF2_apply (x0 : FVec Ideal S4x4 .f32) (x1 : FVec Ideal S4x4 .f32) (x2 : FVec Ideal S4x4 .f32) (x3 : FVec Ideal S4x4 .f32) (i : S4x4.Idx) :
    REF2 x0 x1 x2 x3 i = square (x1 i) (x3 i) := by
  pointwise [REF2, square]

end Cert.Reference22Ideal.Adam

namespace Cert.Kernel22Ideal.Adam
open Cert.Kernel22Ideal Cert.Kernel22Ideal.Gen
open Cert.Adam
open Cert.Reference22Ideal.Adam (REF0 REF1 REF2 REF0_apply REF1_apply REF2_apply)

variable (m : (ℓ : Loc nD τ sig) → Buf (Elt Ideal) ℓ)

theorem pay0_apply (x0 : Vec Ideal S4x4 .f32) (x1 : Vec Ideal S4x4 .f32) (x2 : Vec Ideal S4x4 .f32) (x3 : Vec Ideal S4x4 .f32) (y : S4x4.Idx) :
    k0_pay3 x0 x1 x2 x3 y = step (x0 y) (x1 y) (x2 y) (x3 y) := by
  pointwise [k0_pay1, k0_pay2, k0_pay3, step, moment, square]

theorem pay1_apply (x1 : Vec Ideal S4x4 .f32) (x2 : Vec Ideal S4x4 .f32) (y : S4x4.Idx) :
    k0_pay1 x1 x2 y = moment (x1 y) (x2 y) := by
  pointwise [k0_pay1, k0_pay2, k0_pay3, moment]

theorem pay2_apply (x1 : Vec Ideal S4x4 .f32) (x3 : Vec Ideal S4x4 .f32) (y : S4x4.Idx) :
    k0_pay2 x1 x3 y = square (x1 y) (x3 y) := by
  pointwise [k0_pay1, k0_pay2, k0_pay3, square]

theorem block0 (c : Dev nD) (t : Fin cfg0.N) (y : S4x4.Idx) :
    iblk m c 0 t y = (m ((c : Thread nD τ).loc main_arg0) : Vec Ideal S4x4 .f32) (((cfg0.win 4).blk t).view.emb y) := by
  rfl

theorem block1 (c : Dev nD) (t : Fin cfg0.N) (y : S4x4.Idx) :
    iblk m c 1 t y = (m ((c : Thread nD τ).loc main_arg1) : Vec Ideal S4x4 .f32) (((cfg0.win 4).blk t).view.emb y) := by
  rfl

theorem block2 (c : Dev nD) (t : Fin cfg0.N) (y : S4x4.Idx) :
    iblk m c 2 t y = (m ((c : Thread nD τ).loc main_arg2) : Vec Ideal S4x4 .f32) (((cfg0.win 4).blk t).view.emb y) := by
  rfl

theorem block3 (c : Dev nD) (t : Fin cfg0.N) (y : S4x4.Idx) :
    iblk m c 3 t y = (m ((c : Thread nD τ).loc main_arg3) : Vec Ideal S4x4 .f32) (((cfg0.win 4).blk t).view.emb y) := by
  rfl

/-- The result array is the reference's. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4]; frame_out
  refine (pay0_apply _ _ _ _ y).trans ?_
  refine Eq.trans ?_ (REF0_apply _ _ _ _ _).symm
  rw [block0 m c t y, block1 m c t y, block2 m c t y, block3 m c t y]

/-- The result array is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  rw [after0_5]; frame_out
  refine (pay1_apply _ _ y).trans ?_
  refine Eq.trans ?_ (REF1_apply _ _ _ _ _).symm
  rw [block1 m c t y, block2 m c t y]
  rfl

/-- The result array is the reference's. -/
theorem final2 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [after0_6]; frame_out
  refine (pay2_apply _ _ y).trans ?_
  refine Eq.trans ?_ (REF2_apply _ _ _ _ _).symm
  rw [block1 m c t y, block3 m c t y]
  rfl

end Cert.Kernel22Ideal.Adam

namespace Cert.Proof22

theorem frame : Cert.quiescent_Kernel22 := fun m ρ _ => Cert.Kernel22.Gen.frame m ρ

theorem frameIdeal : Cert.quiescent_Kernel22Ideal := fun m ρ _ => Cert.Kernel22Ideal.Gen.frame m ρ

theorem frameReference : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

theorem algebraic : Cert.algebraic_Kernel22Ideal_Reference22Ideal := by
  pair_intro
  · run_from Cert.Kernel22Ideal.Gen.run_main m g
  · run_from Cert.Reference22Ideal.Value.run m' g'
    · exact (Cert.Kernel22Ideal.Adam.final0 m c).symm
    · exact (Cert.Kernel22Ideal.Adam.final1 m c).symm
    · exact (Cert.Kernel22Ideal.Adam.final2 m c).symm

end Cert.Proof22

end
-- ==== Proof.Optimiser23.lean ====
module

public import proofs.«01_k».proof.Defs
public import proofs.«01_k».proof.Proof.Gen.Kernel23.Frame
public import proofs.«01_k».proof.Proof.Gen.Kernel23Ideal.Frame
public import proofs.«01_k».proof.Proof.Gen.Reference23Ideal.Run
public import Idealize.ShloMosaic.Lib.Claim
public import Idealize.ShloMosaic.Lib.Pointwise
public import Idealize.ShloMosaic.Lib.Pipeline.ValueKit
public import proofs.«01_k».proof.Proof.Adam

/-!
The optimiser of gdn_norm_g: what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference23Ideal.Adam
open Cert.Reference23Ideal Cert.Reference23Ideal.Gen
open Cert.Adam

/-- The reference's result 0 over its arguments. -/
def REF0 (x0 : FVec Ideal S4x128 .f32) (x1 : FVec Ideal S4x128 .f32) (x2 : FVec Ideal S4x128 .f32) (x3 : FVec Ideal S4x128 .f32) : FVec Ideal S4x128 .f32 :=
  mulf (broadcastInDim S4x128 ![] bcast_S_S4x128 (constant S_ .f32 0xBA83126F#32)) (addf (Host.divf (Host.divf (addf (mulf (broadcastInDim S4x128 ![] bcast_S_S4x128 (constant S_ .f32 0x3F666666#32)) x2) (mulf (broadcastInDim S4x128 ![] bcast_S_S4x128 (constant S_ .f32 0x3DCCCCCD#32)) x1)) (broadcastInDim S4x128 ![] bcast_S_S4x128 (constant S_ .f32 0x3F26BD02#32))) (addf (Host.sqrt (Host.divf (addf (mulf (broadcastInDim S4x128 ![] bcast_S_S4x128 (constant S_ .f32 0x3F7FBE77#32)) x3) (mulf (broadcastInDim S4x128 ![] bcast_S_S4x128 (constant S_ .f32 0x3A83126F#32)) (mulf x1 x1))) (broadcastInDim S4x128 ![] bcast_S_S4x128 (constant S_ .f32 0x3C231ACC#32)))) (broadcastInDim S4x128 ![] bcast_S_S4x128 (constant S_ .f32 0x322BCC77#32)))) (mulf (broadcastInDim S4x128 ![] bcast_S_S4x128 (constant S_ .f32 0x3C23D70A#32)) x0))

theorem REF0_apply (x0 : FVec Ideal S4x128 .f32) (x1 : FVec Ideal S4x128 .f32) (x2 : FVec Ideal S4x128 .f32) (x3 : FVec Ideal S4x128 .f32) (i : S4x128.Idx) :
    REF0 x0 x1 x2 x3 i = step (x0 i) (x1 i) (x2 i) (x3 i) := by
  pointwise [REF0, step, moment, square]

/-- The reference's result 1 over its arguments. -/
def REF1 (x0 : FVec Ideal S4x128 .f32) (x1 : FVec Ideal S4x128 .f32) (x2 : FVec Ideal S4x128 .f32) (x3 : FVec Ideal S4x128 .f32) : FVec Ideal S4x128 .f32 :=
  addf (mulf (broadcastInDim S4x128 ![] bcast_S_S4x128 (constant S_ .f32 0x3F666666#32)) x2) (mulf (broadcastInDim S4x128 ![] bcast_S_S4x128 (constant S_ .f32 0x3DCCCCCD#32)) x1)

theorem REF1_apply (x0 : FVec Ideal S4x128 .f32) (x1 : FVec Ideal S4x128 .f32) (x2 : FVec Ideal S4x128 .f32) (x3 : FVec Ideal S4x128 .f32) (i : S4x128.Idx) :
    REF1 x0 x1 x2 x3 i = moment (x1 i) (x2 i) := by
  pointwise [REF1, moment]

/-- The reference's result 2 over its arguments. -/
def REF2 (x0 : FVec Ideal S4x128 .f32) (x1 : FVec Ideal S4x128 .f32) (x2 : FVec Ideal S4x128 .f32) (x3 : FVec Ideal S4x128 .f32) : FVec Ideal S4x128 .f32 :=
  addf (mulf (broadcastInDim S4x128 ![] bcast_S_S4x128 (constant S_ .f32 0x3F7FBE77#32)) x3) (mulf (broadcastInDim S4x128 ![] bcast_S_S4x128 (constant S_ .f32 0x3A83126F#32)) (mulf x1 x1))

theorem REF2_apply (x0 : FVec Ideal S4x128 .f32) (x1 : FVec Ideal S4x128 .f32) (x2 : FVec Ideal S4x128 .f32) (x3 : FVec Ideal S4x128 .f32) (i : S4x128.Idx) :
    REF2 x0 x1 x2 x3 i = square (x1 i) (x3 i) := by
  pointwise [REF2, square]

end Cert.Reference23Ideal.Adam

namespace Cert.Kernel23Ideal.Adam
open Cert.Kernel23Ideal Cert.Kernel23Ideal.Gen
open Cert.Adam
open Cert.Reference23Ideal.Adam (REF0 REF1 REF2 REF0_apply REF1_apply REF2_apply)

variable (m : (ℓ : Loc nD τ sig) → Buf (Elt Ideal) ℓ)

theorem pay0_apply (x0 : Vec Ideal S4x128 .f32) (x1 : Vec Ideal S4x128 .f32) (x2 : Vec Ideal S4x128 .f32) (x3 : Vec Ideal S4x128 .f32) (y : S4x128.Idx) :
    k0_pay3 x0 x1 x2 x3 y = step (x0 y) (x1 y) (x2 y) (x3 y) := by
  pointwise [k0_pay1, k0_pay2, k0_pay3, step, moment, square]

theorem pay1_apply (x1 : Vec Ideal S4x128 .f32) (x2 : Vec Ideal S4x128 .f32) (y : S4x128.Idx) :
    k0_pay1 x1 x2 y = moment (x1 y) (x2 y) := by
  pointwise [k0_pay1, k0_pay2, k0_pay3, moment]

theorem pay2_apply (x1 : Vec Ideal S4x128 .f32) (x3 : Vec Ideal S4x128 .f32) (y : S4x128.Idx) :
    k0_pay2 x1 x3 y = square (x1 y) (x3 y) := by
  pointwise [k0_pay1, k0_pay2, k0_pay3, square]

theorem block0 (c : Dev nD) (t : Fin cfg0.N) (y : S4x128.Idx) :
    iblk m c 0 t y = (m ((c : Thread nD τ).loc main_arg0) : Vec Ideal S4x128 .f32) (((cfg0.win 4).blk t).view.emb y) := by
  rfl

theorem block1 (c : Dev nD) (t : Fin cfg0.N) (y : S4x128.Idx) :
    iblk m c 1 t y = (m ((c : Thread nD τ).loc main_arg1) : Vec Ideal S4x128 .f32) (((cfg0.win 4).blk t).view.emb y) := by
  rfl

theorem block2 (c : Dev nD) (t : Fin cfg0.N) (y : S4x128.Idx) :
    iblk m c 2 t y = (m ((c : Thread nD τ).loc main_arg2) : Vec Ideal S4x128 .f32) (((cfg0.win 4).blk t).view.emb y) := by
  rfl

theorem block3 (c : Dev nD) (t : Fin cfg0.N) (y : S4x128.Idx) :
    iblk m c 3 t y = (m ((c : Thread nD τ).loc main_arg3) : Vec Ideal S4x128 .f32) (((cfg0.win 4).blk t).view.emb y) := by
  rfl

/-- The result array is the reference's. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4]; frame_out
  refine (pay0_apply _ _ _ _ y).trans ?_
  refine Eq.trans ?_ (REF0_apply _ _ _ _ _).symm
  rw [block0 m c t y, block1 m c t y, block2 m c t y, block3 m c t y]

/-- The result array is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  rw [after0_5]; frame_out
  refine (pay1_apply _ _ y).trans ?_
  refine Eq.trans ?_ (REF1_apply _ _ _ _ _).symm
  rw [block1 m c t y, block2 m c t y]
  rfl

/-- The result array is the reference's. -/
theorem final2 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [after0_6]; frame_out
  refine (pay2_apply _ _ y).trans ?_
  refine Eq.trans ?_ (REF2_apply _ _ _ _ _).symm
  rw [block1 m c t y, block3 m c t y]
  rfl

end Cert.Kernel23Ideal.Adam

namespace Cert.Proof23

theorem frame : Cert.quiescent_Kernel23 := fun m ρ _ => Cert.Kernel23.Gen.frame m ρ

theorem frameIdeal : Cert.quiescent_Kernel23Ideal := fun m ρ _ => Cert.Kernel23Ideal.Gen.frame m ρ

theorem frameReference : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)

theorem algebraic : Cert.algebraic_Kernel23Ideal_Reference23Ideal := by
  pair_intro
  · run_from Cert.Kernel23Ideal.Gen.run_main m g
  · run_from Cert.Reference23Ideal.Value.run m' g'
    · exact (Cert.Kernel23Ideal.Adam.final0 m c).symm
    · exact (Cert.Kernel23Ideal.Adam.final1 m c).symm
    · exact (Cert.Kernel23Ideal.Adam.final2 m c).symm

end Cert.Proof23

end
-- ==== Proof.Optimiser24.lean ====
module

public import proofs.«01_k».proof.Defs
public import proofs.«01_k».proof.Proof.Gen.Kernel24.Frame
public import proofs.«01_k».proof.Proof.Gen.Kernel24Ideal.Frame
public import proofs.«01_k».proof.Proof.Gen.Reference24Ideal.Run
public import Idealize.ShloMosaic.Lib.Claim
public import Idealize.ShloMosaic.Lib.Pointwise
public import Idealize.ShloMosaic.Lib.Pipeline.ValueKit
public import proofs.«01_k».proof.Proof.Adam

/-!
The optimiser of final_g: what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference24Ideal.Adam
open Cert.Reference24Ideal Cert.Reference24Ideal.Gen
open Cert.Adam

/-- The reference's result 0 over its arguments. -/
def REF0 (x0 : FVec Ideal S1024 .f32) (x1 : FVec Ideal S1024 .f32) (x2 : FVec Ideal S1024 .f32) (x3 : FVec Ideal S1024 .f32) : FVec Ideal S1024 .f32 :=
  mulf (broadcastInDim S1024 ![] bcast_S_S1024 (constant S_ .f32 0xBA83126F#32)) (addf (Host.divf (Host.divf (addf (mulf (broadcastInDim S1024 ![] bcast_S_S1024 (constant S_ .f32 0x3F666666#32)) x2) (mulf (broadcastInDim S1024 ![] bcast_S_S1024 (constant S_ .f32 0x3DCCCCCD#32)) x1)) (broadcastInDim S1024 ![] bcast_S_S1024 (constant S_ .f32 0x3F26BD02#32))) (addf (Host.sqrt (Host.divf (addf (mulf (broadcastInDim S1024 ![] bcast_S_S1024 (constant S_ .f32 0x3F7FBE77#32)) x3) (mulf (broadcastInDim S1024 ![] bcast_S_S1024 (constant S_ .f32 0x3A83126F#32)) (mulf x1 x1))) (broadcastInDim S1024 ![] bcast_S_S1024 (constant S_ .f32 0x3C231ACC#32)))) (broadcastInDim S1024 ![] bcast_S_S1024 (constant S_ .f32 0x322BCC77#32)))) (mulf (broadcastInDim S1024 ![] bcast_S_S1024 (constant S_ .f32 0x3C23D70A#32)) x0))

theorem REF0_apply (x0 : FVec Ideal S1024 .f32) (x1 : FVec Ideal S1024 .f32) (x2 : FVec Ideal S1024 .f32) (x3 : FVec Ideal S1024 .f32) (i : S1024.Idx) :
    REF0 x0 x1 x2 x3 i = step (x0 i) (x1 i) (x2 i) (x3 i) := by
  pointwise [REF0, step, moment, square]

/-- The reference's result 1 over its arguments. -/
def REF1 (x0 : FVec Ideal S1024 .f32) (x1 : FVec Ideal S1024 .f32) (x2 : FVec Ideal S1024 .f32) (x3 : FVec Ideal S1024 .f32) : FVec Ideal S1024 .f32 :=
  addf (mulf (broadcastInDim S1024 ![] bcast_S_S1024 (constant S_ .f32 0x3F666666#32)) x2) (mulf (broadcastInDim S1024 ![] bcast_S_S1024 (constant S_ .f32 0x3DCCCCCD#32)) x1)

theorem REF1_apply (x0 : FVec Ideal S1024 .f32) (x1 : FVec Ideal S1024 .f32) (x2 : FVec Ideal S1024 .f32) (x3 : FVec Ideal S1024 .f32) (i : S1024.Idx) :
    REF1 x0 x1 x2 x3 i = moment (x1 i) (x2 i) := by
  pointwise [REF1, moment]

/-- The reference's result 2 over its arguments. -/
def REF2 (x0 : FVec Ideal S1024 .f32) (x1 : FVec Ideal S1024 .f32) (x2 : FVec Ideal S1024 .f32) (x3 : FVec Ideal S1024 .f32) : FVec Ideal S1024 .f32 :=
  addf (mulf (broadcastInDim S1024 ![] bcast_S_S1024 (constant S_ .f32 0x3F7FBE77#32)) x3) (mulf (broadcastInDim S1024 ![] bcast_S_S1024 (constant S_ .f32 0x3A83126F#32)) (mulf x1 x1))

theorem REF2_apply (x0 : FVec Ideal S1024 .f32) (x1 : FVec Ideal S1024 .f32) (x2 : FVec Ideal S1024 .f32) (x3 : FVec Ideal S1024 .f32) (i : S1024.Idx) :
    REF2 x0 x1 x2 x3 i = square (x1 i) (x3 i) := by
  pointwise [REF2, square]

end Cert.Reference24Ideal.Adam

namespace Cert.Kernel24Ideal.Adam
open Cert.Kernel24Ideal Cert.Kernel24Ideal.Gen
open Cert.Adam
open Cert.Reference24Ideal.Adam (REF0 REF1 REF2 REF0_apply REF1_apply REF2_apply)

variable (m : (ℓ : Loc nD τ sig) → Buf (Elt Ideal) ℓ)

theorem arg0 (c : Dev nD) : V m c main_v0
    = shapeCast S1x1024 (m ((c : Thread nD τ).loc main_arg0) : Vec Ideal S1024 .f32) shapeCasts_S1024_S1x1024 := by
  unfold V V0
  simp only [List.flatten_cons, List.flatten_nil, List.append_nil]
  after_results_simp
  rfl

theorem arg1 (c : Dev nD) : V m c main_v1
    = shapeCast S1x1024 (m ((c : Thread nD τ).loc main_arg1) : Vec Ideal S1024 .f32) shapeCasts_S1024_S1x1024 := by
  unfold V V0
  simp only [List.flatten_cons, List.flatten_nil, List.append_nil]
  after_results_simp
  rfl

theorem arg2 (c : Dev nD) : V m c main_v2
    = shapeCast S1x1024 (m ((c : Thread nD τ).loc main_arg2) : Vec Ideal S1024 .f32) shapeCasts_S1024_S1x1024 := by
  unfold V V0
  simp only [List.flatten_cons, List.flatten_nil, List.append_nil]
  after_results_simp
  rfl

theorem arg3 (c : Dev nD) : V m c main_v3
    = shapeCast S1x1024 (m ((c : Thread nD τ).loc main_arg3) : Vec Ideal S1024 .f32) shapeCasts_S1024_S1x1024 := by
  unfold V V0
  simp only [List.flatten_cons, List.flatten_nil, List.append_nil]
  after_results_simp
  rfl

theorem pay0_apply (x0 : Vec Ideal S1x1024 .f32) (x1 : Vec Ideal S1x1024 .f32) (x2 : Vec Ideal S1x1024 .f32) (x3 : Vec Ideal S1x1024 .f32) (y : S1x1024.Idx) :
    k0_pay4 x0 x1 x2 x3 y = step (x0 y) (x1 y) (x2 y) (x3 y) := by
  pointwise [k0_pay1, k0_pay2, k0_pay3, k0_pay4, step, moment, square]

theorem pay1_apply (x1 : Vec Ideal S1x1024 .f32) (x2 : Vec Ideal S1x1024 .f32) (y : S1x1024.Idx) :
    k0_pay2 x1 x2 y = moment (x1 y) (x2 y) := by
  pointwise [k0_pay1, k0_pay2, k0_pay3, k0_pay4, moment]

theorem pay2_apply (x1 : Vec Ideal S1x1024 .f32) (x3 : Vec Ideal S1x1024 .f32) (y : S1x1024.Idx) :
    k0_pay3 x1 x3 y = square (x1 y) (x3 y) := by
  pointwise [k0_pay1, k0_pay2, k0_pay3, k0_pay4, square]

theorem block0 (c : Dev nD) (t : Fin cfg0.N) (y : S1x1024.Idx) :
    iblk m c 0 t y = (shapeCast S1x1024 (m ((c : Thread nD τ).loc main_arg0) : Vec Ideal S1024 .f32) shapeCasts_S1024_S1x1024) (((cfg0.win 4).blk t).view.emb y) := by
  rw [← arg0 m c]
  rfl

theorem block1 (c : Dev nD) (t : Fin cfg0.N) (y : S1x1024.Idx) :
    iblk m c 1 t y = (shapeCast S1x1024 (m ((c : Thread nD τ).loc main_arg1) : Vec Ideal S1024 .f32) shapeCasts_S1024_S1x1024) (((cfg0.win 4).blk t).view.emb y) := by
  rw [← arg1 m c]
  rfl

theorem block2 (c : Dev nD) (t : Fin cfg0.N) (y : S1x1024.Idx) :
    iblk m c 2 t y = (shapeCast S1x1024 (m ((c : Thread nD τ).loc main_arg2) : Vec Ideal S1024 .f32) shapeCasts_S1024_S1x1024) (((cfg0.win 4).blk t).view.emb y) := by
  rw [← arg2 m c]
  rfl

theorem block3 (c : Dev nD) (t : Fin cfg0.N) (y : S1x1024.Idx) :
    iblk m c 3 t y = (shapeCast S1x1024 (m ((c : Thread nD τ).loc main_arg3) : Vec Ideal S1024 .f32) shapeCasts_S1024_S1x1024) (((cfg0.win 4).blk t).view.emb y) := by
  rw [← arg3 m c]
  rfl

/-- The result array is the reference's, row by row. -/
theorem final0 (c : Dev nD) : (dats m 0 c).arrAt 4 (cfgs 0).N = shapeCast S1x1024 (REF0 (m ((c : Thread nD τ).loc main_arg0)) (m ((c : Thread nD τ).loc main_arg1)) (m ((c : Thread nD τ).loc main_arg2)) (m ((c : Thread nD τ).loc main_arg3))) shapeCasts_S1024_S1x1024 := by
  refine (dats m 0 c).arrAt_eq_of_covers 4 _ (by decide +kernel) fun t _ y => ?_
  rw [after0_4]; frame_out
  refine (pay0_apply _ _ _ _ y).trans ?_
  refine Eq.trans ?_ (REF0_apply _ _ _ _ _).symm
  rw [block0 m c t y, block1 m c t y, block2 m c t y, block3 m c t y]
  rfl

theorem tail0 (c : Dev nD) : Pipeline.afterTail₀ cfgs (dats m) 0 (V0 m) [hostOps1] c main_v5
    = REF0 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S1024 x shapeCasts_S1x1024_S1024)
    ((Pipeline.withArrays_arr (cfgs 0).spec (by decide) c _ _ 4).trans (final0 m c))).trans (shapeCast_shapeCast _ _ _)

/-- The result array is the reference's, row by row. -/
theorem final1 (c : Dev nD) : (dats m 0 c).arrAt 5 (cfgs 0).N = shapeCast S1x1024 (REF1 (m ((c : Thread nD τ).loc main_arg0)) (m ((c : Thread nD τ).loc main_arg1)) (m ((c : Thread nD τ).loc main_arg2)) (m ((c : Thread nD τ).loc main_arg3))) shapeCasts_S1024_S1x1024 := by
  refine (dats m 0 c).arrAt_eq_of_covers 5 _ (by decide +kernel) fun t _ y => ?_
  rw [after0_5]; frame_out
  refine (pay1_apply _ _ y).trans ?_
  refine Eq.trans ?_ (REF1_apply _ _ _ _ _).symm
  rw [block1 m c t y, block2 m c t y]
  rfl

theorem tail1 (c : Dev nD) : Pipeline.afterTail₀ cfgs (dats m) 0 (V0 m) [hostOps1] c main_v6
    = REF1 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S1024 x shapeCasts_S1x1024_S1024)
    ((Pipeline.withArrays_arr (cfgs 0).spec (by decide) c _ _ 5).trans (final1 m c))).trans (shapeCast_shapeCast _ _ _)

/-- The result array is the reference's, row by row. -/
theorem final2 (c : Dev nD) : (dats m 0 c).arrAt 6 (cfgs 0).N = shapeCast S1x1024 (REF2 (m ((c : Thread nD τ).loc main_arg0)) (m ((c : Thread nD τ).loc main_arg1)) (m ((c : Thread nD τ).loc main_arg2)) (m ((c : Thread nD τ).loc main_arg3))) shapeCasts_S1024_S1x1024 := by
  refine (dats m 0 c).arrAt_eq_of_covers 6 _ (by decide +kernel) fun t _ y => ?_
  rw [after0_6]; frame_out
  refine (pay2_apply _ _ y).trans ?_
  refine Eq.trans ?_ (REF2_apply _ _ _ _ _).symm
  rw [block1 m c t y, block3 m c t y]
  rfl

theorem tail2 (c : Dev nD) : Pipeline.afterTail₀ cfgs (dats m) 0 (V0 m) [hostOps1] c main_v7
    = REF2 (m ((c : Thread nD τ).loc main_arg0)) (m ((c : Thread nD τ).loc main_arg1)) (m ((c : Thread nD τ).loc main_arg2)) (m ((c : Thread nD τ).loc main_arg3)) := by
  unfold Pipeline.afterTail₀
  simp only [List.flatten_cons, List.flatten_nil, List.append_nil]
  after_results_simp
  exact (congrArg (fun x => shapeCast S1024 x shapeCasts_S1x1024_S1024)
    ((Pipeline.withArrays_arr (cfgs 0).spec (by decide) c _ _ 6).trans (final2 m c))).trans (shapeCast_shapeCast _ _ _)

end Cert.Kernel24Ideal.Adam

namespace Cert.Proof24

theorem frame : Cert.quiescent_Kernel24 := fun m ρ _ => Cert.Kernel24.Gen.frame m ρ

theorem frameIdeal : Cert.quiescent_Kernel24Ideal := fun m ρ _ => Cert.Kernel24Ideal.Gen.frame m ρ

theorem frameReference : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)

theorem algebraic : Cert.algebraic_Kernel24Ideal_Reference24Ideal := by
  pair_intro
  · run_from Cert.Kernel24Ideal.Gen.run_main m g
    · exact Cert.Kernel24Ideal.Gen.W_main_arg0 m _ c
    · exact Cert.Kernel24Ideal.Gen.W_main_arg1 m _ c
    · exact Cert.Kernel24Ideal.Gen.W_main_arg2 m _ c
    · exact Cert.Kernel24Ideal.Gen.W_main_arg3 m _ c
  · run_from Cert.Reference24Ideal.Value.run m' g'
    · exact (Cert.Kernel24Ideal.Adam.tail0 m c).symm
    · exact (Cert.Kernel24Ideal.Adam.tail1 m c).symm
    · exact (Cert.Kernel24Ideal.Adam.tail2 m c).symm

end Cert.Proof24

end
-- ==== Proof.Optimiser25.lean ====
module

public import proofs.«01_k».proof.Defs
public import proofs.«01_k».proof.Proof.Gen.Kernel25.Frame
public import proofs.«01_k».proof.Proof.Gen.Kernel25Ideal.Frame
public import proofs.«01_k».proof.Proof.Gen.Reference25Ideal.Run
public import Idealize.ShloMosaic.Lib.Claim
public import Idealize.ShloMosaic.Lib.Pointwise
public import Idealize.ShloMosaic.Lib.Pipeline.ValueKit
public import proofs.«01_k».proof.Proof.Adam

/-!
The optimiser of w_in, and its gradient from those of the layers:
what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference25Ideal.Adam
open Cert.Reference25Ideal Cert.Reference25Ideal.Gen
open Cert.Adam

/-- The gradients of the layers on top of each other. -/
def STK (x1 : FVec Ideal S1024x1410 .f32) (x2 : FVec Ideal S1024x1410 .f32) (x3 : FVec Ideal S1024x1410 .f32) (x4 : FVec Ideal S1024x1410 .f32) : FVec Ideal S4x1024x1410 .f32 :=
  concatenate S4x1024x1410 0 [⟨S1x1024x1410, (broadcastInDim S1x1024x1410 ![1, 2] bcast_S1024x1410_S1x1024x1410_1_2 x1 : FVec Ideal S1x1024x1410 .f32)⟩, ⟨S1x1024x1410, (broadcastInDim S1x1024x1410 ![1, 2] bcast_S1024x1410_S1x1024x1410_1_2 x2 : FVec Ideal S1x1024x1410 .f32)⟩, ⟨S1x1024x1410, (broadcastInDim S1x1024x1410 ![1, 2] bcast_S1024x1410_S1x1024x1410_1_2 x3 : FVec Ideal S1x1024x1410 .f32)⟩, ⟨S1x1024x1410, (broadcastInDim S1x1024x1410 ![1, 2] bcast_S1024x1410_S1x1024x1410_1_2 x4 : FVec Ideal S1x1024x1410 .f32)⟩] concatenates_S1x1024x1410_S1x1024x1410_S1x1024x1410_S1x1024x1410_S4x1024x1410_d0

/-- The reference's result 1 over its arguments. -/
def REF0 (x0 : FVec Ideal S4x1024x1410 .f32) (x1 : FVec Ideal S4x1024x1410 .f32) (x2 : FVec Ideal S4x1024x1410 .f32) (x3 : FVec Ideal S4x1024x1410 .f32) : FVec Ideal S4x1024x1410 .f32 :=
  mulf (broadcastInDim S4x1024x1410 ![] bcast_S_S4x1024x1410 (constant S_ .f32 0xBA83126F#32)) (addf (Host.divf (Host.divf (addf (mulf (broadcastInDim S4x1024x1410 ![] bcast_S_S4x1024x1410 (constant S_ .f32 0x3F666666#32)) x2) (mulf (broadcastInDim S4x1024x1410 ![] bcast_S_S4x1024x1410 (constant S_ .f32 0x3DCCCCCD#32)) (x1))) (broadcastInDim S4x1024x1410 ![] bcast_S_S4x1024x1410 (constant S_ .f32 0x3F26BD02#32))) (addf (Host.sqrt (Host.divf (addf (mulf (broadcastInDim S4x1024x1410 ![] bcast_S_S4x1024x1410 (constant S_ .f32 0x3F7FBE77#32)) x3) (mulf (broadcastInDim S4x1024x1410 ![] bcast_S_S4x1024x1410 (constant S_ .f32 0x3A83126F#32)) (mulf (x1) (x1)))) (broadcastInDim S4x1024x1410 ![] bcast_S_S4x1024x1410 (constant S_ .f32 0x3C231ACC#32)))) (broadcastInDim S4x1024x1410 ![] bcast_S_S4x1024x1410 (constant S_ .f32 0x322BCC77#32)))) (mulf (broadcastInDim S4x1024x1410 ![] bcast_S_S4x1024x1410 (constant S_ .f32 0x3C23D70A#32)) x0))

theorem REF0_apply (x0 : FVec Ideal S4x1024x1410 .f32) (x1 : FVec Ideal S4x1024x1410 .f32) (x2 : FVec Ideal S4x1024x1410 .f32) (x3 : FVec Ideal S4x1024x1410 .f32) (i : S4x1024x1410.Idx) :
    REF0 x0 x1 x2 x3 i = step (x0 i) (x1 i) (x2 i) (x3 i) := by
  pointwise [REF0, step, moment, square]

/-- The reference's result 2 over its arguments. -/
def REF1 (x0 : FVec Ideal S4x1024x1410 .f32) (x1 : FVec Ideal S4x1024x1410 .f32) (x2 : FVec Ideal S4x1024x1410 .f32) (x3 : FVec Ideal S4x1024x1410 .f32) : FVec Ideal S4x1024x1410 .f32 :=
  addf (mulf (broadcastInDim S4x1024x1410 ![] bcast_S_S4x1024x1410 (constant S_ .f32 0x3F666666#32)) x2) (mulf (broadcastInDim S4x1024x1410 ![] bcast_S_S4x1024x1410 (constant S_ .f32 0x3DCCCCCD#32)) (x1))

theorem REF1_apply (x0 : FVec Ideal S4x1024x1410 .f32) (x1 : FVec Ideal S4x1024x1410 .f32) (x2 : FVec Ideal S4x1024x1410 .f32) (x3 : FVec Ideal S4x1024x1410 .f32) (i : S4x1024x1410.Idx) :
    REF1 x0 x1 x2 x3 i = moment (x1 i) (x2 i) := by
  pointwise [REF1, moment]

/-- The reference's result 3 over its arguments. -/
def REF2 (x0 : FVec Ideal S4x1024x1410 .f32) (x1 : FVec Ideal S4x1024x1410 .f32) (x2 : FVec Ideal S4x1024x1410 .f32) (x3 : FVec Ideal S4x1024x1410 .f32) : FVec Ideal S4x1024x1410 .f32 :=
  addf (mulf (broadcastInDim S4x1024x1410 ![] bcast_S_S4x1024x1410 (constant S_ .f32 0x3F7FBE77#32)) x3) (mulf (broadcastInDim S4x1024x1410 ![] bcast_S_S4x1024x1410 (constant S_ .f32 0x3A83126F#32)) (mulf (x1) (x1)))

theorem REF2_apply (x0 : FVec Ideal S4x1024x1410 .f32) (x1 : FVec Ideal S4x1024x1410 .f32) (x2 : FVec Ideal S4x1024x1410 .f32) (x3 : FVec Ideal S4x1024x1410 .f32) (i : S4x1024x1410.Idx) :
    REF2 x0 x1 x2 x3 i = square (x1 i) (x3 i) := by
  pointwise [REF2, square]

end Cert.Reference25Ideal.Adam

namespace Cert.Kernel25Ideal.Adam
open Cert.Kernel25Ideal Cert.Kernel25Ideal.Gen
open Cert.Adam
open Cert.Reference25Ideal.Adam (STK REF0 REF1 REF2 REF0_apply REF1_apply REF2_apply)

variable (m : (ℓ : Loc nD τ sig) → Buf (Elt Ideal) ℓ)

/-- Columns first and back again. -/
theorem round (X : FVec Ideal S4x1024x1410 .f32) :
    transpose S4x1024x1410 [1, 2, 0] (transpose S1410x4x1024 [2, 0, 1] (X) transposes_S4x1024x1410_S1410x4x1024_2_0_1) transposes_S1410x4x1024_S4x1024x1410_1_2_0 = X := by
  funext i
  refine congrArg X (funext fun d => Fin.ext ?_)
  fin_cases d <;> rfl

theorem arg0 (c : Dev nD) : V m c main_v6 = transpose S1410x4x1024 [2, 0, 1] ((m ((c : Thread nD τ).loc main_arg0)) : Vec Ideal S4x1024x1410 .f32) transposes_S4x1024x1410_S1410x4x1024_2_0_1 := by
  unfold V V0
  simp only [List.flatten_cons, List.flatten_nil, List.append_nil]
  after_results_simp

theorem arg1 (c : Dev nD) : V m c main_v5 = transpose S1410x4x1024 [2, 0, 1] ((STK (m ((c : Thread nD τ).loc main_arg1)) (m ((c : Thread nD τ).loc main_arg2)) (m ((c : Thread nD τ).loc main_arg3)) (m ((c : Thread nD τ).loc main_arg4)))) transposes_S4x1024x1410_S1410x4x1024_2_0_1 := by
  unfold V V0
  simp only [List.flatten_cons, List.flatten_nil, List.append_nil]
  after_results_simp
  rfl

theorem arg2 (c : Dev nD) : V m c main_v7 = transpose S1410x4x1024 [2, 0, 1] ((m ((c : Thread nD τ).loc main_arg5)) : Vec Ideal S4x1024x1410 .f32) transposes_S4x1024x1410_S1410x4x1024_2_0_1 := by
  unfold V V0
  simp only [List.flatten_cons, List.flatten_nil, List.append_nil]
  after_results_simp

theorem arg3 (c : Dev nD) : V m c main_v8 = transpose S1410x4x1024 [2, 0, 1] ((m ((c : Thread nD τ).loc main_arg6)) : Vec Ideal S4x1024x1410 .f32) transposes_S4x1024x1410_S1410x4x1024_2_0_1 := by
  unfold V V0
  simp only [List.flatten_cons, List.flatten_nil, List.append_nil]
  after_results_simp

theorem pay0_apply (x0 : Vec Ideal S47x4x1024 .f32) (x1 : Vec Ideal S47x4x1024 .f32) (x2 : Vec Ideal S47x4x1024 .f32) (x3 : Vec Ideal S47x4x1024 .f32) (y : S47x4x1024.Idx) :
    k0_pay4 x0 x1 x2 x3 y = step (x0 y) (x1 y) (x2 y) (x3 y) := by
  pointwise [k0_pay1, k0_pay2, k0_pay3, k0_pay4, step, moment, square]

theorem pay1_apply (x1 : Vec Ideal S47x4x1024 .f32) (x2 : Vec Ideal S47x4x1024 .f32) (y : S47x4x1024.Idx) :
    k0_pay2 x1 x2 y = moment (x1 y) (x2 y) := by
  pointwise [k0_pay1, k0_pay2, k0_pay3, k0_pay4, moment]

theorem pay2_apply (x1 : Vec Ideal S47x4x1024 .f32) (x3 : Vec Ideal S47x4x1024 .f32) (y : S47x4x1024.Idx) :
    k0_pay3 x1 x3 y = square (x1 y) (x3 y) := by
  pointwise [k0_pay1, k0_pay2, k0_pay3, k0_pay4, square]

theorem block0 (c : Dev nD) (t : Fin cfg0.N) (y : S47x4x1024.Idx) :
    iblk m c 0 t y = (transpose S1410x4x1024 [2, 0, 1] ((m ((c : Thread nD τ).loc main_arg0)) : Vec Ideal S4x1024x1410 .f32) transposes_S4x1024x1410_S1410x4x1024_2_0_1) (((cfg0.win 4).blk t).view.emb y) := by
  rw [← arg0 m c]
  rfl

theorem block1 (c : Dev nD) (t : Fin cfg0.N) (y : S47x4x1024.Idx) :
    iblk m c 1 t y = (transpose S1410x4x1024 [2, 0, 1] ((STK (m ((c : Thread nD τ).loc main_arg1)) (m ((c : Thread nD τ).loc main_arg2)) (m ((c : Thread nD τ).loc main_arg3)) (m ((c : Thread nD τ).loc main_arg4)))) transposes_S4x1024x1410_S1410x4x1024_2_0_1) (((cfg0.win 4).blk t).view.emb y) := by
  rw [← arg1 m c]
  rfl

theorem block2 (c : Dev nD) (t : Fin cfg0.N) (y : S47x4x1024.Idx) :
    iblk m c 2 t y = (transpose S1410x4x1024 [2, 0, 1] ((m ((c : Thread nD τ).loc main_arg5)) : Vec Ideal S4x1024x1410 .f32) transposes_S4x1024x1410_S1410x4x1024_2_0_1) (((cfg0.win 4).blk t).view.emb y) := by
  rw [← arg2 m c]
  rfl

theorem block3 (c : Dev nD) (t : Fin cfg0.N) (y : S47x4x1024.Idx) :
    iblk m c 3 t y = (transpose S1410x4x1024 [2, 0, 1] ((m ((c : Thread nD τ).loc main_arg6)) : Vec Ideal S4x1024x1410 .f32) transposes_S4x1024x1410_S1410x4x1024_2_0_1) (((cfg0.win 4).blk t).view.emb y) := by
  rw [← arg3 m c]
  rfl

/-- The result array is the reference's, columns first. -/
theorem final0 (c : Dev nD) : (dats m 0 c).arrAt 4 (cfgs 0).N = transpose S1410x4x1024 [2, 0, 1] (REF0 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) transposes_S4x1024x1410_S1410x4x1024_2_0_1 := by
  refine (dats m 0 c).arrAt_eq_of_covers 4 _ (by decide +kernel) fun t _ y => ?_
  rw [after0_4]; frame_out
  refine (pay0_apply _ _ _ _ y).trans ?_
  refine Eq.trans ?_ (REF0_apply _ _ _ _ _).symm
  rw [block0 m c t y, block1 m c t y, block2 m c t y, block3 m c t y]
  rfl

theorem tail1 (c : Dev nD) : Pipeline.afterTail₀ cfgs (dats m) 0 (V0 m) [hostOps1] c main_v11
    = REF0 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  unfold Pipeline.afterTail₀
  simp only [List.flatten_cons, List.flatten_nil, List.append_nil]
  after_results_simp
  exact (congrArg (fun x => transpose S4x1024x1410 [1, 2, 0] x transposes_S1410x4x1024_S4x1024x1410_1_2_0)
    ((Pipeline.withArrays_arr (cfgs 0).spec (by decide) c _ _ 4).trans (final0 m c))).trans (round _)

/-- The result array is the reference's, columns first. -/
theorem final1 (c : Dev nD) : (dats m 0 c).arrAt 5 (cfgs 0).N = transpose S1410x4x1024 [2, 0, 1] (REF1 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) transposes_S4x1024x1410_S1410x4x1024_2_0_1 := by
  refine (dats m 0 c).arrAt_eq_of_covers 5 _ (by decide +kernel) fun t _ y => ?_
  rw [after0_5]; frame_out
  refine (pay1_apply _ _ y).trans ?_
  refine Eq.trans ?_ (REF1_apply _ _ _ _ _).symm
  rw [block1 m c t y, block2 m c t y]
  rfl

theorem tail2 (c : Dev nD) : Pipeline.afterTail₀ cfgs (dats m) 0 (V0 m) [hostOps1] c main_v12
    = REF1 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  unfold Pipeline.afterTail₀
  simp only [List.flatten_cons, List.flatten_nil, List.append_nil]
  after_results_simp
  exact (congrArg (fun x => transpose S4x1024x1410 [1, 2, 0] x transposes_S1410x4x1024_S4x1024x1410_1_2_0)
    ((Pipeline.withArrays_arr (cfgs 0).spec (by decide) c _ _ 5).trans (final1 m c))).trans (round _)

/-- The result array is the reference's, columns first. -/
theorem final2 (c : Dev nD) : (dats m 0 c).arrAt 6 (cfgs 0).N = transpose S1410x4x1024 [2, 0, 1] (REF2 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) transposes_S4x1024x1410_S1410x4x1024_2_0_1 := by
  refine (dats m 0 c).arrAt_eq_of_covers 6 _ (by decide +kernel) fun t _ y => ?_
  rw [after0_6]; frame_out
  refine (pay2_apply _ _ y).trans ?_
  refine Eq.trans ?_ (REF2_apply _ _ _ _ _).symm
  rw [block1 m c t y, block3 m c t y]
  rfl

theorem tail3 (c : Dev nD) : Pipeline.afterTail₀ cfgs (dats m) 0 (V0 m) [hostOps1] c main_v13
    = REF2 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  unfold Pipeline.afterTail₀
  simp only [List.flatten_cons, List.flatten_nil, List.append_nil]
  after_results_simp
  exact (congrArg (fun x => transpose S4x1024x1410 [1, 2, 0] x transposes_S1410x4x1024_S4x1024x1410_1_2_0)
    ((Pipeline.withArrays_arr (cfgs 0).spec (by decide) c _ _ 6).trans (final2 m c))).trans (round _)

theorem tail0 (c : Dev nD) : Pipeline.afterTail₀ cfgs (dats m) 0 (V0 m) [hostOps1] c main_v10 = (STK (m ((c : Thread nD τ).loc main_arg1)) (m ((c : Thread nD τ).loc main_arg2)) (m ((c : Thread nD τ).loc main_arg3)) (m ((c : Thread nD τ).loc main_arg4))) := by
  unfold Pipeline.afterTail₀
  simp only [List.flatten_cons, List.flatten_nil, List.append_nil]
  after_results_simp
  refine (congrArg (fun x => transpose S4x1024x1410 [1, 2, 0] x transposes_S1410x4x1024_S4x1024x1410_1_2_0)
    ((Pipeline.withArrays_arr (cfgs 0).spec (by decide) c _ _ 1).trans ?_)).trans (round _)
  exact ((dats m 0 c).arrAt_in 1 rfl _).trans (arg1 m c)

end Cert.Kernel25Ideal.Adam

namespace Cert.Proof25

theorem frame : Cert.quiescent_Kernel25 := fun m ρ _ => Cert.Kernel25.Gen.frame m ρ

theorem frameIdeal : Cert.quiescent_Kernel25Ideal := fun m ρ _ => Cert.Kernel25Ideal.Gen.frame m ρ

theorem frameReference : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

set_option maxHeartbeats 1600000 in
theorem algebraic : Cert.algebraic_Kernel25Ideal_Reference25Ideal := by
  pair_intro
  · run_from Cert.Kernel25Ideal.Gen.run_main m g
    · exact Cert.Kernel25Ideal.Gen.W_main_arg0 m _ c
    · exact Cert.Kernel25Ideal.Gen.W_main_arg1 m _ c
    · exact Cert.Kernel25Ideal.Gen.W_main_arg2 m _ c
    · exact Cert.Kernel25Ideal.Gen.W_main_arg3 m _ c
    · exact Cert.Kernel25Ideal.Gen.W_main_arg4 m _ c
    · exact Cert.Kernel25Ideal.Gen.W_main_arg5 m _ c
    · exact Cert.Kernel25Ideal.Gen.W_main_arg6 m _ c
  · run_from Cert.Reference25Ideal.Value.run m' g'
    · obtain ⟨a0, a1, a2, a3, a4, a5, a6⟩ := hagree c
      show Cert.Reference25Ideal.Adam.STK _ _ _ _ = _
      simp only [a0, a1, a2, a3, a4, a5, a6]
      exact (Cert.Kernel25Ideal.Adam.tail0 m c).symm
    · obtain ⟨a0, a1, a2, a3, a4, a5, a6⟩ := hagree c
      show Cert.Reference25Ideal.Adam.REF0 _ (Cert.Reference25Ideal.Adam.STK _ _ _ _) _ _ = _
      simp only [a0, a1, a2, a3, a4, a5, a6]
      exact (Cert.Kernel25Ideal.Adam.tail1 m c).symm
    · obtain ⟨a0, a1, a2, a3, a4, a5, a6⟩ := hagree c
      show Cert.Reference25Ideal.Adam.REF1 (m (c.tc.loc Cert.Kernel25Ideal.main_arg0)) (Cert.Reference25Ideal.Adam.STK _ _ _ _) _ (m (c.tc.loc Cert.Kernel25Ideal.main_arg6)) = _
      simp only [a0, a1, a2, a3, a4, a5, a6]
      exact (Cert.Kernel25Ideal.Adam.tail2 m c).symm
    · obtain ⟨a0, a1, a2, a3, a4, a5, a6⟩ := hagree c
      show Cert.Reference25Ideal.Adam.REF2 (m (c.tc.loc Cert.Kernel25Ideal.main_arg0)) (Cert.Reference25Ideal.Adam.STK _ _ _ _) (m (c.tc.loc Cert.Kernel25Ideal.main_arg5)) _ = _
      simp only [a0, a1, a2, a3, a4, a5, a6]
      exact (Cert.Kernel25Ideal.Adam.tail3 m c).symm

end Cert.Proof25

end
-- ==== Proof.Optimiser26.lean ====
module

public import proofs.«01_k».proof.Defs
public import proofs.«01_k».proof.Proof.Gen.Kernel26.Frame
public import proofs.«01_k».proof.Proof.Gen.Kernel26Ideal.Frame
public import proofs.«01_k».proof.Proof.Gen.Reference26Ideal.Run
public import Idealize.ShloMosaic.Lib.Claim
public import Idealize.ShloMosaic.Lib.Pointwise
public import Idealize.ShloMosaic.Lib.Pipeline.ValueKit
public import proofs.«01_k».proof.Proof.Adam

/-!
The optimiser of w_branch_a and of w_branch_b, and their gradients from those of the layers:
what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference26Ideal.Adam
open Cert.Reference26Ideal Cert.Reference26Ideal.Gen
open Cert.Adam

/-- The gradients of the layers on top of each other. -/
def STK (x1 : FVec Ideal S512x256 .f32) (x2 : FVec Ideal S512x256 .f32) (x3 : FVec Ideal S512x256 .f32) (x4 : FVec Ideal S512x256 .f32) : FVec Ideal S4x512x256 .f32 :=
  concatenate S4x512x256 0 [⟨S1x512x256, (broadcastInDim S1x512x256 ![1, 2] bcast_S512x256_S1x512x256_1_2 x1 : FVec Ideal S1x512x256 .f32)⟩, ⟨S1x512x256, (broadcastInDim S1x512x256 ![1, 2] bcast_S512x256_S1x512x256_1_2 x2 : FVec Ideal S1x512x256 .f32)⟩, ⟨S1x512x256, (broadcastInDim S1x512x256 ![1, 2] bcast_S512x256_S1x512x256_1_2 x3 : FVec Ideal S1x512x256 .f32)⟩, ⟨S1x512x256, (broadcastInDim S1x512x256 ![1, 2] bcast_S512x256_S1x512x256_1_2 x4 : FVec Ideal S1x512x256 .f32)⟩] concatenates_S1x512x256_S1x512x256_S1x512x256_S1x512x256_S4x512x256_d0

theorem STK_apply0 (x1 : FVec Ideal S512x256 .f32) (x2 : FVec Ideal S512x256 .f32) (x3 : FVec Ideal S512x256 .f32) (x4 : FVec Ideal S512x256 .f32) (i : S4x512x256.Idx) (j : S512x256.Idx) (h0 : (i 0 : ℕ) = 0) (h1 : (i 1 : ℕ) = j 0) (h2 : (i 2 : ℕ) = j 1) :
    STK x1 x2 x3 x4 i = x1 j := by
  pointwise [STK, h0]
  exact congrArg x1 (funext fun d => Fin.ext (by fin_cases d <;> [exact h1; exact h2]))

theorem STK_apply1 (x1 : FVec Ideal S512x256 .f32) (x2 : FVec Ideal S512x256 .f32) (x3 : FVec Ideal S512x256 .f32) (x4 : FVec Ideal S512x256 .f32) (i : S4x512x256.Idx) (j : S512x256.Idx) (h0 : (i 0 : ℕ) = 1) (h1 : (i 1 : ℕ) = j 0) (h2 : (i 2 : ℕ) = j 1) :
    STK x1 x2 x3 x4 i = x2 j := by
  pointwise [STK, h0]
  exact congrArg x2 (funext fun d => Fin.ext (by fin_cases d <;> [exact h1; exact h2]))

theorem STK_apply2 (x1 : FVec Ideal S512x256 .f32) (x2 : FVec Ideal S512x256 .f32) (x3 : FVec Ideal S512x256 .f32) (x4 : FVec Ideal S512x256 .f32) (i : S4x512x256.Idx) (j : S512x256.Idx) (h0 : (i 0 : ℕ) = 2) (h1 : (i 1 : ℕ) = j 0) (h2 : (i 2 : ℕ) = j 1) :
    STK x1 x2 x3 x4 i = x3 j := by
  pointwise [STK, h0]
  exact congrArg x3 (funext fun d => Fin.ext (by fin_cases d <;> [exact h1; exact h2]))

theorem STK_apply3 (x1 : FVec Ideal S512x256 .f32) (x2 : FVec Ideal S512x256 .f32) (x3 : FVec Ideal S512x256 .f32) (x4 : FVec Ideal S512x256 .f32) (i : S4x512x256.Idx) (j : S512x256.Idx) (h0 : (i 0 : ℕ) = 3) (h1 : (i 1 : ℕ) = j 0) (h2 : (i 2 : ℕ) = j 1) :
    STK x1 x2 x3 x4 i = x4 j := by
  pointwise [STK, h0]
  exact congrArg x4 (funext fun d => Fin.ext (by fin_cases d <;> [exact h1; exact h2]))

/-- The reference's result 1 over its arguments. -/
def REF0 (x0 : FVec Ideal S4x512x256 .f32) (x1 : FVec Ideal S4x512x256 .f32) (x2 : FVec Ideal S4x512x256 .f32) (x3 : FVec Ideal S4x512x256 .f32) : FVec Ideal S4x512x256 .f32 :=
  mulf (broadcastInDim S4x512x256 ![] bcast_S_S4x512x256 (constant S_ .f32 0xBA83126F#32)) (addf (Host.divf (Host.divf (addf (mulf (broadcastInDim S4x512x256 ![] bcast_S_S4x512x256 (constant S_ .f32 0x3F666666#32)) x2) (mulf (broadcastInDim S4x512x256 ![] bcast_S_S4x512x256 (constant S_ .f32 0x3DCCCCCD#32)) (x1))) (broadcastInDim S4x512x256 ![] bcast_S_S4x512x256 (constant S_ .f32 0x3F26BD02#32))) (addf (Host.sqrt (Host.divf (addf (mulf (broadcastInDim S4x512x256 ![] bcast_S_S4x512x256 (constant S_ .f32 0x3F7FBE77#32)) x3) (mulf (broadcastInDim S4x512x256 ![] bcast_S_S4x512x256 (constant S_ .f32 0x3A83126F#32)) (mulf (x1) (x1)))) (broadcastInDim S4x512x256 ![] bcast_S_S4x512x256 (constant S_ .f32 0x3C231ACC#32)))) (broadcastInDim S4x512x256 ![] bcast_S_S4x512x256 (constant S_ .f32 0x322BCC77#32)))) (mulf (broadcastInDim S4x512x256 ![] bcast_S_S4x512x256 (constant S_ .f32 0x3C23D70A#32)) x0))

theorem REF0_apply (x0 : FVec Ideal S4x512x256 .f32) (x1 : FVec Ideal S4x512x256 .f32) (x2 : FVec Ideal S4x512x256 .f32) (x3 : FVec Ideal S4x512x256 .f32) (i : S4x512x256.Idx) :
    REF0 x0 x1 x2 x3 i = step (x0 i) (x1 i) (x2 i) (x3 i) := by
  pointwise [REF0, step, moment, square]

/-- The reference's result 2 over its arguments. -/
def REF1 (x0 : FVec Ideal S4x512x256 .f32) (x1 : FVec Ideal S4x512x256 .f32) (x2 : FVec Ideal S4x512x256 .f32) (x3 : FVec Ideal S4x512x256 .f32) : FVec Ideal S4x512x256 .f32 :=
  addf (mulf (broadcastInDim S4x512x256 ![] bcast_S_S4x512x256 (constant S_ .f32 0x3F666666#32)) x2) (mulf (broadcastInDim S4x512x256 ![] bcast_S_S4x512x256 (constant S_ .f32 0x3DCCCCCD#32)) (x1))

theorem REF1_apply (x0 : FVec Ideal S4x512x256 .f32) (x1 : FVec Ideal S4x512x256 .f32) (x2 : FVec Ideal S4x512x256 .f32) (x3 : FVec Ideal S4x512x256 .f32) (i : S4x512x256.Idx) :
    REF1 x0 x1 x2 x3 i = moment (x1 i) (x2 i) := by
  pointwise [REF1, moment]

/-- The reference's result 3 over its arguments. -/
def REF2 (x0 : FVec Ideal S4x512x256 .f32) (x1 : FVec Ideal S4x512x256 .f32) (x2 : FVec Ideal S4x512x256 .f32) (x3 : FVec Ideal S4x512x256 .f32) : FVec Ideal S4x512x256 .f32 :=
  addf (mulf (broadcastInDim S4x512x256 ![] bcast_S_S4x512x256 (constant S_ .f32 0x3F7FBE77#32)) x3) (mulf (broadcastInDim S4x512x256 ![] bcast_S_S4x512x256 (constant S_ .f32 0x3A83126F#32)) (mulf (x1) (x1)))

theorem REF2_apply (x0 : FVec Ideal S4x512x256 .f32) (x1 : FVec Ideal S4x512x256 .f32) (x2 : FVec Ideal S4x512x256 .f32) (x3 : FVec Ideal S4x512x256 .f32) (i : S4x512x256.Idx) :
    REF2 x0 x1 x2 x3 i = square (x1 i) (x3 i) := by
  pointwise [REF2, square]

end Cert.Reference26Ideal.Adam

namespace Cert.Kernel26Ideal.Adam
open Cert.Kernel26Ideal Cert.Kernel26Ideal.Gen
open Cert.Adam
open Cert.Reference26Ideal.Adam (STK STK_apply0 STK_apply1 STK_apply2 STK_apply3 REF0 REF1 REF2 REF0_apply REF1_apply REF2_apply)

variable (m : (ℓ : Loc nD τ sig) → Buf (Elt Ideal) ℓ)

/-- Which block of each array a grid point works on; of the gradients only the one of the point's own layer counts. -/
theorem index : ∀ t : Fin cfg0.N, (win0_7.index t = ![t.val / 2, t.val % 2, 0] ∧ win0_8.index t = ![t.val / 2, t.val % 2, 0] ∧ win0_9.index t = ![t.val / 2, t.val % 2, 0] ∧ win0_10.index t = ![t.val / 2, t.val % 2, 0])
    ∧ (t.val / 2 = 0 → win0_3.index t = ![t.val % 2, 0]) ∧ (t.val / 2 = 1 → win0_4.index t = ![t.val % 2, 0]) ∧ (t.val / 2 = 2 → win0_5.index t = ![t.val % 2, 0]) ∧ (t.val / 2 = 3 → win0_6.index t = ![t.val % 2, 0]) :=
  (by decide +kernel : ∀ t : Fin grid0.N, _)

theorem block0 (c : Dev nD) (t : Fin cfg0.N) (y : S1x256x256.Idx) :
    iblk m c 0 t y = (m ((c : Thread nD τ).loc main_arg0) : Vec Ideal S4x512x256 .f32) (((cfg0.win 7).blk t).view.emb y) := by
  rfl

theorem block1 (c : Dev nD) (t : Fin cfg0.N) (y : S1x256x256.Idx) :
    iblk m c 1 t y = (m ((c : Thread nD τ).loc main_arg5) : Vec Ideal S4x512x256 .f32) (((cfg0.win 7).blk t).view.emb y) := by
  rfl

theorem block2 (c : Dev nD) (t : Fin cfg0.N) (y : S1x256x256.Idx) :
    iblk m c 2 t y = (m ((c : Thread nD τ).loc main_arg6) : Vec Ideal S4x512x256 .f32) (((cfg0.win 7).blk t).view.emb y) := by
  rfl

theorem grad0 (c : Dev nD) (t : Fin cfg0.N) (h : t.val / 2 = 0) (y : S1x256x256.Idx) :
    iblk m c 3 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 8 := lt_of_lt_of_eq t.isLt (show cfg0.N = 8 from N_0)
  refine Eq.trans ?_ (STK_apply0 _ _ _ _ _ (((cfg0.win 3).blk t).view.emb (ix2 (y 1) (y 2))) ?_ ?_ ?_).symm
  · rfl
  · blk_simp [(index t).1]; omega
  · blk_simp [(index t).1, (index t).2.1 h]
  · blk_simp [(index t).1, (index t).2.1 h]

theorem grad1 (c : Dev nD) (t : Fin cfg0.N) (h : t.val / 2 = 1) (y : S1x256x256.Idx) :
    iblk m c 4 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 8 := lt_of_lt_of_eq t.isLt (show cfg0.N = 8 from N_0)
  refine Eq.trans ?_ (STK_apply1 _ _ _ _ _ (((cfg0.win 4).blk t).view.emb (ix2 (y 1) (y 2))) ?_ ?_ ?_).symm
  · rfl
  · blk_simp [(index t).1]; omega
  · blk_simp [(index t).1, (index t).2.2.1 h]
  · blk_simp [(index t).1, (index t).2.2.1 h]

theorem grad2 (c : Dev nD) (t : Fin cfg0.N) (h : t.val / 2 = 2) (y : S1x256x256.Idx) :
    iblk m c 5 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 8 := lt_of_lt_of_eq t.isLt (show cfg0.N = 8 from N_0)
  refine Eq.trans ?_ (STK_apply2 _ _ _ _ _ (((cfg0.win 5).blk t).view.emb (ix2 (y 1) (y 2))) ?_ ?_ ?_).symm
  · rfl
  · blk_simp [(index t).1]; omega
  · blk_simp [(index t).1, (index t).2.2.2.1 h]
  · blk_simp [(index t).1, (index t).2.2.2.1 h]

theorem grad3 (c : Dev nD) (t : Fin cfg0.N) (h : t.val / 2 = 3) (y : S1x256x256.Idx) :
    iblk m c 6 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 8 := lt_of_lt_of_eq t.isLt (show cfg0.N = 8 from N_0)
  refine Eq.trans ?_ (STK_apply3 _ _ _ _ _ (((cfg0.win 6).blk t).view.emb (ix2 (y 1) (y 2))) ?_ ?_ ?_).symm
  · rfl
  · blk_simp [(index t).1]; omega
  · blk_simp [(index t).1, (index t).2.2.2.2 h]
  · blk_simp [(index t).1, (index t).2.2.2.2 h]

theorem pay0_grad (x1 : Vec Ideal S256x256 .f32) (y : S1x256x256.Idx) : k0_pay13 x1 y = x1 (ix2 (y 1) (y 2)) := by
  pointwise [k0_pay13]

theorem pay0_step (x0 x2 x3 : Vec Ideal S1x256x256 .f32) (x1 : Vec Ideal S256x256 .f32) (y : S1x256x256.Idx) :
    k0_pay1 (k0_pay16 x1 x0 x2 x3) y = step (x0 y) (x1 (ix2 (y 1) (y 2))) (x2 y) (x3 y) := by
  pointwise [k0_pay1, k0_pay14, k0_pay15, k0_pay16, step, moment, square]

theorem pay0_moment (x2 : Vec Ideal S1x256x256 .f32) (x1 : Vec Ideal S256x256 .f32) (y : S1x256x256.Idx) :
    k0_pay2 (k0_pay14 x1 x2) y = moment (x1 (ix2 (y 1) (y 2))) (x2 y) := by
  pointwise [k0_pay2, k0_pay14, moment]

theorem pay0_square (x3 : Vec Ideal S1x256x256 .f32) (x1 : Vec Ideal S256x256 .f32) (y : S1x256x256.Idx) :
    k0_pay3 (k0_pay15 x1 x3) y = square (x1 (ix2 (y 1) (y 2))) (x3 y) := by
  pointwise [k0_pay3, k0_pay15, square]

theorem pay1_grad (x1 : Vec Ideal S256x256 .f32) (y : S1x256x256.Idx) : k0_pay17 x1 y = x1 (ix2 (y 1) (y 2)) := by
  pointwise [k0_pay17]

theorem pay1_step (x0 x2 x3 : Vec Ideal S1x256x256 .f32) (x1 : Vec Ideal S256x256 .f32) (y : S1x256x256.Idx) :
    k0_pay4 (k0_pay20 x1 x0 x2 x3) y = step (x0 y) (x1 (ix2 (y 1) (y 2))) (x2 y) (x3 y) := by
  pointwise [k0_pay4, k0_pay18, k0_pay19, k0_pay20, step, moment, square]

theorem pay1_moment (x2 : Vec Ideal S1x256x256 .f32) (x1 : Vec Ideal S256x256 .f32) (y : S1x256x256.Idx) :
    k0_pay5 (k0_pay18 x1 x2) y = moment (x1 (ix2 (y 1) (y 2))) (x2 y) := by
  pointwise [k0_pay5, k0_pay18, moment]

theorem pay1_square (x3 : Vec Ideal S1x256x256 .f32) (x1 : Vec Ideal S256x256 .f32) (y : S1x256x256.Idx) :
    k0_pay6 (k0_pay19 x1 x3) y = square (x1 (ix2 (y 1) (y 2))) (x3 y) := by
  pointwise [k0_pay6, k0_pay19, square]

theorem pay2_grad (x1 : Vec Ideal S256x256 .f32) (y : S1x256x256.Idx) : k0_pay21 x1 y = x1 (ix2 (y 1) (y 2)) := by
  pointwise [k0_pay21]

theorem pay2_step (x0 x2 x3 : Vec Ideal S1x256x256 .f32) (x1 : Vec Ideal S256x256 .f32) (y : S1x256x256.Idx) :
    k0_pay7 (k0_pay24 x1 x0 x2 x3) y = step (x0 y) (x1 (ix2 (y 1) (y 2))) (x2 y) (x3 y) := by
  pointwise [k0_pay7, k0_pay22, k0_pay23, k0_pay24, step, moment, square]

theorem pay2_moment (x2 : Vec Ideal S1x256x256 .f32) (x1 : Vec Ideal S256x256 .f32) (y : S1x256x256.Idx) :
    k0_pay8 (k0_pay22 x1 x2) y = moment (x1 (ix2 (y 1) (y 2))) (x2 y) := by
  pointwise [k0_pay8, k0_pay22, moment]

theorem pay2_square (x3 : Vec Ideal S1x256x256 .f32) (x1 : Vec Ideal S256x256 .f32) (y : S1x256x256.Idx) :
    k0_pay9 (k0_pay23 x1 x3) y = square (x1 (ix2 (y 1) (y 2))) (x3 y) := by
  pointwise [k0_pay9, k0_pay23, square]

theorem pay3_grad (x1 : Vec Ideal S256x256 .f32) (y : S1x256x256.Idx) : k0_pay25 x1 y = x1 (ix2 (y 1) (y 2)) := by
  pointwise [k0_pay25]

theorem pay3_step (x0 x2 x3 : Vec Ideal S1x256x256 .f32) (x1 : Vec Ideal S256x256 .f32) (y : S1x256x256.Idx) :
    k0_pay10 (k0_pay28 x1 x0 x2 x3) y = step (x0 y) (x1 (ix2 (y 1) (y 2))) (x2 y) (x3 y) := by
  pointwise [k0_pay10, k0_pay26, k0_pay27, k0_pay28, step, moment, square]

theorem pay3_moment (x2 : Vec Ideal S1x256x256 .f32) (x1 : Vec Ideal S256x256 .f32) (y : S1x256x256.Idx) :
    k0_pay11 (k0_pay26 x1 x2) y = moment (x1 (ix2 (y 1) (y 2))) (x2 y) := by
  pointwise [k0_pay11, k0_pay26, moment]

theorem pay3_square (x3 : Vec Ideal S1x256x256 .f32) (x1 : Vec Ideal S256x256 .f32) (y : S1x256x256.Idx) :
    k0_pay12 (k0_pay27 x1 x3) y = square (x1 (ix2 (y 1) (y 2))) (x3 y) := by
  pointwise [k0_pay12, k0_pay27, square]

/-- The stacked gradients. -/
theorem final0 (c : Dev nD) : (dats m 0 c).arrAt 7 (cfgs 0).N = (STK (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t _ y => ?_
  rw [after0_7]
  have hN : t.val < 8 := lt_of_lt_of_eq t.isLt (show cfg0.N = 8 from N_0)
  have h : t.val / 2 = 0 ∨ t.val / 2 = 1 ∨ t.val / 2 = 2 ∨ t.val / 2 = 3 := by omega
  rcases h with h | h | h | h
  · rw [outsAt0_A m c t (by omega) (by omega) (by omega) (by omega)]; frame_out
    exact (pay0_grad _ y).trans (grad0 m c t h y)
  · rw [outsAt0_B m c t (by omega) (by omega) (by omega) (by omega)]; frame_out
    exact (pay1_grad _ y).trans (grad1 m c t h y)
  · rw [outsAt0_C m c t (by omega) (by omega) (by omega) (by omega)]; frame_out
    exact (pay2_grad _ y).trans (grad2 m c t h y)
  · rw [outsAt0_D m c t (by omega) (by omega) (by omega) (by omega)]; frame_out
    exact (pay3_grad _ y).trans (grad3 m c t h y)

/-- The result array is the reference's. -/
theorem final1 (c : Dev nD) : (dats m 0 c).arrAt 8 (cfgs 0).N = REF0 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 8 _ (by decide +kernel) fun t _ y => ?_
  rw [after0_8]
  have hN : t.val < 8 := lt_of_lt_of_eq t.isLt (show cfg0.N = 8 from N_0)
  have h : t.val / 2 = 0 ∨ t.val / 2 = 1 ∨ t.val / 2 = 2 ∨ t.val / 2 = 3 := by omega
  rcases h with h | h | h | h
  · rw [outsAt0_A m c t (by omega) (by omega) (by omega) (by omega)]; frame_out
    refine (pay0_step _ _ _ _ y).trans (Eq.trans ?_ (REF0_apply _ _ _ _ _).symm)
    rw [block0 m c t y, block1 m c t y, block2 m c t y, grad0 m c t h y]
    rfl
  · rw [outsAt0_B m c t (by omega) (by omega) (by omega) (by omega)]; frame_out
    refine (pay1_step _ _ _ _ y).trans (Eq.trans ?_ (REF0_apply _ _ _ _ _).symm)
    rw [block0 m c t y, block1 m c t y, block2 m c t y, grad1 m c t h y]
    rfl
  · rw [outsAt0_C m c t (by omega) (by omega) (by omega) (by omega)]; frame_out
    refine (pay2_step _ _ _ _ y).trans (Eq.trans ?_ (REF0_apply _ _ _ _ _).symm)
    rw [block0 m c t y, block1 m c t y, block2 m c t y, grad2 m c t h y]
    rfl
  · rw [outsAt0_D m c t (by omega) (by omega) (by omega) (by omega)]; frame_out
    refine (pay3_step _ _ _ _ y).trans (Eq.trans ?_ (REF0_apply _ _ _ _ _).symm)
    rw [block0 m c t y, block1 m c t y, block2 m c t y, grad3 m c t h y]
    rfl

/-- The result array is the reference's. -/
theorem final2 (c : Dev nD) : (dats m 0 c).arrAt 9 (cfgs 0).N = REF1 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 9 _ (by decide +kernel) fun t _ y => ?_
  rw [after0_9]
  have hN : t.val < 8 := lt_of_lt_of_eq t.isLt (show cfg0.N = 8 from N_0)
  have h : t.val / 2 = 0 ∨ t.val / 2 = 1 ∨ t.val / 2 = 2 ∨ t.val / 2 = 3 := by omega
  rcases h with h | h | h | h
  · rw [outsAt0_A m c t (by omega) (by omega) (by omega) (by omega)]; frame_out
    refine (pay0_moment _ _ y).trans (Eq.trans ?_ (REF1_apply _ _ _ _ _).symm)
    rw [block1 m c t y, grad0 m c t h y]
    rfl
  · rw [outsAt0_B m c t (by omega) (by omega) (by omega) (by omega)]; frame_out
    refine (pay1_moment _ _ y).trans (Eq.trans ?_ (REF1_apply _ _ _ _ _).symm)
    rw [block1 m c t y, grad1 m c t h y]
    rfl
  · rw [outsAt0_C m c t (by omega) (by omega) (by omega) (by omega)]; frame_out
    refine (pay2_moment _ _ y).trans (Eq.trans ?_ (REF1_apply _ _ _ _ _).symm)
    rw [block1 m c t y, grad2 m c t h y]
    rfl
  · rw [outsAt0_D m c t (by omega) (by omega) (by omega) (by omega)]; frame_out
    refine (pay3_moment _ _ y).trans (Eq.trans ?_ (REF1_apply _ _ _ _ _).symm)
    rw [block1 m c t y, grad3 m c t h y]
    rfl

/-- The result array is the reference's. -/
theorem final3 (c : Dev nD) : (dats m 0 c).arrAt 10 (cfgs 0).N = REF2 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 10 _ (by decide +kernel) fun t _ y => ?_
  rw [after0_10]
  have hN : t.val < 8 := lt_of_lt_of_eq t.isLt (show cfg0.N = 8 from N_0)
  have h : t.val / 2 = 0 ∨ t.val / 2 = 1 ∨ t.val / 2 = 2 ∨ t.val / 2 = 3 := by omega
  rcases h with h | h | h | h
  · rw [outsAt0_A m c t (by omega) (by omega) (by omega) (by omega)]; frame_out
    refine (pay0_square _ _ y).trans (Eq.trans ?_ (REF2_apply _ _ _ _ _).symm)
    rw [block2 m c t y, grad0 m c t h y]
    rfl
  · rw [outsAt0_B m c t (by omega) (by omega) (by omega) (by omega)]; frame_out
    refine (pay1_square _ _ y).trans (Eq.trans ?_ (REF2_apply _ _ _ _ _).symm)
    rw [block2 m c t y, grad1 m c t h y]
    rfl
  · rw [outsAt0_C m c t (by omega) (by omega) (by omega) (by omega)]; frame_out
    refine (pay2_square _ _ y).trans (Eq.trans ?_ (REF2_apply _ _ _ _ _).symm)
    rw [block2 m c t y, grad2 m c t h y]
    rfl
  · rw [outsAt0_D m c t (by omega) (by omega) (by omega) (by omega)]; frame_out
    refine (pay3_square _ _ y).trans (Eq.trans ?_ (REF2_apply _ _ _ _ _).symm)
    rw [block2 m c t y, grad3 m c t h y]
    rfl

end Cert.Kernel26Ideal.Adam

namespace Cert.Proof26

theorem frame : Cert.quiescent_Kernel26 := fun m ρ _ => Cert.Kernel26.Gen.frame m ρ

theorem frameIdeal : Cert.quiescent_Kernel26Ideal := fun m ρ _ => Cert.Kernel26Ideal.Gen.frame m ρ

theorem frameReference : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

set_option maxHeartbeats 1600000 in
theorem algebraic : Cert.algebraic_Kernel26Ideal_Reference26Ideal := by
  pair_intro
  · run_from Cert.Kernel26Ideal.Gen.run_main m g
  · run_from Cert.Reference26Ideal.Value.run m' g'
    · obtain ⟨a0, a1, a2, a3, a4, a5, a6⟩ := hagree c
      show Cert.Reference26Ideal.Adam.STK _ _ _ _ = _
      simp only [a0, a1, a2, a3, a4, a5, a6]
      exact (Cert.Kernel26Ideal.Adam.final0 m c).symm
    · obtain ⟨a0, a1, a2, a3, a4, a5, a6⟩ := hagree c
      show Cert.Reference26Ideal.Adam.REF0 _ (Cert.Reference26Ideal.Adam.STK _ _ _ _) _ _ = _
      simp only [a0, a1, a2, a3, a4, a5, a6]
      exact (Cert.Kernel26Ideal.Adam.final1 m c).symm
    · obtain ⟨a0, a1, a2, a3, a4, a5, a6⟩ := hagree c
      show Cert.Reference26Ideal.Adam.REF1 (m (c.tc.loc Cert.Kernel26Ideal.main_arg0)) (Cert.Reference26Ideal.Adam.STK _ _ _ _) _ (m (c.tc.loc Cert.Kernel26Ideal.main_arg6)) = _
      simp only [a0, a1, a2, a3, a4, a5, a6]
      exact (Cert.Kernel26Ideal.Adam.final2 m c).symm
    · obtain ⟨a0, a1, a2, a3, a4, a5, a6⟩ := hagree c
      show Cert.Reference26Ideal.Adam.REF2 (m (c.tc.loc Cert.Kernel26Ideal.main_arg0)) (Cert.Reference26Ideal.Adam.STK _ _ _ _) (m (c.tc.loc Cert.Kernel26Ideal.main_arg5)) _ = _
      simp only [a0, a1, a2, a3, a4, a5, a6]
      exact (Cert.Kernel26Ideal.Adam.final3 m c).symm

end Cert.Proof26

end
-- ==== Proof.Optimiser27.lean ====
module

public import proofs.«01_k».proof.Defs
public import proofs.«01_k».proof.Proof.Gen.Kernel27.Frame
public import proofs.«01_k».proof.Proof.Gen.Kernel27Ideal.Frame
public import proofs.«01_k».proof.Proof.Gen.Reference27Ideal.Run
public import Idealize.ShloMosaic.Lib.Claim
public import Idealize.ShloMosaic.Lib.Pointwise
public import Idealize.ShloMosaic.Lib.Pipeline.ValueKit
public import proofs.«01_k».proof.Proof.Adam

/-!
The optimiser of w_out, and its gradient from those of the layers:
what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference27Ideal.Adam
open Cert.Reference27Ideal Cert.Reference27Ideal.Gen
open Cert.Adam

/-- The gradients of the layers on top of each other. -/
def STK (x1 : FVec Ideal S256x1024 .f32) (x2 : FVec Ideal S256x1024 .f32) (x3 : FVec Ideal S256x1024 .f32) (x4 : FVec Ideal S256x1024 .f32) : FVec Ideal S4x256x1024 .f32 :=
  concatenate S4x256x1024 0 [⟨S1x256x1024, (broadcastInDim S1x256x1024 ![1, 2] bcast_S256x1024_S1x256x1024_1_2 x1 : FVec Ideal S1x256x1024 .f32)⟩, ⟨S1x256x1024, (broadcastInDim S1x256x1024 ![1, 2] bcast_S256x1024_S1x256x1024_1_2 x2 : FVec Ideal S1x256x1024 .f32)⟩, ⟨S1x256x1024, (broadcastInDim S1x256x1024 ![1, 2] bcast_S256x1024_S1x256x1024_1_2 x3 : FVec Ideal S1x256x1024 .f32)⟩, ⟨S1x256x1024, (broadcastInDim S1x256x1024 ![1, 2] bcast_S256x1024_S1x256x1024_1_2 x4 : FVec Ideal S1x256x1024 .f32)⟩] concatenates_S1x256x1024_S1x256x1024_S1x256x1024_S1x256x1024_S4x256x1024_d0

theorem STK_apply0 (x1 : FVec Ideal S256x1024 .f32) (x2 : FVec Ideal S256x1024 .f32) (x3 : FVec Ideal S256x1024 .f32) (x4 : FVec Ideal S256x1024 .f32) (i : S4x256x1024.Idx) (j : S256x1024.Idx) (h0 : (i 0 : ℕ) = 0) (h1 : (i 1 : ℕ) = j 0) (h2 : (i 2 : ℕ) = j 1) :
    STK x1 x2 x3 x4 i = x1 j := by
  pointwise [STK, h0]
  exact congrArg x1 (funext fun d => Fin.ext (by fin_cases d <;> [exact h1; exact h2]))

theorem STK_apply1 (x1 : FVec Ideal S256x1024 .f32) (x2 : FVec Ideal S256x1024 .f32) (x3 : FVec Ideal S256x1024 .f32) (x4 : FVec Ideal S256x1024 .f32) (i : S4x256x1024.Idx) (j : S256x1024.Idx) (h0 : (i 0 : ℕ) = 1) (h1 : (i 1 : ℕ) = j 0) (h2 : (i 2 : ℕ) = j 1) :
    STK x1 x2 x3 x4 i = x2 j := by
  pointwise [STK, h0]
  exact congrArg x2 (funext fun d => Fin.ext (by fin_cases d <;> [exact h1; exact h2]))

theorem STK_apply2 (x1 : FVec Ideal S256x1024 .f32) (x2 : FVec Ideal S256x1024 .f32) (x3 : FVec Ideal S256x1024 .f32) (x4 : FVec Ideal S256x1024 .f32) (i : S4x256x1024.Idx) (j : S256x1024.Idx) (h0 : (i 0 : ℕ) = 2) (h1 : (i 1 : ℕ) = j 0) (h2 : (i 2 : ℕ) = j 1) :
    STK x1 x2 x3 x4 i = x3 j := by
  pointwise [STK, h0]
  exact congrArg x3 (funext fun d => Fin.ext (by fin_cases d <;> [exact h1; exact h2]))

theorem STK_apply3 (x1 : FVec Ideal S256x1024 .f32) (x2 : FVec Ideal S256x1024 .f32) (x3 : FVec Ideal S256x1024 .f32) (x4 : FVec Ideal S256x1024 .f32) (i : S4x256x1024.Idx) (j : S256x1024.Idx) (h0 : (i 0 : ℕ) = 3) (h1 : (i 1 : ℕ) = j 0) (h2 : (i 2 : ℕ) = j 1) :
    STK x1 x2 x3 x4 i = x4 j := by
  pointwise [STK, h0]
  exact congrArg x4 (funext fun d => Fin.ext (by fin_cases d <;> [exact h1; exact h2]))

/-- The reference's result 1 over its arguments. -/
def REF0 (x0 : FVec Ideal S4x256x1024 .f32) (x1 : FVec Ideal S4x256x1024 .f32) (x2 : FVec Ideal S4x256x1024 .f32) (x3 : FVec Ideal S4x256x1024 .f32) : FVec Ideal S4x256x1024 .f32 :=
  mulf (broadcastInDim S4x256x1024 ![] bcast_S_S4x256x1024 (constant S_ .f32 0xBA83126F#32)) (addf (Host.divf (Host.divf (addf (mulf (broadcastInDim S4x256x1024 ![] bcast_S_S4x256x1024 (constant S_ .f32 0x3F666666#32)) x2) (mulf (broadcastInDim S4x256x1024 ![] bcast_S_S4x256x1024 (constant S_ .f32 0x3DCCCCCD#32)) (x1))) (broadcastInDim S4x256x1024 ![] bcast_S_S4x256x1024 (constant S_ .f32 0x3F26BD02#32))) (addf (Host.sqrt (Host.divf (addf (mulf (broadcastInDim S4x256x1024 ![] bcast_S_S4x256x1024 (constant S_ .f32 0x3F7FBE77#32)) x3) (mulf (broadcastInDim S4x256x1024 ![] bcast_S_S4x256x1024 (constant S_ .f32 0x3A83126F#32)) (mulf (x1) (x1)))) (broadcastInDim S4x256x1024 ![] bcast_S_S4x256x1024 (constant S_ .f32 0x3C231ACC#32)))) (broadcastInDim S4x256x1024 ![] bcast_S_S4x256x1024 (constant S_ .f32 0x322BCC77#32)))) (mulf (broadcastInDim S4x256x1024 ![] bcast_S_S4x256x1024 (constant S_ .f32 0x3C23D70A#32)) x0))

theorem REF0_apply (x0 : FVec Ideal S4x256x1024 .f32) (x1 : FVec Ideal S4x256x1024 .f32) (x2 : FVec Ideal S4x256x1024 .f32) (x3 : FVec Ideal S4x256x1024 .f32) (i : S4x256x1024.Idx) :
    REF0 x0 x1 x2 x3 i = step (x0 i) (x1 i) (x2 i) (x3 i) := by
  pointwise [REF0, step, moment, square]

/-- The reference's result 2 over its arguments. -/
def REF1 (x0 : FVec Ideal S4x256x1024 .f32) (x1 : FVec Ideal S4x256x1024 .f32) (x2 : FVec Ideal S4x256x1024 .f32) (x3 : FVec Ideal S4x256x1024 .f32) : FVec Ideal S4x256x1024 .f32 :=
  addf (mulf (broadcastInDim S4x256x1024 ![] bcast_S_S4x256x1024 (constant S_ .f32 0x3F666666#32)) x2) (mulf (broadcastInDim S4x256x1024 ![] bcast_S_S4x256x1024 (constant S_ .f32 0x3DCCCCCD#32)) (x1))

theorem REF1_apply (x0 : FVec Ideal S4x256x1024 .f32) (x1 : FVec Ideal S4x256x1024 .f32) (x2 : FVec Ideal S4x256x1024 .f32) (x3 : FVec Ideal S4x256x1024 .f32) (i : S4x256x1024.Idx) :
    REF1 x0 x1 x2 x3 i = moment (x1 i) (x2 i) := by
  pointwise [REF1, moment]

/-- The reference's result 3 over its arguments. -/
def REF2 (x0 : FVec Ideal S4x256x1024 .f32) (x1 : FVec Ideal S4x256x1024 .f32) (x2 : FVec Ideal S4x256x1024 .f32) (x3 : FVec Ideal S4x256x1024 .f32) : FVec Ideal S4x256x1024 .f32 :=
  addf (mulf (broadcastInDim S4x256x1024 ![] bcast_S_S4x256x1024 (constant S_ .f32 0x3F7FBE77#32)) x3) (mulf (broadcastInDim S4x256x1024 ![] bcast_S_S4x256x1024 (constant S_ .f32 0x3A83126F#32)) (mulf (x1) (x1)))

theorem REF2_apply (x0 : FVec Ideal S4x256x1024 .f32) (x1 : FVec Ideal S4x256x1024 .f32) (x2 : FVec Ideal S4x256x1024 .f32) (x3 : FVec Ideal S4x256x1024 .f32) (i : S4x256x1024.Idx) :
    REF2 x0 x1 x2 x3 i = square (x1 i) (x3 i) := by
  pointwise [REF2, square]

end Cert.Reference27Ideal.Adam

namespace Cert.Kernel27Ideal.Adam
open Cert.Kernel27Ideal Cert.Kernel27Ideal.Gen
open Cert.Adam
open Cert.Reference27Ideal.Adam (STK STK_apply0 STK_apply1 STK_apply2 STK_apply3 REF0 REF1 REF2 REF0_apply REF1_apply REF2_apply)

variable (m : (ℓ : Loc nD τ sig) → Buf (Elt Ideal) ℓ)

/-- Which block of each array a grid point works on; of the gradients only the one of the point's own layer counts. -/
theorem index : ∀ t : Fin cfg0.N, (win0_7.index t = ![t.val, 0, 0] ∧ win0_8.index t = ![t.val, 0, 0] ∧ win0_9.index t = ![t.val, 0, 0] ∧ win0_10.index t = ![t.val, 0, 0])
    ∧ (t.val = 0 → win0_3.index t = ![0, 0]) ∧ (t.val = 1 → win0_4.index t = ![0, 0]) ∧ (t.val = 2 → win0_5.index t = ![0, 0]) ∧ (t.val = 3 → win0_6.index t = ![0, 0]) :=
  (by decide +kernel : ∀ t : Fin grid0.N, _)

theorem block0 (c : Dev nD) (t : Fin cfg0.N) (y : S1x256x1024.Idx) :
    iblk m c 0 t y = (m ((c : Thread nD τ).loc main_arg0) : Vec Ideal S4x256x1024 .f32) (((cfg0.win 7).blk t).view.emb y) := by
  rfl

theorem block1 (c : Dev nD) (t : Fin cfg0.N) (y : S1x256x1024.Idx) :
    iblk m c 1 t y = (m ((c : Thread nD τ).loc main_arg5) : Vec Ideal S4x256x1024 .f32) (((cfg0.win 7).blk t).view.emb y) := by
  rfl

theorem block2 (c : Dev nD) (t : Fin cfg0.N) (y : S1x256x1024.Idx) :
    iblk m c 2 t y = (m ((c : Thread nD τ).loc main_arg6) : Vec Ideal S4x256x1024 .f32) (((cfg0.win 7).blk t).view.emb y) := by
  rfl

theorem grad0 (c : Dev nD) (t : Fin cfg0.N) (h : t.val = 0) (y : S1x256x1024.Idx) :
    iblk m c 3 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 4 := lt_of_lt_of_eq t.isLt (show cfg0.N = 4 from N_0)
  refine Eq.trans ?_ (STK_apply0 _ _ _ _ _ (((cfg0.win 3).blk t).view.emb (ix2 (y 1) (y 2))) ?_ ?_ ?_).symm
  · rfl
  · blk_simp [(index t).1]; omega
  · blk_simp [(index t).1, (index t).2.1 h]
  · blk_simp [(index t).1, (index t).2.1 h]

theorem grad1 (c : Dev nD) (t : Fin cfg0.N) (h : t.val = 1) (y : S1x256x1024.Idx) :
    iblk m c 4 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 4 := lt_of_lt_of_eq t.isLt (show cfg0.N = 4 from N_0)
  refine Eq.trans ?_ (STK_apply1 _ _ _ _ _ (((cfg0.win 4).blk t).view.emb (ix2 (y 1) (y 2))) ?_ ?_ ?_).symm
  · rfl
  · blk_simp [(index t).1]; omega
  · blk_simp [(index t).1, (index t).2.2.1 h]
  · blk_simp [(index t).1, (index t).2.2.1 h]

theorem grad2 (c : Dev nD) (t : Fin cfg0.N) (h : t.val = 2) (y : S1x256x1024.Idx) :
    iblk m c 5 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 4 := lt_of_lt_of_eq t.isLt (show cfg0.N = 4 from N_0)
  refine Eq.trans ?_ (STK_apply2 _ _ _ _ _ (((cfg0.win 5).blk t).view.emb (ix2 (y 1) (y 2))) ?_ ?_ ?_).symm
  · rfl
  · blk_simp [(index t).1]; omega
  · blk_simp [(index t).1, (index t).2.2.2.1 h]
  · blk_simp [(index t).1, (index t).2.2.2.1 h]

theorem grad3 (c : Dev nD) (t : Fin cfg0.N) (h : t.val = 3) (y : S1x256x1024.Idx) :
    iblk m c 6 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 4 := lt_of_lt_of_eq t.isLt (show cfg0.N = 4 from N_0)
  refine Eq.trans ?_ (STK_apply3 _ _ _ _ _ (((cfg0.win 6).blk t).view.emb (ix2 (y 1) (y 2))) ?_ ?_ ?_).symm
  · rfl
  · blk_simp [(index t).1]; omega
  · blk_simp [(index t).1, (index t).2.2.2.2 h]
  · blk_simp [(index t).1, (index t).2.2.2.2 h]

theorem pay0_grad (x1 : Vec Ideal S256x1024 .f32) (y : S1x256x1024.Idx) : k0_pay13 x1 y = x1 (ix2 (y 1) (y 2)) := by
  pointwise [k0_pay13]

theorem pay0_step (x0 x2 x3 : Vec Ideal S1x256x1024 .f32) (x1 : Vec Ideal S256x1024 .f32) (y : S1x256x1024.Idx) :
    k0_pay1 (k0_pay16 x1 x0 x2 x3) y = step (x0 y) (x1 (ix2 (y 1) (y 2))) (x2 y) (x3 y) := by
  pointwise [k0_pay1, k0_pay14, k0_pay15, k0_pay16, step, moment, square]

theorem pay0_moment (x2 : Vec Ideal S1x256x1024 .f32) (x1 : Vec Ideal S256x1024 .f32) (y : S1x256x1024.Idx) :
    k0_pay2 (k0_pay14 x1 x2) y = moment (x1 (ix2 (y 1) (y 2))) (x2 y) := by
  pointwise [k0_pay2, k0_pay14, moment]

theorem pay0_square (x3 : Vec Ideal S1x256x1024 .f32) (x1 : Vec Ideal S256x1024 .f32) (y : S1x256x1024.Idx) :
    k0_pay3 (k0_pay15 x1 x3) y = square (x1 (ix2 (y 1) (y 2))) (x3 y) := by
  pointwise [k0_pay3, k0_pay15, square]

theorem pay1_grad (x1 : Vec Ideal S256x1024 .f32) (y : S1x256x1024.Idx) : k0_pay17 x1 y = x1 (ix2 (y 1) (y 2)) := by
  pointwise [k0_pay17]

theorem pay1_step (x0 x2 x3 : Vec Ideal S1x256x1024 .f32) (x1 : Vec Ideal S256x1024 .f32) (y : S1x256x1024.Idx) :
    k0_pay4 (k0_pay20 x1 x0 x2 x3) y = step (x0 y) (x1 (ix2 (y 1) (y 2))) (x2 y) (x3 y) := by
  pointwise [k0_pay4, k0_pay18, k0_pay19, k0_pay20, step, moment, square]

theorem pay1_moment (x2 : Vec Ideal S1x256x1024 .f32) (x1 : Vec Ideal S256x1024 .f32) (y : S1x256x1024.Idx) :
    k0_pay5 (k0_pay18 x1 x2) y = moment (x1 (ix2 (y 1) (y 2))) (x2 y) := by
  pointwise [k0_pay5, k0_pay18, moment]

theorem pay1_square (x3 : Vec Ideal S1x256x1024 .f32) (x1 : Vec Ideal S256x1024 .f32) (y : S1x256x1024.Idx) :
    k0_pay6 (k0_pay19 x1 x3) y = square (x1 (ix2 (y 1) (y 2))) (x3 y) := by
  pointwise [k0_pay6, k0_pay19, square]

theorem pay2_grad (x1 : Vec Ideal S256x1024 .f32) (y : S1x256x1024.Idx) : k0_pay21 x1 y = x1 (ix2 (y 1) (y 2)) := by
  pointwise [k0_pay21]

theorem pay2_step (x0 x2 x3 : Vec Ideal S1x256x1024 .f32) (x1 : Vec Ideal S256x1024 .f32) (y : S1x256x1024.Idx) :
    k0_pay7 (k0_pay24 x1 x0 x2 x3) y = step (x0 y) (x1 (ix2 (y 1) (y 2))) (x2 y) (x3 y) := by
  pointwise [k0_pay7, k0_pay22, k0_pay23, k0_pay24, step, moment, square]

theorem pay2_moment (x2 : Vec Ideal S1x256x1024 .f32) (x1 : Vec Ideal S256x1024 .f32) (y : S1x256x1024.Idx) :
    k0_pay8 (k0_pay22 x1 x2) y = moment (x1 (ix2 (y 1) (y 2))) (x2 y) := by
  pointwise [k0_pay8, k0_pay22, moment]

theorem pay2_square (x3 : Vec Ideal S1x256x1024 .f32) (x1 : Vec Ideal S256x1024 .f32) (y : S1x256x1024.Idx) :
    k0_pay9 (k0_pay23 x1 x3) y = square (x1 (ix2 (y 1) (y 2))) (x3 y) := by
  pointwise [k0_pay9, k0_pay23, square]

theorem pay3_grad (x1 : Vec Ideal S256x1024 .f32) (y : S1x256x1024.Idx) : k0_pay25 x1 y = x1 (ix2 (y 1) (y 2)) := by
  pointwise [k0_pay25]

theorem pay3_step (x0 x2 x3 : Vec Ideal S1x256x1024 .f32) (x1 : Vec Ideal S256x1024 .f32) (y : S1x256x1024.Idx) :
    k0_pay10 (k0_pay28 x1 x0 x2 x3) y = step (x0 y) (x1 (ix2 (y 1) (y 2))) (x2 y) (x3 y) := by
  pointwise [k0_pay10, k0_pay26, k0_pay27, k0_pay28, step, moment, square]

theorem pay3_moment (x2 : Vec Ideal S1x256x1024 .f32) (x1 : Vec Ideal S256x1024 .f32) (y : S1x256x1024.Idx) :
    k0_pay11 (k0_pay26 x1 x2) y = moment (x1 (ix2 (y 1) (y 2))) (x2 y) := by
  pointwise [k0_pay11, k0_pay26, moment]

theorem pay3_square (x3 : Vec Ideal S1x256x1024 .f32) (x1 : Vec Ideal S256x1024 .f32) (y : S1x256x1024.Idx) :
    k0_pay12 (k0_pay27 x1 x3) y = square (x1 (ix2 (y 1) (y 2))) (x3 y) := by
  pointwise [k0_pay12, k0_pay27, square]

/-- The stacked gradients. -/
theorem final0 (c : Dev nD) : (dats m 0 c).arrAt 7 (cfgs 0).N = (STK (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t _ y => ?_
  rw [after0_7]
  have hN : t.val < 4 := lt_of_lt_of_eq t.isLt (show cfg0.N = 4 from N_0)
  have h : t.val = 0 ∨ t.val = 1 ∨ t.val = 2 ∨ t.val = 3 := by omega
  rcases h with h | h | h | h
  · rw [outsAt0_A m c t (by omega) (by omega) (by omega) (by omega)]; frame_out
    exact (pay0_grad _ y).trans (grad0 m c t h y)
  · rw [outsAt0_B m c t (by omega) (by omega) (by omega) (by omega)]; frame_out
    exact (pay1_grad _ y).trans (grad1 m c t h y)
  · rw [outsAt0_C m c t (by omega) (by omega) (by omega) (by omega)]; frame_out
    exact (pay2_grad _ y).trans (grad2 m c t h y)
  · rw [outsAt0_D m c t (by omega) (by omega) (by omega) (by omega)]; frame_out
    exact (pay3_grad _ y).trans (grad3 m c t h y)

/-- The result array is the reference's. -/
theorem final1 (c : Dev nD) : (dats m 0 c).arrAt 8 (cfgs 0).N = REF0 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 8 _ (by decide +kernel) fun t _ y => ?_
  rw [after0_8]
  have hN : t.val < 4 := lt_of_lt_of_eq t.isLt (show cfg0.N = 4 from N_0)
  have h : t.val = 0 ∨ t.val = 1 ∨ t.val = 2 ∨ t.val = 3 := by omega
  rcases h with h | h | h | h
  · rw [outsAt0_A m c t (by omega) (by omega) (by omega) (by omega)]; frame_out
    refine (pay0_step _ _ _ _ y).trans (Eq.trans ?_ (REF0_apply _ _ _ _ _).symm)
    rw [block0 m c t y, block1 m c t y, block2 m c t y, grad0 m c t h y]
    rfl
  · rw [outsAt0_B m c t (by omega) (by omega) (by omega) (by omega)]; frame_out
    refine (pay1_step _ _ _ _ y).trans (Eq.trans ?_ (REF0_apply _ _ _ _ _).symm)
    rw [block0 m c t y, block1 m c t y, block2 m c t y, grad1 m c t h y]
    rfl
  · rw [outsAt0_C m c t (by omega) (by omega) (by omega) (by omega)]; frame_out
    refine (pay2_step _ _ _ _ y).trans (Eq.trans ?_ (REF0_apply _ _ _ _ _).symm)
    rw [block0 m c t y, block1 m c t y, block2 m c t y, grad2 m c t h y]
    rfl
  · rw [outsAt0_D m c t (by omega) (by omega) (by omega) (by omega)]; frame_out
    refine (pay3_step _ _ _ _ y).trans (Eq.trans ?_ (REF0_apply _ _ _ _ _).symm)
    rw [block0 m c t y, block1 m c t y, block2 m c t y, grad3 m c t h y]
    rfl

/-- The result array is the reference's. -/
theorem final2 (c : Dev nD) : (dats m 0 c).arrAt 9 (cfgs 0).N = REF1 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 9 _ (by decide +kernel) fun t _ y => ?_
  rw [after0_9]
  have hN : t.val < 4 := lt_of_lt_of_eq t.isLt (show cfg0.N = 4 from N_0)
  have h : t.val = 0 ∨ t.val = 1 ∨ t.val = 2 ∨ t.val = 3 := by omega
  rcases h with h | h | h | h
  · rw [outsAt0_A m c t (by omega) (by omega) (by omega) (by omega)]; frame_out
    refine (pay0_moment _ _ y).trans (Eq.trans ?_ (REF1_apply _ _ _ _ _).symm)
    rw [block1 m c t y, grad0 m c t h y]
    rfl
  · rw [outsAt0_B m c t (by omega) (by omega) (by omega) (by omega)]; frame_out
    refine (pay1_moment _ _ y).trans (Eq.trans ?_ (REF1_apply _ _ _ _ _).symm)
    rw [block1 m c t y, grad1 m c t h y]
    rfl
  · rw [outsAt0_C m c t (by omega) (by omega) (by omega) (by omega)]; frame_out
    refine (pay2_moment _ _ y).trans (Eq.trans ?_ (REF1_apply _ _ _ _ _).symm)
    rw [block1 m c t y, grad2 m c t h y]
    rfl
  · rw [outsAt0_D m c t (by omega) (by omega) (by omega) (by omega)]; frame_out
    refine (pay3_moment _ _ y).trans (Eq.trans ?_ (REF1_apply _ _ _ _ _).symm)
    rw [block1 m c t y, grad3 m c t h y]
    rfl

/-- The result array is the reference's. -/
theorem final3 (c : Dev nD) : (dats m 0 c).arrAt 10 (cfgs 0).N = REF2 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 10 _ (by decide +kernel) fun t _ y => ?_
  rw [after0_10]
  have hN : t.val < 4 := lt_of_lt_of_eq t.isLt (show cfg0.N = 4 from N_0)
  have h : t.val = 0 ∨ t.val = 1 ∨ t.val = 2 ∨ t.val = 3 := by omega
  rcases h with h | h | h | h
  · rw [outsAt0_A m c t (by omega) (by omega) (by omega) (by omega)]; frame_out
    refine (pay0_square _ _ y).trans (Eq.trans ?_ (REF2_apply _ _ _ _ _).symm)
    rw [block2 m c t y, grad0 m c t h y]
    rfl
  · rw [outsAt0_B m c t (by omega) (by omega) (by omega) (by omega)]; frame_out
    refine (pay1_square _ _ y).trans (Eq.trans ?_ (REF2_apply _ _ _ _ _).symm)
    rw [block2 m c t y, grad1 m c t h y]
    rfl
  · rw [outsAt0_C m c t (by omega) (by omega) (by omega) (by omega)]; frame_out
    refine (pay2_square _ _ y).trans (Eq.trans ?_ (REF2_apply _ _ _ _ _).symm)
    rw [block2 m c t y, grad2 m c t h y]
    rfl
  · rw [outsAt0_D m c t (by omega) (by omega) (by omega) (by omega)]; frame_out
    refine (pay3_square _ _ y).trans (Eq.trans ?_ (REF2_apply _ _ _ _ _).symm)
    rw [block2 m c t y, grad3 m c t h y]
    rfl

end Cert.Kernel27Ideal.Adam

namespace Cert.Proof27

theorem frame : Cert.quiescent_Kernel27 := fun m ρ _ => Cert.Kernel27.Gen.frame m ρ

theorem frameIdeal : Cert.quiescent_Kernel27Ideal := fun m ρ _ => Cert.Kernel27Ideal.Gen.frame m ρ

theorem frameReference : Cert.quiescent_Reference27Ideal := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

set_option maxHeartbeats 1600000 in
theorem algebraic : Cert.algebraic_Kernel27Ideal_Reference27Ideal := by
  pair_intro
  · run_from Cert.Kernel27Ideal.Gen.run_main m g
  · run_from Cert.Reference27Ideal.Value.run m' g'
    · obtain ⟨a0, a1, a2, a3, a4, a5, a6⟩ := hagree c
      show Cert.Reference27Ideal.Adam.STK _ _ _ _ = _
      simp only [a0, a1, a2, a3, a4, a5, a6]
      exact (Cert.Kernel27Ideal.Adam.final0 m c).symm
    · obtain ⟨a0, a1, a2, a3, a4, a5, a6⟩ := hagree c
      show Cert.Reference27Ideal.Adam.REF0 _ (Cert.Reference27Ideal.Adam.STK _ _ _ _) _ _ = _
      simp only [a0, a1, a2, a3, a4, a5, a6]
      exact (Cert.Kernel27Ideal.Adam.final1 m c).symm
    · obtain ⟨a0, a1, a2, a3, a4, a5, a6⟩ := hagree c
      show Cert.Reference27Ideal.Adam.REF1 (m (c.tc.loc Cert.Kernel27Ideal.main_arg0)) (Cert.Reference27Ideal.Adam.STK _ _ _ _) _ (m (c.tc.loc Cert.Kernel27Ideal.main_arg6)) = _
      simp only [a0, a1, a2, a3, a4, a5, a6]
      exact (Cert.Kernel27Ideal.Adam.final2 m c).symm
    · obtain ⟨a0, a1, a2, a3, a4, a5, a6⟩ := hagree c
      show Cert.Reference27Ideal.Adam.REF2 (m (c.tc.loc Cert.Kernel27Ideal.main_arg0)) (Cert.Reference27Ideal.Adam.STK _ _ _ _) (m (c.tc.loc Cert.Kernel27Ideal.main_arg5)) _ = _
      simp only [a0, a1, a2, a3, a4, a5, a6]
      exact (Cert.Kernel27Ideal.Adam.final3 m c).symm

end Cert.Proof27

end
-- ==== Proof.Optimiser28.lean ====
module

public import proofs.«01_k».proof.Defs
public import proofs.«01_k».proof.Proof.Gen.Kernel28.Frame
public import proofs.«01_k».proof.Proof.Gen.Kernel28Ideal.Frame
public import proofs.«01_k».proof.Proof.Gen.Reference28Ideal.Run
public import Idealize.ShloMosaic.Lib.Claim
public import Idealize.ShloMosaic.Lib.Pointwise
public import Idealize.ShloMosaic.Lib.Pipeline.ValueKit
public import proofs.«01_k».proof.Proof.Adam

/-!
The optimiser of w_ffn_in, and its gradient from those of the layers:
what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference28Ideal.Adam
open Cert.Reference28Ideal Cert.Reference28Ideal.Gen
open Cert.Adam

/-- The gradients of the layers on top of each other. -/
def STK (x1 : FVec Ideal S1024x1408 .f32) (x2 : FVec Ideal S1024x1408 .f32) (x3 : FVec Ideal S1024x1408 .f32) (x4 : FVec Ideal S1024x1408 .f32) : FVec Ideal S4x1024x1408 .f32 :=
  concatenate S4x1024x1408 0 [⟨S1x1024x1408, (broadcastInDim S1x1024x1408 ![1, 2] bcast_S1024x1408_S1x1024x1408_1_2 x1 : FVec Ideal S1x1024x1408 .f32)⟩, ⟨S1x1024x1408, (broadcastInDim S1x1024x1408 ![1, 2] bcast_S1024x1408_S1x1024x1408_1_2 x2 : FVec Ideal S1x1024x1408 .f32)⟩, ⟨S1x1024x1408, (broadcastInDim S1x1024x1408 ![1, 2] bcast_S1024x1408_S1x1024x1408_1_2 x3 : FVec Ideal S1x1024x1408 .f32)⟩, ⟨S1x1024x1408, (broadcastInDim S1x1024x1408 ![1, 2] bcast_S1024x1408_S1x1024x1408_1_2 x4 : FVec Ideal S1x1024x1408 .f32)⟩] concatenates_S1x1024x1408_S1x1024x1408_S1x1024x1408_S1x1024x1408_S4x1024x1408_d0

theorem STK_apply0 (x1 : FVec Ideal S1024x1408 .f32) (x2 : FVec Ideal S1024x1408 .f32) (x3 : FVec Ideal S1024x1408 .f32) (x4 : FVec Ideal S1024x1408 .f32) (i : S4x1024x1408.Idx) (j : S1024x1408.Idx) (h0 : (i 0 : ℕ) = 0) (h1 : (i 1 : ℕ) = j 0) (h2 : (i 2 : ℕ) = j 1) :
    STK x1 x2 x3 x4 i = x1 j := by
  pointwise [STK, h0]
  exact congrArg x1 (funext fun d => Fin.ext (by fin_cases d <;> [exact h1; exact h2]))

theorem STK_apply1 (x1 : FVec Ideal S1024x1408 .f32) (x2 : FVec Ideal S1024x1408 .f32) (x3 : FVec Ideal S1024x1408 .f32) (x4 : FVec Ideal S1024x1408 .f32) (i : S4x1024x1408.Idx) (j : S1024x1408.Idx) (h0 : (i 0 : ℕ) = 1) (h1 : (i 1 : ℕ) = j 0) (h2 : (i 2 : ℕ) = j 1) :
    STK x1 x2 x3 x4 i = x2 j := by
  pointwise [STK, h0]
  exact congrArg x2 (funext fun d => Fin.ext (by fin_cases d <;> [exact h1; exact h2]))

theorem STK_apply2 (x1 : FVec Ideal S1024x1408 .f32) (x2 : FVec Ideal S1024x1408 .f32) (x3 : FVec Ideal S1024x1408 .f32) (x4 : FVec Ideal S1024x1408 .f32) (i : S4x1024x1408.Idx) (j : S1024x1408.Idx) (h0 : (i 0 : ℕ) = 2) (h1 : (i 1 : ℕ) = j 0) (h2 : (i 2 : ℕ) = j 1) :
    STK x1 x2 x3 x4 i = x3 j := by
  pointwise [STK, h0]
  exact congrArg x3 (funext fun d => Fin.ext (by fin_cases d <;> [exact h1; exact h2]))

theorem STK_apply3 (x1 : FVec Ideal S1024x1408 .f32) (x2 : FVec Ideal S1024x1408 .f32) (x3 : FVec Ideal S1024x1408 .f32) (x4 : FVec Ideal S1024x1408 .f32) (i : S4x1024x1408.Idx) (j : S1024x1408.Idx) (h0 : (i 0 : ℕ) = 3) (h1 : (i 1 : ℕ) = j 0) (h2 : (i 2 : ℕ) = j 1) :
    STK x1 x2 x3 x4 i = x4 j := by
  pointwise [STK, h0]
  exact congrArg x4 (funext fun d => Fin.ext (by fin_cases d <;> [exact h1; exact h2]))

/-- The reference's result 1 over its arguments. -/
def REF0 (x0 : FVec Ideal S4x1024x1408 .f32) (x1 : FVec Ideal S4x1024x1408 .f32) (x2 : FVec Ideal S4x1024x1408 .f32) (x3 : FVec Ideal S4x1024x1408 .f32) : FVec Ideal S4x1024x1408 .f32 :=
  mulf (broadcastInDim S4x1024x1408 ![] bcast_S_S4x1024x1408 (constant S_ .f32 0xBA83126F#32)) (addf (Host.divf (Host.divf (addf (mulf (broadcastInDim S4x1024x1408 ![] bcast_S_S4x1024x1408 (constant S_ .f32 0x3F666666#32)) x2) (mulf (broadcastInDim S4x1024x1408 ![] bcast_S_S4x1024x1408 (constant S_ .f32 0x3DCCCCCD#32)) (x1))) (broadcastInDim S4x1024x1408 ![] bcast_S_S4x1024x1408 (constant S_ .f32 0x3F26BD02#32))) (addf (Host.sqrt (Host.divf (addf (mulf (broadcastInDim S4x1024x1408 ![] bcast_S_S4x1024x1408 (constant S_ .f32 0x3F7FBE77#32)) x3) (mulf (broadcastInDim S4x1024x1408 ![] bcast_S_S4x1024x1408 (constant S_ .f32 0x3A83126F#32)) (mulf (x1) (x1)))) (broadcastInDim S4x1024x1408 ![] bcast_S_S4x1024x1408 (constant S_ .f32 0x3C231ACC#32)))) (broadcastInDim S4x1024x1408 ![] bcast_S_S4x1024x1408 (constant S_ .f32 0x322BCC77#32)))) (mulf (broadcastInDim S4x1024x1408 ![] bcast_S_S4x1024x1408 (constant S_ .f32 0x3C23D70A#32)) x0))

theorem REF0_apply (x0 : FVec Ideal S4x1024x1408 .f32) (x1 : FVec Ideal S4x1024x1408 .f32) (x2 : FVec Ideal S4x1024x1408 .f32) (x3 : FVec Ideal S4x1024x1408 .f32) (i : S4x1024x1408.Idx) :
    REF0 x0 x1 x2 x3 i = step (x0 i) (x1 i) (x2 i) (x3 i) := by
  pointwise [REF0, step, moment, square]

/-- The reference's result 2 over its arguments. -/
def REF1 (x0 : FVec Ideal S4x1024x1408 .f32) (x1 : FVec Ideal S4x1024x1408 .f32) (x2 : FVec Ideal S4x1024x1408 .f32) (x3 : FVec Ideal S4x1024x1408 .f32) : FVec Ideal S4x1024x1408 .f32 :=
  addf (mulf (broadcastInDim S4x1024x1408 ![] bcast_S_S4x1024x1408 (constant S_ .f32 0x3F666666#32)) x2) (mulf (broadcastInDim S4x1024x1408 ![] bcast_S_S4x1024x1408 (constant S_ .f32 0x3DCCCCCD#32)) (x1))

theorem REF1_apply (x0 : FVec Ideal S4x1024x1408 .f32) (x1 : FVec Ideal S4x1024x1408 .f32) (x2 : FVec Ideal S4x1024x1408 .f32) (x3 : FVec Ideal S4x1024x1408 .f32) (i : S4x1024x1408.Idx) :
    REF1 x0 x1 x2 x3 i = moment (x1 i) (x2 i) := by
  pointwise [REF1, moment]

/-- The reference's result 3 over its arguments. -/
def REF2 (x0 : FVec Ideal S4x1024x1408 .f32) (x1 : FVec Ideal S4x1024x1408 .f32) (x2 : FVec Ideal S4x1024x1408 .f32) (x3 : FVec Ideal S4x1024x1408 .f32) : FVec Ideal S4x1024x1408 .f32 :=
  addf (mulf (broadcastInDim S4x1024x1408 ![] bcast_S_S4x1024x1408 (constant S_ .f32 0x3F7FBE77#32)) x3) (mulf (broadcastInDim S4x1024x1408 ![] bcast_S_S4x1024x1408 (constant S_ .f32 0x3A83126F#32)) (mulf (x1) (x1)))

theorem REF2_apply (x0 : FVec Ideal S4x1024x1408 .f32) (x1 : FVec Ideal S4x1024x1408 .f32) (x2 : FVec Ideal S4x1024x1408 .f32) (x3 : FVec Ideal S4x1024x1408 .f32) (i : S4x1024x1408.Idx) :
    REF2 x0 x1 x2 x3 i = square (x1 i) (x3 i) := by
  pointwise [REF2, square]

end Cert.Reference28Ideal.Adam

namespace Cert.Kernel28Ideal.Adam
open Cert.Kernel28Ideal Cert.Kernel28Ideal.Gen
open Cert.Adam
open Cert.Reference28Ideal.Adam (STK STK_apply0 STK_apply1 STK_apply2 STK_apply3 REF0 REF1 REF2 REF0_apply REF1_apply REF2_apply)

variable (m : (ℓ : Loc nD τ sig) → Buf (Elt Ideal) ℓ)

/-- Which block of each array a grid point works on; of the gradients only the one of the point's own layer counts. -/
theorem index : ∀ t : Fin cfg0.N, (win0_7.index t = ![t.val / 4, t.val % 4, 0] ∧ win0_8.index t = ![t.val / 4, t.val % 4, 0] ∧ win0_9.index t = ![t.val / 4, t.val % 4, 0] ∧ win0_10.index t = ![t.val / 4, t.val % 4, 0])
    ∧ (t.val / 4 = 0 → win0_3.index t = ![t.val % 4, 0]) ∧ (t.val / 4 = 1 → win0_4.index t = ![t.val % 4, 0]) ∧ (t.val / 4 = 2 → win0_5.index t = ![t.val % 4, 0]) ∧ (t.val / 4 = 3 → win0_6.index t = ![t.val % 4, 0]) :=
  (by decide +kernel : ∀ t : Fin grid0.N, _)

theorem block0 (c : Dev nD) (t : Fin cfg0.N) (y : S1x256x1408.Idx) :
    iblk m c 0 t y = (m ((c : Thread nD τ).loc main_arg0) : Vec Ideal S4x1024x1408 .f32) (((cfg0.win 7).blk t).view.emb y) := by
  rfl

theorem block1 (c : Dev nD) (t : Fin cfg0.N) (y : S1x256x1408.Idx) :
    iblk m c 1 t y = (m ((c : Thread nD τ).loc main_arg5) : Vec Ideal S4x1024x1408 .f32) (((cfg0.win 7).blk t).view.emb y) := by
  rfl

theorem block2 (c : Dev nD) (t : Fin cfg0.N) (y : S1x256x1408.Idx) :
    iblk m c 2 t y = (m ((c : Thread nD τ).loc main_arg6) : Vec Ideal S4x1024x1408 .f32) (((cfg0.win 7).blk t).view.emb y) := by
  rfl

theorem grad0 (c : Dev nD) (t : Fin cfg0.N) (h : t.val / 4 = 0) (y : S1x256x1408.Idx) :
    iblk m c 3 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 16 := lt_of_lt_of_eq t.isLt (show cfg0.N = 16 from N_0)
  refine Eq.trans ?_ (STK_apply0 _ _ _ _ _ (((cfg0.win 3).blk t).view.emb (ix2 (y 1) (y 2))) ?_ ?_ ?_).symm
  · rfl
  · blk_simp [(index t).1]; omega
  · blk_simp [(index t).1, (index t).2.1 h]
  · blk_simp [(index t).1, (index t).2.1 h]

theorem grad1 (c : Dev nD) (t : Fin cfg0.N) (h : t.val / 4 = 1) (y : S1x256x1408.Idx) :
    iblk m c 4 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 16 := lt_of_lt_of_eq t.isLt (show cfg0.N = 16 from N_0)
  refine Eq.trans ?_ (STK_apply1 _ _ _ _ _ (((cfg0.win 4).blk t).view.emb (ix2 (y 1) (y 2))) ?_ ?_ ?_).symm
  · rfl
  · blk_simp [(index t).1]; omega
  · blk_simp [(index t).1, (index t).2.2.1 h]
  · blk_simp [(index t).1, (index t).2.2.1 h]

theorem grad2 (c : Dev nD) (t : Fin cfg0.N) (h : t.val / 4 = 2) (y : S1x256x1408.Idx) :
    iblk m c 5 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 16 := lt_of_lt_of_eq t.isLt (show cfg0.N = 16 from N_0)
  refine Eq.trans ?_ (STK_apply2 _ _ _ _ _ (((cfg0.win 5).blk t).view.emb (ix2 (y 1) (y 2))) ?_ ?_ ?_).symm
  · rfl
  · blk_simp [(index t).1]; omega
  · blk_simp [(index t).1, (index t).2.2.2.1 h]
  · blk_simp [(index t).1, (index t).2.2.2.1 h]

theorem grad3 (c : Dev nD) (t : Fin cfg0.N) (h : t.val / 4 = 3) (y : S1x256x1408.Idx) :
    iblk m c 6 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 16 := lt_of_lt_of_eq t.isLt (show cfg0.N = 16 from N_0)
  refine Eq.trans ?_ (STK_apply3 _ _ _ _ _ (((cfg0.win 6).blk t).view.emb (ix2 (y 1) (y 2))) ?_ ?_ ?_).symm
  · rfl
  · blk_simp [(index t).1]; omega
  · blk_simp [(index t).1, (index t).2.2.2.2 h]
  · blk_simp [(index t).1, (index t).2.2.2.2 h]

theorem pay0_grad (x1 : Vec Ideal S256x1408 .f32) (y : S1x256x1408.Idx) : k0_pay13 x1 y = x1 (ix2 (y 1) (y 2)) := by
  pointwise [k0_pay13]

theorem pay0_step (x0 x2 x3 : Vec Ideal S1x256x1408 .f32) (x1 : Vec Ideal S256x1408 .f32) (y : S1x256x1408.Idx) :
    k0_pay1 (k0_pay16 x1 x0 x2 x3) y = step (x0 y) (x1 (ix2 (y 1) (y 2))) (x2 y) (x3 y) := by
  pointwise [k0_pay1, k0_pay14, k0_pay15, k0_pay16, step, moment, square]

theorem pay0_moment (x2 : Vec Ideal S1x256x1408 .f32) (x1 : Vec Ideal S256x1408 .f32) (y : S1x256x1408.Idx) :
    k0_pay2 (k0_pay14 x1 x2) y = moment (x1 (ix2 (y 1) (y 2))) (x2 y) := by
  pointwise [k0_pay2, k0_pay14, moment]

theorem pay0_square (x3 : Vec Ideal S1x256x1408 .f32) (x1 : Vec Ideal S256x1408 .f32) (y : S1x256x1408.Idx) :
    k0_pay3 (k0_pay15 x1 x3) y = square (x1 (ix2 (y 1) (y 2))) (x3 y) := by
  pointwise [k0_pay3, k0_pay15, square]

theorem pay1_grad (x1 : Vec Ideal S256x1408 .f32) (y : S1x256x1408.Idx) : k0_pay17 x1 y = x1 (ix2 (y 1) (y 2)) := by
  pointwise [k0_pay17]

theorem pay1_step (x0 x2 x3 : Vec Ideal S1x256x1408 .f32) (x1 : Vec Ideal S256x1408 .f32) (y : S1x256x1408.Idx) :
    k0_pay4 (k0_pay20 x1 x0 x2 x3) y = step (x0 y) (x1 (ix2 (y 1) (y 2))) (x2 y) (x3 y) := by
  pointwise [k0_pay4, k0_pay18, k0_pay19, k0_pay20, step, moment, square]

theorem pay1_moment (x2 : Vec Ideal S1x256x1408 .f32) (x1 : Vec Ideal S256x1408 .f32) (y : S1x256x1408.Idx) :
    k0_pay5 (k0_pay18 x1 x2) y = moment (x1 (ix2 (y 1) (y 2))) (x2 y) := by
  pointwise [k0_pay5, k0_pay18, moment]

theorem pay1_square (x3 : Vec Ideal S1x256x1408 .f32) (x1 : Vec Ideal S256x1408 .f32) (y : S1x256x1408.Idx) :
    k0_pay6 (k0_pay19 x1 x3) y = square (x1 (ix2 (y 1) (y 2))) (x3 y) := by
  pointwise [k0_pay6, k0_pay19, square]

theorem pay2_grad (x1 : Vec Ideal S256x1408 .f32) (y : S1x256x1408.Idx) : k0_pay21 x1 y = x1 (ix2 (y 1) (y 2)) := by
  pointwise [k0_pay21]

theorem pay2_step (x0 x2 x3 : Vec Ideal S1x256x1408 .f32) (x1 : Vec Ideal S256x1408 .f32) (y : S1x256x1408.Idx) :
    k0_pay7 (k0_pay24 x1 x0 x2 x3) y = step (x0 y) (x1 (ix2 (y 1) (y 2))) (x2 y) (x3 y) := by
  pointwise [k0_pay7, k0_pay22, k0_pay23, k0_pay24, step, moment, square]

theorem pay2_moment (x2 : Vec Ideal S1x256x1408 .f32) (x1 : Vec Ideal S256x1408 .f32) (y : S1x256x1408.Idx) :
    k0_pay8 (k0_pay22 x1 x2) y = moment (x1 (ix2 (y 1) (y 2))) (x2 y) := by
  pointwise [k0_pay8, k0_pay22, moment]

theorem pay2_square (x3 : Vec Ideal S1x256x1408 .f32) (x1 : Vec Ideal S256x1408 .f32) (y : S1x256x1408.Idx) :
    k0_pay9 (k0_pay23 x1 x3) y = square (x1 (ix2 (y 1) (y 2))) (x3 y) := by
  pointwise [k0_pay9, k0_pay23, square]

theorem pay3_grad (x1 : Vec Ideal S256x1408 .f32) (y : S1x256x1408.Idx) : k0_pay25 x1 y = x1 (ix2 (y 1) (y 2)) := by
  pointwise [k0_pay25]

theorem pay3_step (x0 x2 x3 : Vec Ideal S1x256x1408 .f32) (x1 : Vec Ideal S256x1408 .f32) (y : S1x256x1408.Idx) :
    k0_pay10 (k0_pay28 x1 x0 x2 x3) y = step (x0 y) (x1 (ix2 (y 1) (y 2))) (x2 y) (x3 y) := by
  pointwise [k0_pay10, k0_pay26, k0_pay27, k0_pay28, step, moment, square]

theorem pay3_moment (x2 : Vec Ideal S1x256x1408 .f32) (x1 : Vec Ideal S256x1408 .f32) (y : S1x256x1408.Idx) :
    k0_pay11 (k0_pay26 x1 x2) y = moment (x1 (ix2 (y 1) (y 2))) (x2 y) := by
  pointwise [k0_pay11, k0_pay26, moment]

theorem pay3_square (x3 : Vec Ideal S1x256x1408 .f32) (x1 : Vec Ideal S256x1408 .f32) (y : S1x256x1408.Idx) :
    k0_pay12 (k0_pay27 x1 x3) y = square (x1 (ix2 (y 1) (y 2))) (x3 y) := by
  pointwise [k0_pay12, k0_pay27, square]

/-- The stacked gradients. -/
theorem final0 (c : Dev nD) : (dats m 0 c).arrAt 7 (cfgs 0).N = (STK (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t _ y => ?_
  rw [after0_7]
  have hN : t.val < 16 := lt_of_lt_of_eq t.isLt (show cfg0.N = 16 from N_0)
  have h : t.val / 4 = 0 ∨ t.val / 4 = 1 ∨ t.val / 4 = 2 ∨ t.val / 4 = 3 := by omega
  rcases h with h | h | h | h
  · rw [outsAt0_A m c t (by omega) (by omega) (by omega) (by omega)]; frame_out
    exact (pay0_grad _ y).trans (grad0 m c t h y)
  · rw [outsAt0_B m c t (by omega) (by omega) (by omega) (by omega)]; frame_out
    exact (pay1_grad _ y).trans (grad1 m c t h y)
  · rw [outsAt0_C m c t (by omega) (by omega) (by omega) (by omega)]; frame_out
    exact (pay2_grad _ y).trans (grad2 m c t h y)
  · rw [outsAt0_D m c t (by omega) (by omega) (by omega) (by omega)]; frame_out
    exact (pay3_grad _ y).trans (grad3 m c t h y)

/-- The result array is the reference's. -/
theorem final1 (c : Dev nD) : (dats m 0 c).arrAt 8 (cfgs 0).N = REF0 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 8 _ (by decide +kernel) fun t _ y => ?_
  rw [after0_8]
  have hN : t.val < 16 := lt_of_lt_of_eq t.isLt (show cfg0.N = 16 from N_0)
  have h : t.val / 4 = 0 ∨ t.val / 4 = 1 ∨ t.val / 4 = 2 ∨ t.val / 4 = 3 := by omega
  rcases h with h | h | h | h
  · rw [outsAt0_A m c t (by omega) (by omega) (by omega) (by omega)]; frame_out
    refine (pay0_step _ _ _ _ y).trans (Eq.trans ?_ (REF0_apply _ _ _ _ _).symm)
    rw [block0 m c t y, block1 m c t y, block2 m c t y, grad0 m c t h y]
    rfl
  · rw [outsAt0_B m c t (by omega) (by omega) (by omega) (by omega)]; frame_out
    refine (pay1_step _ _ _ _ y).trans (Eq.trans ?_ (REF0_apply _ _ _ _ _).symm)
    rw [block0 m c t y, block1 m c t y, block2 m c t y, grad1 m c t h y]
    rfl
  · rw [outsAt0_C m c t (by omega) (by omega) (by omega) (by omega)]; frame_out
    refine (pay2_step _ _ _ _ y).trans (Eq.trans ?_ (REF0_apply _ _ _ _ _).symm)
    rw [block0 m c t y, block1 m c t y, block2 m c t y, grad2 m c t h y]
    rfl
  · rw [outsAt0_D m c t (by omega) (by omega) (by omega) (by omega)]; frame_out
    refine (pay3_step _ _ _ _ y).trans (Eq.trans ?_ (REF0_apply _ _ _ _ _).symm)
    rw [block0 m c t y, block1 m c t y, block2 m c t y, grad3 m c t h y]
    rfl

/-- The result array is the reference's. -/
theorem final2 (c : Dev nD) : (dats m 0 c).arrAt 9 (cfgs 0).N = REF1 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 9 _ (by decide +kernel) fun t _ y => ?_
  rw [after0_9]
  have hN : t.val < 16 := lt_of_lt_of_eq t.isLt (show cfg0.N = 16 from N_0)
  have h : t.val / 4 = 0 ∨ t.val / 4 = 1 ∨ t.val / 4 = 2 ∨ t.val / 4 = 3 := by omega
  rcases h with h | h | h | h
  · rw [outsAt0_A m c t (by omega) (by omega) (by omega) (by omega)]; frame_out
    refine (pay0_moment _ _ y).trans (Eq.trans ?_ (REF1_apply _ _ _ _ _).symm)
    rw [block1 m c t y, grad0 m c t h y]
    rfl
  · rw [outsAt0_B m c t (by omega) (by omega) (by omega) (by omega)]; frame_out
    refine (pay1_moment _ _ y).trans (Eq.trans ?_ (REF1_apply _ _ _ _ _).symm)
    rw [block1 m c t y, grad1 m c t h y]
    rfl
  · rw [outsAt0_C m c t (by omega) (by omega) (by omega) (by omega)]; frame_out
    refine (pay2_moment _ _ y).trans (Eq.trans ?_ (REF1_apply _ _ _ _ _).symm)
    rw [block1 m c t y, grad2 m c t h y]
    rfl
  · rw [outsAt0_D m c t (by omega) (by omega) (by omega) (by omega)]; frame_out
    refine (pay3_moment _ _ y).trans (Eq.trans ?_ (REF1_apply _ _ _ _ _).symm)
    rw [block1 m c t y, grad3 m c t h y]
    rfl

/-- The result array is the reference's. -/
theorem final3 (c : Dev nD) : (dats m 0 c).arrAt 10 (cfgs 0).N = REF2 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 10 _ (by decide +kernel) fun t _ y => ?_
  rw [after0_10]
  have hN : t.val < 16 := lt_of_lt_of_eq t.isLt (show cfg0.N = 16 from N_0)
  have h : t.val / 4 = 0 ∨ t.val / 4 = 1 ∨ t.val / 4 = 2 ∨ t.val / 4 = 3 := by omega
  rcases h with h | h | h | h
  · rw [outsAt0_A m c t (by omega) (by omega) (by omega) (by omega)]; frame_out
    refine (pay0_square _ _ y).trans (Eq.trans ?_ (REF2_apply _ _ _ _ _).symm)
    rw [block2 m c t y, grad0 m c t h y]
    rfl
  · rw [outsAt0_B m c t (by omega) (by omega) (by omega) (by omega)]; frame_out
    refine (pay1_square _ _ y).trans (Eq.trans ?_ (REF2_apply _ _ _ _ _).symm)
    rw [block2 m c t y, grad1 m c t h y]
    rfl
  · rw [outsAt0_C m c t (by omega) (by omega) (by omega) (by omega)]; frame_out
    refine (pay2_square _ _ y).trans (Eq.trans ?_ (REF2_apply _ _ _ _ _).symm)
    rw [block2 m c t y, grad2 m c t h y]
    rfl
  · rw [outsAt0_D m c t (by omega) (by omega) (by omega) (by omega)]; frame_out
    refine (pay3_square _ _ y).trans (Eq.trans ?_ (REF2_apply _ _ _ _ _).symm)
    rw [block2 m c t y, grad3 m c t h y]
    rfl

end Cert.Kernel28Ideal.Adam

namespace Cert.Proof28

theorem frame : Cert.quiescent_Kernel28 := fun m ρ _ => Cert.Kernel28.Gen.frame m ρ

theorem frameIdeal : Cert.quiescent_Kernel28Ideal := fun m ρ _ => Cert.Kernel28Ideal.Gen.frame m ρ

theorem frameReference : Cert.quiescent_Reference28Ideal := fun m ρ _ =>
  (θ_run Cert.Reference28Ideal.defs _ _).mono (fun r h => ⟨fun c => (h c).2.2.2.2, sem_eq_zero_of_no_sems (by decide) r.2⟩)
    (Cert.Reference28Ideal.Value.run (F := Ideal) m ρ)

set_option maxHeartbeats 1600000 in
theorem algebraic : Cert.algebraic_Kernel28Ideal_Reference28Ideal := by
  pair_intro
  · run_from Cert.Kernel28Ideal.Gen.run_main m g
  · run_from Cert.Reference28Ideal.Value.run m' g'
    · obtain ⟨a0, a1, a2, a3, a4, a5, a6⟩ := hagree c
      show Cert.Reference28Ideal.Adam.STK _ _ _ _ = _
      simp only [a0, a1, a2, a3, a4, a5, a6]
      exact (Cert.Kernel28Ideal.Adam.final0 m c).symm
    · obtain ⟨a0, a1, a2, a3, a4, a5, a6⟩ := hagree c
      show Cert.Reference28Ideal.Adam.REF0 _ (Cert.Reference28Ideal.Adam.STK _ _ _ _) _ _ = _
      simp only [a0, a1, a2, a3, a4, a5, a6]
      exact (Cert.Kernel28Ideal.Adam.final1 m c).symm
    · obtain ⟨a0, a1, a2, a3, a4, a5, a6⟩ := hagree c
      show Cert.Reference28Ideal.Adam.REF1 (m (c.tc.loc Cert.Kernel28Ideal.main_arg0)) (Cert.Reference28Ideal.Adam.STK _ _ _ _) _ (m (c.tc.loc Cert.Kernel28Ideal.main_arg6)) = _
      simp only [a0, a1, a2, a3, a4, a5, a6]
      exact (Cert.Kernel28Ideal.Adam.final2 m c).symm
    · obtain ⟨a0, a1, a2, a3, a4, a5, a6⟩ := hagree c
      show Cert.Reference28Ideal.Adam.REF2 (m (c.tc.loc Cert.Kernel28Ideal.main_arg0)) (Cert.Reference28Ideal.Adam.STK _ _ _ _) (m (c.tc.loc Cert.Kernel28Ideal.main_arg5)) _ = _
      simp only [a0, a1, a2, a3, a4, a5, a6]
      exact (Cert.Kernel28Ideal.Adam.final3 m c).symm

end Cert.Proof28

end
-- ==== Proof.Optimiser29.lean ====
module

public import proofs.«01_k».proof.Defs
public import proofs.«01_k».proof.Proof.Gen.Kernel29.Frame
public import proofs.«01_k».proof.Proof.Gen.Kernel29Ideal.Frame
public import proofs.«01_k».proof.Proof.Gen.Reference29Ideal.Run
public import Idealize.ShloMosaic.Lib.Claim
public import Idealize.ShloMosaic.Lib.Pointwise
public import Idealize.ShloMosaic.Lib.Pipeline.ValueKit
public import proofs.«01_k».proof.Proof.Adam

/-!
The optimiser of w_ffn_out, and its gradient from those of the layers:
what a block ends holding, what the result arrays hold, and the equation with the plain step.
-/

@[expose] public section

set_option maxRecDepth 16384

noncomputable section

open Idealize.ShloMosaic Idealize.ShloMosaic.TcCoe Idealize.SL.Sem
open Idealize.ShloMosaic.Pipeline (Dat)

namespace Cert.Reference29Ideal.Adam
open Cert.Reference29Ideal Cert.Reference29Ideal.Gen
open Cert.Adam

/-- The gradients of the layers on top of each other. -/
def STK (x1 : FVec Ideal S704x1024 .f32) (x2 : FVec Ideal S704x1024 .f32) (x3 : FVec Ideal S704x1024 .f32) (x4 : FVec Ideal S704x1024 .f32) : FVec Ideal S4x704x1024 .f32 :=
  concatenate S4x704x1024 0 [⟨S1x704x1024, (broadcastInDim S1x704x1024 ![1, 2] bcast_S704x1024_S1x704x1024_1_2 x1 : FVec Ideal S1x704x1024 .f32)⟩, ⟨S1x704x1024, (broadcastInDim S1x704x1024 ![1, 2] bcast_S704x1024_S1x704x1024_1_2 x2 : FVec Ideal S1x704x1024 .f32)⟩, ⟨S1x704x1024, (broadcastInDim S1x704x1024 ![1, 2] bcast_S704x1024_S1x704x1024_1_2 x3 : FVec Ideal S1x704x1024 .f32)⟩, ⟨S1x704x1024, (broadcastInDim S1x704x1024 ![1, 2] bcast_S704x1024_S1x704x1024_1_2 x4 : FVec Ideal S1x704x1024 .f32)⟩] concatenates_S1x704x1024_S1x704x1024_S1x704x1024_S1x704x1024_S4x704x1024_d0

theorem STK_apply0 (x1 : FVec Ideal S704x1024 .f32) (x2 : FVec Ideal S704x1024 .f32) (x3 : FVec Ideal S704x1024 .f32) (x4 : FVec Ideal S704x1024 .f32) (i : S4x704x1024.Idx) (j : S704x1024.Idx) (h0 : (i 0 : ℕ) = 0) (h1 : (i 1 : ℕ) = j 0) (h2 : (i 2 : ℕ) = j 1) :
    STK x1 x2 x3 x4 i = x1 j := by
  pointwise [STK, h0]
  exact congrArg x1 (funext fun d => Fin.ext (by fin_cases d <;> [exact h1; exact h2]))

theorem STK_apply1 (x1 : FVec Ideal S704x1024 .f32) (x2 : FVec Ideal S704x1024 .f32) (x3 : FVec Ideal S704x1024 .f32) (x4 : FVec Ideal S704x1024 .f32) (i : S4x704x1024.Idx) (j : S704x1024.Idx) (h0 : (i 0 : ℕ) = 1) (h1 : (i 1 : ℕ) = j 0) (h2 : (i 2 : ℕ) = j 1) :
    STK x1 x2 x3 x4 i = x2 j := by
  pointwise [STK, h0]
  exact congrArg x2 (funext fun d => Fin.ext (by fin_cases d <;> [exact h1; exact h2]))

theorem STK_apply2 (x1 : FVec Ideal S704x1024 .f32) (x2 : FVec Ideal S704x1024 .f32) (x3 : FVec Ideal S704x1024 .f32) (x4 : FVec Ideal S704x1024 .f32) (i : S4x704x1024.Idx) (j : S704x1024.Idx) (h0 : (i 0 : ℕ) = 2) (h1 : (i 1 : ℕ) = j 0) (h2 : (i 2 : ℕ) = j 1) :
    STK x1 x2 x3 x4 i = x3 j := by
  pointwise [STK, h0]
  exact congrArg x3 (funext fun d => Fin.ext (by fin_cases d <;> [exact h1; exact h2]))

theorem STK_apply3 (x1 : FVec Ideal S704x1024 .f32) (x2 : FVec Ideal S704x1024 .f32) (x3 : FVec Ideal S704x1024 .f32) (x4 : FVec Ideal S704x1024 .f32) (i : S4x704x1024.Idx) (j : S704x1024.Idx) (h0 : (i 0 : ℕ) = 3) (h1 : (i 1 : ℕ) = j 0) (h2 : (i 2 : ℕ) = j 1) :
    STK x1 x2 x3 x4 i = x4 j := by
  pointwise [STK, h0]
  exact congrArg x4 (funext fun d => Fin.ext (by fin_cases d <;> [exact h1; exact h2]))

/-- The reference's result 1 over its arguments. -/
def REF0 (x0 : FVec Ideal S4x704x1024 .f32) (x1 : FVec Ideal S4x704x1024 .f32) (x2 : FVec Ideal S4x704x1024 .f32) (x3 : FVec Ideal S4x704x1024 .f32) : FVec Ideal S4x704x1024 .f32 :=
  mulf (broadcastInDim S4x704x1024 ![] bcast_S_S4x704x1024 (constant S_ .f32 0xBA83126F#32)) (addf (Host.divf (Host.divf (addf (mulf (broadcastInDim S4x704x1024 ![] bcast_S_S4x704x1024 (constant S_ .f32 0x3F666666#32)) x2) (mulf (broadcastInDim S4x704x1024 ![] bcast_S_S4x704x1024 (constant S_ .f32 0x3DCCCCCD#32)) (x1))) (broadcastInDim S4x704x1024 ![] bcast_S_S4x704x1024 (constant S_ .f32 0x3F26BD02#32))) (addf (Host.sqrt (Host.divf (addf (mulf (broadcastInDim S4x704x1024 ![] bcast_S_S4x704x1024 (constant S_ .f32 0x3F7FBE77#32)) x3) (mulf (broadcastInDim S4x704x1024 ![] bcast_S_S4x704x1024 (constant S_ .f32 0x3A83126F#32)) (mulf (x1) (x1)))) (broadcastInDim S4x704x1024 ![] bcast_S_S4x704x1024 (constant S_ .f32 0x3C231ACC#32)))) (broadcastInDim S4x704x1024 ![] bcast_S_S4x704x1024 (constant S_ .f32 0x322BCC77#32)))) (mulf (broadcastInDim S4x704x1024 ![] bcast_S_S4x704x1024 (constant S_ .f32 0x3C23D70A#32)) x0))

theorem REF0_apply (x0 : FVec Ideal S4x704x1024 .f32) (x1 : FVec Ideal S4x704x1024 .f32) (x2 : FVec Ideal S4x704x1024 .f32) (x3 : FVec Ideal S4x704x1024 .f32) (i : S4x704x1024.Idx) :
    REF0 x0 x1 x2 x3 i = step (x0 i) (x1 i) (x2 i) (x3 i) := by
  pointwise [REF0, step, moment, square]

/-- The reference's result 2 over its arguments. -/
def REF1 (x0 : FVec Ideal S4x704x1024 .f32) (x1 : FVec Ideal S4x704x1024 .f32) (x2 : FVec Ideal S4x704x1024 .f32) (x3 : FVec Ideal S4x704x1024 .f32) : FVec Ideal S4x704x1024 .f32 :=
  addf (mulf (broadcastInDim S4x704x1024 ![] bcast_S_S4x704x1024 (constant S_ .f32 0x3F666666#32)) x2) (mulf (broadcastInDim S4x704x1024 ![] bcast_S_S4x704x1024 (constant S_ .f32 0x3DCCCCCD#32)) (x1))

theorem REF1_apply (x0 : FVec Ideal S4x704x1024 .f32) (x1 : FVec Ideal S4x704x1024 .f32) (x2 : FVec Ideal S4x704x1024 .f32) (x3 : FVec Ideal S4x704x1024 .f32) (i : S4x704x1024.Idx) :
    REF1 x0 x1 x2 x3 i = moment (x1 i) (x2 i) := by
  pointwise [REF1, moment]

/-- The reference's result 3 over its arguments. -/
def REF2 (x0 : FVec Ideal S4x704x1024 .f32) (x1 : FVec Ideal S4x704x1024 .f32) (x2 : FVec Ideal S4x704x1024 .f32) (x3 : FVec Ideal S4x704x1024 .f32) : FVec Ideal S4x704x1024 .f32 :=
  addf (mulf (broadcastInDim S4x704x1024 ![] bcast_S_S4x704x1024 (constant S_ .f32 0x3F7FBE77#32)) x3) (mulf (broadcastInDim S4x704x1024 ![] bcast_S_S4x704x1024 (constant S_ .f32 0x3A83126F#32)) (mulf (x1) (x1)))

theorem REF2_apply (x0 : FVec Ideal S4x704x1024 .f32) (x1 : FVec Ideal S4x704x1024 .f32) (x2 : FVec Ideal S4x704x1024 .f32) (x3 : FVec Ideal S4x704x1024 .f32) (i : S4x704x1024.Idx) :
    REF2 x0 x1 x2 x3 i = square (x1 i) (x3 i) := by
  pointwise [REF2, square]

end Cert.Reference29Ideal.Adam

namespace Cert.Kernel29Ideal.Adam
open Cert.Kernel29Ideal Cert.Kernel29Ideal.Gen
open Cert.Adam
open Cert.Reference29Ideal.Adam (STK STK_apply0 STK_apply1 STK_apply2 STK_apply3 REF0 REF1 REF2 REF0_apply REF1_apply REF2_apply)

variable (m : (ℓ : Loc nD τ sig) → Buf (Elt Ideal) ℓ)

/-- Which block of each array a grid point works on; of the gradients only the one of the point's own layer counts. -/
theorem index : ∀ t : Fin cfg0.N, (win0_7.index t = ![t.val / 4, t.val % 4, 0] ∧ win0_8.index t = ![t.val / 4, t.val % 4, 0] ∧ win0_9.index t = ![t.val / 4, t.val % 4, 0] ∧ win0_10.index t = ![t.val / 4, t.val % 4, 0])
    ∧ (t.val / 4 = 0 → win0_3.index t = ![t.val % 4, 0]) ∧ (t.val / 4 = 1 → win0_4.index t = ![t.val % 4, 0]) ∧ (t.val / 4 = 2 → win0_5.index t = ![t.val % 4, 0]) ∧ (t.val / 4 = 3 → win0_6.index t = ![t.val % 4, 0]) :=
  (by decide +kernel : ∀ t : Fin grid0.N, _)

theorem block0 (c : Dev nD) (t : Fin cfg0.N) (y : S1x176x1024.Idx) :
    iblk m c 0 t y = (m ((c : Thread nD τ).loc main_arg0) : Vec Ideal S4x704x1024 .f32) (((cfg0.win 7).blk t).view.emb y) := by
  rfl

theorem block1 (c : Dev nD) (t : Fin cfg0.N) (y : S1x176x1024.Idx) :
    iblk m c 1 t y = (m ((c : Thread nD τ).loc main_arg5) : Vec Ideal S4x704x1024 .f32) (((cfg0.win 7).blk t).view.emb y) := by
  rfl

theorem block2 (c : Dev nD) (t : Fin cfg0.N) (y : S1x176x1024.Idx) :
    iblk m c 2 t y = (m ((c : Thread nD τ).loc main_arg6) : Vec Ideal S4x704x1024 .f32) (((cfg0.win 7).blk t).view.emb y) := by
  rfl

theorem grad0 (c : Dev nD) (t : Fin cfg0.N) (h : t.val / 4 = 0) (y : S1x176x1024.Idx) :
    iblk m c 3 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 16 := lt_of_lt_of_eq t.isLt (show cfg0.N = 16 from N_0)
  refine Eq.trans ?_ (STK_apply0 _ _ _ _ _ (((cfg0.win 3).blk t).view.emb (ix2 (y 1) (y 2))) ?_ ?_ ?_).symm
  · rfl
  · blk_simp [(index t).1]; omega
  · blk_simp [(index t).1, (index t).2.1 h]
  · blk_simp [(index t).1, (index t).2.1 h]

theorem grad1 (c : Dev nD) (t : Fin cfg0.N) (h : t.val / 4 = 1) (y : S1x176x1024.Idx) :
    iblk m c 4 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 16 := lt_of_lt_of_eq t.isLt (show cfg0.N = 16 from N_0)
  refine Eq.trans ?_ (STK_apply1 _ _ _ _ _ (((cfg0.win 4).blk t).view.emb (ix2 (y 1) (y 2))) ?_ ?_ ?_).symm
  · rfl
  · blk_simp [(index t).1]; omega
  · blk_simp [(index t).1, (index t).2.2.1 h]
  · blk_simp [(index t).1, (index t).2.2.1 h]

theorem grad2 (c : Dev nD) (t : Fin cfg0.N) (h : t.val / 4 = 2) (y : S1x176x1024.Idx) :
    iblk m c 5 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 16 := lt_of_lt_of_eq t.isLt (show cfg0.N = 16 from N_0)
  refine Eq.trans ?_ (STK_apply2 _ _ _ _ _ (((cfg0.win 5).blk t).view.emb (ix2 (y 1) (y 2))) ?_ ?_ ?_).symm
  · rfl
  · blk_simp [(index t).1]; omega
  · blk_simp [(index t).1, (index t).2.2.2.1 h]
  · blk_simp [(index t).1, (index t).2.2.2.1 h]

theorem grad3 (c : Dev nD) (t : Fin cfg0.N) (h : t.val / 4 = 3) (y : S1x176x1024.Idx) :
    iblk m c 6 t (ix2 (y 1) (y 2)) = (STK (m ((c : Thread nD τ).loc main_arg1)) (m ((c : Thread nD τ).loc main_arg2)) (m ((c : Thread nD τ).loc main_arg3)) (m ((c : Thread nD τ).loc main_arg4))) (((cfg0.win 7).blk t).view.emb y) := by
  have hy : (y 0 : ℕ) < 1 := (y 0).isLt
  have hN : t.val < 16 := lt_of_lt_of_eq t.isLt (show cfg0.N = 16 from N_0)
  refine Eq.trans ?_ (STK_apply3 _ _ _ _ _ (((cfg0.win 6).blk t).view.emb (ix2 (y 1) (y 2))) ?_ ?_ ?_).symm
  · rfl
  · blk_simp [(index t).1]; omega
  · blk_simp [(index t).1, (index t).2.2.2.2 h]
  · blk_simp [(index t).1, (index t).2.2.2.2 h]

theorem pay0_grad (x1 : Vec Ideal S176x1024 .f32) (y : S1x176x1024.Idx) : k0_pay13 x1 y = x1 (ix2 (y 1) (y 2)) := by
  pointwise [k0_pay13]

theorem pay0_step (x0 x2 x3 : Vec Ideal S1x176x1024 .f32) (x1 : Vec Ideal S176x1024 .f32) (y : S1x176x1024.Idx) :
    k0_pay1 (k0_pay16 x1 x0 x2 x3) y = step (x0 y) (x1 (ix2 (y 1) (y 2))) (x2 y) (x3 y) := by
  pointwise [k0_pay1, k0_pay14, k0_pay15, k0_pay16, step, moment, square]

theorem pay0_moment (x2 : Vec Ideal S1x176x1024 .f32) (x1 : Vec Ideal S176x1024 .f32) (y : S1x176x1024.Idx) :
    k0_pay2 (k0_pay14 x1 x2) y = moment (x1 (ix2 (y 1) (y 2))) (x2 y) := by
  pointwise [k0_pay2, k0_pay14, moment]

theorem pay0_square (x3 : Vec Ideal S1x176x1024 .f32) (x1 : Vec Ideal S176x1024 .f32) (y : S1x176x1024.Idx) :
    k0_pay3 (k0_pay15 x1 x3) y = square (x1 (ix2 (y 1) (y 2))) (x3 y) := by
  pointwise [k0_pay3, k0_pay15, square]

theorem pay1_grad (x1 : Vec Ideal S176x1024 .f32) (y : S1x176x1024.Idx) : k0_pay17 x1 y = x1 (ix2 (y 1) (y 2)) := by
  pointwise [k0_pay17]

theorem pay1_step (x0 x2 x3 : Vec Ideal S1x176x1024 .f32) (x1 : Vec Ideal S176x1024 .f32) (y : S1x176x1024.Idx) :
    k0_pay4 (k0_pay20 x1 x0 x2 x3) y = step (x0 y) (x1 (ix2 (y 1) (y 2))) (x2 y) (x3 y) := by
  pointwise [k0_pay4, k0_pay18, k0_pay19, k0_pay20, step, moment, square]

theorem pay1_moment (x2 : Vec Ideal S1x176x1024 .f32) (x1 : Vec Ideal S176x1024 .f32) (y : S1x176x1024.Idx) :
    k0_pay5 (k0_pay18 x1 x2) y = moment (x1 (ix2 (y 1) (y 2))) (x2 y) := by
  pointwise [k0_pay5, k0_pay18, moment]

theorem pay1_square (x3 : Vec Ideal S1x176x1024 .f32) (x1 : Vec Ideal S176x1024 .f32) (y : S1x176x1024.Idx) :
    k0_pay6 (k0_pay19 x1 x3) y = square (x1 (ix2 (y 1) (y 2))) (x3 y) := by
  pointwise [k0_pay6, k0_pay19, square]

theorem pay2_grad (x1 : Vec Ideal S176x1024 .f32) (y : S1x176x1024.Idx) : k0_pay21 x1 y = x1 (ix2 (y 1) (y 2)) := by
  pointwise [k0_pay21]

theorem pay2_step (x0 x2 x3 : Vec Ideal S1x176x1024 .f32) (x1 : Vec Ideal S176x1024 .f32) (y : S1x176x1024.Idx) :
    k0_pay7 (k0_pay24 x1 x0 x2 x3) y = step (x0 y) (x1 (ix2 (y 1) (y 2))) (x2 y) (x3 y) := by
  pointwise [k0_pay7, k0_pay22, k0_pay23, k0_pay24, step, moment, square]

theorem pay2_moment (x2 : Vec Ideal S1x176x1024 .f32) (x1 : Vec Ideal S176x1024 .f32) (y : S1x176x1024.Idx) :
    k0_pay8 (k0_pay22 x1 x2) y = moment (x1 (ix2 (y 1) (y 2))) (x2 y) := by
  pointwise [k0_pay8, k0_pay22, moment]

theorem pay2_square (x3 : Vec Ideal S1x176x1024 .f32) (x1 : Vec Ideal S176x1024 .f32) (y : S1x176x1024.Idx) :
    k0_pay9 (k0_pay23 x1 x3) y = square (x1 (ix2 (y 1) (y 2))) (x3 y) := by
  pointwise [k0_pay9, k0_pay23, square]

theorem pay3_grad (x1 : Vec Ideal S176x1024 .f32) (y : S1x176x1024.Idx) : k0_pay25 x1 y = x1 (ix2 (y 1) (y 2)) := by
  pointwise [k0_pay25]

theorem pay3_step (x0 x2 x3 : Vec Ideal S1x176x1024 .f32) (x1 : Vec Ideal S176x1024 .f32) (y : S1x176x1024.Idx) :
    k0_pay10 (k0_pay28 x1 x0 x2 x3) y = step (x0 y) (x1 (ix2 (y 1) (y 2))) (x2 y) (x3 y) := by
  pointwise [k0_pay10, k0_pay26, k0_pay27, k0_pay28, step, moment, square]

theorem pay3_moment (x2 : Vec Ideal S1x176x1024 .f32) (x1 : Vec Ideal S176x1024 .f32) (y : S1x176x1024.Idx) :
    k0_pay11 (k0_pay26 x1 x2) y = moment (x1 (ix2 (y 1) (y 2))) (x2 y) := by
  pointwise [k0_pay11, k0_pay26, moment]

theorem pay3_square (x3 : Vec Ideal S1x176x1024 .f32) (x1 : Vec Ideal S176x1024 .f32) (y : S1x176x1024.Idx) :
    k0_pay12 (k0_pay27 x1 x3) y = square (x1 (ix2 (y 1) (y 2))) (x3 y) := by
  pointwise [k0_pay12, k0_pay27, square]

/-- The stacked gradients. -/
theorem final0 (c : Dev nD) : (dats m 0 c).arrAt 7 (cfgs 0).N = (STK (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t _ y => ?_
  rw [after0_7]
  have hN : t.val < 16 := lt_of_lt_of_eq t.isLt (show cfg0.N = 16 from N_0)
  have h : t.val / 4 = 0 ∨ t.val / 4 = 1 ∨ t.val / 4 = 2 ∨ t.val / 4 = 3 := by omega
  rcases h with h | h | h | h
  · rw [outsAt0_A m c t (by omega) (by omega) (by omega) (by omega)]; frame_out
    exact (pay0_grad _ y).trans (grad0 m c t h y)
  · rw [outsAt0_B m c t (by omega) (by omega) (by omega) (by omega)]; frame_out
    exact (pay1_grad _ y).trans (grad1 m c t h y)
  · rw [outsAt0_C m c t (by omega) (by omega) (by omega) (by omega)]; frame_out
    exact (pay2_grad _ y).trans (grad2 m c t h y)
  · rw [outsAt0_D m c t (by omega) (by omega) (by omega) (by omega)]; frame_out
    exact (pay3_grad _ y).trans (grad3 m c t h y)

/-- The result array is the reference's. -/
theorem final1 (c : Dev nD) : (dats m 0 c).arrAt 8 (cfgs 0).N = REF0 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 8 _ (by decide +kernel) fun t _ y => ?_
  rw [after0_8]
  have hN : t.val < 16 := lt_of_lt_of_eq t.isLt (show cfg0.N = 16 from N_0)
  have h : t.val / 4 = 0 ∨ t.val / 4 = 1 ∨ t.val / 4 = 2 ∨ t.val / 4 = 3 := by omega
  rcases h with h | h | h | h
  · rw [outsAt0_A m c t (by omega) (by omega) (by omega) (by omega)]; frame_out
    refine (pay0_step _ _ _ _ y).trans (Eq.trans ?_ (REF0_apply _ _ _ _ _).symm)
    rw [block0 m c t y, block1 m c t y, block2 m c t y, grad0 m c t h y]
    rfl
  · rw [outsAt0_B m c t (by omega) (by omega) (by omega) (by omega)]; frame_out
    refine (pay1_step _ _ _ _ y).trans (Eq.trans ?_ (REF0_apply _ _ _ _ _).symm)
    rw [block0 m c t y, block1 m c t y, block2 m c t y, grad1 m c t h y]
    rfl
  · rw [outsAt0_C m c t (by omega) (by omega) (by omega) (by omega)]; frame_out
    refine (pay2_step _ _ _ _ y).trans (Eq.trans ?_ (REF0_apply _ _ _ _ _).symm)
    rw [block0 m c t y, block1 m c t y, block2 m c t y, grad2 m c t h y]
    rfl
  · rw [outsAt0_D m c t (by omega) (by omega) (by omega) (by omega)]; frame_out
    refine (pay3_step _ _ _ _ y).trans (Eq.trans ?_ (REF0_apply _ _ _ _ _).symm)
    rw [block0 m c t y, block1 m c t y, block2 m c t y, grad3 m c t h y]
    rfl

/-- The result array is the reference's. -/
theorem final2 (c : Dev nD) : (dats m 0 c).arrAt 9 (cfgs 0).N = REF1 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 9 _ (by decide +kernel) fun t _ y => ?_
  rw [after0_9]
  have hN : t.val < 16 := lt_of_lt_of_eq t.isLt (show cfg0.N = 16 from N_0)
  have h : t.val / 4 = 0 ∨ t.val / 4 = 1 ∨ t.val / 4 = 2 ∨ t.val / 4 = 3 := by omega
  rcases h with h | h | h | h
  · rw [outsAt0_A m c t (by omega) (by omega) (by omega) (by omega)]; frame_out
    refine (pay0_moment _ _ y).trans (Eq.trans ?_ (REF1_apply _ _ _ _ _).symm)
    rw [block1 m c t y, grad0 m c t h y]
    rfl
  · rw [outsAt0_B m c t (by omega) (by omega) (by omega) (by omega)]; frame_out
    refine (pay1_moment _ _ y).trans (Eq.trans ?_ (REF1_apply _ _ _ _ _).symm)
    rw [block1 m c t y, grad1 m c t h y]
    rfl
  · rw [outsAt0_C m c t (by omega) (by omega) (by omega) (by omega)]; frame_out
    refine (pay2_moment _ _ y).trans (Eq.trans ?_ (REF1_apply _ _ _ _ _).symm)
    rw [block1 m c t y, grad2 m c t h y]
    rfl
  · rw [outsAt0_D m c t (by omega) (by omega) (by omega) (by omega)]; frame_out
    refine (pay3_moment _ _ y).trans (Eq.trans ?_ (REF1_apply _ _ _ _ _).symm)
    rw [block1 m c t y, grad3 m c t h y]
    rfl

/-- The result array is the reference's. -/
theorem final3 (c : Dev nD) : (dats m 0 c).arrAt 10 (cfgs 0).N = REF2 (m ((c : Thread nD τ).loc main_arg0)) (STK (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 10 _ (by decide +kernel) fun t _ y => ?_
  rw [after0_10]
  have hN : t.val < 16 := lt_of_lt_of_eq t.isLt (show cfg0.N = 16 from N_0)
  have h : t.val / 4 = 0 ∨ t.val / 4 = 1 ∨ t.val / 4 = 2 ∨ t.val / 4 = 3 := by omega
  rcases h with h | h | h | h
  · rw [outsAt0_A m c t (by omega) (by omega) (by omega) (by omega)]; frame_out
    refine (pay0_square _ _ y).trans (Eq.trans ?_ (REF2_apply _ _ _ _ _).symm)
    rw [block2 m c t y, grad0 m c t h y]
    rfl
  · rw [outsAt0_B m c t (by omega) (by omega) (by omega) (by omega)]; frame_out
    refine (pay1_square _ _ y).trans (Eq.trans ?_ (REF2_apply _ _ _ _ _).symm)
    rw [block2 m c t y, grad1 m c t h y]
    rfl
  · rw [outsAt0_C m c t (by omega) (by omega) (by omega) (by omega)]; frame_out
    refine (pay2_square _ _ y).trans (Eq.trans ?_ (REF2_apply _ _ _ _ _).symm)
    rw [block2 m c t y, grad2 m c t h y]
    rfl
  · rw [outsAt0_D m c t (by omega) (by omega) (by omega) (by omega)]; frame_out
    refine (pay3_square _ _ y).trans (Eq.trans ?_ (REF2_apply _ _ _ _ _).symm)
    rw [block2 m c t y, grad3 m c t h y]
    rfl

end Cert.Kernel29Ideal.Adam

namespace Cert.Proof29

theorem frame : Cert.quiescent_Kernel29 := fun m ρ _ => Cert.Kernel29.Gen.frame m ρ

theorem frameIdeal : Cert.quiescent_Kernel29Ideal := fun m ρ _ => Cert.Kernel29Ideal.Gen.frame m ρ

theorem frameReference : Cert.quiescent_Reference29Ideal := fun m ρ _ =>
  (θ_run Cert.Reference29Ideal.defs _ _).mono (fun r h => ⟨fun c => (h c).2.2.2.2, sem_eq_zero_of_no_sems (by decide) r.2⟩)
    (Cert.Reference29Ideal.Value.run (F := Ideal) m ρ)

set_option maxHeartbeats 1600000 in
theorem algebraic : Cert.algebraic_Kernel29Ideal_Reference29Ideal := by
  pair_intro
  · run_from Cert.Kernel29Ideal.Gen.run_main m g
  · run_from Cert.Reference29Ideal.Value.run m' g'
    · obtain ⟨a0, a1, a2, a3, a4, a5, a6⟩ := hagree c
      show Cert.Reference29Ideal.Adam.STK _ _ _ _ = _
      simp only [a0, a1, a2, a3, a4, a5, a6]
      exact (Cert.Kernel29Ideal.Adam.final0 m c).symm
    · obtain ⟨a0, a1, a2, a3, a4, a5, a6⟩ := hagree c
      show Cert.Reference29Ideal.Adam.REF0 _ (Cert.Reference29Ideal.Adam.STK _ _ _ _) _ _ = _
      simp only [a0, a1, a2, a3, a4, a5, a6]
      exact (Cert.Kernel29Ideal.Adam.final1 m c).symm
    · obtain ⟨a0, a1, a2, a3, a4, a5, a6⟩ := hagree c
      show Cert.Reference29Ideal.Adam.REF1 (m (c.tc.loc Cert.Kernel29Ideal.main_arg0)) (Cert.Reference29Ideal.Adam.STK _ _ _ _) _ (m (c.tc.loc Cert.Kernel29Ideal.main_arg6)) = _
      simp only [a0, a1, a2, a3, a4, a5, a6]
      exact (Cert.Kernel29Ideal.Adam.final2 m c).symm
    · obtain ⟨a0, a1, a2, a3, a4, a5, a6⟩ := hagree c
      show Cert.Reference29Ideal.Adam.REF2 (m (c.tc.loc Cert.Kernel29Ideal.main_arg0)) (Cert.Reference29Ideal.Adam.STK _ _ _ _) (m (c.tc.loc Cert.Kernel29Ideal.main_arg5)) _ = _
      simp only [a0, a1, a2, a3, a4, a5, a6]
      exact (Cert.Kernel29Ideal.Adam.final3 m c).symm

end Cert.Proof29

end
-- ==== Proof.Optimiser30.lean ====
module

public import proofs.«01_k».proof.Defs
public import proofs.«01_k».proof.Proof.Gen.Kernel30.Frame
public import proofs.«01_k».proof.Proof.Gen.Kernel30Ideal.Frame
public import proofs.«01_k».proof.Proof.Gen.Reference30Ideal.Run
public import Idealize.ShloMosaic.Lib.Claim
public import Idealize.ShloMosaic.Lib.Pointwise
public import Idealize.ShloMosaic.Lib.Pipeline.ValueKit

/-!
The gradient of w_ada's shard, from the conditioning of all devices:
what a block ends holding, what the result array holds, and the equation with the plain product.
-/

@[expose] public section

set_option maxRecDepth 16384

noncomputable section

open Idealize.ShloMosaic Idealize.ShloMosaic.TcCoe Idealize.SL.Sem
open Idealize.ShloMosaic.Pipeline (Dat)

namespace Cert.Reference30Ideal.Conditioning
open Cert.Reference30Ideal Cert.Reference30Ideal.Gen

/-- `x · sigmoid x` over the reals. -/
def silu (x : EReal) : EReal := x * Ideal.div (Ideal.ofBits .f32 1065353216#32) (Ideal.ofBits .f32 1065353216#32 + Ideal.exp (-x))

/-- The reference's result over its arguments. -/
def REF (x0 : FVec Ideal S8x1024 .f32) (x1 : FVec Ideal S4x8x1536 .f32) : FVec Ideal S4x1024x1536 .f32 :=
  concatenate S4x1024x1536 0 [⟨S1x1024x1536, (broadcastInDim S1x1024x1536 ![1, 2] bcast_S1024x1536_S1x1024x1536_1_2 (transpose S1024x1536 [1, 0] (Host.dotGeneral dot_S8x1536_S8x1024_S1536x1024_0_0_1_1_n_n none (shapeCast _ (extractStridedSlice S1x8x1536 ![0, 0, 0] x1 slices_S4x8x1536_S1x8x1536_0_0_0) shapeCasts_S1x8x1536_S8x1536) (mulf x0 (Host.divf (broadcastInDim S8x1024 ![] bcast_S_S8x1024 (constant S_ .f32 0x3F800000#32)) (addf (broadcastInDim S8x1024 ![] bcast_S_S8x1024 (constant S_ .f32 0x3F800000#32)) (Host.exp (Host.negf x0)))))) transposes_S1536x1024_S1024x1536_1_0) : FVec Ideal S1x1024x1536 .f32)⟩, ⟨S1x1024x1536, (broadcastInDim S1x1024x1536 ![1, 2] bcast_S1024x1536_S1x1024x1536_1_2 (transpose S1024x1536 [1, 0] (Host.dotGeneral dot_S8x1536_S8x1024_S1536x1024_0_0_1_1_n_n none (shapeCast _ (extractStridedSlice S1x8x1536 ![1, 0, 0] x1 slices_S4x8x1536_S1x8x1536_1_0_0) shapeCasts_S1x8x1536_S8x1536) (mulf x0 (Host.divf (broadcastInDim S8x1024 ![] bcast_S_S8x1024 (constant S_ .f32 0x3F800000#32)) (addf (broadcastInDim S8x1024 ![] bcast_S_S8x1024 (constant S_ .f32 0x3F800000#32)) (Host.exp (Host.negf x0)))))) transposes_S1536x1024_S1024x1536_1_0) : FVec Ideal S1x1024x1536 .f32)⟩, ⟨S1x1024x1536, (broadcastInDim S1x1024x1536 ![1, 2] bcast_S1024x1536_S1x1024x1536_1_2 (transpose S1024x1536 [1, 0] (Host.dotGeneral dot_S8x1536_S8x1024_S1536x1024_0_0_1_1_n_n none (shapeCast _ (extractStridedSlice S1x8x1536 ![2, 0, 0] x1 slices_S4x8x1536_S1x8x1536_2_0_0) shapeCasts_S1x8x1536_S8x1536) (mulf x0 (Host.divf (broadcastInDim S8x1024 ![] bcast_S_S8x1024 (constant S_ .f32 0x3F800000#32)) (addf (broadcastInDim S8x1024 ![] bcast_S_S8x1024 (constant S_ .f32 0x3F800000#32)) (Host.exp (Host.negf x0)))))) transposes_S1536x1024_S1024x1536_1_0) : FVec Ideal S1x1024x1536 .f32)⟩, ⟨S1x1024x1536, (broadcastInDim S1x1024x1536 ![1, 2] bcast_S1024x1536_S1x1024x1536_1_2 (transpose S1024x1536 [1, 0] (Host.dotGeneral dot_S8x1536_S8x1024_S1536x1024_0_0_1_1_n_n none (shapeCast _ (extractStridedSlice S1x8x1536 ![3, 0, 0] x1 slices_S4x8x1536_S1x8x1536_3_0_0) shapeCasts_S1x8x1536_S8x1536) (mulf x0 (Host.divf (broadcastInDim S8x1024 ![] bcast_S_S8x1024 (constant S_ .f32 0x3F800000#32)) (addf (broadcastInDim S8x1024 ![] bcast_S_S8x1024 (constant S_ .f32 0x3F800000#32)) (Host.exp (Host.negf x0)))))) transposes_S1536x1024_S1024x1536_1_0) : FVec Ideal S1x1024x1536 .f32)⟩] concatenates_S1x1024x1536_S1x1024x1536_S1x1024x1536_S1x1024x1536_S4x1024x1536_d0

theorem REF_apply0 (x0 : FVec Ideal S8x1024 .f32) (x1 : FVec Ideal S4x8x1536 .f32) (i : S4x1024x1536.Idx) (h0 : (i 0 : ℕ) = 0) :
    REF x0 x1 i = ∑ k : Fin 8, x1 (ix3 0 k (i 2)) * silu (x0 (ix2 k (i 1))) := by
  pointwise [REF, h0, silu]

theorem REF_apply1 (x0 : FVec Ideal S8x1024 .f32) (x1 : FVec Ideal S4x8x1536 .f32) (i : S4x1024x1536.Idx) (h0 : (i 0 : ℕ) = 1) :
    REF x0 x1 i = ∑ k : Fin 8, x1 (ix3 1 k (i 2)) * silu (x0 (ix2 k (i 1))) := by
  pointwise [REF, h0, silu]

theorem REF_apply2 (x0 : FVec Ideal S8x1024 .f32) (x1 : FVec Ideal S4x8x1536 .f32) (i : S4x1024x1536.Idx) (h0 : (i 0 : ℕ) = 2) :
    REF x0 x1 i = ∑ k : Fin 8, x1 (ix3 2 k (i 2)) * silu (x0 (ix2 k (i 1))) := by
  pointwise [REF, h0, silu]

theorem REF_apply3 (x0 : FVec Ideal S8x1024 .f32) (x1 : FVec Ideal S4x8x1536 .f32) (i : S4x1024x1536.Idx) (h0 : (i 0 : ℕ) = 3) :
    REF x0 x1 i = ∑ k : Fin 8, x1 (ix3 3 k (i 2)) * silu (x0 (ix2 k (i 1))) := by
  pointwise [REF, h0, silu]

end Cert.Reference30Ideal.Conditioning

namespace Cert.Kernel30Ideal.Conditioning
open Cert.Kernel30Ideal Cert.Kernel30Ideal.Gen
open Cert.Reference30Ideal.Conditioning (silu REF REF_apply0 REF_apply1 REF_apply2 REF_apply3)

variable (m : (ℓ : Loc nD τ sig) → Buf (Elt Ideal) ℓ)

theorem index : ∀ t : Fin cfg0.N, win0_0.index t = ![0, 0] ∧ win0_1.index t = ![t.val, 0, 0] ∧ win0_2.index t = ![t.val, 0, 0] :=
  (by decide +kernel : ∀ t : Fin grid0.N, _)

theorem pay_apply (x0 : Vec Ideal S8x1024 .f32) (x1 : Vec Ideal S1x8x1536 .f32) (y : S1x1024x1536.Idx) :
    k0_pay1 x0 x1 y = ∑ k : Fin 8, x1 (ix3 0 k (y 2)) * silu (x0 (ix2 k (y 1))) := by
  pointwise [k0_pay1, silu]
  exact Finset.sum_congr rfl fun k _ => by rw [zero_sub, mul_comm]

/-- The result array is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  rw [after0_2]; frame_out
  refine (pay_apply _ _ y).trans ?_
  have hN : t.val < 4 := lt_of_lt_of_eq t.isLt (show cfg0.N = 4 from N_0)
  have hy : (y 0 : ℕ) < 1 := (y 0).isLt
  have h : t.val = 0 ∨ t.val = 1 ∨ t.val = 2 ∨ t.val = 3 := by omega
  rcases h with h | h | h | h
  · refine Eq.trans ?_ (REF_apply0 _ _ _ (by blk_simp [index t]; omega)).symm
    refine Finset.sum_congr rfl fun k _ => ?_
    blk_point [iblk, V, index t, h]
  · refine Eq.trans ?_ (REF_apply1 _ _ _ (by blk_simp [index t]; omega)).symm
    refine Finset.sum_congr rfl fun k _ => ?_
    blk_point [iblk, V, index t, h]
  · refine Eq.trans ?_ (REF_apply2 _ _ _ (by blk_simp [index t]; omega)).symm
    refine Finset.sum_congr rfl fun k _ => ?_
    blk_point [iblk, V, index t, h]
  · refine Eq.trans ?_ (REF_apply3 _ _ _ (by blk_simp [index t]; omega)).symm
    refine Finset.sum_congr rfl fun k _ => ?_
    blk_point [iblk, V, index t, h]

end Cert.Kernel30Ideal.Conditioning

namespace Cert.Proof30

theorem frame : Cert.quiescent_Kernel30 := fun m ρ _ => Cert.Kernel30.Gen.frame m ρ

theorem frameIdeal : Cert.quiescent_Kernel30Ideal := fun m ρ _ => Cert.Kernel30Ideal.Gen.frame m ρ

theorem frameReference : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)

theorem algebraic : Cert.algebraic_Kernel30Ideal_Reference30Ideal := by
  pair_intro
  · run_from Cert.Kernel30Ideal.Gen.run_main m g
  · run_from Cert.Reference30Ideal.Value.run m' g'
    · exact (Cert.Kernel30Ideal.Conditioning.final m c).symm

end Cert.Proof30

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Pre_finite_terms
public import proofs.«01_k».proof.Proof.Gen.ReferenceIdeal.Run
public import proofs.«01_k».proof.Proof.Scan
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Gen.Reference28Ideal.Run
public import proofs.«01_k».proof.Proof.Gen.Reference29Ideal.Run
public import proofs.«01_k».proof.Proof.Gen.Reference30Ideal.Run
public import proofs.«01_k».proof.Proof.Product2
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product9
public import proofs.«01_k».proof.Proof.Product10
public import proofs.«01_k».proof.Proof.Product11
public import proofs.«01_k».proof.Proof.Product12
public import proofs.«01_k».proof.Proof.Product13
public import proofs.«01_k».proof.Proof.Product14
public import proofs.«01_k».proof.Proof.Product15
public import proofs.«01_k».proof.Proof.Product16
public import proofs.«01_k».proof.Proof.Optimiser17
public import proofs.«01_k».proof.Proof.Optimiser18
public import proofs.«01_k».proof.Proof.Optimiser19
public import proofs.«01_k».proof.Proof.Optimiser20
public import proofs.«01_k».proof.Proof.Optimiser21
public import proofs.«01_k».proof.Proof.Optimiser22
public import proofs.«01_k».proof.Proof.Optimiser23
public import proofs.«01_k».proof.Proof.Optimiser24
public import proofs.«01_k».proof.Proof.Optimiser25
public import proofs.«01_k».proof.Proof.Optimiser26
public import proofs.«01_k».proof.Proof.Optimiser27
public import proofs.«01_k».proof.Proof.Optimiser28
public import proofs.«01_k».proof.Proof.Optimiser29
public import proofs.«01_k».proof.Proof.Optimiser30
public import Idealize.ShloMosaic.Adequacy
public import Idealize.ShloMosaic.Init

@[expose] public section

noncomputable section

namespace Cert.Proof

open Idealize.ShloMosaic Idealize.SL.Sem Cert.Kernel

/-- The reference runs its loop to the end, and leaves its arguments alone. -/
theorem frameReference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts,
  Cert.Reference4Ideal.Gen.facts, Cert.Kernel5.Gen.facts, Cert.Kernel5Ideal.Gen.facts,
  Cert.Reference5Ideal.Gen.facts, Cert.Kernel6.Gen.facts, Cert.Kernel6Ideal.Gen.facts,
  Cert.Reference6Ideal.Gen.facts, Cert.Kernel7.Gen.facts, Cert.Kernel7Ideal.Gen.facts,
  Cert.Reference7Ideal.Gen.facts, Cert.Kernel8.Gen.facts, Cert.Kernel8Ideal.Gen.facts,
  Cert.Reference8Ideal.Gen.facts, Cert.Kernel9.Gen.facts, Cert.Kernel9Ideal.Gen.facts,
  Cert.Reference9Ideal.Gen.facts, Cert.Kernel10.Gen.facts, Cert.Kernel10Ideal.Gen.facts,
  Cert.Reference10Ideal.Gen.facts, Cert.Kernel11.Gen.facts, Cert.Kernel11Ideal.Gen.facts,
  Cert.Reference11Ideal.Gen.facts, Cert.Kernel12.Gen.facts, Cert.Kernel12Ideal.Gen.facts,
  Cert.Reference12Ideal.Gen.facts, Cert.Kernel13.Gen.facts, Cert.Kernel13Ideal.Gen.facts,
  Cert.Reference13Ideal.Gen.facts, Cert.Kernel14.Gen.facts, Cert.Kernel14Ideal.Gen.facts,
  Cert.Reference14Ideal.Gen.facts, Cert.Kernel15.Gen.facts, Cert.Kernel15Ideal.Gen.facts,
  Cert.Reference15Ideal.Gen.facts, Cert.Kernel16.Gen.facts, Cert.Kernel16Ideal.Gen.facts,
  Cert.Reference16Ideal.Gen.facts, Cert.Kernel17.Gen.facts, Cert.Kernel17Ideal.Gen.facts,
  Cert.Reference17Ideal.Gen.facts, Cert.Kernel18.Gen.facts, Cert.Kernel18Ideal.Gen.facts,
  Cert.Reference18Ideal.Gen.facts, Cert.Kernel19.Gen.facts, Cert.Kernel19Ideal.Gen.facts,
  Cert.Reference19Ideal.Gen.facts, Cert.Kernel20.Gen.facts, Cert.Kernel20Ideal.Gen.facts,
  Cert.Reference20Ideal.Gen.facts, Cert.Kernel21.Gen.facts, Cert.Kernel21Ideal.Gen.facts,
  Cert.Reference21Ideal.Gen.facts, Cert.Kernel22.Gen.facts, Cert.Kernel22Ideal.Gen.facts,
  Cert.Reference22Ideal.Gen.facts, Cert.Kernel23.Gen.facts, Cert.Kernel23Ideal.Gen.facts,
  Cert.Reference23Ideal.Gen.facts, Cert.Kernel24.Gen.facts, Cert.Kernel24Ideal.Gen.facts,
  Cert.Reference24Ideal.Gen.facts, Cert.Kernel25.Gen.facts, Cert.Kernel25Ideal.Gen.facts,
  Cert.Reference25Ideal.Gen.facts, Cert.Kernel26.Gen.facts, Cert.Kernel26Ideal.Gen.facts,
  Cert.Reference26Ideal.Gen.facts, Cert.Kernel27.Gen.facts, Cert.Kernel27Ideal.Gen.facts,
  Cert.Reference27Ideal.Gen.facts, Cert.Kernel28.Gen.facts, Cert.Kernel28Ideal.Gen.facts,
  Cert.Reference28Ideal.Gen.facts, Cert.Kernel29.Gen.facts, Cert.Kernel29Ideal.Gen.facts,
  Cert.Reference29Ideal.Gen.facts, Cert.Kernel30.Gen.facts, Cert.Kernel30Ideal.Gen.facts,
  Cert.Reference30Ideal.Gen.facts, Cert.Pre_finite_terms.Gen.facts,
  fun m ρ _ => Cert.Kernel.Gen.frame m ρ, fun m ρ _ => Cert.KernelIdeal.Gen.frame m ρ,
  fun m ρ _ => Cert.KernelIdeal.Gen.frame m ρ, Cert.Proof.frameReference,
  fun m ρ _ => Cert.Proof.frameReference m ρ trivial,
  Cert.Proof2.frame, Cert.Proof2.frameIdeal, Cert.Proof2.frameReference, Cert.Proof3.frame, Cert.Proof3.frameIdeal,
  Cert.Proof3.frameReference, Cert.Proof4.frame, Cert.Proof4.frameIdeal, Cert.Proof4.frameReference,
  Cert.Proof5.frame, Cert.Proof5.frameIdeal, Cert.Proof5.frameReference, Cert.Proof6.frame, Cert.Proof6.frameIdeal,
  Cert.Proof6.frameReference, Cert.Proof7.frame, Cert.Proof7.frameIdeal, Cert.Proof7.frameReference,
  Cert.Proof8.frame, Cert.Proof8.frameIdeal, Cert.Proof8.frameReference, Cert.Proof9.frame, Cert.Proof9.frameIdeal,
  Cert.Proof9.frameReference, Cert.Proof10.frame, Cert.Proof10.frameIdeal, Cert.Proof10.frameReference,
  Cert.Proof11.frame, Cert.Proof11.frameIdeal, Cert.Proof11.frameReference, Cert.Proof12.frame,
  Cert.Proof12.frameIdeal, Cert.Proof12.frameReference, Cert.Proof13.frame, Cert.Proof13.frameIdeal,
  Cert.Proof13.frameReference, Cert.Proof14.frame, Cert.Proof14.frameIdeal, Cert.Proof14.frameReference,
  Cert.Proof15.frame, Cert.Proof15.frameIdeal, Cert.Proof15.frameReference, Cert.Proof16.frame,
  Cert.Proof16.frameIdeal, Cert.Proof16.frameReference, Cert.Proof17.frame, Cert.Proof17.frameIdeal,
  Cert.Proof17.frameReference, Cert.Proof18.frame, Cert.Proof18.frameIdeal, Cert.Proof18.frameReference,
  Cert.Proof19.frame, Cert.Proof19.frameIdeal, Cert.Proof19.frameReference, Cert.Proof20.frame,
  Cert.Proof20.frameIdeal, Cert.Proof20.frameReference, Cert.Proof21.frame, Cert.Proof21.frameIdeal,
  Cert.Proof21.frameReference, Cert.Proof22.frame, Cert.Proof22.frameIdeal, Cert.Proof22.frameReference,
  Cert.Proof23.frame, Cert.Proof23.frameIdeal, Cert.Proof23.frameReference, Cert.Proof24.frame,
  Cert.Proof24.frameIdeal, Cert.Proof24.frameReference, Cert.Proof25.frame, Cert.Proof25.frameIdeal,
  Cert.Proof25.frameReference, Cert.Proof26.frame, Cert.Proof26.frameIdeal, Cert.Proof26.frameReference,
  Cert.Proof27.frame, Cert.Proof27.frameIdeal, Cert.Proof27.frameReference, Cert.Proof28.frame,
  Cert.Proof28.frameIdeal, Cert.Proof28.frameReference, Cert.Proof29.frame, Cert.Proof29.frameIdeal,
  Cert.Proof29.frameReference, Cert.Proof30.frame, Cert.Proof30.frameIdeal, Cert.Proof30.frameReference, trivial,
  Cert.Scan.algebraic, trivial, Cert.Proof2.algebraic, trivial, Cert.Proof3.algebraic, trivial,
  Cert.Proof4.algebraic, trivial, Cert.Proof5.algebraic, trivial, Cert.Proof6.algebraic, trivial,
  Cert.Proof7.algebraic, trivial, Cert.Proof8.algebraic, trivial, Cert.Proof9.algebraic, trivial,
  Cert.Proof10.algebraic, trivial, Cert.Proof11.algebraic, trivial, Cert.Proof12.algebraic, trivial,
  Cert.Proof13.algebraic, trivial, Cert.Proof14.algebraic, trivial, Cert.Proof15.algebraic, trivial,
  Cert.Proof16.algebraic, trivial, Cert.Proof17.algebraic, trivial, Cert.Proof18.algebraic, trivial,
  Cert.Proof19.algebraic, trivial, Cert.Proof20.algebraic, trivial, Cert.Proof21.algebraic, trivial,
  Cert.Proof22.algebraic, trivial, Cert.Proof23.algebraic, trivial, Cert.Proof24.algebraic, trivial,
  Cert.Proof25.algebraic, trivial, Cert.Proof26.algebraic, trivial, Cert.Proof27.algebraic, trivial,
  Cert.Proof28.algebraic, trivial, Cert.Proof29.algebraic, trivial, Cert.Proof30.algebraic⟩

end Cert.Proof

end
